-- ==== Defs.lean ====
def Pre_S5Step (m : (ℓ : Loc Cert.S5Step.nD Cert.S5Step.τ Cert.S5Step.sig) → Buf (Elt Bits) ℓ) : Prop :=
  True

def Pre_S5StepIdeal (m : (ℓ : Loc Cert.S5StepIdeal.nD Cert.S5StepIdeal.τ Cert.S5StepIdeal.sig) → Buf (Elt Ideal) ℓ) : Prop :=
  True

def Pre_S5StepRefIdeal (m : (ℓ : Loc Cert.S5StepRefIdeal.nD Cert.S5StepRefIdeal.τ Cert.S5StepRefIdeal.sig) → Buf (Elt Ideal) ℓ) : Prop :=
  True

def Pre_S5Scan (m : (ℓ : Loc Cert.S5Scan.nD Cert.S5Scan.τ Cert.S5Scan.sig) → Buf (Elt Bits) ℓ) : Prop :=
  True

def Pre_S5ScanIdeal (m : (ℓ : Loc Cert.S5ScanIdeal.nD Cert.S5ScanIdeal.τ Cert.S5ScanIdeal.sig) → Buf (Elt Ideal) ℓ) : Prop :=
  True

def Pre_S5ScanIdeal_scan_operands_finite [hPre_scan_operands_finite : Cert.Pre_scan_operands_finite.Facts] (m : (ℓ : Loc Cert.S5ScanIdeal.nD Cert.S5ScanIdeal.τ Cert.S5ScanIdeal.sig) → Buf (Elt Ideal) ℓ) : Prop :=
  ∀ c : Dev Cert.S5ScanIdeal.nD,
    (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).1 = (fun _ => 1#1)
    ∧ (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).2.1 = (fun _ => 1#1)
    ∧ (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).2.2.1 = (fun _ => 1#1)
    ∧ (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).2.2.2.1 = (fun _ => 1#1)
    ∧ (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).2.2.2.2.1 = (fun _ => 1#1)
    ∧ (Cert.Pre_scan_operands_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5)) (m ((c.tc : Thread Cert.S5ScanIdeal.nD Cert.S5ScanIdeal.τ).loc Cert.S5ScanIdeal.main_arg6)) (m ((c.tc : Thread Cert.S5ScanIdeal.nD Cert.S5ScanIdeal.τ).loc Cert.S5ScanIdeal.main_arg7)) (m ((c.tc : Thread Cert.S5ScanIdeal.nD Cert.S5ScanIdeal.τ).loc Cert.S5ScanIdeal.main_arg8))).2.2.2.2.2 = (fun _ => 1#1)

def Pre_S5ScanRefIdeal (m : (ℓ : Loc Cert.S5ScanRefIdeal.nD Cert.S5ScanRefIdeal.τ Cert.S5ScanRefIdeal.sig) → Buf (Elt Ideal) ℓ) : Prop :=
  True

def Pre_S5ScanRefIdeal_scan_operands_finite [hPre_scan_operands_finite : Cert.Pre_scan_operands_finite.Facts] (m : (ℓ : Loc Cert.S5ScanRefIdeal.nD Cert.S5ScanRefIdeal.τ Cert.S5ScanRefIdeal.sig) → Buf (Elt Ideal) ℓ) : Prop :=
  ∀ c : Dev Cert.S5ScanRefIdeal.nD,
    (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).1 = (fun _ => 1#1)
    ∧ (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).2.1 = (fun _ => 1#1)
    ∧ (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).2.2.1 = (fun _ => 1#1)
    ∧ (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).2.2.2.1 = (fun _ => 1#1)
    ∧ (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).2.2.2.2.1 = (fun _ => 1#1)
    ∧ (Cert.Pre_scan_operands_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5)) (m ((c.tc : Thread Cert.S5ScanRefIdeal.nD Cert.S5ScanRefIdeal.τ).loc Cert.S5ScanRefIdeal.main_arg6)) (m ((c.tc : Thread Cert.S5ScanRefIdeal.nD Cert.S5ScanRefIdeal.τ).loc Cert.S5ScanRefIdeal.main_arg7)) (m ((c.tc : Thread Cert.S5ScanRefIdeal.nD Cert.S5ScanRefIdeal.τ).loc Cert.S5ScanRefIdeal.main_arg8))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptRefIdeal (m : (ℓ : Loc Cert.ConvPromptRefIdeal.nD Cert.ConvPromptRefIdeal.τ Cert.ConvPromptRefIdeal.sig) → Buf (Elt Ideal) ℓ) : Prop :=
  True

def Pre_GatesSample (m : (ℓ : Loc Cert.GatesSample.nD Cert.GatesSample.τ Cert.GatesSample.sig) → Buf (Elt Bits) ℓ) : Prop :=
  True

def Pre_GatesSampleIdeal (m : (ℓ : Loc Cert.GatesSampleIdeal.nD Cert.GatesSampleIdeal.τ Cert.GatesSampleIdeal.sig) → Buf (Elt Ideal) ℓ) : Prop :=
  True

def Pre_GatesSampleRefIdeal (m : (ℓ : Loc Cert.GatesSampleRefIdeal.nD Cert.GatesSampleRefIdeal.τ Cert.GatesSampleRefIdeal.sig) → Buf (Elt Ideal) ℓ) : Prop :=
  True

def Pre_GatesPrompt (m : (ℓ : Loc Cert.GatesPrompt.nD Cert.GatesPrompt.τ Cert.GatesPrompt.sig) → Buf (Elt Bits) ℓ) : Prop :=
  True

def Pre_GatesPromptIdeal (m : (ℓ : Loc Cert.GatesPromptIdeal.nD Cert.GatesPromptIdeal.τ Cert.GatesPromptIdeal.sig) → Buf (Elt Ideal) ℓ) : Prop :=
  True

def Pre_GatesPromptRefIdeal (m : (ℓ : Loc Cert.GatesPromptRefIdeal.nD Cert.GatesPromptRefIdeal.τ Cert.GatesPromptRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def Pre_GdnStep (m : (ℓ : Loc Cert.GdnStep.nD Cert.GdnStep.τ Cert.GdnStep.sig) → Buf (Elt Bits) ℓ) : Prop :=
  True

def Pre_GdnStepIdeal (m : (ℓ : Loc Cert.GdnStepIdeal.nD Cert.GdnStepIdeal.τ Cert.GdnStepIdeal.sig) → Buf (Elt Ideal) ℓ) : Prop :=
  True

def Pre_GdnStepIdeal_decay_and_beta_in_range [hPre_decay_and_beta_in_range : Cert.Pre_decay_and_beta_in_range.Facts] (m : (ℓ : Loc Cert.GdnStepIdeal.nD Cert.GdnStepIdeal.τ Cert.GdnStepIdeal.sig) → Buf (Elt Ideal) ℓ) : Prop :=
  ∀ c : Dev Cert.GdnStepIdeal.nD,
    (Cert.Pre_decay_and_beta_in_range.fn (F := Ideal) (m ((c.tc : Thread Cert.GdnStepIdeal.nD Cert.GdnStepIdeal.τ).loc Cert.GdnStepIdeal.main_arg0)) (m ((c.tc : Thread Cert.GdnStepIdeal.nD Cert.GdnStepIdeal.τ).loc Cert.GdnStepIdeal.main_arg1)) (m ((c.tc : Thread Cert.GdnStepIdeal.nD Cert.GdnStepIdeal.τ).loc Cert.GdnStepIdeal.main_arg2)) (m ((c.tc : Thread Cert.GdnStepIdeal.nD Cert.GdnStepIdeal.τ).loc Cert.GdnStepIdeal.main_arg3)) (m ((c.tc : Thread Cert.GdnStepIdeal.nD Cert.GdnStepIdeal.τ).loc Cert.GdnStepIdeal.main_arg4))).1 = (fun _ => 1#1)
    ∧ (Cert.Pre_decay_and_beta_in_range.fn (F := Ideal) (m ((c.tc : Thread Cert.GdnStepIdeal.nD Cert.GdnStepIdeal.τ).loc Cert.GdnStepIdeal.main_arg0)) (m ((c.tc : Thread Cert.GdnStepIdeal.nD Cert.GdnStepIdeal.τ).loc Cert.GdnStepIdeal.main_arg1)) (m ((c.tc : Thread Cert.GdnStepIdeal.nD Cert.GdnStepIdeal.τ).loc Cert.GdnStepIdeal.main_arg2)) (m ((c.tc : Thread Cert.GdnStepIdeal.nD Cert.GdnStepIdeal.τ).loc Cert.GdnStepIdeal.main_arg3)) (m ((c.tc : Thread Cert.GdnStepIdeal.nD Cert.GdnStepIdeal.τ).loc Cert.GdnStepIdeal.main_arg4))).2.1 = (fun _ => 1#1)
    ∧ (Cert.Pre_decay_and_beta_in_range.fn (F := Ideal) (m ((c.tc : Thread Cert.GdnStepIdeal.nD Cert.GdnStepIdeal.τ).loc Cert.GdnStepIdeal.main_arg0)) (m ((c.tc : Thread Cert.GdnStepIdeal.nD Cert.GdnStepIdeal.τ).loc Cert.GdnStepIdeal.main_arg1)) (m ((c.tc : Thread Cert.GdnStepIdeal.nD Cert.GdnStepIdeal.τ).loc Cert.GdnStepIdeal.main_arg2)) (m ((c.tc : Thread Cert.GdnStepIdeal.nD Cert.GdnStepIdeal.τ).loc Cert.GdnStepIdeal.main_arg3)) (m ((c.tc : Thread Cert.GdnStepIdeal.nD Cert.GdnStepIdeal.τ).loc Cert.GdnStepIdeal.main_arg4))).2.2 = (fun _ => 1#1)

def Pre_GdnStepRefIdeal (m : (ℓ : Loc Cert.GdnStepRefIdeal.nD Cert.GdnStepRefIdeal.τ Cert.GdnStepRefIdeal.sig) → Buf (Elt Ideal) ℓ) : Prop :=
  True

def Pre_GdnStepRefIdeal_decay_and_beta_in_range [hPre_decay_and_beta_in_range : Cert.Pre_decay_and_beta_in_range.Facts] (m : (ℓ : Loc Cert.GdnStepRefIdeal.nD Cert.GdnStepRefIdeal.τ Cert.GdnStepRefIdeal.sig) → Buf (Elt Ideal) ℓ) : Prop :=
  ∀ c : Dev Cert.GdnStepRefIdeal.nD,
    (Cert.Pre_decay_and_beta_in_range.fn (F := Ideal) (m ((c.tc : Thread Cert.GdnStepRefIdeal.nD Cert.GdnStepRefIdeal.τ).loc Cert.GdnStepRefIdeal.main_arg0)) (m ((c.tc : Thread Cert.GdnStepRefIdeal.nD Cert.GdnStepRefIdeal.τ).loc Cert.GdnStepRefIdeal.main_arg1)) (m ((c.tc : Thread Cert.GdnStepRefIdeal.nD Cert.GdnStepRefIdeal.τ).loc Cert.GdnStepRefIdeal.main_arg2)) (m ((c.tc : Thread Cert.GdnStepRefIdeal.nD Cert.GdnStepRefIdeal.τ).loc Cert.GdnStepRefIdeal.main_arg3)) (m ((c.tc : Thread Cert.GdnStepRefIdeal.nD Cert.GdnStepRefIdeal.τ).loc Cert.GdnStepRefIdeal.main_arg4))).1 = (fun _ => 1#1)
    ∧ (Cert.Pre_decay_and_beta_in_range.fn (F := Ideal) (m ((c.tc : Thread Cert.GdnStepRefIdeal.nD Cert.GdnStepRefIdeal.τ).loc Cert.GdnStepRefIdeal.main_arg0)) (m ((c.tc : Thread Cert.GdnStepRefIdeal.nD Cert.GdnStepRefIdeal.τ).loc Cert.GdnStepRefIdeal.main_arg1)) (m ((c.tc : Thread Cert.GdnStepRefIdeal.nD Cert.GdnStepRefIdeal.τ).loc Cert.GdnStepRefIdeal.main_arg2)) (m ((c.tc : Thread Cert.GdnStepRefIdeal.nD Cert.GdnStepRefIdeal.τ).loc Cert.GdnStepRefIdeal.main_arg3)) (m ((c.tc : Thread Cert.GdnStepRefIdeal.nD Cert.GdnStepRefIdeal.τ).loc Cert.GdnStepRefIdeal.main_arg4))).2.1 = (fun _ => 1#1)
    ∧ (Cert.Pre_decay_and_beta_in_range.fn (F := Ideal) (m ((c.tc : Thread Cert.GdnStepRefIdeal.nD Cert.GdnStepRefIdeal.τ).loc Cert.GdnStepRefIdeal.main_arg0)) (m ((c.tc : Thread Cert.GdnStepRefIdeal.nD Cert.GdnStepRefIdeal.τ).loc Cert.GdnStepRefIdeal.main_arg1)) (m ((c.tc : Thread Cert.GdnStepRefIdeal.nD Cert.GdnStepRefIdeal.τ).loc Cert.GdnStepRefIdeal.main_arg2)) (m ((c.tc : Thread Cert.GdnStepRefIdeal.nD Cert.GdnStepRefIdeal.τ).loc Cert.GdnStepRefIdeal.main_arg3)) (m ((c.tc : Thread Cert.GdnStepRefIdeal.nD Cert.GdnStepRefIdeal.τ).loc Cert.GdnStepRefIdeal.main_arg4))).2.2 = (fun _ => 1#1)

def quiescent_S5Step [hS5Step : Cert.S5Step.Facts] : Prop :=
  ∀ (m : (ℓ : Loc Cert.S5Step.nD Cert.S5Step.τ Cert.S5Step.sig) → Buf (Elt Bits) ℓ) (g : Dev Cert.S5Step.nD → PrngReg), Pre_S5Step m →
    θ_run (Cert.S5Step.defs (F := Bits)) (onTc (τ := Cert.S5Step.τ) (Cert.S5Step.main (F := Bits))) ⟨m, fun _ => 0, g⟩ (fun r => (∀ c : Dev Cert.S5Step.nD,
      r.2.mem ((c.tc : Thread Cert.S5Step.nD Cert.S5Step.τ).loc Cert.S5Step.main_arg0) = m ((c.tc : Thread Cert.S5Step.nD Cert.S5Step.τ).loc Cert.S5Step.main_arg0)
      ∧ r.2.mem ((c.tc : Thread Cert.S5Step.nD Cert.S5Step.τ).loc Cert.S5Step.main_arg1) = m ((c.tc : Thread Cert.S5Step.nD Cert.S5Step.τ).loc Cert.S5Step.main_arg1)
      ∧ r.2.mem ((c.tc : Thread Cert.S5Step.nD Cert.S5Step.τ).loc Cert.S5Step.main_arg2) = m ((c.tc : Thread Cert.S5Step.nD Cert.S5Step.τ).loc Cert.S5Step.main_arg2)
      ∧ r.2.mem ((c.tc : Thread Cert.S5Step.nD Cert.S5Step.τ).loc Cert.S5Step.main_arg3) = m ((c.tc : Thread Cert.S5Step.nD Cert.S5Step.τ).loc Cert.S5Step.main_arg3)
      ∧ r.2.mem ((c.tc : Thread Cert.S5Step.nD Cert.S5Step.τ).loc Cert.S5Step.main_arg4) = m ((c.tc : Thread Cert.S5Step.nD Cert.S5Step.τ).loc Cert.S5Step.main_arg4)
      ∧ r.2.mem ((c.tc : Thread Cert.S5Step.nD Cert.S5Step.τ).loc Cert.S5Step.main_arg5) = m ((c.tc : Thread Cert.S5Step.nD Cert.S5Step.τ).loc Cert.S5Step.main_arg5)
      ∧ r.2.mem ((c.tc : Thread Cert.S5Step.nD Cert.S5Step.τ).loc Cert.S5Step.main_arg6) = m ((c.tc : Thread Cert.S5Step.nD Cert.S5Step.τ).loc Cert.S5Step.main_arg6)
      ∧ r.2.mem ((c.tc : Thread Cert.S5Step.nD Cert.S5Step.τ).loc Cert.S5Step.main_arg7) = m ((c.tc : Thread Cert.S5Step.nD Cert.S5Step.τ).loc Cert.S5Step.main_arg7)
      ∧ r.2.mem ((c.tc : Thread Cert.S5Step.nD Cert.S5Step.τ).loc Cert.S5Step.main_arg8) = m ((c.tc : Thread Cert.S5Step.nD Cert.S5Step.τ).loc Cert.S5Step.main_arg8)
      ∧ r.2.mem ((c.tc : Thread Cert.S5Step.nD Cert.S5Step.τ).loc Cert.S5Step.main_arg9) = m ((c.tc : Thread Cert.S5Step.nD Cert.S5Step.τ).loc Cert.S5Step.main_arg9))
      ∧ r.2.sem = fun _ => 0)

def quiescent_S5StepIdeal [hS5StepIdeal : Cert.S5StepIdeal.Facts] : Prop :=
  ∀ (m : (ℓ : Loc Cert.S5StepIdeal.nD Cert.S5StepIdeal.τ Cert.S5StepIdeal.sig) → Buf (Elt Ideal) ℓ) (g : Dev Cert.S5StepIdeal.nD → PrngReg), Pre_S5StepIdeal m →
    θ_run (Cert.S5StepIdeal.defs (F := Ideal)) (onTc (τ := Cert.S5StepIdeal.τ) (Cert.S5StepIdeal.main (F := Ideal))) ⟨m, fun _ => 0, g⟩ (fun r => (∀ c : Dev Cert.S5StepIdeal.nD,
      r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
      ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
      ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
      ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
      ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
      ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
      ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
      ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
      ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
      ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9))
      ∧ r.2.sem = fun _ => 0)

def quiescent_S5StepRefIdeal [hS5StepRefIdeal : Cert.S5StepRefIdeal.Facts] : Prop :=
  ∀ (m : (ℓ : Loc Cert.S5StepRefIdeal.nD Cert.S5StepRefIdeal.τ Cert.S5StepRefIdeal.sig) → Buf (Elt Ideal) ℓ) (g : Dev Cert.S5StepRefIdeal.nD → PrngReg), Pre_S5StepRefIdeal m →
    θ_run (Cert.S5StepRefIdeal.defs (F := Ideal)) (onTc (τ := Cert.S5StepRefIdeal.τ) (Cert.S5StepRefIdeal.main (F := Ideal))) ⟨m, fun _ => 0, g⟩ (fun r => (∀ c : Dev Cert.S5StepRefIdeal.nD,
      r.2.mem ((c.tc : Thread Cert.S5StepRefIdeal.nD Cert.S5StepRefIdeal.τ).loc Cert.S5StepRefIdeal.main_arg0) = m ((c.tc : Thread Cert.S5StepRefIdeal.nD Cert.S5StepRefIdeal.τ).loc Cert.S5StepRefIdeal.main_arg0)
      ∧ r.2.mem ((c.tc : Thread Cert.S5StepRefIdeal.nD Cert.S5StepRefIdeal.τ).loc Cert.S5StepRefIdeal.main_arg1) = m ((c.tc : Thread Cert.S5StepRefIdeal.nD Cert.S5StepRefIdeal.τ).loc Cert.S5StepRefIdeal.main_arg1)
      ∧ r.2.mem ((c.tc : Thread Cert.S5StepRefIdeal.nD Cert.S5StepRefIdeal.τ).loc Cert.S5StepRefIdeal.main_arg2) = m ((c.tc : Thread Cert.S5StepRefIdeal.nD Cert.S5StepRefIdeal.τ).loc Cert.S5StepRefIdeal.main_arg2)
      ∧ r.2.mem ((c.tc : Thread Cert.S5StepRefIdeal.nD Cert.S5StepRefIdeal.τ).loc Cert.S5StepRefIdeal.main_arg3) = m ((c.tc : Thread Cert.S5StepRefIdeal.nD Cert.S5StepRefIdeal.τ).loc Cert.S5StepRefIdeal.main_arg3)
      ∧ r.2.mem ((c.tc : Thread Cert.S5StepRefIdeal.nD Cert.S5StepRefIdeal.τ).loc Cert.S5StepRefIdeal.main_arg4) = m ((c.tc : Thread Cert.S5StepRefIdeal.nD Cert.S5StepRefIdeal.τ).loc Cert.S5StepRefIdeal.main_arg4)
      ∧ r.2.mem ((c.tc : Thread Cert.S5StepRefIdeal.nD Cert.S5StepRefIdeal.τ).loc Cert.S5StepRefIdeal.main_arg5) = m ((c.tc : Thread Cert.S5StepRefIdeal.nD Cert.S5StepRefIdeal.τ).loc Cert.S5StepRefIdeal.main_arg5)
      ∧ r.2.mem ((c.tc : Thread Cert.S5StepRefIdeal.nD Cert.S5StepRefIdeal.τ).loc Cert.S5StepRefIdeal.main_arg6) = m ((c.tc : Thread Cert.S5StepRefIdeal.nD Cert.S5StepRefIdeal.τ).loc Cert.S5StepRefIdeal.main_arg6)
      ∧ r.2.mem ((c.tc : Thread Cert.S5StepRefIdeal.nD Cert.S5StepRefIdeal.τ).loc Cert.S5StepRefIdeal.main_arg7) = m ((c.tc : Thread Cert.S5StepRefIdeal.nD Cert.S5StepRefIdeal.τ).loc Cert.S5StepRefIdeal.main_arg7)
      ∧ r.2.mem ((c.tc : Thread Cert.S5StepRefIdeal.nD Cert.S5StepRefIdeal.τ).loc Cert.S5StepRefIdeal.main_arg8) = m ((c.tc : Thread Cert.S5StepRefIdeal.nD Cert.S5StepRefIdeal.τ).loc Cert.S5StepRefIdeal.main_arg8)
      ∧ r.2.mem ((c.tc : Thread Cert.S5StepRefIdeal.nD Cert.S5StepRefIdeal.τ).loc Cert.S5StepRefIdeal.main_arg9) = m ((c.tc : Thread Cert.S5StepRefIdeal.nD Cert.S5StepRefIdeal.τ).loc Cert.S5StepRefIdeal.main_arg9))
      ∧ r.2.sem = fun _ => 0)

def quiescent_S5Scan [hS5Scan : Cert.S5Scan.Facts] : Prop :=
  ∀ (m : (ℓ : Loc Cert.S5Scan.nD Cert.S5Scan.τ Cert.S5Scan.sig) → Buf (Elt Bits) ℓ) (g : Dev Cert.S5Scan.nD → PrngReg), Pre_S5Scan m →
    θ_run (Cert.S5Scan.defs (F := Bits)) (onTc (τ := Cert.S5Scan.τ) (Cert.S5Scan.main (F := Bits))) ⟨m, fun _ => 0, g⟩ (fun r => (∀ c : Dev Cert.S5Scan.nD,
      r.2.mem ((c.tc : Thread Cert.S5Scan.nD Cert.S5Scan.τ).loc Cert.S5Scan.main_arg0) = m ((c.tc : Thread Cert.S5Scan.nD Cert.S5Scan.τ).loc Cert.S5Scan.main_arg0)
      ∧ r.2.mem ((c.tc : Thread Cert.S5Scan.nD Cert.S5Scan.τ).loc Cert.S5Scan.main_arg1) = m ((c.tc : Thread Cert.S5Scan.nD Cert.S5Scan.τ).loc Cert.S5Scan.main_arg1)
      ∧ r.2.mem ((c.tc : Thread Cert.S5Scan.nD Cert.S5Scan.τ).loc Cert.S5Scan.main_arg2) = m ((c.tc : Thread Cert.S5Scan.nD Cert.S5Scan.τ).loc Cert.S5Scan.main_arg2)
      ∧ r.2.mem ((c.tc : Thread Cert.S5Scan.nD Cert.S5Scan.τ).loc Cert.S5Scan.main_arg3) = m ((c.tc : Thread Cert.S5Scan.nD Cert.S5Scan.τ).loc Cert.S5Scan.main_arg3)
      ∧ r.2.mem ((c.tc : Thread Cert.S5Scan.nD Cert.S5Scan.τ).loc Cert.S5Scan.main_arg4) = m ((c.tc : Thread Cert.S5Scan.nD Cert.S5Scan.τ).loc Cert.S5Scan.main_arg4)
      ∧ r.2.mem ((c.tc : Thread Cert.S5Scan.nD Cert.S5Scan.τ).loc Cert.S5Scan.main_arg5) = m ((c.tc : Thread Cert.S5Scan.nD Cert.S5Scan.τ).loc Cert.S5Scan.main_arg5)
      ∧ r.2.mem ((c.tc : Thread Cert.S5Scan.nD Cert.S5Scan.τ).loc Cert.S5Scan.main_arg6) = m ((c.tc : Thread Cert.S5Scan.nD Cert.S5Scan.τ).loc Cert.S5Scan.main_arg6)
      ∧ r.2.mem ((c.tc : Thread Cert.S5Scan.nD Cert.S5Scan.τ).loc Cert.S5Scan.main_arg7) = m ((c.tc : Thread Cert.S5Scan.nD Cert.S5Scan.τ).loc Cert.S5Scan.main_arg7)
      ∧ r.2.mem ((c.tc : Thread Cert.S5Scan.nD Cert.S5Scan.τ).loc Cert.S5Scan.main_arg8) = m ((c.tc : Thread Cert.S5Scan.nD Cert.S5Scan.τ).loc Cert.S5Scan.main_arg8))
      ∧ r.2.sem = fun _ => 0)

def quiescent_S5ScanIdeal [hS5ScanIdeal : Cert.S5ScanIdeal.Facts] : Prop :=
  ∀ (m : (ℓ : Loc Cert.S5ScanIdeal.nD Cert.S5ScanIdeal.τ Cert.S5ScanIdeal.sig) → Buf (Elt Ideal) ℓ) (g : Dev Cert.S5ScanIdeal.nD → PrngReg), Pre_S5ScanIdeal m →
    θ_run (Cert.S5ScanIdeal.defs (F := Ideal)) (onTc (τ := Cert.S5ScanIdeal.τ) (Cert.S5ScanIdeal.main (F := Ideal))) ⟨m, fun _ => 0, g⟩ (fun r => (∀ c : Dev Cert.S5ScanIdeal.nD,
      r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
      ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
      ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
      ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
      ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
      ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5)
      ∧ r.2.mem ((c.tc : Thread Cert.S5ScanIdeal.nD Cert.S5ScanIdeal.τ).loc Cert.S5ScanIdeal.main_arg6) = m ((c.tc : Thread Cert.S5ScanIdeal.nD Cert.S5ScanIdeal.τ).loc Cert.S5ScanIdeal.main_arg6)
      ∧ r.2.mem ((c.tc : Thread Cert.S5ScanIdeal.nD Cert.S5ScanIdeal.τ).loc Cert.S5ScanIdeal.main_arg7) = m ((c.tc : Thread Cert.S5ScanIdeal.nD Cert.S5ScanIdeal.τ).loc Cert.S5ScanIdeal.main_arg7)
      ∧ r.2.mem ((c.tc : Thread Cert.S5ScanIdeal.nD Cert.S5ScanIdeal.τ).loc Cert.S5ScanIdeal.main_arg8) = m ((c.tc : Thread Cert.S5ScanIdeal.nD Cert.S5ScanIdeal.τ).loc Cert.S5ScanIdeal.main_arg8))
      ∧ r.2.sem = fun _ => 0)

def quiescent_S5ScanIdeal_pre_scan_operands_finite [hS5ScanIdeal : Cert.S5ScanIdeal.Facts] [hPre_scan_operands_finite : Cert.Pre_scan_operands_finite.Facts] : Prop :=
  ∀ (m : (ℓ : Loc Cert.S5ScanIdeal.nD Cert.S5ScanIdeal.τ Cert.S5ScanIdeal.sig) → Buf (Elt Ideal) ℓ) (g : Dev Cert.S5ScanIdeal.nD → PrngReg), Pre_S5ScanIdeal_scan_operands_finite m →
    θ_run (Cert.S5ScanIdeal.defs (F := Ideal)) (onTc (τ := Cert.S5ScanIdeal.τ) (Cert.S5ScanIdeal.main (F := Ideal))) ⟨m, fun _ => 0, g⟩ (fun r => (∀ c : Dev Cert.S5ScanIdeal.nD,
      r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
      ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
      ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
      ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
      ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
      ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5)
      ∧ r.2.mem ((c.tc : Thread Cert.S5ScanIdeal.nD Cert.S5ScanIdeal.τ).loc Cert.S5ScanIdeal.main_arg6) = m ((c.tc : Thread Cert.S5ScanIdeal.nD Cert.S5ScanIdeal.τ).loc Cert.S5ScanIdeal.main_arg6)
      ∧ r.2.mem ((c.tc : Thread Cert.S5ScanIdeal.nD Cert.S5ScanIdeal.τ).loc Cert.S5ScanIdeal.main_arg7) = m ((c.tc : Thread Cert.S5ScanIdeal.nD Cert.S5ScanIdeal.τ).loc Cert.S5ScanIdeal.main_arg7)
      ∧ r.2.mem ((c.tc : Thread Cert.S5ScanIdeal.nD Cert.S5ScanIdeal.τ).loc Cert.S5ScanIdeal.main_arg8) = m ((c.tc : Thread Cert.S5ScanIdeal.nD Cert.S5ScanIdeal.τ).loc Cert.S5ScanIdeal.main_arg8))
      ∧ r.2.sem = fun _ => 0)

def quiescent_S5ScanRefIdeal [hS5ScanRefIdeal : Cert.S5ScanRefIdeal.Facts] : Prop :=
  ∀ (m : (ℓ : Loc Cert.S5ScanRefIdeal.nD Cert.S5ScanRefIdeal.τ Cert.S5ScanRefIdeal.sig) → Buf (Elt Ideal) ℓ) (g : Dev Cert.S5ScanRefIdeal.nD → PrngReg), Pre_S5ScanRefIdeal m →
    θ_run (Cert.S5ScanRefIdeal.defs (F := Ideal)) (onTc (τ := Cert.S5ScanRefIdeal.τ) (Cert.S5ScanRefIdeal.main (F := Ideal))) ⟨m, fun _ => 0, g⟩ (fun r => (∀ c : Dev Cert.S5ScanRefIdeal.nD,
      r.2.mem ((c.tc : Thread Cert.S5ScanRefIdeal.nD Cert.S5ScanRefIdeal.τ).loc Cert.S5ScanRefIdeal.main_arg0) = m ((c.tc : Thread Cert.S5ScanRefIdeal.nD Cert.S5ScanRefIdeal.τ).loc Cert.S5ScanRefIdeal.main_arg0)
      ∧ r.2.mem ((c.tc : Thread Cert.S5ScanRefIdeal.nD Cert.S5ScanRefIdeal.τ).loc Cert.S5ScanRefIdeal.main_arg1) = m ((c.tc : Thread Cert.S5ScanRefIdeal.nD Cert.S5ScanRefIdeal.τ).loc Cert.S5ScanRefIdeal.main_arg1)
      ∧ r.2.mem ((c.tc : Thread Cert.S5ScanRefIdeal.nD Cert.S5ScanRefIdeal.τ).loc Cert.S5ScanRefIdeal.main_arg2) = m ((c.tc : Thread Cert.S5ScanRefIdeal.nD Cert.S5ScanRefIdeal.τ).loc Cert.S5ScanRefIdeal.main_arg2)
      ∧ r.2.mem ((c.tc : Thread Cert.S5ScanRefIdeal.nD Cert.S5ScanRefIdeal.τ).loc Cert.S5ScanRefIdeal.main_arg3) = m ((c.tc : Thread Cert.S5ScanRefIdeal.nD Cert.S5ScanRefIdeal.τ).loc Cert.S5ScanRefIdeal.main_arg3)
      ∧ r.2.mem ((c.tc : Thread Cert.S5ScanRefIdeal.nD Cert.S5ScanRefIdeal.τ).loc Cert.S5ScanRefIdeal.main_arg4) = m ((c.tc : Thread Cert.S5ScanRefIdeal.nD Cert.S5ScanRefIdeal.τ).loc Cert.S5ScanRefIdeal.main_arg4)
      ∧ r.2.mem ((c.tc : Thread Cert.S5ScanRefIdeal.nD Cert.S5ScanRefIdeal.τ).loc Cert.S5ScanRefIdeal.main_arg5) = m ((c.tc : Thread Cert.S5ScanRefIdeal.nD Cert.S5ScanRefIdeal.τ).loc Cert.S5ScanRefIdeal.main_arg5)
      ∧ r.2.mem ((c.tc : Thread Cert.S5ScanRefIdeal.nD Cert.S5ScanRefIdeal.τ).loc Cert.S5ScanRefIdeal.main_arg6) = m ((c.tc : Thread Cert.S5ScanRefIdeal.nD Cert.S5ScanRefIdeal.τ).loc Cert.S5ScanRefIdeal.main_arg6)
      ∧ r.2.mem ((c.tc : Thread Cert.S5ScanRefIdeal.nD Cert.S5ScanRefIdeal.τ).loc Cert.S5ScanRefIdeal.main_arg7) = m ((c.tc : Thread Cert.S5ScanRefIdeal.nD Cert.S5ScanRefIdeal.τ).loc Cert.S5ScanRefIdeal.main_arg7)
      ∧ r.2.mem ((c.tc : Thread Cert.S5ScanRefIdeal.nD Cert.S5ScanRefIdeal.τ).loc Cert.S5ScanRefIdeal.main_arg8) = m ((c.tc : Thread Cert.S5ScanRefIdeal.nD Cert.S5ScanRefIdeal.τ).loc Cert.S5ScanRefIdeal.main_arg8))
      ∧ r.2.sem = fun _ => 0)

def quiescent_S5ScanRefIdeal_pre_scan_operands_finite [hS5ScanRefIdeal : Cert.S5ScanRefIdeal.Facts] [hPre_scan_operands_finite : Cert.Pre_scan_operands_finite.Facts] : Prop :=
  ∀ (m : (ℓ : Loc Cert.S5ScanRefIdeal.nD Cert.S5ScanRefIdeal.τ Cert.S5ScanRefIdeal.sig) → Buf (Elt Ideal) ℓ) (g : Dev Cert.S5ScanRefIdeal.nD → PrngReg), Pre_S5ScanRefIdeal_scan_operands_finite m →
    θ_run (Cert.S5ScanRefIdeal.defs (F := Ideal)) (onTc (τ := Cert.S5ScanRefIdeal.τ) (Cert.S5ScanRefIdeal.main (F := Ideal))) ⟨m, fun _ => 0, g⟩ (fun r => (∀ c : Dev Cert.S5ScanRefIdeal.nD,
      r.2.mem ((c.tc : Thread Cert.S5ScanRefIdeal.nD Cert.S5ScanRefIdeal.τ).loc Cert.S5ScanRefIdeal.main_arg0) = m ((c.tc : Thread Cert.S5ScanRefIdeal.nD Cert.S5ScanRefIdeal.τ).loc Cert.S5ScanRefIdeal.main_arg0)
      ∧ r.2.mem ((c.tc : Thread Cert.S5ScanRefIdeal.nD Cert.S5ScanRefIdeal.τ).loc Cert.S5ScanRefIdeal.main_arg1) = m ((c.tc : Thread Cert.S5ScanRefIdeal.nD Cert.S5ScanRefIdeal.τ).loc Cert.S5ScanRefIdeal.main_arg1)
      ∧ r.2.mem ((c.tc : Thread Cert.S5ScanRefIdeal.nD Cert.S5ScanRefIdeal.τ).loc Cert.S5ScanRefIdeal.main_arg2) = m ((c.tc : Thread Cert.S5ScanRefIdeal.nD Cert.S5ScanRefIdeal.τ).loc Cert.S5ScanRefIdeal.main_arg2)
      ∧ r.2.mem ((c.tc : Thread Cert.S5ScanRefIdeal.nD Cert.S5ScanRefIdeal.τ).loc Cert.S5ScanRefIdeal.main_arg3) = m ((c.tc : Thread Cert.S5ScanRefIdeal.nD Cert.S5ScanRefIdeal.τ).loc Cert.S5ScanRefIdeal.main_arg3)
      ∧ r.2.mem ((c.tc : Thread Cert.S5ScanRefIdeal.nD Cert.S5ScanRefIdeal.τ).loc Cert.S5ScanRefIdeal.main_arg4) = m ((c.tc : Thread Cert.S5ScanRefIdeal.nD Cert.S5ScanRefIdeal.τ).loc Cert.S5ScanRefIdeal.main_arg4)
      ∧ r.2.mem ((c.tc : Thread Cert.S5ScanRefIdeal.nD Cert.S5ScanRefIdeal.τ).loc Cert.S5ScanRefIdeal.main_arg5) = m ((c.tc : Thread Cert.S5ScanRefIdeal.nD Cert.S5ScanRefIdeal.τ).loc Cert.S5ScanRefIdeal.main_arg5)
      ∧ r.2.mem ((c.tc : Thread Cert.S5ScanRefIdeal.nD Cert.S5ScanRefIdeal.τ).loc Cert.S5ScanRefIdeal.main_arg6) = m ((c.tc : Thread Cert.S5ScanRefIdeal.nD Cert.S5ScanRefIdeal.τ).loc Cert.S5ScanRefIdeal.main_arg6)
      ∧ r.2.mem ((c.tc : Thread Cert.S5ScanRefIdeal.nD Cert.S5ScanRefIdeal.τ).loc Cert.S5ScanRefIdeal.main_arg7) = m ((c.tc : Thread Cert.S5ScanRefIdeal.nD Cert.S5ScanRefIdeal.τ).loc Cert.S5ScanRefIdeal.main_arg7)
      ∧ r.2.mem ((c.tc : Thread Cert.S5ScanRefIdeal.nD Cert.S5ScanRefIdeal.τ).loc Cert.S5ScanRefIdeal.main_arg8) = m ((c.tc : Thread Cert.S5ScanRefIdeal.nD Cert.S5ScanRefIdeal.τ).loc Cert.S5ScanRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ r.2.sem = fun _ => 0)

def quiescent_ConvPromptRefIdeal [hConvPromptRefIdeal : Cert.ConvPromptRefIdeal.Facts] : Prop :=
  ∀ (m : (ℓ : Loc Cert.ConvPromptRefIdeal.nD Cert.ConvPromptRefIdeal.τ Cert.ConvPromptRefIdeal.sig) → Buf (Elt Ideal) ℓ) (g : Dev Cert.ConvPromptRefIdeal.nD → PrngReg), Pre_ConvPromptRefIdeal m →
    θ_run (Cert.ConvPromptRefIdeal.defs (F := Ideal)) (onTc (τ := Cert.ConvPromptRefIdeal.τ) (Cert.ConvPromptRefIdeal.main (F := Ideal))) ⟨m, fun _ => 0, g⟩ (fun r => (∀ c : Dev Cert.ConvPromptRefIdeal.nD,
      r.2.mem ((c.tc : Thread Cert.ConvPromptRefIdeal.nD Cert.ConvPromptRefIdeal.τ).loc Cert.ConvPromptRefIdeal.main_arg0) = m ((c.tc : Thread Cert.ConvPromptRefIdeal.nD Cert.ConvPromptRefIdeal.τ).loc Cert.ConvPromptRefIdeal.main_arg0)
      ∧ r.2.mem ((c.tc : Thread Cert.ConvPromptRefIdeal.nD Cert.ConvPromptRefIdeal.τ).loc Cert.ConvPromptRefIdeal.main_arg1) = m ((c.tc : Thread Cert.ConvPromptRefIdeal.nD Cert.ConvPromptRefIdeal.τ).loc Cert.ConvPromptRefIdeal.main_arg1))
      ∧ r.2.sem = fun _ => 0)

def quiescent_GatesSample [hGatesSample : Cert.GatesSample.Facts] : Prop :=
  ∀ (m : (ℓ : Loc Cert.GatesSample.nD Cert.GatesSample.τ Cert.GatesSample.sig) → Buf (Elt Bits) ℓ) (g : Dev Cert.GatesSample.nD → PrngReg), Pre_GatesSample m →
    θ_run (Cert.GatesSample.defs (F := Bits)) (onTc (τ := Cert.GatesSample.τ) (Cert.GatesSample.main (F := Bits))) ⟨m, fun _ => 0, g⟩ (fun r => (∀ c : Dev Cert.GatesSample.nD,
      r.2.mem ((c.tc : Thread Cert.GatesSample.nD Cert.GatesSample.τ).loc Cert.GatesSample.main_arg0) = m ((c.tc : Thread Cert.GatesSample.nD Cert.GatesSample.τ).loc Cert.GatesSample.main_arg0)
      ∧ r.2.mem ((c.tc : Thread Cert.GatesSample.nD Cert.GatesSample.τ).loc Cert.GatesSample.main_arg1) = m ((c.tc : Thread Cert.GatesSample.nD Cert.GatesSample.τ).loc Cert.GatesSample.main_arg1)
      ∧ r.2.mem ((c.tc : Thread Cert.GatesSample.nD Cert.GatesSample.τ).loc Cert.GatesSample.main_arg2) = m ((c.tc : Thread Cert.GatesSample.nD Cert.GatesSample.τ).loc Cert.GatesSample.main_arg2))
      ∧ r.2.sem = fun _ => 0)

def quiescent_GatesSampleIdeal [hGatesSampleIdeal : Cert.GatesSampleIdeal.Facts] : Prop :=
  ∀ (m : (ℓ : Loc Cert.GatesSampleIdeal.nD Cert.GatesSampleIdeal.τ Cert.GatesSampleIdeal.sig) → Buf (Elt Ideal) ℓ) (g : Dev Cert.GatesSampleIdeal.nD → PrngReg), Pre_GatesSampleIdeal m →
    θ_run (Cert.GatesSampleIdeal.defs (F := Ideal)) (onTc (τ := Cert.GatesSampleIdeal.τ) (Cert.GatesSampleIdeal.main (F := Ideal))) ⟨m, fun _ => 0, g⟩ (fun r => (∀ c : Dev Cert.GatesSampleIdeal.nD,
      r.2.mem ((c.tc : Thread Cert.GatesSampleIdeal.nD Cert.GatesSampleIdeal.τ).loc Cert.GatesSampleIdeal.main_arg0) = m ((c.tc : Thread Cert.GatesSampleIdeal.nD Cert.GatesSampleIdeal.τ).loc Cert.GatesSampleIdeal.main_arg0)
      ∧ r.2.mem ((c.tc : Thread Cert.GatesSampleIdeal.nD Cert.GatesSampleIdeal.τ).loc Cert.GatesSampleIdeal.main_arg1) = m ((c.tc : Thread Cert.GatesSampleIdeal.nD Cert.GatesSampleIdeal.τ).loc Cert.GatesSampleIdeal.main_arg1)
      ∧ r.2.mem ((c.tc : Thread Cert.GatesSampleIdeal.nD Cert.GatesSampleIdeal.τ).loc Cert.GatesSampleIdeal.main_arg2) = m ((c.tc : Thread Cert.GatesSampleIdeal.nD Cert.GatesSampleIdeal.τ).loc Cert.GatesSampleIdeal.main_arg2))
      ∧ r.2.sem = fun _ => 0)

def quiescent_GatesSampleRefIdeal [hGatesSampleRefIdeal : Cert.GatesSampleRefIdeal.Facts] : Prop :=
  ∀ (m : (ℓ : Loc Cert.GatesSampleRefIdeal.nD Cert.GatesSampleRefIdeal.τ Cert.GatesSampleRefIdeal.sig) → Buf (Elt Ideal) ℓ) (g : Dev Cert.GatesSampleRefIdeal.nD → PrngReg), Pre_GatesSampleRefIdeal m →
    θ_run (Cert.GatesSampleRefIdeal.defs (F := Ideal)) (onTc (τ := Cert.GatesSampleRefIdeal.τ) (Cert.GatesSampleRefIdeal.main (F := Ideal))) ⟨m, fun _ => 0, g⟩ (fun r => (∀ c : Dev Cert.GatesSampleRefIdeal.nD,
      r.2.mem ((c.tc : Thread Cert.GatesSampleRefIdeal.nD Cert.GatesSampleRefIdeal.τ).loc Cert.GatesSampleRefIdeal.main_arg0) = m ((c.tc : Thread Cert.GatesSampleRefIdeal.nD Cert.GatesSampleRefIdeal.τ).loc Cert.GatesSampleRefIdeal.main_arg0)
      ∧ r.2.mem ((c.tc : Thread Cert.GatesSampleRefIdeal.nD Cert.GatesSampleRefIdeal.τ).loc Cert.GatesSampleRefIdeal.main_arg1) = m ((c.tc : Thread Cert.GatesSampleRefIdeal.nD Cert.GatesSampleRefIdeal.τ).loc Cert.GatesSampleRefIdeal.main_arg1)
      ∧ r.2.mem ((c.tc : Thread Cert.GatesSampleRefIdeal.nD Cert.GatesSampleRefIdeal.τ).loc Cert.GatesSampleRefIdeal.main_arg2) = m ((c.tc : Thread Cert.GatesSampleRefIdeal.nD Cert.GatesSampleRefIdeal.τ).loc Cert.GatesSampleRefIdeal.main_arg2))
      ∧ r.2.sem = fun _ => 0)

def quiescent_GatesPrompt [hGatesPrompt : Cert.GatesPrompt.Facts] : Prop :=
  ∀ (m : (ℓ : Loc Cert.GatesPrompt.nD Cert.GatesPrompt.τ Cert.GatesPrompt.sig) → Buf (Elt Bits) ℓ) (g : Dev Cert.GatesPrompt.nD → PrngReg), Pre_GatesPrompt m →
    θ_run (Cert.GatesPrompt.defs (F := Bits)) (onTc (τ := Cert.GatesPrompt.τ) (Cert.GatesPrompt.main (F := Bits))) ⟨m, fun _ => 0, g⟩ (fun r => (∀ c : Dev Cert.GatesPrompt.nD,
      r.2.mem ((c.tc : Thread Cert.GatesPrompt.nD Cert.GatesPrompt.τ).loc Cert.GatesPrompt.main_arg0) = m ((c.tc : Thread Cert.GatesPrompt.nD Cert.GatesPrompt.τ).loc Cert.GatesPrompt.main_arg0)
      ∧ r.2.mem ((c.tc : Thread Cert.GatesPrompt.nD Cert.GatesPrompt.τ).loc Cert.GatesPrompt.main_arg1) = m ((c.tc : Thread Cert.GatesPrompt.nD Cert.GatesPrompt.τ).loc Cert.GatesPrompt.main_arg1)
      ∧ r.2.mem ((c.tc : Thread Cert.GatesPrompt.nD Cert.GatesPrompt.τ).loc Cert.GatesPrompt.main_arg2) = m ((c.tc : Thread Cert.GatesPrompt.nD Cert.GatesPrompt.τ).loc Cert.GatesPrompt.main_arg2))
      ∧ r.2.sem = fun _ => 0)

def quiescent_GatesPromptIdeal [hGatesPromptIdeal : Cert.GatesPromptIdeal.Facts] : Prop :=
  ∀ (m : (ℓ : Loc Cert.GatesPromptIdeal.nD Cert.GatesPromptIdeal.τ Cert.GatesPromptIdeal.sig) → Buf (Elt Ideal) ℓ) (g : Dev Cert.GatesPromptIdeal.nD → PrngReg), Pre_GatesPromptIdeal m →
    θ_run (Cert.GatesPromptIdeal.defs (F := Ideal)) (onTc (τ := Cert.GatesPromptIdeal.τ) (Cert.GatesPromptIdeal.main (F := Ideal))) ⟨m, fun _ => 0, g⟩ (fun r => (∀ c : Dev Cert.GatesPromptIdeal.nD,
      r.2.mem ((c.tc : Thread Cert.GatesPromptIdeal.nD Cert.GatesPromptIdeal.τ).loc Cert.GatesPromptIdeal.main_arg0) = m ((c.tc : Thread Cert.GatesPromptIdeal.nD Cert.GatesPromptIdeal.τ).loc Cert.GatesPromptIdeal.main_arg0)
      ∧ r.2.mem ((c.tc : Thread Cert.GatesPromptIdeal.nD Cert.GatesPromptIdeal.τ).loc Cert.GatesPromptIdeal.main_arg1) = m ((c.tc : Thread Cert.GatesPromptIdeal.nD Cert.GatesPromptIdeal.τ).loc Cert.GatesPromptIdeal.main_arg1)
      ∧ r.2.mem ((c.tc : Thread Cert.GatesPromptIdeal.nD Cert.GatesPromptIdeal.τ).loc Cert.GatesPromptIdeal.main_arg2) = m ((c.tc : Thread Cert.GatesPromptIdeal.nD Cert.GatesPromptIdeal.τ).loc Cert.GatesPromptIdeal.main_arg2))
      ∧ r.2.sem = fun _ => 0)

def quiescent_GatesPromptRefIdeal [hGatesPromptRefIdeal : Cert.GatesPromptRefIdeal.Facts] : Prop :=
  ∀ (m : (ℓ : Loc Cert.GatesPromptRefIdeal.nD Cert.GatesPromptRefIdeal.τ Cert.GatesPromptRefIdeal.sig) → Buf (Elt Ideal) ℓ) (g : Dev Cert.GatesPromptRefIdeal.nD → PrngReg), Pre_GatesPromptRefIdeal m →
    θ_run (Cert.GatesPromptRefIdeal.defs (F := Ideal)) (onTc (τ := Cert.GatesPromptRefIdeal.τ) (Cert.GatesPromptRefIdeal.main (F := Ideal))) ⟨m, fun _ => 0, g⟩ (fun r => (∀ c : Dev Cert.GatesPromptRefIdeal.nD,
      r.2.mem ((c.tc : Thread Cert.GatesPromptRefIdeal.nD Cert.GatesPromptRefIdeal.τ).loc Cert.GatesPromptRefIdeal.main_arg0) = m ((c.tc : Thread Cert.GatesPromptRefIdeal.nD Cert.GatesPromptRefIdeal.τ).loc Cert.GatesPromptRefIdeal.main_arg0)
      ∧ r.2.mem ((c.tc : Thread Cert.GatesPromptRefIdeal.nD Cert.GatesPromptRefIdeal.τ).loc Cert.GatesPromptRefIdeal.main_arg1) = m ((c.tc : Thread Cert.GatesPromptRefIdeal.nD Cert.GatesPromptRefIdeal.τ).loc Cert.GatesPromptRefIdeal.main_arg1)
      ∧ r.2.mem ((c.tc : Thread Cert.GatesPromptRefIdeal.nD Cert.GatesPromptRefIdeal.τ).loc Cert.GatesPromptRefIdeal.main_arg2) = m ((c.tc : Thread Cert.GatesPromptRefIdeal.nD Cert.GatesPromptRefIdeal.τ).loc Cert.GatesPromptRefIdeal.main_arg2))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0))
      ∧ r.2.sem = fun _ => 0)

def quiescent_GdnStep [hGdnStep : Cert.GdnStep.Facts] : Prop :=
  ∀ (m : (ℓ : Loc Cert.GdnStep.nD Cert.GdnStep.τ Cert.GdnStep.sig) → Buf (Elt Bits) ℓ) (g : Dev Cert.GdnStep.nD → PrngReg), Pre_GdnStep m →
    θ_run (Cert.GdnStep.defs (F := Bits)) (onTc (τ := Cert.GdnStep.τ) (Cert.GdnStep.main (F := Bits))) ⟨m, fun _ => 0, g⟩ (fun r => (∀ c : Dev Cert.GdnStep.nD,
      r.2.mem ((c.tc : Thread Cert.GdnStep.nD Cert.GdnStep.τ).loc Cert.GdnStep.main_arg0) = m ((c.tc : Thread Cert.GdnStep.nD Cert.GdnStep.τ).loc Cert.GdnStep.main_arg0)
      ∧ r.2.mem ((c.tc : Thread Cert.GdnStep.nD Cert.GdnStep.τ).loc Cert.GdnStep.main_arg1) = m ((c.tc : Thread Cert.GdnStep.nD Cert.GdnStep.τ).loc Cert.GdnStep.main_arg1)
      ∧ r.2.mem ((c.tc : Thread Cert.GdnStep.nD Cert.GdnStep.τ).loc Cert.GdnStep.main_arg2) = m ((c.tc : Thread Cert.GdnStep.nD Cert.GdnStep.τ).loc Cert.GdnStep.main_arg2)
      ∧ r.2.mem ((c.tc : Thread Cert.GdnStep.nD Cert.GdnStep.τ).loc Cert.GdnStep.main_arg3) = m ((c.tc : Thread Cert.GdnStep.nD Cert.GdnStep.τ).loc Cert.GdnStep.main_arg3)
      ∧ r.2.mem ((c.tc : Thread Cert.GdnStep.nD Cert.GdnStep.τ).loc Cert.GdnStep.main_arg4) = m ((c.tc : Thread Cert.GdnStep.nD Cert.GdnStep.τ).loc Cert.GdnStep.main_arg4))
      ∧ r.2.sem = fun _ => 0)

def quiescent_GdnStepIdeal [hGdnStepIdeal : Cert.GdnStepIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4))
      ∧ r.2.sem = fun _ => 0)

def quiescent_GdnStepIdeal_pre_decay_and_beta_in_range [hGdnStepIdeal : Cert.GdnStepIdeal.Facts] [hPre_decay_and_beta_in_range : Cert.Pre_decay_and_beta_in_range.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal_decay_and_beta_in_range m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4))
      ∧ r.2.sem = fun _ => 0)

def quiescent_GdnStepRefIdeal [hGdnStepRefIdeal : Cert.GdnStepRefIdeal.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4))
      ∧ r.2.sem = fun _ => 0)

def quiescent_GdnStepRefIdeal_pre_decay_and_beta_in_range [hGdnStepRefIdeal : Cert.GdnStepRefIdeal.Facts] [hPre_decay_and_beta_in_range : Cert.Pre_decay_and_beta_in_range.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal_decay_and_beta_in_range m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4))
      ∧ r.2.sem = fun _ => 0)

def preserves_S5Step_S5StepIdeal : Prop :=
  True

def algebraic_S5StepIdeal_S5StepRefIdeal [hS5StepIdeal : Cert.S5StepIdeal.Facts] [hS5StepRefIdeal : Cert.S5StepRefIdeal.Facts] : Prop :=
  ∀ (m : (ℓ : Loc Cert.S5StepIdeal.nD Cert.S5StepIdeal.τ Cert.S5StepIdeal.sig) → Buf (Elt Ideal) ℓ) (g : Dev Cert.S5StepIdeal.nD → PrngReg)
    (m' : (ℓ : Loc Cert.S5StepRefIdeal.nD Cert.S5StepRefIdeal.τ Cert.S5StepRefIdeal.sig) → Buf (Elt Ideal) ℓ) (g' : Dev Cert.S5StepRefIdeal.nD → PrngReg), Pre_S5StepIdeal m →
    (∀ c : Dev Cert.S5StepIdeal.nD,
      m' ((c.tc : Thread Cert.S5StepRefIdeal.nD Cert.S5StepRefIdeal.τ).loc Cert.S5StepRefIdeal.main_arg0) = m ((c.tc : Thread Cert.S5StepIdeal.nD Cert.S5StepIdeal.τ).loc Cert.S5StepIdeal.main_arg0)
      ∧ m' ((c.tc : Thread Cert.S5StepRefIdeal.nD Cert.S5StepRefIdeal.τ).loc Cert.S5StepRefIdeal.main_arg1) = m ((c.tc : Thread Cert.S5StepIdeal.nD Cert.S5StepIdeal.τ).loc Cert.S5StepIdeal.main_arg1)
      ∧ m' ((c.tc : Thread Cert.S5StepRefIdeal.nD Cert.S5StepRefIdeal.τ).loc Cert.S5StepRefIdeal.main_arg2) = m ((c.tc : Thread Cert.S5StepIdeal.nD Cert.S5StepIdeal.τ).loc Cert.S5StepIdeal.main_arg2)
      ∧ m' ((c.tc : Thread Cert.S5StepRefIdeal.nD Cert.S5StepRefIdeal.τ).loc Cert.S5StepRefIdeal.main_arg3) = m ((c.tc : Thread Cert.S5StepIdeal.nD Cert.S5StepIdeal.τ).loc Cert.S5StepIdeal.main_arg3)
      ∧ m' ((c.tc : Thread Cert.S5StepRefIdeal.nD Cert.S5StepRefIdeal.τ).loc Cert.S5StepRefIdeal.main_arg4) = m ((c.tc : Thread Cert.S5StepIdeal.nD Cert.S5StepIdeal.τ).loc Cert.S5StepIdeal.main_arg4)
      ∧ m' ((c.tc : Thread Cert.S5StepRefIdeal.nD Cert.S5StepRefIdeal.τ).loc Cert.S5StepRefIdeal.main_arg5) = m ((c.tc : Thread Cert.S5StepIdeal.nD Cert.S5StepIdeal.τ).loc Cert.S5StepIdeal.main_arg5)
      ∧ m' ((c.tc : Thread Cert.S5StepRefIdeal.nD Cert.S5StepRefIdeal.τ).loc Cert.S5StepRefIdeal.main_arg6) = m ((c.tc : Thread Cert.S5StepIdeal.nD Cert.S5StepIdeal.τ).loc Cert.S5StepIdeal.main_arg6)
      ∧ m' ((c.tc : Thread Cert.S5StepRefIdeal.nD Cert.S5StepRefIdeal.τ).loc Cert.S5StepRefIdeal.main_arg7) = m ((c.tc : Thread Cert.S5StepIdeal.nD Cert.S5StepIdeal.τ).loc Cert.S5StepIdeal.main_arg7)
      ∧ m' ((c.tc : Thread Cert.S5StepRefIdeal.nD Cert.S5StepRefIdeal.τ).loc Cert.S5StepRefIdeal.main_arg8) = m ((c.tc : Thread Cert.S5StepIdeal.nD Cert.S5StepIdeal.τ).loc Cert.S5StepIdeal.main_arg8)
      ∧ m' ((c.tc : Thread Cert.S5StepRefIdeal.nD Cert.S5StepRefIdeal.τ).loc Cert.S5StepRefIdeal.main_arg9) = m ((c.tc : Thread Cert.S5StepIdeal.nD Cert.S5StepIdeal.τ).loc Cert.S5StepIdeal.main_arg9)) →
    ∃ (v0 : (c : Dev Cert.S5StepIdeal.nD) → Buf (Elt Ideal) ((c.tc : Thread Cert.S5StepIdeal.nD Cert.S5StepIdeal.τ).loc Cert.S5StepIdeal.main_v56_0)) (v1 : (c : Dev Cert.S5StepIdeal.nD) → Buf (Elt Ideal) ((c.tc : Thread Cert.S5StepIdeal.nD Cert.S5StepIdeal.τ).loc Cert.S5StepIdeal.main_v56_1)) (v2 : (c : Dev Cert.S5StepIdeal.nD) → Buf (Elt Ideal) ((c.tc : Thread Cert.S5StepIdeal.nD Cert.S5StepIdeal.τ).loc Cert.S5StepIdeal.main_v56_2)),
      θ_run (Cert.S5StepIdeal.defs (F := Ideal)) (onTc (τ := Cert.S5StepIdeal.τ) (Cert.S5StepIdeal.main (F := Ideal))) ⟨m, fun _ => 0, g⟩ (fun r => ∀ c : Dev Cert.S5StepIdeal.nD,
          r.2.mem ((c.tc : Thread Cert.S5StepIdeal.nD Cert.S5StepIdeal.τ).loc Cert.S5StepIdeal.main_v56_0) = v0 c
          ∧ r.2.mem ((c.tc : Thread Cert.S5StepIdeal.nD Cert.S5StepIdeal.τ).loc Cert.S5StepIdeal.main_v56_1) = v1 c
          ∧ r.2.mem ((c.tc : Thread Cert.S5StepIdeal.nD Cert.S5StepIdeal.τ).loc Cert.S5StepIdeal.main_v56_2) = v2 c
          ∧ r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
          ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
          ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
          ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
          ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
          ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
          ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
          ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
          ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
          ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9))
      ∧ θ_run (Cert.S5StepRefIdeal.defs (F := Ideal)) (onTc (τ := Cert.S5StepRefIdeal.τ) (Cert.S5StepRefIdeal.main (F := Ideal))) ⟨m', fun _ => 0, g'⟩ (fun r => ∀ c : Dev Cert.S5StepRefIdeal.nD,
          r.2.mem ((c.tc : Thread Cert.S5StepRefIdeal.nD Cert.S5StepRefIdeal.τ).loc Cert.S5StepRefIdeal.main_v114) = v0 c
          ∧ r.2.mem ((c.tc : Thread Cert.S5StepRefIdeal.nD Cert.S5StepRefIdeal.τ).loc Cert.S5StepRefIdeal.main_v116) = v1 c
          ∧ r.2.mem ((c.tc : Thread Cert.S5StepRefIdeal.nD Cert.S5StepRefIdeal.τ).loc Cert.S5StepRefIdeal.main_v118) = v2 c
          ∧ r.2.mem ((c.tc : Thread Cert.S5StepRefIdeal.nD Cert.S5StepRefIdeal.τ).loc Cert.S5StepRefIdeal.main_arg0) = m' ((c.tc : Thread Cert.S5StepRefIdeal.nD Cert.S5StepRefIdeal.τ).loc Cert.S5StepRefIdeal.main_arg0)
          ∧ r.2.mem ((c.tc : Thread Cert.S5StepRefIdeal.nD Cert.S5StepRefIdeal.τ).loc Cert.S5StepRefIdeal.main_arg1) = m' ((c.tc : Thread Cert.S5StepRefIdeal.nD Cert.S5StepRefIdeal.τ).loc Cert.S5StepRefIdeal.main_arg1)
          ∧ r.2.mem ((c.tc : Thread Cert.S5StepRefIdeal.nD Cert.S5StepRefIdeal.τ).loc Cert.S5StepRefIdeal.main_arg2) = m' ((c.tc : Thread Cert.S5StepRefIdeal.nD Cert.S5StepRefIdeal.τ).loc Cert.S5StepRefIdeal.main_arg2)
          ∧ r.2.mem ((c.tc : Thread Cert.S5StepRefIdeal.nD Cert.S5StepRefIdeal.τ).loc Cert.S5StepRefIdeal.main_arg3) = m' ((c.tc : Thread Cert.S5StepRefIdeal.nD Cert.S5StepRefIdeal.τ).loc Cert.S5StepRefIdeal.main_arg3)
          ∧ r.2.mem ((c.tc : Thread Cert.S5StepRefIdeal.nD Cert.S5StepRefIdeal.τ).loc Cert.S5StepRefIdeal.main_arg4) = m' ((c.tc : Thread Cert.S5StepRefIdeal.nD Cert.S5StepRefIdeal.τ).loc Cert.S5StepRefIdeal.main_arg4)
          ∧ r.2.mem ((c.tc : Thread Cert.S5StepRefIdeal.nD Cert.S5StepRefIdeal.τ).loc Cert.S5StepRefIdeal.main_arg5) = m' ((c.tc : Thread Cert.S5StepRefIdeal.nD Cert.S5StepRefIdeal.τ).loc Cert.S5StepRefIdeal.main_arg5)
          ∧ r.2.mem ((c.tc : Thread Cert.S5StepRefIdeal.nD Cert.S5StepRefIdeal.τ).loc Cert.S5StepRefIdeal.main_arg6) = m' ((c.tc : Thread Cert.S5StepRefIdeal.nD Cert.S5StepRefIdeal.τ).loc Cert.S5StepRefIdeal.main_arg6)
          ∧ r.2.mem ((c.tc : Thread Cert.S5StepRefIdeal.nD Cert.S5StepRefIdeal.τ).loc Cert.S5StepRefIdeal.main_arg7) = m' ((c.tc : Thread Cert.S5StepRefIdeal.nD Cert.S5StepRefIdeal.τ).loc Cert.S5StepRefIdeal.main_arg7)
          ∧ r.2.mem ((c.tc : Thread Cert.S5StepRefIdeal.nD Cert.S5StepRefIdeal.τ).loc Cert.S5StepRefIdeal.main_arg8) = m' ((c.tc : Thread Cert.S5StepRefIdeal.nD Cert.S5StepRefIdeal.τ).loc Cert.S5StepRefIdeal.main_arg8)
          ∧ r.2.mem ((c.tc : Thread Cert.S5StepRefIdeal.nD Cert.S5StepRefIdeal.τ).loc Cert.S5StepRefIdeal.main_arg9) = m' ((c.tc : Thread Cert.S5StepRefIdeal.nD Cert.S5StepRefIdeal.τ).loc Cert.S5StepRefIdeal.main_arg9))

def preserves_S5Scan_S5ScanIdeal : Prop :=
  True

def algebraic_S5ScanIdeal_S5ScanRefIdeal_pre_scan_operands_finite [hS5ScanIdeal : Cert.S5ScanIdeal.Facts] [hS5ScanRefIdeal : Cert.S5ScanRefIdeal.Facts] [hPre_scan_operands_finite : Cert.Pre_scan_operands_finite.Facts] : Prop :=
  ∀ (m : (ℓ : Loc Cert.S5ScanIdeal.nD Cert.S5ScanIdeal.τ Cert.S5ScanIdeal.sig) → Buf (Elt Ideal) ℓ) (g : Dev Cert.S5ScanIdeal.nD → PrngReg)
    (m' : (ℓ : Loc Cert.S5ScanRefIdeal.nD Cert.S5ScanRefIdeal.τ Cert.S5ScanRefIdeal.sig) → Buf (Elt Ideal) ℓ) (g' : Dev Cert.S5ScanRefIdeal.nD → PrngReg), Pre_S5ScanIdeal_scan_operands_finite m →
    (∀ c : Dev Cert.S5ScanIdeal.nD,
      m' ((c.tc : Thread Cert.S5ScanRefIdeal.nD Cert.S5ScanRefIdeal.τ).loc Cert.S5ScanRefIdeal.main_arg0) = m ((c.tc : Thread Cert.S5ScanIdeal.nD Cert.S5ScanIdeal.τ).loc Cert.S5ScanIdeal.main_arg0)
      ∧ m' ((c.tc : Thread Cert.S5ScanRefIdeal.nD Cert.S5ScanRefIdeal.τ).loc Cert.S5ScanRefIdeal.main_arg1) = m ((c.tc : Thread Cert.S5ScanIdeal.nD Cert.S5ScanIdeal.τ).loc Cert.S5ScanIdeal.main_arg1)
      ∧ m' ((c.tc : Thread Cert.S5ScanRefIdeal.nD Cert.S5ScanRefIdeal.τ).loc Cert.S5ScanRefIdeal.main_arg2) = m ((c.tc : Thread Cert.S5ScanIdeal.nD Cert.S5ScanIdeal.τ).loc Cert.S5ScanIdeal.main_arg2)
      ∧ m' ((c.tc : Thread Cert.S5ScanRefIdeal.nD Cert.S5ScanRefIdeal.τ).loc Cert.S5ScanRefIdeal.main_arg3) = m ((c.tc : Thread Cert.S5ScanIdeal.nD Cert.S5ScanIdeal.τ).loc Cert.S5ScanIdeal.main_arg3)
      ∧ m' ((c.tc : Thread Cert.S5ScanRefIdeal.nD Cert.S5ScanRefIdeal.τ).loc Cert.S5ScanRefIdeal.main_arg4) = m ((c.tc : Thread Cert.S5ScanIdeal.nD Cert.S5ScanIdeal.τ).loc Cert.S5ScanIdeal.main_arg4)
      ∧ m' ((c.tc : Thread Cert.S5ScanRefIdeal.nD Cert.S5ScanRefIdeal.τ).loc Cert.S5ScanRefIdeal.main_arg5) = m ((c.tc : Thread Cert.S5ScanIdeal.nD Cert.S5ScanIdeal.τ).loc Cert.S5ScanIdeal.main_arg5)
      ∧ m' ((c.tc : Thread Cert.S5ScanRefIdeal.nD Cert.S5ScanRefIdeal.τ).loc Cert.S5ScanRefIdeal.main_arg6) = m ((c.tc : Thread Cert.S5ScanIdeal.nD Cert.S5ScanIdeal.τ).loc Cert.S5ScanIdeal.main_arg6)
      ∧ m' ((c.tc : Thread Cert.S5ScanRefIdeal.nD Cert.S5ScanRefIdeal.τ).loc Cert.S5ScanRefIdeal.main_arg7) = m ((c.tc : Thread Cert.S5ScanIdeal.nD Cert.S5ScanIdeal.τ).loc Cert.S5ScanIdeal.main_arg7)
      ∧ m' ((c.tc : Thread Cert.S5ScanRefIdeal.nD Cert.S5ScanRefIdeal.τ).loc Cert.S5ScanRefIdeal.main_arg8) = m ((c.tc : Thread Cert.S5ScanIdeal.nD Cert.S5ScanIdeal.τ).loc Cert.S5ScanIdeal.main_arg8)) →
    ∃ (v0 : (c : Dev Cert.S5ScanIdeal.nD) → Buf (Elt Ideal) ((c.tc : Thread Cert.S5ScanIdeal.nD Cert.S5ScanIdeal.τ).loc Cert.S5ScanIdeal.main_v51_0)) (v1 : (c : Dev Cert.S5ScanIdeal.nD) → Buf (Elt Ideal) ((c.tc : Thread Cert.S5ScanIdeal.nD Cert.S5ScanIdeal.τ).loc Cert.S5ScanIdeal.main_v51_1)) (v2 : (c : Dev Cert.S5ScanIdeal.nD) → Buf (Elt Ideal) ((c.tc : Thread Cert.S5ScanIdeal.nD Cert.S5ScanIdeal.τ).loc Cert.S5ScanIdeal.main_v51_2)),
      θ_run (Cert.S5ScanIdeal.defs (F := Ideal)) (onTc (τ := Cert.S5ScanIdeal.τ) (Cert.S5ScanIdeal.main (F := Ideal))) ⟨m, fun _ => 0, g⟩ (fun r => ∀ c : Dev Cert.S5ScanIdeal.nD,
          r.2.mem ((c.tc : Thread Cert.S5ScanIdeal.nD Cert.S5ScanIdeal.τ).loc Cert.S5ScanIdeal.main_v51_0) = v0 c
          ∧ r.2.mem ((c.tc : Thread Cert.S5ScanIdeal.nD Cert.S5ScanIdeal.τ).loc Cert.S5ScanIdeal.main_v51_1) = v1 c
          ∧ r.2.mem ((c.tc : Thread Cert.S5ScanIdeal.nD Cert.S5ScanIdeal.τ).loc Cert.S5ScanIdeal.main_v51_2) = v2 c
          ∧ r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
          ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
          ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
          ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
          ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
          ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5)
          ∧ r.2.mem ((c.tc : Thread Cert.S5ScanIdeal.nD Cert.S5ScanIdeal.τ).loc Cert.S5ScanIdeal.main_arg6) = m ((c.tc : Thread Cert.S5ScanIdeal.nD Cert.S5ScanIdeal.τ).loc Cert.S5ScanIdeal.main_arg6)
          ∧ r.2.mem ((c.tc : Thread Cert.S5ScanIdeal.nD Cert.S5ScanIdeal.τ).loc Cert.S5ScanIdeal.main_arg7) = m ((c.tc : Thread Cert.S5ScanIdeal.nD Cert.S5ScanIdeal.τ).loc Cert.S5ScanIdeal.main_arg7)
          ∧ r.2.mem ((c.tc : Thread Cert.S5ScanIdeal.nD Cert.S5ScanIdeal.τ).loc Cert.S5ScanIdeal.main_arg8) = m ((c.tc : Thread Cert.S5ScanIdeal.nD Cert.S5ScanIdeal.τ).loc Cert.S5ScanIdeal.main_arg8))
      ∧ θ_run (Cert.S5ScanRefIdeal.defs (F := Ideal)) (onTc (τ := Cert.S5ScanRefIdeal.τ) (Cert.S5ScanRefIdeal.main (F := Ideal))) ⟨m', fun _ => 0, g'⟩ (fun r => ∀ c : Dev Cert.S5ScanRefIdeal.nD,
          r.2.mem ((c.tc : Thread Cert.S5ScanRefIdeal.nD Cert.S5ScanRefIdeal.τ).loc Cert.S5ScanRefIdeal.main_v97) = v0 c
          ∧ r.2.mem ((c.tc : Thread Cert.S5ScanRefIdeal.nD Cert.S5ScanRefIdeal.τ).loc Cert.S5ScanRefIdeal.main_v98) = v1 c
          ∧ r.2.mem ((c.tc : Thread Cert.S5ScanRefIdeal.nD Cert.S5ScanRefIdeal.τ).loc Cert.S5ScanRefIdeal.main_v99) = v2 c
          ∧ r.2.mem ((c.tc : Thread Cert.S5ScanRefIdeal.nD Cert.S5ScanRefIdeal.τ).loc Cert.S5ScanRefIdeal.main_arg0) = m' ((c.tc : Thread Cert.S5ScanRefIdeal.nD Cert.S5ScanRefIdeal.τ).loc Cert.S5ScanRefIdeal.main_arg0)
          ∧ r.2.mem ((c.tc : Thread Cert.S5ScanRefIdeal.nD Cert.S5ScanRefIdeal.τ).loc Cert.S5ScanRefIdeal.main_arg1) = m' ((c.tc : Thread Cert.S5ScanRefIdeal.nD Cert.S5ScanRefIdeal.τ).loc Cert.S5ScanRefIdeal.main_arg1)
          ∧ r.2.mem ((c.tc : Thread Cert.S5ScanRefIdeal.nD Cert.S5ScanRefIdeal.τ).loc Cert.S5ScanRefIdeal.main_arg2) = m' ((c.tc : Thread Cert.S5ScanRefIdeal.nD Cert.S5ScanRefIdeal.τ).loc Cert.S5ScanRefIdeal.main_arg2)
          ∧ r.2.mem ((c.tc : Thread Cert.S5ScanRefIdeal.nD Cert.S5ScanRefIdeal.τ).loc Cert.S5ScanRefIdeal.main_arg3) = m' ((c.tc : Thread Cert.S5ScanRefIdeal.nD Cert.S5ScanRefIdeal.τ).loc Cert.S5ScanRefIdeal.main_arg3)
          ∧ r.2.mem ((c.tc : Thread Cert.S5ScanRefIdeal.nD Cert.S5ScanRefIdeal.τ).loc Cert.S5ScanRefIdeal.main_arg4) = m' ((c.tc : Thread Cert.S5ScanRefIdeal.nD Cert.S5ScanRefIdeal.τ).loc Cert.S5ScanRefIdeal.main_arg4)
          ∧ r.2.mem ((c.tc : Thread Cert.S5ScanRefIdeal.nD Cert.S5ScanRefIdeal.τ).loc Cert.S5ScanRefIdeal.main_arg5) = m' ((c.tc : Thread Cert.S5ScanRefIdeal.nD Cert.S5ScanRefIdeal.τ).loc Cert.S5ScanRefIdeal.main_arg5)
          ∧ r.2.mem ((c.tc : Thread Cert.S5ScanRefIdeal.nD Cert.S5ScanRefIdeal.τ).loc Cert.S5ScanRefIdeal.main_arg6) = m' ((c.tc : Thread Cert.S5ScanRefIdeal.nD Cert.S5ScanRefIdeal.τ).loc Cert.S5ScanRefIdeal.main_arg6)
          ∧ r.2.mem ((c.tc : Thread Cert.S5ScanRefIdeal.nD Cert.S5ScanRefIdeal.τ).loc Cert.S5ScanRefIdeal.main_arg7) = m' ((c.tc : Thread Cert.S5ScanRefIdeal.nD Cert.S5ScanRefIdeal.τ).loc Cert.S5ScanRefIdeal.main_arg7)
          ∧ r.2.mem ((c.tc : Thread Cert.S5ScanRefIdeal.nD Cert.S5ScanRefIdeal.τ).loc Cert.S5ScanRefIdeal.main_arg8) = m' ((c.tc : Thread Cert.S5ScanRefIdeal.nD Cert.S5ScanRefIdeal.τ).loc Cert.S5ScanRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v13) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v13) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)) →
    ∃ (v0 : (c : Dev Cert.ConvSampleIdeal.nD) → Buf (Elt Ideal) ((c.tc : Thread Cert.ConvSampleIdeal.nD Cert.ConvSampleIdeal.τ).loc Cert.ConvSampleIdeal.main_v2)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v2) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v47) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2))

def preserves_ConvPrompt_ConvPromptIdeal : Prop :=
  True

def algebraic_ConvPromptIdeal_ConvPromptRefIdeal [hConvPromptIdeal : Cert.ConvPromptIdeal.Facts] [hConvPromptRefIdeal : Cert.ConvPromptRefIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptRefIdeal.nD Cert.ConvPromptRefIdeal.τ Cert.ConvPromptRefIdeal.sig) → Buf (Elt Ideal) ℓ) (g' : Dev Cert.ConvPromptRefIdeal.nD → PrngReg), Pre_ConvPromptIdeal m →
    (∀ c : Dev Cert.ConvPromptIdeal.nD,
      m' ((c.tc : Thread Cert.ConvPromptRefIdeal.nD Cert.ConvPromptRefIdeal.τ).loc Cert.ConvPromptRefIdeal.main_arg0) = m ((c.tc : Thread Cert.ConvPromptIdeal.nD Cert.ConvPromptIdeal.τ).loc Cert.ConvPromptIdeal.main_arg0)
      ∧ m' ((c.tc : Thread Cert.ConvPromptRefIdeal.nD Cert.ConvPromptRefIdeal.τ).loc Cert.ConvPromptRefIdeal.main_arg1) = m ((c.tc : Thread Cert.ConvPromptIdeal.nD Cert.ConvPromptIdeal.τ).loc Cert.ConvPromptIdeal.main_arg1)) →
    ∃ (v0 : (c : Dev Cert.ConvPromptIdeal.nD) → Buf (Elt Ideal) ((c.tc : Thread Cert.ConvPromptIdeal.nD Cert.ConvPromptIdeal.τ).loc Cert.ConvPromptIdeal.main_v1)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v1) = v0 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1))
      ∧ θ_run (Cert.ConvPromptRefIdeal.defs (F := Ideal)) (onTc (τ := Cert.ConvPromptRefIdeal.τ) (Cert.ConvPromptRefIdeal.main (F := Ideal))) ⟨m', fun _ => 0, g'⟩ (fun r => ∀ c : Dev Cert.ConvPromptRefIdeal.nD,
          r.2.mem ((c.tc : Thread Cert.ConvPromptRefIdeal.nD Cert.ConvPromptRefIdeal.τ).loc Cert.ConvPromptRefIdeal.main_v47) = v0 c
          ∧ r.2.mem ((c.tc : Thread Cert.ConvPromptRefIdeal.nD Cert.ConvPromptRefIdeal.τ).loc Cert.ConvPromptRefIdeal.main_arg0) = m' ((c.tc : Thread Cert.ConvPromptRefIdeal.nD Cert.ConvPromptRefIdeal.τ).loc Cert.ConvPromptRefIdeal.main_arg0)
          ∧ r.2.mem ((c.tc : Thread Cert.ConvPromptRefIdeal.nD Cert.ConvPromptRefIdeal.τ).loc Cert.ConvPromptRefIdeal.main_arg1) = m' ((c.tc : Thread Cert.ConvPromptRefIdeal.nD Cert.ConvPromptRefIdeal.τ).loc Cert.ConvPromptRefIdeal.main_arg1))

def preserves_GatesSample_GatesSampleIdeal : Prop :=
  True

def algebraic_GatesSampleIdeal_GatesSampleRefIdeal [hGatesSampleIdeal : Cert.GatesSampleIdeal.Facts] [hGatesSampleRefIdeal : Cert.GatesSampleRefIdeal.Facts] : Prop :=
  ∀ (m : (ℓ : Loc Cert.GatesSampleIdeal.nD Cert.GatesSampleIdeal.τ Cert.GatesSampleIdeal.sig) → Buf (Elt Ideal) ℓ) (g : Dev Cert.GatesSampleIdeal.nD → PrngReg)
    (m' : (ℓ : Loc Cert.GatesSampleRefIdeal.nD Cert.GatesSampleRefIdeal.τ Cert.GatesSampleRefIdeal.sig) → Buf (Elt Ideal) ℓ) (g' : Dev Cert.GatesSampleRefIdeal.nD → PrngReg), Pre_GatesSampleIdeal m →
    (∀ c : Dev Cert.GatesSampleIdeal.nD,
      m' ((c.tc : Thread Cert.GatesSampleRefIdeal.nD Cert.GatesSampleRefIdeal.τ).loc Cert.GatesSampleRefIdeal.main_arg0) = m ((c.tc : Thread Cert.GatesSampleIdeal.nD Cert.GatesSampleIdeal.τ).loc Cert.GatesSampleIdeal.main_arg0)
      ∧ m' ((c.tc : Thread Cert.GatesSampleRefIdeal.nD Cert.GatesSampleRefIdeal.τ).loc Cert.GatesSampleRefIdeal.main_arg1) = m ((c.tc : Thread Cert.GatesSampleIdeal.nD Cert.GatesSampleIdeal.τ).loc Cert.GatesSampleIdeal.main_arg1)
      ∧ m' ((c.tc : Thread Cert.GatesSampleRefIdeal.nD Cert.GatesSampleRefIdeal.τ).loc Cert.GatesSampleRefIdeal.main_arg2) = m ((c.tc : Thread Cert.GatesSampleIdeal.nD Cert.GatesSampleIdeal.τ).loc Cert.GatesSampleIdeal.main_arg2)) →
    ∃ (v0 : (c : Dev Cert.GatesSampleIdeal.nD) → Buf (Elt Ideal) ((c.tc : Thread Cert.GatesSampleIdeal.nD Cert.GatesSampleIdeal.τ).loc Cert.GatesSampleIdeal.main_v15)),
      θ_run (Cert.GatesSampleIdeal.defs (F := Ideal)) (onTc (τ := Cert.GatesSampleIdeal.τ) (Cert.GatesSampleIdeal.main (F := Ideal))) ⟨m, fun _ => 0, g⟩ (fun r => ∀ c : Dev Cert.GatesSampleIdeal.nD,
          r.2.mem ((c.tc : Thread Cert.GatesSampleIdeal.nD Cert.GatesSampleIdeal.τ).loc Cert.GatesSampleIdeal.main_v15) = v0 c
          ∧ r.2.mem ((c.tc : Thread Cert.GatesSampleIdeal.nD Cert.GatesSampleIdeal.τ).loc Cert.GatesSampleIdeal.main_arg0) = m ((c.tc : Thread Cert.GatesSampleIdeal.nD Cert.GatesSampleIdeal.τ).loc Cert.GatesSampleIdeal.main_arg0)
          ∧ r.2.mem ((c.tc : Thread Cert.GatesSampleIdeal.nD Cert.GatesSampleIdeal.τ).loc Cert.GatesSampleIdeal.main_arg1) = m ((c.tc : Thread Cert.GatesSampleIdeal.nD Cert.GatesSampleIdeal.τ).loc Cert.GatesSampleIdeal.main_arg1)
          ∧ r.2.mem ((c.tc : Thread Cert.GatesSampleIdeal.nD Cert.GatesSampleIdeal.τ).loc Cert.GatesSampleIdeal.main_arg2) = m ((c.tc : Thread Cert.GatesSampleIdeal.nD Cert.GatesSampleIdeal.τ).loc Cert.GatesSampleIdeal.main_arg2))
      ∧ θ_run (Cert.GatesSampleRefIdeal.defs (F := Ideal)) (onTc (τ := Cert.GatesSampleRefIdeal.τ) (Cert.GatesSampleRefIdeal.main (F := Ideal))) ⟨m', fun _ => 0, g'⟩ (fun r => ∀ c : Dev Cert.GatesSampleRefIdeal.nD,
          r.2.mem ((c.tc : Thread Cert.GatesSampleRefIdeal.nD Cert.GatesSampleRefIdeal.τ).loc Cert.GatesSampleRefIdeal.main_v26) = v0 c
          ∧ r.2.mem ((c.tc : Thread Cert.GatesSampleRefIdeal.nD Cert.GatesSampleRefIdeal.τ).loc Cert.GatesSampleRefIdeal.main_arg0) = m' ((c.tc : Thread Cert.GatesSampleRefIdeal.nD Cert.GatesSampleRefIdeal.τ).loc Cert.GatesSampleRefIdeal.main_arg0)
          ∧ r.2.mem ((c.tc : Thread Cert.GatesSampleRefIdeal.nD Cert.GatesSampleRefIdeal.τ).loc Cert.GatesSampleRefIdeal.main_arg1) = m' ((c.tc : Thread Cert.GatesSampleRefIdeal.nD Cert.GatesSampleRefIdeal.τ).loc Cert.GatesSampleRefIdeal.main_arg1)
          ∧ r.2.mem ((c.tc : Thread Cert.GatesSampleRefIdeal.nD Cert.GatesSampleRefIdeal.τ).loc Cert.GatesSampleRefIdeal.main_arg2) = m' ((c.tc : Thread Cert.GatesSampleRefIdeal.nD Cert.GatesSampleRefIdeal.τ).loc Cert.GatesSampleRefIdeal.main_arg2))

def preserves_GatesPrompt_GatesPromptIdeal : Prop :=
  True

def algebraic_GatesPromptIdeal_GatesPromptRefIdeal [hGatesPromptIdeal : Cert.GatesPromptIdeal.Facts] [hGatesPromptRefIdeal : Cert.GatesPromptRefIdeal.Facts] : Prop :=
  ∀ (m : (ℓ : Loc Cert.GatesPromptIdeal.nD Cert.GatesPromptIdeal.τ Cert.GatesPromptIdeal.sig) → Buf (Elt Ideal) ℓ) (g : Dev Cert.GatesPromptIdeal.nD → PrngReg)
    (m' : (ℓ : Loc Cert.GatesPromptRefIdeal.nD Cert.GatesPromptRefIdeal.τ Cert.GatesPromptRefIdeal.sig) → Buf (Elt Ideal) ℓ) (g' : Dev Cert.GatesPromptRefIdeal.nD → PrngReg), Pre_GatesPromptIdeal m →
    (∀ c : Dev Cert.GatesPromptIdeal.nD,
      m' ((c.tc : Thread Cert.GatesPromptRefIdeal.nD Cert.GatesPromptRefIdeal.τ).loc Cert.GatesPromptRefIdeal.main_arg0) = m ((c.tc : Thread Cert.GatesPromptIdeal.nD Cert.GatesPromptIdeal.τ).loc Cert.GatesPromptIdeal.main_arg0)
      ∧ m' ((c.tc : Thread Cert.GatesPromptRefIdeal.nD Cert.GatesPromptRefIdeal.τ).loc Cert.GatesPromptRefIdeal.main_arg1) = m ((c.tc : Thread Cert.GatesPromptIdeal.nD Cert.GatesPromptIdeal.τ).loc Cert.GatesPromptIdeal.main_arg1)
      ∧ m' ((c.tc : Thread Cert.GatesPromptRefIdeal.nD Cert.GatesPromptRefIdeal.τ).loc Cert.GatesPromptRefIdeal.main_arg2) = m ((c.tc : Thread Cert.GatesPromptIdeal.nD Cert.GatesPromptIdeal.τ).loc Cert.GatesPromptIdeal.main_arg2)) →
    ∃ (v0 : (c : Dev Cert.GatesPromptIdeal.nD) → Buf (Elt Ideal) ((c.tc : Thread Cert.GatesPromptIdeal.nD Cert.GatesPromptIdeal.τ).loc Cert.GatesPromptIdeal.main_v15_0)) (v1 : (c : Dev Cert.GatesPromptIdeal.nD) → Buf (Elt Ideal) ((c.tc : Thread Cert.GatesPromptIdeal.nD Cert.GatesPromptIdeal.τ).loc Cert.GatesPromptIdeal.main_v15_1)),
      θ_run (Cert.GatesPromptIdeal.defs (F := Ideal)) (onTc (τ := Cert.GatesPromptIdeal.τ) (Cert.GatesPromptIdeal.main (F := Ideal))) ⟨m, fun _ => 0, g⟩ (fun r => ∀ c : Dev Cert.GatesPromptIdeal.nD,
          r.2.mem ((c.tc : Thread Cert.GatesPromptIdeal.nD Cert.GatesPromptIdeal.τ).loc Cert.GatesPromptIdeal.main_v15_0) = v0 c
          ∧ r.2.mem ((c.tc : Thread Cert.GatesPromptIdeal.nD Cert.GatesPromptIdeal.τ).loc Cert.GatesPromptIdeal.main_v15_1) = v1 c
          ∧ r.2.mem ((c.tc : Thread Cert.GatesPromptIdeal.nD Cert.GatesPromptIdeal.τ).loc Cert.GatesPromptIdeal.main_arg0) = m ((c.tc : Thread Cert.GatesPromptIdeal.nD Cert.GatesPromptIdeal.τ).loc Cert.GatesPromptIdeal.main_arg0)
          ∧ r.2.mem ((c.tc : Thread Cert.GatesPromptIdeal.nD Cert.GatesPromptIdeal.τ).loc Cert.GatesPromptIdeal.main_arg1) = m ((c.tc : Thread Cert.GatesPromptIdeal.nD Cert.GatesPromptIdeal.τ).loc Cert.GatesPromptIdeal.main_arg1)
          ∧ r.2.mem ((c.tc : Thread Cert.GatesPromptIdeal.nD Cert.GatesPromptIdeal.τ).loc Cert.GatesPromptIdeal.main_arg2) = m ((c.tc : Thread Cert.GatesPromptIdeal.nD Cert.GatesPromptIdeal.τ).loc Cert.GatesPromptIdeal.main_arg2))
      ∧ θ_run (Cert.GatesPromptRefIdeal.defs (F := Ideal)) (onTc (τ := Cert.GatesPromptRefIdeal.τ) (Cert.GatesPromptRefIdeal.main (F := Ideal))) ⟨m', fun _ => 0, g'⟩ (fun r => ∀ c : Dev Cert.GatesPromptRefIdeal.nD,
          r.2.mem ((c.tc : Thread Cert.GatesPromptRefIdeal.nD Cert.GatesPromptRefIdeal.τ).loc Cert.GatesPromptRefIdeal.main_v31) = v0 c
          ∧ r.2.mem ((c.tc : Thread Cert.GatesPromptRefIdeal.nD Cert.GatesPromptRefIdeal.τ).loc Cert.GatesPromptRefIdeal.main_v34) = v1 c
          ∧ r.2.mem ((c.tc : Thread Cert.GatesPromptRefIdeal.nD Cert.GatesPromptRefIdeal.τ).loc Cert.GatesPromptRefIdeal.main_arg0) = m' ((c.tc : Thread Cert.GatesPromptRefIdeal.nD Cert.GatesPromptRefIdeal.τ).loc Cert.GatesPromptRefIdeal.main_arg0)
          ∧ r.2.mem ((c.tc : Thread Cert.GatesPromptRefIdeal.nD Cert.GatesPromptRefIdeal.τ).loc Cert.GatesPromptRefIdeal.main_arg1) = m' ((c.tc : Thread Cert.GatesPromptRefIdeal.nD Cert.GatesPromptRefIdeal.τ).loc Cert.GatesPromptRefIdeal.main_arg1)
          ∧ r.2.mem ((c.tc : Thread Cert.GatesPromptRefIdeal.nD Cert.GatesPromptRefIdeal.τ).loc Cert.GatesPromptRefIdeal.main_arg2) = m' ((c.tc : Thread Cert.GatesPromptRefIdeal.nD Cert.GatesPromptRefIdeal.τ).loc Cert.GatesPromptRefIdeal.main_arg2))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v1)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v1) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v5) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0))

def preserves_GdnStep_GdnStepIdeal : Prop :=
  True

def algebraic_GdnStepIdeal_GdnStepRefIdeal_pre_decay_and_beta_in_range [hGdnStepIdeal : Cert.GdnStepIdeal.Facts] [hGdnStepRefIdeal : Cert.GdnStepRefIdeal.Facts] [hPre_decay_and_beta_in_range : Cert.Pre_decay_and_beta_in_range.Facts] : Prop :=
  ∀ (m : (ℓ : Loc Cert.GdnStepIdeal.nD Cert.GdnStepIdeal.τ Cert.GdnStepIdeal.sig) → Buf (Elt Ideal) ℓ) (g : Dev Cert.GdnStepIdeal.nD → PrngReg)
    (m' : (ℓ : Loc Cert.GdnStepRefIdeal.nD Cert.GdnStepRefIdeal.τ Cert.GdnStepRefIdeal.sig) → Buf (Elt Ideal) ℓ) (g' : Dev Cert.GdnStepRefIdeal.nD → PrngReg), Pre_GdnStepIdeal_decay_and_beta_in_range m →
    (∀ c : Dev Cert.GdnStepIdeal.nD,
      m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0)
      ∧ m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1)
      ∧ m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2)
      ∧ m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3)
      ∧ m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4)) →
    ∃ (v0 : (c : Dev Cert.GdnStepIdeal.nD) → Buf (Elt Ideal) ((c.tc : Thread Cert.GdnStepIdeal.nD Cert.GdnStepIdeal.τ).loc Cert.GdnStepIdeal.main_v5_0)) (v1 : (c : Dev Cert.GdnStepIdeal.nD) → Buf (Elt Ideal) ((c.tc : Thread Cert.GdnStepIdeal.nD Cert.GdnStepIdeal.τ).loc Cert.GdnStepIdeal.main_v5_1)),
      θ_run (Cert.GdnStepIdeal.defs (F := Ideal)) (onTc (τ := Cert.GdnStepIdeal.τ) (Cert.GdnStepIdeal.main (F := Ideal))) ⟨m, fun _ => 0, g⟩ (fun r => ∀ c : Dev Cert.GdnStepIdeal.nD,
          r.2.mem ((c.tc : Thread Cert.GdnStepIdeal.nD Cert.GdnStepIdeal.τ).loc Cert.GdnStepIdeal.main_v5_0) = v0 c
          ∧ r.2.mem ((c.tc : Thread Cert.GdnStepIdeal.nD Cert.GdnStepIdeal.τ).loc Cert.GdnStepIdeal.main_v5_1) = v1 c
          ∧ r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
          ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
          ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
          ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
          ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4))
      ∧ θ_run (Cert.GdnStepRefIdeal.defs (F := Ideal)) (onTc (τ := Cert.GdnStepRefIdeal.τ) (Cert.GdnStepRefIdeal.main (F := Ideal))) ⟨m', fun _ => 0, g'⟩ (fun r => ∀ c : Dev Cert.GdnStepRefIdeal.nD,
          r.2.mem ((c.tc : Thread Cert.GdnStepRefIdeal.nD Cert.GdnStepRefIdeal.τ).loc Cert.GdnStepRefIdeal.main_v66) = v0 c
          ∧ r.2.mem ((c.tc : Thread Cert.GdnStepRefIdeal.nD Cert.GdnStepRefIdeal.τ).loc Cert.GdnStepRefIdeal.main_v44) = v1 c
          ∧ r.2.mem ((c.tc : Thread Cert.GdnStepRefIdeal.nD Cert.GdnStepRefIdeal.τ).loc Cert.GdnStepRefIdeal.main_arg0) = m' ((c.tc : Thread Cert.GdnStepRefIdeal.nD Cert.GdnStepRefIdeal.τ).loc Cert.GdnStepRefIdeal.main_arg0)
          ∧ r.2.mem ((c.tc : Thread Cert.GdnStepRefIdeal.nD Cert.GdnStepRefIdeal.τ).loc Cert.GdnStepRefIdeal.main_arg1) = m' ((c.tc : Thread Cert.GdnStepRefIdeal.nD Cert.GdnStepRefIdeal.τ).loc Cert.GdnStepRefIdeal.main_arg1)
          ∧ r.2.mem ((c.tc : Thread Cert.GdnStepRefIdeal.nD Cert.GdnStepRefIdeal.τ).loc Cert.GdnStepRefIdeal.main_arg2) = m' ((c.tc : Thread Cert.GdnStepRefIdeal.nD Cert.GdnStepRefIdeal.τ).loc Cert.GdnStepRefIdeal.main_arg2)
          ∧ r.2.mem ((c.tc : Thread Cert.GdnStepRefIdeal.nD Cert.GdnStepRefIdeal.τ).loc Cert.GdnStepRefIdeal.main_arg3) = m' ((c.tc : Thread Cert.GdnStepRefIdeal.nD Cert.GdnStepRefIdeal.τ).loc Cert.GdnStepRefIdeal.main_arg3)
          ∧ r.2.mem ((c.tc : Thread Cert.GdnStepRefIdeal.nD Cert.GdnStepRefIdeal.τ).loc Cert.GdnStepRefIdeal.main_arg4) = m' ((c.tc : Thread Cert.GdnStepRefIdeal.nD Cert.GdnStepRefIdeal.τ).loc Cert.GdnStepRefIdeal.main_arg4))

def Claim : Prop :=
  ∃ (hS5Step : Cert.S5Step.Facts) (hS5StepIdeal : Cert.S5StepIdeal.Facts) (hS5StepRefIdeal : Cert.S5StepRefIdeal.Facts) (hS5Scan : Cert.S5Scan.Facts) (hS5ScanIdeal : Cert.S5ScanIdeal.Facts) (hS5ScanRefIdeal : Cert.S5ScanRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hGlu : Cert.Glu.Facts) (hGluIdeal : Cert.GluIdeal.Facts) (hGluRefIdeal : Cert.GluRefIdeal.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hConvSample : Cert.ConvSample.Facts) (hConvSampleIdeal : Cert.ConvSampleIdeal.Facts) (hConvSampleRefIdeal : Cert.ConvSampleRefIdeal.Facts) (hConvPrompt : Cert.ConvPrompt.Facts) (hConvPromptIdeal : Cert.ConvPromptIdeal.Facts) (hConvPromptRefIdeal : Cert.ConvPromptRefIdeal.Facts) (hGatesSample : Cert.GatesSample.Facts) (hGatesSampleIdeal : Cert.GatesSampleIdeal.Facts) (hGatesSampleRefIdeal : Cert.GatesSampleRefIdeal.Facts) (hGatesPrompt : Cert.GatesPrompt.Facts) (hGatesPromptIdeal : Cert.GatesPromptIdeal.Facts) (hGatesPromptRefIdeal : Cert.GatesPromptRefIdeal.Facts) (hPack : Cert.Pack.Facts) (hPackIdeal : Cert.PackIdeal.Facts) (hPackRefIdeal : Cert.PackRefIdeal.Facts) (hGdnStep : Cert.GdnStep.Facts) (hGdnStepIdeal : Cert.GdnStepIdeal.Facts) (hGdnStepRefIdeal : Cert.GdnStepRefIdeal.Facts) (hPre_scan_operands_finite : Cert.Pre_scan_operands_finite.Facts) (hPre_decay_and_beta_in_range : Cert.Pre_decay_and_beta_in_range.Facts),
    quiescent_S5Step (hS5Step := hS5Step)
    ∧ quiescent_S5StepIdeal (hS5StepIdeal := hS5StepIdeal)
    ∧ quiescent_S5StepRefIdeal (hS5StepRefIdeal := hS5StepRefIdeal)
    ∧ quiescent_S5Scan (hS5Scan := hS5Scan)
    ∧ quiescent_S5ScanIdeal (hS5ScanIdeal := hS5ScanIdeal)
    ∧ quiescent_S5ScanIdeal_pre_scan_operands_finite (hS5ScanIdeal := hS5ScanIdeal) (hPre_scan_operands_finite := hPre_scan_operands_finite)
    ∧ quiescent_S5ScanRefIdeal (hS5ScanRefIdeal := hS5ScanRefIdeal)
    ∧ quiescent_S5ScanRefIdeal_pre_scan_operands_finite (hS5ScanRefIdeal := hS5ScanRefIdeal) (hPre_scan_operands_finite := hPre_scan_operands_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Glu (hGlu := hGlu)
    ∧ quiescent_GluIdeal (hGluIdeal := hGluIdeal)
    ∧ quiescent_GluRefIdeal (hGluRefIdeal := hGluRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_ConvPrompt (hConvPrompt := hConvPrompt)
    ∧ quiescent_ConvPromptIdeal (hConvPromptIdeal := hConvPromptIdeal)
    ∧ quiescent_ConvPromptRefIdeal (hConvPromptRefIdeal := hConvPromptRefIdeal)
    ∧ quiescent_GatesSample (hGatesSample := hGatesSample)
    ∧ quiescent_GatesSampleIdeal (hGatesSampleIdeal := hGatesSampleIdeal)
    ∧ quiescent_GatesSampleRefIdeal (hGatesSampleRefIdeal := hGatesSampleRefIdeal)
    ∧ quiescent_GatesPrompt (hGatesPrompt := hGatesPrompt)
    ∧ quiescent_GatesPromptIdeal (hGatesPromptIdeal := hGatesPromptIdeal)
    ∧ quiescent_GatesPromptRefIdeal (hGatesPromptRefIdeal := hGatesPromptRefIdeal)
    ∧ quiescent_Pack (hPack := hPack)
    ∧ quiescent_PackIdeal (hPackIdeal := hPackIdeal)
    ∧ quiescent_PackRefIdeal (hPackRefIdeal := hPackRefIdeal)
    ∧ quiescent_GdnStep (hGdnStep := hGdnStep)
    ∧ quiescent_GdnStepIdeal (hGdnStepIdeal := hGdnStepIdeal)
    ∧ quiescent_GdnStepIdeal_pre_decay_and_beta_in_range (hGdnStepIdeal := hGdnStepIdeal) (hPre_decay_and_beta_in_range := hPre_decay_and_beta_in_range)
    ∧ quiescent_GdnStepRefIdeal (hGdnStepRefIdeal := hGdnStepRefIdeal)
    ∧ quiescent_GdnStepRefIdeal_pre_decay_and_beta_in_range (hGdnStepRefIdeal := hGdnStepRefIdeal) (hPre_decay_and_beta_in_range := hPre_decay_and_beta_in_range)
    ∧ preserves_S5Step_S5StepIdeal
    ∧ algebraic_S5StepIdeal_S5StepRefIdeal (hS5StepIdeal := hS5StepIdeal) (hS5StepRefIdeal := hS5StepRefIdeal)
    ∧ preserves_S5Scan_S5ScanIdeal
    ∧ algebraic_S5ScanIdeal_S5ScanRefIdeal_pre_scan_operands_finite (hS5ScanIdeal := hS5ScanIdeal) (hS5ScanRefIdeal := hS5ScanRefIdeal) (hPre_scan_operands_finite := hPre_scan_operands_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Glu_GluIdeal
    ∧ algebraic_GluIdeal_GluRefIdeal (hGluIdeal := hGluIdeal) (hGluRefIdeal := hGluRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_ConvPrompt_ConvPromptIdeal
    ∧ algebraic_ConvPromptIdeal_ConvPromptRefIdeal (hConvPromptIdeal := hConvPromptIdeal) (hConvPromptRefIdeal := hConvPromptRefIdeal)
    ∧ preserves_GatesSample_GatesSampleIdeal
    ∧ algebraic_GatesSampleIdeal_GatesSampleRefIdeal (hGatesSampleIdeal := hGatesSampleIdeal) (hGatesSampleRefIdeal := hGatesSampleRefIdeal)
    ∧ preserves_GatesPrompt_GatesPromptIdeal
    ∧ algebraic_GatesPromptIdeal_GatesPromptRefIdeal (hGatesPromptIdeal := hGatesPromptIdeal) (hGatesPromptRefIdeal := hGatesPromptRefIdeal)
    ∧ preserves_Pack_PackIdeal
    ∧ algebraic_PackIdeal_PackRefIdeal (hPackIdeal := hPackIdeal) (hPackRefIdeal := hPackRefIdeal)
    ∧ preserves_GdnStep_GdnStepIdeal
    ∧ algebraic_GdnStepIdeal_GdnStepRefIdeal_pre_decay_and_beta_in_range (hGdnStepIdeal := hGdnStepIdeal) (hGdnStepRefIdeal := hGdnStepRefIdeal) (hPre_decay_and_beta_in_range := hPre_decay_and_beta_in_range)
-- ==== Pre_decay_and_beta_in_range.lean ====
abbrev S32x3072 : Shape := ⟨2, ![32, 3072]⟩
abbrev S32x128 : Shape := ⟨2, ![32, 128]⟩
abbrev S8320x14592 : Shape := ⟨2, ![8320, 14592]⟩
abbrev S2x32x8x128x128 : Shape := ⟨5, ![2, 32, 8, 128, 128]⟩
abbrev S2x128 : Shape := ⟨2, ![2, 128]⟩
abbrev S32x8 : Shape := ⟨2, ![32, 8]⟩
abbrev S_ : Shape := ⟨0, ![]⟩

class Facts : Prop where
  slices_S32x128_S32x8_0_8 : S32x128.Slices ![0, 8] S32x8
  bcast_S_S32x8 : S_.BroadcastsInDim S32x8 (![] : Fin 0 → Fin S32x8.rank)
  slices_S32x128_S32x8_0_0 : S32x128.Slices ![0, 0] S32x8

variable [Facts]

def fn {F : FTy → Type} [FloatOps F] (main_arg0 : FVec F S32x3072 .f32) (main_arg1 : FVec F S32x128 .f32) (main_arg2 : FVec F S8320x14592 .f32) (main_arg3 : FVec F S2x32x8x128x128 .f32) (main_arg4 : FVec F S2x128 .f32) : IVec S32x8 1 × IVec S32x8 1 × IVec S32x8 1 :=
  let main_v0 : FVec F S32x8 .f32 := (extractStridedSlice S32x8 ![0, 8] · slices_S32x128_S32x8_0_8) main_arg1
  let main_cst : FVec F S_ .f32 := constant S_ .f32 0x00000000#32
  let main_v1 : FVec F S32x8 .f32 := broadcastInDim S32x8 ![] bcast_S_S32x8 main_cst
  let main_v2 : IVec S32x8 1 := cmpf .ole main_v0 main_v1
  let main_v3 : FVec F S32x8 .f32 := (extractStridedSlice S32x8 ![0, 0] · slices_S32x128_S32x8_0_0) main_arg1
  let main_cst_0 : FVec F S_ .f32 := constant S_ .f32 0x00000000#32
  let main_v4 : FVec F S32x8 .f32 := broadcastInDim S32x8 ![] bcast_S_S32x8 main_cst_0
  let main_v5 : IVec S32x8 1 := cmpf .oge main_v3 main_v4
  let main_v6 : FVec F S32x8 .f32 := (extractStridedSlice S32x8 ![0, 0] · slices_S32x128_S32x8_0_0) main_arg1
  let main_cst_1 : FVec F S_ .f32 := constant S_ .f32 0x3F800000#32
  let main_v7 : FVec F S32x8 .f32 := broadcastInDim S32x8 ![] bcast_S_S32x8 main_cst_1
  let main_v8 : IVec S32x8 1 := cmpf .ole main_v6 main_v7
  (main_v2, main_v5, main_v8)
-- ==== Pre_scan_operands_finite.lean ====
abbrev S8320x14592 : Shape := ⟨2, ![8320, 14592]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S8192x1024 : Shape := ⟨2, ![8192, 1024]⟩
abbrev S_ : Shape := ⟨0, ![]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x64x64x16 : Shape := ⟨4, ![1, 64, 64, 16]⟩
abbrev S64x64x16 : Shape := ⟨3, ![64, 64, 16]⟩

class Facts : Prop where
  slices_S8320x14592_S8192x1024_0_3072 : S8320x14592.Slices ![0, 3072] S8192x1024
  bcast_S_S8192x1024 : S_.BroadcastsInDim S8192x1024 (![] : Fin 0 → Fin S8192x1024.rank)
  slices_S2x64x64_S1x64x64_0_0_0 : S2x64x64.Slices ![0, 0, 0] S1x64x64
  shapeCasts_S1x64x64_S64x64 : S1x64x64.ShapeCasts S64x64
  bcast_S_S64x64 : S_.BroadcastsInDim S64x64 (![] : Fin 0 → Fin S64x64.rank)
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64x64x16_S1x64x64x16_0_0_0_0 : S2x64x64x16.Slices ![0, 0, 0, 0] S1x64x64x16
  shapeCasts_S1x64x64x16_S64x64x16 : S1x64x64x16.ShapeCasts S64x64x16
  bcast_S_S64x64x16 : S_.BroadcastsInDim S64x64x16 (![] : Fin 0 → Fin S64x64x16.rank)

variable [Facts]

def fn_part1 {F : FTy → Type} [FloatOps F] (main_arg5 : FVec F S2x64x64x16 .f32) (main_v3 : IVec S8192x1024 1) (main_v8 : IVec S64x64 1) (main_v13 : IVec S64x64 1) (main_v18 : IVec S64 1) (main_v19 : FVec F S1x64x64x16 .f32) : IVec S8192x1024 1 × IVec S64x64 1 × IVec S64x64 1 × IVec S64 1 × IVec S64x64x16 1 × IVec S64x64x16 1 :=
  let main_v20 : FVec F S64x64x16 .f32 := shapeCast S64x64x16 main_v19 shapeCasts_S1x64x64x16_S64x64x16
  let main_v21 : FVec F S64x64x16 .f32 := Host.absf main_v20
  let main_cst_3 : FVec F S_ .f32 := constant S_ .f32 0x7F800000#32
  let main_v22 : FVec F S64x64x16 .f32 := broadcastInDim S64x64x16 ![] bcast_S_S64x64x16 main_cst_3
  let main_v23 : IVec S64x64x16 1 := cmpf .olt main_v21 main_v22
  let main_v24 : FVec F S1x64x64x16 .f32 := (extractStridedSlice S1x64x64x16 ![0, 0, 0, 0] · slices_S2x64x64x16_S1x64x64x16_0_0_0_0) main_arg5
  let main_v25 : FVec F S64x64x16 .f32 := shapeCast S64x64x16 main_v24 shapeCasts_S1x64x64x16_S64x64x16
  let main_v26 : FVec F S64x64x16 .f32 := Host.absf main_v25
  let main_cst_4 : FVec F S_ .f32 := constant S_ .f32 0x7F800000#32
  let main_v27 : FVec F S64x64x16 .f32 := broadcastInDim S64x64x16 ![] bcast_S_S64x64x16 main_cst_4
  let main_v28 : IVec S64x64x16 1 := cmpf .olt main_v26 main_v27
  (main_v3, main_v8, main_v13, main_v18, main_v23, main_v28)

def fn {F : FTy → Type} [FloatOps F] (main_arg0 : FVec F S8320x14592 .f32) (main_arg1 : FVec F S2x64x64 .f32) (main_arg2 : FVec F S2x64x64 .f32) (main_arg3 : FVec F S2x64 .f32) (main_arg4 : FVec F S2x64x64x16 .f32) (main_arg5 : FVec F S2x64x64x16 .f32) (main_arg6 : FVec F S2x64x16x64 .f32) (main_arg7 : FVec F S2x64x16x64 .f32) (main_arg8 : FVec F S2x1024 .f32) : IVec S8192x1024 1 × IVec S64x64 1 × IVec S64x64 1 × IVec S64 1 × IVec S64x64x16 1 × IVec S64x64x16 1 :=
  let main_v0 : FVec F S8192x1024 .f32 := (extractStridedSlice S8192x1024 ![0, 3072] · slices_S8320x14592_S8192x1024_0_3072) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x64x64 .f32 := (extractStridedSlice S1x64x64 ![0, 0, 0] · slices_S2x64x64_S1x64x64_0_0_0) main_arg1
  let main_v5 : FVec F S64x64 .f32 := shapeCast S64x64 main_v4 shapeCasts_S1x64x64_S64x64
  let main_v6 : FVec F S64x64 .f32 := Host.absf main_v5
  let main_cst_0 : FVec F S_ .f32 := constant S_ .f32 0x7F800000#32
  let main_v7 : FVec F S64x64 .f32 := broadcastInDim S64x64 ![] bcast_S_S64x64 main_cst_0
  let main_v8 : IVec S64x64 1 := cmpf .olt main_v6 main_v7
  let main_v9 : FVec F S1x64x64 .f32 := (extractStridedSlice S1x64x64 ![0, 0, 0] · slices_S2x64x64_S1x64x64_0_0_0) main_arg2
  let main_v10 : FVec F S64x64 .f32 := shapeCast S64x64 main_v9 shapeCasts_S1x64x64_S64x64
  let main_v11 : FVec F S64x64 .f32 := Host.absf main_v10
  let main_cst_1 : FVec F S_ .f32 := constant S_ .f32 0x7F800000#32
  let main_v12 : FVec F S64x64 .f32 := broadcastInDim S64x64 ![] bcast_S_S64x64 main_cst_1
  let main_v13 : IVec S64x64 1 := cmpf .olt main_v11 main_v12
  let main_v14 : FVec F S1x64 .f32 := (extractStridedSlice S1x64 ![0, 0] · slices_S2x64_S1x64_0_0) main_arg3
  let main_v15 : FVec F S64 .f32 := shapeCast S64 main_v14 shapeCasts_S1x64_S64
  let main_v16 : FVec F S64 .f32 := Host.absf main_v15
  let main_cst_2 : FVec F S_ .f32 := constant S_ .f32 0x7F800000#32
  let main_v17 : FVec F S64 .f32 := broadcastInDim S64 ![] bcast_S_S64 main_cst_2
  let main_v18 : IVec S64 1 := cmpf .olt main_v16 main_v17
  let main_v19 : FVec F S1x64x64x16 .f32 := (extractStridedSlice S1x64x64x16 ![0, 0, 0, 0] · slices_S2x64x64x16_S1x64x64x16_0_0_0_0) main_arg4
  fn_part1 (F := F) main_arg5 main_v3 main_v8 main_v13 main_v18 main_v19
-- ==== S5Step.lean ====
abbrev S8320x14592 : Shape := ⟨2, ![8320, 14592]⟩
abbrev S2x32x64x64x2 : Shape := ⟨5, ![2, 32, 64, 64, 2]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S8x8 : Shape := ⟨2, ![8, 8]⟩
abbrev S_ : Shape := ⟨0, ![]⟩
abbrev S2x8x1x512 : Shape := ⟨4, ![2, 8, 1, 512]⟩
abbrev S2x4096 : Shape := ⟨2, ![2, 4096]⟩
abbrev S2x8x5x512 : Shape := ⟨4, ![2, 8, 5, 512]⟩
abbrev S2x8x8x512 : Shape := ⟨4, ![2, 8, 8, 512]⟩
abbrev S2x8x8x64x16 : Shape := ⟨5, ![2, 8, 8, 64, 16]⟩
abbrev S2x8x8x16x64 : Shape := ⟨5, ![2, 8, 8, 16, 64]⟩
abbrev S2x8x8x16x1x64 : Shape := ⟨6, ![2, 8, 8, 16, 1, 64]⟩
abbrev S1x1x8x1x8x1 : Shape := ⟨6, ![1, 1, 8, 1, 8, 1]⟩
abbrev S2x8x8x16x8x64 : Shape := ⟨6, ![2, 8, 8, 16, 8, 64]⟩
abbrev S2x8x128x512 : Shape := ⟨4, ![2, 8, 128, 512]⟩
abbrev S2x8x8x64x1x16 : Shape := ⟨6, ![2, 8, 8, 64, 1, 16]⟩
abbrev S2x8x8x64x8x16 : Shape := ⟨6, ![2, 8, 8, 64, 8, 16]⟩
abbrev S2x8x512x128 : Shape := ⟨4, ![2, 8, 512, 128]⟩
abbrev S2x8x1x128 : Shape := ⟨4, ![2, 8, 1, 128]⟩
abbrev S2x32x64x64x1 : Shape := ⟨5, ![2, 32, 64, 64, 1]⟩
abbrev S2x32x64x64 : Shape := ⟨4, ![2, 32, 64, 64]⟩
abbrev S2x32x4096 : Shape := ⟨3, ![2, 32, 4096]⟩
abbrev S1x32x4096 : Shape := ⟨3, ![1, 32, 4096]⟩
abbrev S32x4096 : Shape := ⟨2, ![32, 4096]⟩
abbrev S32x1024 : Shape := ⟨2, ![32, 1024]⟩
abbrev S32x128 : Shape := ⟨2, ![32, 128]⟩
abbrev S1x1x8x512 : Shape := ⟨4, ![1, 1, 8, 512]⟩
abbrev S1x1x128x512 : Shape := ⟨4, ![1, 1, 128, 512]⟩
abbrev S1x1x512x128 : Shape := ⟨4, ![1, 1, 512, 128]⟩
abbrev S1x1x1x128 : Shape := ⟨4, ![1, 1, 1, 128]⟩
abbrev S32x512 : Shape := ⟨2, ![32, 512]⟩
abbrev S8x512 : Shape := ⟨2, ![8, 512]⟩
abbrev S1x512 : Shape := ⟨2, ![1, 512]⟩
abbrev S128x512 : Shape := ⟨2, ![128, 512]⟩
abbrev S512x128 : Shape := ⟨2, ![512, 128]⟩
abbrev S1x128 : Shape := ⟨2, ![1, 128]⟩

abbrev nBuf : Space → Nat
  | .hbm => 71
  | .vmem => 24
  | .smem => 0
  | _ => 0

abbrev bufTy : (tb : Table) → Fin (tcTables nBuf tb) → BufTy
  | .hbm, ⟨0, _⟩ => ⟨S8320x14592, .f32⟩
  | .hbm, ⟨1, _⟩ => ⟨S2x32x64x64x2, .f32⟩
  | .hbm, ⟨2, _⟩ => ⟨S2x64x64, .f32⟩
  | .hbm, ⟨3, _⟩ => ⟨S2x64x64, .f32⟩
  | .hbm, ⟨4, _⟩ => ⟨S2x64, .f32⟩
  | .hbm, ⟨5, _⟩ => ⟨S2x64x64x16, .f32⟩
  | .hbm, ⟨6, _⟩ => ⟨S2x64x64x16, .f32⟩
  | .hbm, ⟨7, _⟩ => ⟨S2x64x16x64, .f32⟩
  | .hbm, ⟨8, _⟩ => ⟨S2x64x16x64, .f32⟩
  | .hbm, ⟨9, _⟩ => ⟨S2x1024, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S2x8x1x512, .f32⟩
  | .hbm, ⟨18, _⟩ => ⟨S2x8x1x512, .f32⟩
  | .hbm, ⟨19, _⟩ => ⟨S2x64x64, .f32⟩
  | .hbm, ⟨20, _⟩ => ⟨S2x4096, .f32⟩
  | .hbm, ⟨21, _⟩ => ⟨S2x8x1x512, .f32⟩
  | .hbm, ⟨22, _⟩ => ⟨S_, .f32⟩
  | .hbm, ⟨23, _⟩ => ⟨S2x8x5x512, .f32⟩
  | .hbm, ⟨24, _⟩ => ⟨S2x8x8x512, .f32⟩
  | .hbm, ⟨25, _⟩ => ⟨S2x8x8x64x16, .f32⟩
  | .hbm, ⟨26, _⟩ => ⟨S2x8x8x16x64, .f32⟩
  | .hbm, ⟨27, _⟩ => ⟨S2x8x8x16x1x64, .f32⟩
  | .hbm, ⟨28, _⟩ => ⟨S1x1x8x1x8x1, .f32⟩
  | .hbm, ⟨29, _⟩ => ⟨S2x8x8x16x8x64, .f32⟩
  | .hbm, ⟨30, _⟩ => ⟨S2x8x8x16x8x64, .f32⟩
  | .hbm, ⟨31, _⟩ => ⟨S2x8x8x16x8x64, .f32⟩
  | .hbm, ⟨32, _⟩ => ⟨S2x8x128x512, .f32⟩
  | .hbm, ⟨33, _⟩ => ⟨S2x8x8x64x16, .f32⟩
  | .hbm, ⟨34, _⟩ => ⟨S2x8x8x16x64, .f32⟩
  | .hbm, ⟨35, _⟩ => ⟨S2x8x8x16x1x64, .f32⟩
  | .hbm, ⟨36, _⟩ => ⟨S1x1x8x1x8x1, .f32⟩
  | .hbm, ⟨37, _⟩ => ⟨S2x8x8x16x8x64, .f32⟩
  | .hbm, ⟨38, _⟩ => ⟨S2x8x8x16x8x64, .f32⟩
  | .hbm, ⟨39, _⟩ => ⟨S2x8x8x16x8x64, .f32⟩
  | .hbm, ⟨40, _⟩ => ⟨S2x8x128x512, .f32⟩
  | .hbm, ⟨41, _⟩ => ⟨S2x8x8x16x64, .f32⟩
  | .hbm, ⟨42, _⟩ => ⟨S2x8x8x64x16, .f32⟩
  | .hbm, ⟨43, _⟩ => ⟨S2x8x8x64x1x16, .f32⟩
  | .hbm, ⟨44, _⟩ => ⟨S1x1x8x1x8x1, .f32⟩
  | .hbm, ⟨45, _⟩ => ⟨S2x8x8x64x8x16, .f32⟩
  | .hbm, ⟨46, _⟩ => ⟨S2x8x8x64x8x16, .f32⟩
  | .hbm, ⟨47, _⟩ => ⟨S2x8x8x64x8x16, .f32⟩
  | .hbm, ⟨48, _⟩ => ⟨S2x8x512x128, .f32⟩
  | .hbm, ⟨49, _⟩ => ⟨S2x8x8x16x64, .f32⟩
  | .hbm, ⟨50, _⟩ => ⟨S2x8x8x64x16, .f32⟩
  | .hbm, ⟨51, _⟩ => ⟨S2x8x8x64x1x16, .f32⟩
  | .hbm, ⟨52, _⟩ => ⟨S1x1x8x1x8x1, .f32⟩
  | .hbm, ⟨53, _⟩ => ⟨S2x8x8x64x8x16, .f32⟩
  | .hbm, ⟨54, _⟩ => ⟨S2x8x8x64x8x16, .f32⟩
  | .hbm, ⟨55, _⟩ => ⟨S2x8x8x64x8x16, .f32⟩
  | .hbm, ⟨56, _⟩ => ⟨S2x8x512x128, .f32⟩
  | .hbm, ⟨57, _⟩ => ⟨S2x8x1x128, .f32⟩
  | .hbm, ⟨58, _⟩ => ⟨S2x32x64x64x1, .f32⟩
  | .hbm, ⟨59, _⟩ => ⟨S2x32x64x64, .f32⟩
  | .hbm, ⟨60, _⟩ => ⟨S2x32x4096, .f32⟩
  | .hbm, ⟨61, _⟩ => ⟨S2x32x64x64x1, .f32⟩
  | .hbm, ⟨62, _⟩ => ⟨S2x32x64x64, .f32⟩
  | .hbm, ⟨63, _⟩ => ⟨S2x32x4096, .f32⟩
  | .hbm, ⟨64, _⟩ => ⟨S1x32x4096, .f32⟩
  | .hbm, ⟨65, _⟩ => ⟨S32x4096, .f32⟩
  | .hbm, ⟨66, _⟩ => ⟨S1x32x4096, .f32⟩
  | .hbm, ⟨67, _⟩ => ⟨S32x4096, .f32⟩
  | .hbm, ⟨68, _⟩ => ⟨S32x1024, .f32⟩
  | .hbm, ⟨69, _⟩ => ⟨S32x4096, .f32⟩
  | .hbm, ⟨70, _⟩ => ⟨S32x4096, .f32⟩
  | .local _ .vmem, ⟨0, _⟩ => ⟨S32x128, .f32⟩
  | .local _ .vmem, ⟨1, _⟩ => ⟨S32x128, .f32⟩
  | .local _ .vmem, ⟨2, _⟩ => ⟨S1x1x8x512, .f32⟩
  | .local _ .vmem, ⟨3, _⟩ => ⟨S1x1x8x512, .f32⟩
  | .local _ .vmem, ⟨4, _⟩ => ⟨S1x1x128x512, .f32⟩
  | .local _ .vmem, ⟨5, _⟩ => ⟨S1x1x128x512, .f32⟩
  | .local _ .vmem, ⟨6, _⟩ => ⟨S1x1x128x512, .f32⟩
  | .local _ .vmem, ⟨7, _⟩ => ⟨S1x1x128x512, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x1x128, .f32⟩
  | .local _ .vmem, ⟨13, _⟩ => ⟨S1x1x1x128, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x128, .f32⟩
  | .local _ .vmem, ⟨19, _⟩ => ⟨S32x128, .f32⟩
  | .local _ .vmem, ⟨20, _⟩ => ⟨S32x512, .f32⟩
  | .local _ .vmem, ⟨21, _⟩ => ⟨S32x512, .f32⟩
  | .local _ .vmem, ⟨22, _⟩ => ⟨S32x512, .f32⟩
  | .local _ .vmem, ⟨23, _⟩ => ⟨S32x512, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56_0 : Ref sig .tc := ⟨.hbm, 68, rfl⟩
abbrev main_v56_1 : Ref sig .tc := ⟨.hbm, 69, rfl⟩
abbrev main_v56_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c256_i32 : BitVec 32 := 256#32
  let c0_i32 : BitVec 32 := 0#32
  ![c256_i32.toNat, v0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== S5StepRefIdeal.lean ====
abbrev S8320x14592 : Shape := ⟨2, ![8320, 14592]⟩
abbrev S2x32x64x64x2 : Shape := ⟨5, ![2, 32, 64, 64, 2]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S32x14592 : Shape := ⟨2, ![32, 14592]⟩
abbrev S1x32x64x64x2 : Shape := ⟨5, ![1, 32, 64, 64, 2]⟩
abbrev S32x64x64x2 : Shape := ⟨4, ![32, 64, 64, 2]⟩
abbrev S32x1024 : Shape := ⟨2, ![32, 1024]⟩
abbrev S32x1x1024 : Shape := ⟨3, ![32, 1, 1024]⟩
abbrev S32x1x64x16 : Shape := ⟨4, ![32, 1, 64, 16]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S_ : Shape := ⟨0, ![]⟩
abbrev S1x64x64x16 : Shape := ⟨4, ![1, 64, 64, 16]⟩
abbrev S64x64x16 : Shape := ⟨3, ![64, 64, 16]⟩
abbrev S64x64x1 : Shape := ⟨3, ![64, 64, 1]⟩
abbrev S64x64x32x1 : Shape := ⟨4, ![64, 64, 32, 1]⟩
abbrev S32x1x64x64 : Shape := ⟨4, ![32, 1, 64, 64]⟩
abbrev S32x64x64x1 : Shape := ⟨4, ![32, 64, 64, 1]⟩
abbrev S32x64x64 : Shape := ⟨3, ![32, 64, 64]⟩
abbrev S1x64x16x64 : Shape := ⟨4, ![1, 64, 16, 64]⟩
abbrev S64x16x64 : Shape := ⟨3, ![64, 16, 64]⟩
abbrev S64x16x32x1 : Shape := ⟨4, ![64, 16, 32, 1]⟩
abbrev S1x1024 : Shape := ⟨2, ![1, 1024]⟩
abbrev S1024 : Shape := ⟨1, ![1024]⟩
abbrev S64x16 : Shape := ⟨2, ![64, 16]⟩
abbrev S1x1x64x16 : Shape := ⟨4, ![1, 1, 64, 16]⟩
abbrev S32x4096 : Shape := ⟨2, ![32, 4096]⟩

abbrev nBuf : Space → Nat
  | .hbm => 135
  | .vmem => 0
  | .smem => 0
  | _ => 0

abbrev hbmTy0_0 (i : Nat) : BufTy := match i % 128 with
  | 0 => ⟨S8320x14592, .f32⟩
  | 1 => ⟨S2x32x64x64x2, .f32⟩
  | 2 => ⟨S2x64x64, .f32⟩
  | 3 => ⟨S2x64x64, .f32⟩
  | 4 => ⟨S2x64, .f32⟩
  | 5 => ⟨S2x64x64x16, .f32⟩
  | 6 => ⟨S2x64x64x16, .f32⟩
  | 7 => ⟨S2x64x16x64, .f32⟩
  | 8 => ⟨S2x64x16x64, .f32⟩
  | 9 => ⟨S2x1024, .f32⟩
  | 10 => ⟨S32x14592, .f32⟩
  | 11 => ⟨S1x32x64x64x2, .f32⟩
  | 12 => ⟨S32x64x64x2, .f32⟩
  | 13 => ⟨S32x1024, .f32⟩
  | 14 => ⟨S32x1x1024, .f32⟩
  | 15 => ⟨S32x1x64x16, .f32⟩
  | 16 => ⟨S1x64x64, .f32⟩
  | 17 => ⟨S64x64, .f32⟩
  | 18 => ⟨S1x64x64, .f32⟩
  | 19 => ⟨S64x64, .f32⟩
  | 20 => ⟨S1x64, .f32⟩
  | 21 => ⟨S64, .f32⟩
  | 22 => ⟨S64, .f32⟩
  | 23 => ⟨S64x1, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S_, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S1x64x64x16, .f32⟩
  | 53 => ⟨S64x64x16, .f32⟩
  | 54 => ⟨S1x64x64x16, .f32⟩
  | 55 => ⟨S64x64x16, .f32⟩
  | 56 => ⟨S64x64x1, .f32⟩
  | 57 => ⟨S64x64x16, .f32⟩
  | 58 => ⟨S64x64x16, .f32⟩
  | 59 => ⟨S64x64x1, .f32⟩
  | 60 => ⟨S64x64x16, .f32⟩
  | 61 => ⟨S64x64x16, .f32⟩
  | 62 => ⟨S64x64x16, .f32⟩
  | 63 => ⟨S64x64x1, .f32⟩
  | 64 => ⟨S64x64x16, .f32⟩
  | 65 => ⟨S64x64x16, .f32⟩
  | 66 => ⟨S64x64x1, .f32⟩
  | 67 => ⟨S64x64x16, .f32⟩
  | 68 => ⟨S64x64x16, .f32⟩
  | 69 => ⟨S64x64x16, .f32⟩
  | 70 => ⟨S64x64x32x1, .f32⟩
  | 71 => ⟨S32x1x64x64, .f32⟩
  | 72 => ⟨S64x64x32x1, .f32⟩
  | 73 => ⟨S32x1x64x64, .f32⟩
  | 74 => ⟨S32x64x64x1, .f32⟩
  | 75 => ⟨S32x64x64, .f32⟩
  | 76 => ⟨S32x64x64x1, .f32⟩
  | 77 => ⟨S32x64x64, .f32⟩
  | 78 => ⟨S1x64x64, .f32⟩
  | 79 => ⟨S32x64x64, .f32⟩
  | 80 => ⟨S32x64x64, .f32⟩
  | 81 => ⟨S1x64x64, .f32⟩
  | 82 => ⟨S32x64x64, .f32⟩
  | 83 => ⟨S32x64x64, .f32⟩
  | 84 => ⟨S32x64x64, .f32⟩
  | 85 => ⟨S32x1x64x64, .f32⟩
  | 86 => ⟨S32x1x64x64, .f32⟩
  | 87 => ⟨S1x64x64, .f32⟩
  | 88 => ⟨S32x64x64, .f32⟩
  | 89 => ⟨S32x64x64, .f32⟩
  | 90 => ⟨S1x64x64, .f32⟩
  | 91 => ⟨S32x64x64, .f32⟩
  | 92 => ⟨S32x64x64, .f32⟩
  | 93 => ⟨S32x64x64, .f32⟩
  | 94 => ⟨S32x1x64x64, .f32⟩
  | 95 => ⟨S32x1x64x64, .f32⟩
  | 96 => ⟨S1x64x16x64, .f32⟩
  | 97 => ⟨S64x16x64, .f32⟩
  | 98 => ⟨S64x16x32x1, .f32⟩
  | 99 => ⟨S32x1x64x16, .f32⟩
  | 100 => ⟨S1x64x16x64, .f32⟩
  | 101 => ⟨S64x16x64, .f32⟩
  | 102 => ⟨S64x16x32x1, .f32⟩
  | 103 => ⟨S32x1x64x16, .f32⟩
  | 104 => ⟨S32x1x64x16, .f32⟩
  | 105 => ⟨S1x1024, .f32⟩
  | 106 => ⟨S1024, .f32⟩
  | 107 => ⟨S64x16, .f32⟩
  | 108 => ⟨S1x1x64x16, .f32⟩
  | 109 => ⟨S32x1x64x16, .f32⟩
  | 110 => ⟨S32x1x64x16, .f32⟩
  | 111 => ⟨S32x1x64x16, .f32⟩
  | 112 => ⟨S32x1x1024, .f32⟩
  | 113 => ⟨S32x1024, .f32⟩
  | 114 => ⟨S32x1024, .f32⟩
  | 115 => ⟨S32x1024, .f32⟩
  | 116 => ⟨S_, .f32⟩
  | 117 => ⟨S32x1024, .f32⟩
  | 118 => ⟨S32x1024, .f32⟩
  | 119 => ⟨S32x1024, .f32⟩
  | 120 => ⟨S_, .f32⟩
  | 121 => ⟨S32x1024, .f32⟩
  | 122 => ⟨S32x1024, .f32⟩
  | 123 => ⟨S32x1024, .f32⟩
  | 124 => ⟨S_, .f32⟩
  | 125 => ⟨S32x1024, .f32⟩
  | 126 => ⟨S32x1024, .f32⟩
  | 127 => ⟨S_, .f32⟩
  | _ => ⟨S8320x14592, .f32⟩

abbrev hbmTy0_1 (i : Nat) : BufTy := match i % 128 with
  | 0 => ⟨S32x1024, .f32⟩
  | 1 => ⟨S32x1024, .f32⟩
  | 2 => ⟨S32x1024, .f32⟩
  | 3 => ⟨S32x64x64, .f32⟩
  | 4 => ⟨S32x4096, .f32⟩
  | 5 => ⟨S32x64x64, .f32⟩
  | 6 => ⟨S32x4096, .f32⟩
  | _ => ⟨S8320x14592, .f32⟩

abbrev hbmTy (i : Nat) : BufTy := match i / 128 with
  | 0 => hbmTy0_0 i
  | 1 => hbmTy0_1 i
  | _ => ⟨S8320x14592, .f32⟩

abbrev bufTy : (tb : Table) → Fin (tcTables nBuf tb) → BufTy
  | .hbm, ⟨i, _⟩ => hbmTy i
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_1 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_cst_2 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_3 : Ref sig .tc := ⟨.hbm, 124, rfl⟩
abbrev main_v110 : Ref sig .tc := ⟨.hbm, 125, rfl⟩
abbrev main_v111 : Ref sig .tc := ⟨.hbm, 126, rfl⟩
abbrev main_cst_4 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩

abbrev nD : Nat := 1
abbrev τ : Topo := Topo.v7x

variable {F : FTy → Type} [FloatOps F]
-- ==== S5Scan.lean ====
abbrev S8320x14592 : Shape := ⟨2, ![8320, 14592]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S8x8 : Shape := ⟨2, ![8, 8]⟩
abbrev S_ : Shape := ⟨0, ![]⟩
abbrev S2x8x1x512 : Shape := ⟨4, ![2, 8, 1, 512]⟩
abbrev S2x4096 : Shape := ⟨2, ![2, 4096]⟩
abbrev S2x8x5x512 : Shape := ⟨4, ![2, 8, 5, 512]⟩
abbrev S2x8x8x512 : Shape := ⟨4, ![2, 8, 8, 512]⟩
abbrev S2x8x8x64x16 : Shape := ⟨5, ![2, 8, 8, 64, 16]⟩
abbrev S2x8x8x16x64 : Shape := ⟨5, ![2, 8, 8, 16, 64]⟩
abbrev S2x8x8x16x1x64 : Shape := ⟨6, ![2, 8, 8, 16, 1, 64]⟩
abbrev S1x1x8x1x8x1 : Shape := ⟨6, ![1, 1, 8, 1, 8, 1]⟩
abbrev S2x8x8x16x8x64 : Shape := ⟨6, ![2, 8, 8, 16, 8, 64]⟩
abbrev S2x8x128x512 : Shape := ⟨4, ![2, 8, 128, 512]⟩
abbrev S2x8x8x64x1x16 : Shape := ⟨6, ![2, 8, 8, 64, 1, 16]⟩
abbrev S2x8x8x64x8x16 : Shape := ⟨6, ![2, 8, 8, 64, 8, 16]⟩
abbrev S2x8x512x128 : Shape := ⟨4, ![2, 8, 512, 128]⟩
abbrev S2x8x1x128 : Shape := ⟨4, ![2, 8, 1, 128]⟩
abbrev S8192x1024 : Shape := ⟨2, ![8192, 1024]⟩
abbrev S4x8x256x1024 : Shape := ⟨4, ![4, 8, 256, 1024]⟩
abbrev S4x256x8x1024 : Shape := ⟨4, ![4, 256, 8, 1024]⟩
abbrev S4x8x1x512 : Shape := ⟨4, ![4, 8, 1, 512]⟩
abbrev S2048x128 : Shape := ⟨2, ![2048, 128]⟩
abbrev S1x1x8x512 : Shape := ⟨4, ![1, 1, 8, 512]⟩
abbrev S1x1x128x512 : Shape := ⟨4, ![1, 1, 128, 512]⟩
abbrev S1x1x512x128 : Shape := ⟨4, ![1, 1, 512, 128]⟩
abbrev S1x1x1x128 : Shape := ⟨4, ![1, 1, 1, 128]⟩
abbrev S1x1x1x512 : Shape := ⟨4, ![1, 1, 1, 512]⟩
abbrev S2048x512 : Shape := ⟨2, ![2048, 512]⟩
abbrev S8x512 : Shape := ⟨2, ![8, 512]⟩
abbrev S1x512 : Shape := ⟨2, ![1, 512]⟩
abbrev S128x512 : Shape := ⟨2, ![128, 512]⟩
abbrev S512x128 : Shape := ⟨2, ![512, 128]⟩
abbrev S1x128 : Shape := ⟨2, ![1, 128]⟩

abbrev nBuf : Space → Nat
  | .hbm => 66
  | .vmem => 26
  | .smem => 0
  | _ => 0

abbrev bufTy : (tb : Table) → Fin (tcTables nBuf tb) → BufTy
  | .hbm, ⟨0, _⟩ => ⟨S8320x14592, .f32⟩
  | .hbm, ⟨1, _⟩ => ⟨S2x64x64, .f32⟩
  | .hbm, ⟨2, _⟩ => ⟨S2x64x64, .f32⟩
  | .hbm, ⟨3, _⟩ => ⟨S2x64, .f32⟩
  | .hbm, ⟨4, _⟩ => ⟨S2x64x64x16, .f32⟩
  | .hbm, ⟨5, _⟩ => ⟨S2x64x64x16, .f32⟩
  | .hbm, ⟨6, _⟩ => ⟨S2x64x16x64, .f32⟩
  | .hbm, ⟨7, _⟩ => ⟨S2x64x16x64, .f32⟩
  | .hbm, ⟨8, _⟩ => ⟨S2x1024, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S2x8x1x512, .f32⟩
  | .hbm, ⟨17, _⟩ => ⟨S2x8x1x512, .f32⟩
  | .hbm, ⟨18, _⟩ => ⟨S2x64x64, .f32⟩
  | .hbm, ⟨19, _⟩ => ⟨S2x4096, .f32⟩
  | .hbm, ⟨20, _⟩ => ⟨S2x8x1x512, .f32⟩
  | .hbm, ⟨21, _⟩ => ⟨S_, .f32⟩
  | .hbm, ⟨22, _⟩ => ⟨S2x8x5x512, .f32⟩
  | .hbm, ⟨23, _⟩ => ⟨S2x8x8x512, .f32⟩
  | .hbm, ⟨24, _⟩ => ⟨S2x8x8x64x16, .f32⟩
  | .hbm, ⟨25, _⟩ => ⟨S2x8x8x16x64, .f32⟩
  | .hbm, ⟨26, _⟩ => ⟨S2x8x8x16x1x64, .f32⟩
  | .hbm, ⟨27, _⟩ => ⟨S1x1x8x1x8x1, .f32⟩
  | .hbm, ⟨28, _⟩ => ⟨S2x8x8x16x8x64, .f32⟩
  | .hbm, ⟨29, _⟩ => ⟨S2x8x8x16x8x64, .f32⟩
  | .hbm, ⟨30, _⟩ => ⟨S2x8x8x16x8x64, .f32⟩
  | .hbm, ⟨31, _⟩ => ⟨S2x8x128x512, .f32⟩
  | .hbm, ⟨32, _⟩ => ⟨S2x8x8x64x16, .f32⟩
  | .hbm, ⟨33, _⟩ => ⟨S2x8x8x16x64, .f32⟩
  | .hbm, ⟨34, _⟩ => ⟨S2x8x8x16x1x64, .f32⟩
  | .hbm, ⟨35, _⟩ => ⟨S1x1x8x1x8x1, .f32⟩
  | .hbm, ⟨36, _⟩ => ⟨S2x8x8x16x8x64, .f32⟩
  | .hbm, ⟨37, _⟩ => ⟨S2x8x8x16x8x64, .f32⟩
  | .hbm, ⟨38, _⟩ => ⟨S2x8x8x16x8x64, .f32⟩
  | .hbm, ⟨39, _⟩ => ⟨S2x8x128x512, .f32⟩
  | .hbm, ⟨40, _⟩ => ⟨S2x8x8x16x64, .f32⟩
  | .hbm, ⟨41, _⟩ => ⟨S2x8x8x64x16, .f32⟩
  | .hbm, ⟨42, _⟩ => ⟨S2x8x8x64x1x16, .f32⟩
  | .hbm, ⟨43, _⟩ => ⟨S1x1x8x1x8x1, .f32⟩
  | .hbm, ⟨44, _⟩ => ⟨S2x8x8x64x8x16, .f32⟩
  | .hbm, ⟨45, _⟩ => ⟨S2x8x8x64x8x16, .f32⟩
  | .hbm, ⟨46, _⟩ => ⟨S2x8x8x64x8x16, .f32⟩
  | .hbm, ⟨47, _⟩ => ⟨S2x8x512x128, .f32⟩
  | .hbm, ⟨48, _⟩ => ⟨S2x8x8x16x64, .f32⟩
  | .hbm, ⟨49, _⟩ => ⟨S2x8x8x64x16, .f32⟩
  | .hbm, ⟨50, _⟩ => ⟨S2x8x8x64x1x16, .f32⟩
  | .hbm, ⟨51, _⟩ => ⟨S1x1x8x1x8x1, .f32⟩
  | .hbm, ⟨52, _⟩ => ⟨S2x8x8x64x8x16, .f32⟩
  | .hbm, ⟨53, _⟩ => ⟨S2x8x8x64x8x16, .f32⟩
  | .hbm, ⟨54, _⟩ => ⟨S2x8x8x64x8x16, .f32⟩
  | .hbm, ⟨55, _⟩ => ⟨S2x8x512x128, .f32⟩
  | .hbm, ⟨56, _⟩ => ⟨S2x8x1x128, .f32⟩
  | .hbm, ⟨57, _⟩ => ⟨S8192x1024, .f32⟩
  | .hbm, ⟨58, _⟩ => ⟨S4x8x256x1024, .f32⟩
  | .hbm, ⟨59, _⟩ => ⟨S4x256x8x1024, .f32⟩
  | .hbm, ⟨60, _⟩ => ⟨S8192x1024, .f32⟩
  | .hbm, ⟨61, _⟩ => ⟨S_, .f32⟩
  | .hbm, ⟨62, _⟩ => ⟨S4x8x1x512, .f32⟩
  | .hbm, ⟨63, _⟩ => ⟨S8192x1024, .f32⟩
  | .hbm, ⟨64, _⟩ => ⟨S4x8x1x512, .f32⟩
  | .hbm, ⟨65, _⟩ => ⟨S4x8x1x512, .f32⟩
  | .local _ .vmem, ⟨0, _⟩ => ⟨S2048x128, .f32⟩
  | .local _ .vmem, ⟨1, _⟩ => ⟨S2048x128, .f32⟩
  | .local _ .vmem, ⟨2, _⟩ => ⟨S1x1x8x512, .f32⟩
  | .local _ .vmem, ⟨3, _⟩ => ⟨S1x1x8x512, .f32⟩
  | .local _ .vmem, ⟨4, _⟩ => ⟨S1x1x128x512, .f32⟩
  | .local _ .vmem, ⟨5, _⟩ => ⟨S1x1x128x512, .f32⟩
  | .local _ .vmem, ⟨6, _⟩ => ⟨S1x1x128x512, .f32⟩
  | .local _ .vmem, ⟨7, _⟩ => ⟨S1x1x128x512, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x1x128, .f32⟩
  | .local _ .vmem, ⟨13, _⟩ => ⟨S1x1x1x128, .f32⟩
  | .local _ .vmem, ⟨14, _⟩ => ⟨S1x1x1x512, .f32⟩
  | .local _ .vmem, ⟨15, _⟩ => ⟨S1x1x1x512, .f32⟩
  | .local _ .vmem, ⟨16, _⟩ => ⟨S1x1x1x512, .f32⟩
  | .local _ .vmem, ⟨17, _⟩ => ⟨S1x1x1x512, .f32⟩
  | .local _ .vmem, ⟨18, _⟩ => ⟨S2048x128, .f32⟩
  | .local _ .vmem, ⟨19, _⟩ => ⟨S2048x128, .f32⟩
  | .local _ .vmem, ⟨20, _⟩ => ⟨S1x1x1x512, .f32⟩
  | .local _ .vmem, ⟨21, _⟩ => ⟨S1x1x1x512, .f32⟩
  | .local _ .vmem, ⟨22, _⟩ => ⟨S1x1x1x512, .f32⟩
  | .local _ .vmem, ⟨23, _⟩ => ⟨S1x1x1x512, .f32⟩
  | .local _ .vmem, ⟨24, _⟩ => ⟨S2048x512, .f32⟩
  | .local _ .vmem, ⟨25, _⟩ => ⟨S2048x512, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c256_i32 : BitVec 32 := 256#32
  let v61 : BitVec 32 := Scalar.addi c0_i32 c256_i32
  let c1_i32 : BitVec 32 := 1#32
  ⟨c0_i32, v61, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32 : BitVec 32 := 8#32
  let v243 : BitVec 32 := Scalar.muli arg16 c8_i32
  v243
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c8_i32 : BitVec 32 := 8#32
  let v243 : BitVec 32 := Scalar.muli arg16 c8_i32
  let v244 : BitVec 32 := v243
  let v248 : Index := Scalar.indexCast v244
  let c0_74 : Index := 0#32
  ![v248.toNat, 0]
@[reducible] def k0_t2_loop : Scf.Loop 32 :=
  let c0_i32_46 : BitVec 32 := 0#32
  let c256_i32_47 : BitVec 32 := 256#32
  let v209 : BitVec 32 := Scalar.addi c0_i32_46 c256_i32_47
  let c1_i32_48 : BitVec 32 := 1#32
  ⟨c0_i32_46, v209, c1_i32_48⟩
def k0_mult2 (k0_t2 : Fin k0_t2_loop.trips) : BitVec 32 :=
  let c0_i32_46 : BitVec 32 := 0#32
  let c1_i32_48 : BitVec 32 := 1#32
  let arg16 : BitVec 32 := Scf.iv c0_i32_46 c1_i32_48 k0_t2
  let c8_i32 : BitVec 32 := 8#32
  let v243 : BitVec 32 := Scalar.muli arg16 c8_i32
  v243
def k0_off2 (k0_t2 : Fin k0_t2_loop.trips) : Fin 2 → Nat :=
  let c0_i32_46 : BitVec 32 := 0#32
  let c1_i32_48 : BitVec 32 := 1#32
  let arg16 : BitVec 32 := Scf.iv c0_i32_46 c1_i32_48 k0_t2
  let c8_i32 : BitVec 32 := 8#32
  let v243 : BitVec 32 := Scalar.muli arg16 c8_i32
  let v244 : BitVec 32 := v243
  let v245 : Index := Scalar.indexCast v244
  let c0_74 : Index := 0#32
  ![v245.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== S5ScanRefIdeal.lean ====
abbrev S8320x14592 : Shape := ⟨2, ![8320, 14592]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x1024 : Shape := ⟨2, ![2, 1024]⟩
abbrev S8192x1024 : Shape := ⟨2, ![8192, 1024]⟩
abbrev S4x2048x64x16 : Shape := ⟨4, ![4, 2048, 64, 16]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S_ : Shape := ⟨0, ![]⟩
abbrev S1x64x64x16 : Shape := ⟨4, ![1, 64, 64, 16]⟩
abbrev S64x64x16 : Shape := ⟨3, ![64, 64, 16]⟩
abbrev S64x64x1 : Shape := ⟨3, ![64, 64, 1]⟩
abbrev S64x64x4x2048 : Shape := ⟨4, ![64, 64, 4, 2048]⟩
abbrev S4x2048x64x64 : Shape := ⟨4, ![4, 2048, 64, 64]⟩
abbrev S4x64x64 : Shape := ⟨3, ![4, 64, 64]⟩
abbrev S2048x4x64x64 : Shape := ⟨4, ![2048, 4, 64, 64]⟩
abbrev S1x4x64x64 : Shape := ⟨4, ![1, 4, 64, 64]⟩
abbrev S1x64x16x64 : Shape := ⟨4, ![1, 64, 16, 64]⟩
abbrev S64x16x64 : Shape := ⟨3, ![64, 16, 64]⟩
abbrev S64x16x2048x4 : Shape := ⟨4, ![64, 16, 2048, 4]⟩
abbrev S1x1024 : Shape := ⟨2, ![1, 1024]⟩
abbrev S1024 : Shape := ⟨1, ![1024]⟩
abbrev S64x16 : Shape := ⟨2, ![64, 16]⟩
abbrev S1x1x64x16 : Shape := ⟨4, ![1, 1, 64, 16]⟩
abbrev S4x8x256x1024 : Shape := ⟨4, ![4, 8, 256, 1024]⟩
abbrev S4x256x8x1024 : Shape := ⟨4, ![4, 256, 8, 1024]⟩
abbrev S4x8x1x512 : Shape := ⟨4, ![4, 8, 1, 512]⟩

abbrev nBuf : Space → Nat
  | .hbm => 167
  | .vmem => 0
  | .smem => 0
  | _ => 0

abbrev hbmTy0_0 (i : Nat) : BufTy := match i % 128 with
  | 0 => ⟨S8320x14592, .f32⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S2x64x16x64, .f32⟩
  | 7 => ⟨S2x64x16x64, .f32⟩
  | 8 => ⟨S2x1024, .f32⟩
  | 9 => ⟨S8192x1024, .f32⟩
  | 10 => ⟨S4x2048x64x16, .f32⟩
  | 11 => ⟨S1x64x64, .f32⟩
  | 12 => ⟨S64x64, .f32⟩
  | 13 => ⟨S1x64x64, .f32⟩
  | 14 => ⟨S64x64, .f32⟩
  | 15 => ⟨S1x64, .f32⟩
  | 16 => ⟨S64, .f32⟩
  | 17 => ⟨S64, .f32⟩
  | 18 => ⟨S64x1, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S1x64x64x16, .f32⟩
  | 48 => ⟨S64x64x16, .f32⟩
  | 49 => ⟨S1x64x64x16, .f32⟩
  | 50 => ⟨S64x64x16, .f32⟩
  | 51 => ⟨S64x64x1, .f32⟩
  | 52 => ⟨S64x64x16, .f32⟩
  | 53 => ⟨S64x64x16, .f32⟩
  | 54 => ⟨S64x64x1, .f32⟩
  | 55 => ⟨S64x64x16, .f32⟩
  | 56 => ⟨S64x64x16, .f32⟩
  | 57 => ⟨S64x64x16, .f32⟩
  | 58 => ⟨S64x64x1, .f32⟩
  | 59 => ⟨S64x64x16, .f32⟩
  | 60 => ⟨S64x64x16, .f32⟩
  | 61 => ⟨S64x64x1, .f32⟩
  | 62 => ⟨S64x64x16, .f32⟩
  | 63 => ⟨S64x64x16, .f32⟩
  | 64 => ⟨S64x64x16, .f32⟩
  | 65 => ⟨S64x64x4x2048, .f32⟩
  | 66 => ⟨S4x2048x64x64, .f32⟩
  | 67 => ⟨S64x64x4x2048, .f32⟩
  | 68 => ⟨S4x2048x64x64, .f32⟩
  | 69 => ⟨S_, .f32⟩
  | 70 => ⟨S4x64x64, .f32⟩
  | 71 => ⟨S2048x4x64x64, .f32⟩
  | 72 => ⟨S2048x4x64x64, .f32⟩
  | 73 => ⟨S_, .f32⟩
  | 74 => ⟨S2048x4x64x64, .f32⟩
  | 75 => ⟨S_, .f32⟩
  | 76 => ⟨S2048x4x64x64, .f32⟩
  | 77 => ⟨S_, .i32⟩
  | 78 => ⟨S2048x4x64x64, .f32⟩
  | 79 => ⟨S2048x4x64x64, .f32⟩
  | 80 => ⟨S64x64, .f32⟩
  | 81 => ⟨S64x64, .f32⟩
  | 82 => ⟨S_, .i32⟩
  | 83 => ⟨S4x64x64, .f32⟩
  | 84 => ⟨S4x64x64, .f32⟩
  | 85 => ⟨S2048x4x64x64, .f32⟩
  | 86 => ⟨S2048x4x64x64, .f32⟩
  | 87 => ⟨S_, .i32⟩
  | 88 => ⟨S_, .i1⟩
  | 89 => ⟨S_, .i32⟩
  | 90 => ⟨S_, .i32⟩
  | 91 => ⟨S_, .i32⟩
  | 92 => ⟨S1x4x64x64, .f32⟩
  | 93 => ⟨S4x64x64, .f32⟩
  | 94 => ⟨S_, .i32⟩
  | 95 => ⟨S_, .i32⟩
  | 96 => ⟨S_, .i32⟩
  | 97 => ⟨S1x4x64x64, .f32⟩
  | 98 => ⟨S4x64x64, .f32⟩
  | 99 => ⟨S1x64x64, .f32⟩
  | 100 => ⟨S4x64x64, .f32⟩
  | 101 => ⟨S4x64x64, .f32⟩
  | 102 => ⟨S1x64x64, .f32⟩
  | 103 => ⟨S4x64x64, .f32⟩
  | 104 => ⟨S4x64x64, .f32⟩
  | 105 => ⟨S4x64x64, .f32⟩
  | 106 => ⟨S4x64x64, .f32⟩
  | 107 => ⟨S1x64x64, .f32⟩
  | 108 => ⟨S4x64x64, .f32⟩
  | 109 => ⟨S4x64x64, .f32⟩
  | 110 => ⟨S1x64x64, .f32⟩
  | 111 => ⟨S4x64x64, .f32⟩
  | 112 => ⟨S4x64x64, .f32⟩
  | 113 => ⟨S4x64x64, .f32⟩
  | 114 => ⟨S4x64x64, .f32⟩
  | 115 => ⟨S1x4x64x64, .f32⟩
  | 116 => ⟨S_, .i32⟩
  | 117 => ⟨S_, .i32⟩
  | 118 => ⟨S_, .i32⟩
  | 119 => ⟨S2048x4x64x64, .f32⟩
  | 120 => ⟨S1x4x64x64, .f32⟩
  | 121 => ⟨S_, .i32⟩
  | 122 => ⟨S_, .i32⟩
  | 123 => ⟨S_, .i32⟩
  | 124 => ⟨S2048x4x64x64, .f32⟩
  | 125 => ⟨S_, .i32⟩
  | 126 => ⟨S_, .i32⟩
  | 127 => ⟨S1x64x16x64, .f32⟩
  | _ => ⟨S8320x14592, .f32⟩

abbrev hbmTy0_1 (i : Nat) : BufTy := match i % 128 with
  | 0 => ⟨S64x16x64, .f32⟩
  | 1 => ⟨S64x16x2048x4, .f32⟩
  | 2 => ⟨S4x2048x64x16, .f32⟩
  | 3 => ⟨S1x64x16x64, .f32⟩
  | 4 => ⟨S64x16x64, .f32⟩
  | 5 => ⟨S64x16x2048x4, .f32⟩
  | 6 => ⟨S4x2048x64x16, .f32⟩
  | 7 => ⟨S4x2048x64x16, .f32⟩
  | 8 => ⟨S1x1024, .f32⟩
  | 9 => ⟨S1024, .f32⟩
  | 10 => ⟨S64x16, .f32⟩
  | 11 => ⟨S8192x1024, .f32⟩
  | 12 => ⟨S4x2048x64x16, .f32⟩
  | 13 => ⟨S1x1x64x16, .f32⟩
  | 14 => ⟨S4x2048x64x16, .f32⟩
  | 15 => ⟨S4x2048x64x16, .f32⟩
  | 16 => ⟨S4x2048x64x16, .f32⟩
  | 17 => ⟨S4x8x256x1024, .f32⟩
  | 18 => ⟨S4x8x256x1024, .f32⟩
  | 19 => ⟨S4x8x256x1024, .f32⟩
  | 20 => ⟨S_, .f32⟩
  | 21 => ⟨S4x8x256x1024, .f32⟩
  | 22 => ⟨S4x8x256x1024, .f32⟩
  | 23 => ⟨S4x8x256x1024, .f32⟩
  | 24 => ⟨S_, .f32⟩
  | 25 => ⟨S4x8x256x1024, .f32⟩
  | 26 => ⟨S4x8x256x1024, .f32⟩
  | 27 => ⟨S4x8x256x1024, .f32⟩
  | 28 => ⟨S_, .f32⟩
  | 29 => ⟨S4x8x256x1024, .f32⟩
  | 30 => ⟨S4x8x256x1024, .f32⟩
  | 31 => ⟨S_, .f32⟩
  | 32 => ⟨S4x8x256x1024, .f32⟩
  | 33 => ⟨S4x8x256x1024, .f32⟩
  | 34 => ⟨S4x8x256x1024, .f32⟩
  | 35 => ⟨S4x256x8x1024, .f32⟩
  | 36 => ⟨S8192x1024, .f32⟩
  | 37 => ⟨S4x8x1x512, .f32⟩
  | 38 => ⟨S4x8x1x512, .f32⟩
  | _ => ⟨S8320x14592, .f32⟩

abbrev hbmTy (i : Nat) : BufTy := match i / 128 with
  | 0 => hbmTy0_0 i
  | 1 => hbmTy0_1 i
  | _ => ⟨S8320x14592, .f32⟩

abbrev bufTy : (tb : Table) → Fin (tcTables nBuf tb) → BufTy
  | .hbm, ⟨i, _⟩ => hbmTy i
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_1 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_2 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_c : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev main_v63_5 : Ref sig .tc := ⟨.hbm, 83, rfl⟩
abbrev main_v63_6 : Ref sig .tc := ⟨.hbm, 84, rfl⟩
abbrev main_v63_7 : Ref sig .tc := ⟨.hbm, 85, rfl⟩
abbrev main_v63_8 : Ref sig .tc := ⟨.hbm, 86, rfl⟩
abbrev main_while0c_c_16 : Ref sig .tc := ⟨.hbm, 87, rfl⟩
abbrev main_while0c_v100 : Ref sig .tc := ⟨.hbm, 88, rfl⟩
abbrev main_while0b_call0_c : Ref sig .tc := ⟨.hbm, 89, rfl⟩
abbrev main_while0b_call0_c_0 : Ref sig .tc := ⟨.hbm, 90, rfl⟩
abbrev main_while0b_call0_c_1 : Ref sig .tc := ⟨.hbm, 91, rfl⟩
abbrev main_while0b_call0_v0 : Ref sig .tc := ⟨.hbm, 92, rfl⟩
abbrev main_while0b_v100 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_v0 : Ref sig .tc := ⟨.hbm, 97, rfl⟩
abbrev main_while0b_v101 : Ref sig .tc := ⟨.hbm, 98, rfl⟩
abbrev main_while0b_v102 : Ref sig .tc := ⟨.hbm, 99, rfl⟩
abbrev main_while0b_v103 : Ref sig .tc := ⟨.hbm, 100, rfl⟩
abbrev main_while0b_v104 : Ref sig .tc := ⟨.hbm, 101, rfl⟩
abbrev main_while0b_v105 : Ref sig .tc := ⟨.hbm, 102, rfl⟩
abbrev main_while0b_v106 : Ref sig .tc := ⟨.hbm, 103, rfl⟩
abbrev main_while0b_v107 : Ref sig .tc := ⟨.hbm, 104, rfl⟩
abbrev main_while0b_v108 : Ref sig .tc := ⟨.hbm, 105, rfl⟩
abbrev main_while0b_v109 : Ref sig .tc := ⟨.hbm, 106, rfl⟩
abbrev main_while0b_v110 : Ref sig .tc := ⟨.hbm, 107, rfl⟩
abbrev main_while0b_v111 : Ref sig .tc := ⟨.hbm, 108, rfl⟩
abbrev main_while0b_v112 : Ref sig .tc := ⟨.hbm, 109, rfl⟩
abbrev main_while0b_v113 : Ref sig .tc := ⟨.hbm, 110, rfl⟩
abbrev main_while0b_v114 : Ref sig .tc := ⟨.hbm, 111, rfl⟩
abbrev main_while0b_v115 : Ref sig .tc := ⟨.hbm, 112, rfl⟩
abbrev main_while0b_v116 : Ref sig .tc := ⟨.hbm, 113, rfl⟩
abbrev main_while0b_v117 : Ref sig .tc := ⟨.hbm, 114, rfl⟩
abbrev main_while0b_call2_v0 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_c_1 : Ref sig .tc := ⟨.hbm, 118, rfl⟩
abbrev main_while0b_v118 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_v119 : Ref sig .tc := ⟨.hbm, 124, rfl⟩
abbrev main_while0b_c_16 : Ref sig .tc := ⟨.hbm, 125, rfl⟩
abbrev main_while0b_v120 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_4 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_5 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_6 : Ref sig .tc := ⟨.hbm, 156, rfl⟩
abbrev main_v91 : Ref sig .tc := ⟨.hbm, 157, rfl⟩
abbrev main_v92 : Ref sig .tc := ⟨.hbm, 158, rfl⟩
abbrev main_cst_7 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S8320x2048 : Shape := ⟨2, ![8320, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2x1x2048 : Shape := ⟨3, ![2, 1, 2048]⟩
abbrev S832x2048 : Shape := ⟨2, ![832, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S832 : Shape := ⟨1, ![832]⟩
abbrev S832x1 : Shape := ⟨2, ![832, 1]⟩
abbrev S2048x512 : Shape := ⟨2, ![2048, 512]⟩
abbrev S832x512 : Shape := ⟨2, ![832, 512]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x1x2048, .f32⟩
  | .hbm, ⟨6, _⟩ => ⟨S2x2048x5632, .bf16⟩
  | .hbm, ⟨7, _⟩ => ⟨S2x2048x5632, .bf16⟩
  | .hbm, ⟨8, _⟩ => ⟨S2x5632x2048, .bf16⟩
  | .hbm, ⟨9, _⟩ => ⟨S8320x2048, .f32⟩
  | .local _ .vmem, ⟨0, _⟩ => ⟨S832x2048, .f32⟩
  | .local _ .vmem, ⟨1, _⟩ => ⟨S832x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S832x2048, .f32⟩
  | .local _ .vmem, ⟨10, _⟩ => ⟨S832x2048, .f32⟩
  | .local _ .vmem, ⟨11, _⟩ => ⟨S832x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![10, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8320x2048 : Shape := ⟨2, ![8320, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S2048 : Shape := ⟨1, ![2048]⟩
abbrev S1x2048x5632 : Shape := ⟨3, ![1, 2048, 5632]⟩
abbrev S2048x5632 : Shape := ⟨2, ![2048, 5632]⟩
abbrev S8320x5632 : Shape := ⟨2, ![8320, 5632]⟩
abbrev S1x5632x2048 : Shape := ⟨3, ![1, 5632, 2048]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8320x2048, .f32⟩
  | .hbm, ⟨22, _⟩ => ⟨S8320x2048, .f32⟩
  | .hbm, ⟨23, _⟩ => ⟨S1x2048x5632, .f32⟩
  | .hbm, ⟨24, _⟩ => ⟨S2048x5632, .f32⟩
  | .hbm, ⟨25, _⟩ => ⟨S8320x5632, .f32⟩
  | .hbm, ⟨26, _⟩ => ⟨S8320x5632, .f32⟩
  | .hbm, ⟨27, _⟩ => ⟨S8320x5632, .f32⟩
  | .hbm, ⟨28, _⟩ => ⟨S_, .f32⟩
  | .hbm, ⟨29, _⟩ => ⟨S8320x5632, .f32⟩
  | .hbm, ⟨30, _⟩ => ⟨S8320x5632, .f32⟩
  | .hbm, ⟨31, _⟩ => ⟨S_, .f32⟩
  | .hbm, ⟨32, _⟩ => ⟨S8320x5632, .f32⟩
  | .hbm, ⟨33, _⟩ => ⟨S8320x5632, .f32⟩
  | .hbm, ⟨34, _⟩ => ⟨S8320x5632, .f32⟩
  | .hbm, ⟨35, _⟩ => ⟨S1x2048x5632, .f32⟩
  | .hbm, ⟨36, _⟩ => ⟨S2048x5632, .f32⟩
  | .hbm, ⟨37, _⟩ => ⟨S8320x5632, .f32⟩
  | .hbm, ⟨38, _⟩ => ⟨S8320x5632, .f32⟩
  | .hbm, ⟨39, _⟩ => ⟨S1x5632x2048, .f32⟩
  | .hbm, ⟨40, _⟩ => ⟨S5632x2048, .f32⟩
  | .hbm, ⟨41, _⟩ => ⟨S8320x2048, .f32⟩
  | .hbm, ⟨42, _⟩ => ⟨S_, .f32⟩
  | .hbm, ⟨43, _⟩ => ⟨S8320x2048, .f32⟩
  | .hbm, ⟨44, _⟩ => ⟨S8320x2048, .f32⟩
  | .hbm, ⟨45, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== InProj.lean ====
abbrev S8320x2048 : Shape := ⟨2, ![8320, 2048]⟩
abbrev S2x2048 : Shape := ⟨2, ![2, 2048]⟩
abbrev S2x2048x14592 : Shape := ⟨3, ![2, 2048, 14592]⟩
abbrev S2x1x2048 : Shape := ⟨3, ![2, 1, 2048]⟩
abbrev S8320x14592 : Shape := ⟨2, ![8320, 14592]⟩
abbrev S1x2048x768 : Shape := ⟨3, ![1, 2048, 768]⟩
abbrev S1664x2048 : Shape := ⟨2, ![1664, 2048]⟩
abbrev S1x1x2048 : Shape := ⟨3, ![1, 1, 2048]⟩
abbrev S1664x768 : Shape := ⟨2, ![1664, 768]⟩
abbrev S1x2048 : Shape := ⟨2, ![1, 2048]⟩
abbrev S1664 : Shape := ⟨1, ![1664]⟩
abbrev S1664x1 : Shape := ⟨2, ![1664, 1]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x14592, .bf16⟩
  | .hbm, ⟨3, _⟩ => ⟨S2x1x2048, .f32⟩
  | .hbm, ⟨4, _⟩ => ⟨S8320x14592, .f32⟩
  | .local _ .vmem, ⟨0, _⟩ => ⟨S1x2048x768, .bf16⟩
  | .local _ .vmem, ⟨1, _⟩ => ⟨S1x2048x768, .bf16⟩
  | .local _ .vmem, ⟨2, _⟩ => ⟨S1664x2048, .f32⟩
  | .local _ .vmem, ⟨3, _⟩ => ⟨S1x1x2048, .f32⟩
  | .local _ .vmem, ⟨4, _⟩ => ⟨S1664x768, .f32⟩
  | .local _ .vmem, ⟨5, _⟩ => ⟨S1664x768, .f32⟩
  | .local _ .vmem, ⟨6, _⟩ => ⟨S1664x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![5, 19], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1664x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1664x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8320x2048 : Shape := ⟨2, ![8320, 2048]⟩
abbrev S2x2048 : Shape := ⟨2, ![2, 2048]⟩
abbrev S2x2048x14592 : Shape := ⟨3, ![2, 2048, 14592]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S2048 : Shape := ⟨1, ![2048]⟩
abbrev S1x2048x14592 : Shape := ⟨3, ![1, 2048, 14592]⟩
abbrev S2048x14592 : Shape := ⟨2, ![2048, 14592]⟩
abbrev S8320x14592 : Shape := ⟨2, ![8320, 14592]⟩

abbrev nBuf : Space → Nat
  | .hbm => 25
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x14592, .bf16⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x14592, .bf16⟩
  | .hbm, ⟨22, _⟩ => ⟨S2048x14592, .bf16⟩
  | .hbm, ⟨23, _⟩ => ⟨S2048x14592, .f32⟩
  | .hbm, ⟨24, _⟩ => ⟨S8320x14592, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Merge.lean ====
abbrev S8320x2048 : Shape := ⟨2, ![8320, 2048]⟩
abbrev S8320x1024 : Shape := ⟨2, ![8320, 1024]⟩
abbrev S8320x14592 : Shape := ⟨2, ![8320, 14592]⟩
abbrev S2x3072x2048 : Shape := ⟨3, ![2, 3072, 2048]⟩
abbrev S2x2048x2048 : Shape := ⟨3, ![2, 2048, 2048]⟩
abbrev S2x3x1024x2048 : Shape := ⟨4, ![2, 3, 1024, 2048]⟩
abbrev S320x2048 : Shape := ⟨2, ![320, 2048]⟩
abbrev S320x1024 : Shape := ⟨2, ![320, 1024]⟩
abbrev S1x1x1024x2048 : Shape := ⟨4, ![1, 1, 1024, 2048]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 11
  | .vmem => 20
  | .smem => 0
  | _ => 0

abbrev bufTy : (tb : Table) → Fin (tcTables nBuf tb) → BufTy
  | .hbm, ⟨0, _⟩ => ⟨S8320x2048, .f32⟩
  | .hbm, ⟨1, _⟩ => ⟨S8320x1024, .bf16⟩
  | .hbm, ⟨2, _⟩ => ⟨S8320x1024, .bf16⟩
  | .hbm, ⟨3, _⟩ => ⟨S8320x1024, .bf16⟩
  | .hbm, ⟨4, _⟩ => ⟨S8320x14592, .f32⟩
  | .hbm, ⟨5, _⟩ => ⟨S2x3072x2048, .f32⟩
  | .hbm, ⟨6, _⟩ => ⟨S2x2048x2048, .f32⟩
  | .hbm, ⟨7, _⟩ => ⟨S2x3072x2048, .bf16⟩
  | .hbm, ⟨8, _⟩ => ⟨S2x3x1024x2048, .bf16⟩
  | .hbm, ⟨9, _⟩ => ⟨S2x2048x2048, .bf16⟩
  | .hbm, ⟨10, _⟩ => ⟨S8320x2048, .f32⟩
  | .local _ .vmem, ⟨0, _⟩ => ⟨S320x2048, .f32⟩
  | .local _ .vmem, ⟨1, _⟩ => ⟨S320x2048, .f32⟩
  | .local _ .vmem, ⟨2, _⟩ => ⟨S320x1024, .bf16⟩
  | .local _ .vmem, ⟨3, _⟩ => ⟨S320x1024, .bf16⟩
  | .local _ .vmem, ⟨4, _⟩ => ⟨S320x1024, .bf16⟩
  | .local _ .vmem, ⟨5, _⟩ => ⟨S320x1024, .bf16⟩
  | .local _ .vmem, ⟨6, _⟩ => ⟨S320x1024, .bf16⟩
  | .local _ .vmem, ⟨7, _⟩ => ⟨S320x1024, .bf16⟩
  | .local _ .vmem, ⟨8, _⟩ => ⟨S320x2048, .f32⟩
  | .local _ .vmem, ⟨9, _⟩ => ⟨S320x2048, .f32⟩
  | .local _ .vmem, ⟨10, _⟩ => ⟨S320x2048, .f32⟩
  | .local _ .vmem, ⟨11, _⟩ => ⟨S320x2048, .f32⟩
  | .local _ .vmem, ⟨12, _⟩ => ⟨S320x2048, .f32⟩
  | .local _ .vmem, ⟨13, _⟩ => ⟨S320x2048, .f32⟩
  | .local _ .vmem, ⟨14, _⟩ => ⟨S1x1x1024x2048, .bf16⟩
  | .local _ .vmem, ⟨15, _⟩ => ⟨S1x1x1024x2048, .bf16⟩
  | .local _ .vmem, ⟨16, _⟩ => ⟨S1x1x1024x2048, .bf16⟩
  | .local _ .vmem, ⟨17, _⟩ => ⟨S1x2048x2048, .bf16⟩
  | .local _ .vmem, ⟨18, _⟩ => ⟨S320x2048, .f32⟩
  | .local _ .vmem, ⟨19, _⟩ => ⟨S320x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S320x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8320x2048 : Shape := ⟨2, ![8320, 2048]⟩
abbrev S8320x1024 : Shape := ⟨2, ![8320, 1024]⟩
abbrev S8320x14592 : Shape := ⟨2, ![8320, 14592]⟩
abbrev S2x3072x2048 : Shape := ⟨3, ![2, 3072, 2048]⟩
abbrev S2x2048x2048 : Shape := ⟨3, ![2, 2048, 2048]⟩
abbrev S1x3072x2048 : Shape := ⟨3, ![1, 3072, 2048]⟩
abbrev S3072x2048 : Shape := ⟨2, ![3072, 2048]⟩
abbrev S1024x2048 : Shape := ⟨2, ![1024, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .bf16⟩
  | .hbm, ⟨2, _⟩ => ⟨S8320x1024, .bf16⟩
  | .hbm, ⟨3, _⟩ => ⟨S8320x1024, .bf16⟩
  | .hbm, ⟨4, _⟩ => ⟨S8320x14592, .f32⟩
  | .hbm, ⟨5, _⟩ => ⟨S2x3072x2048, .f32⟩
  | .hbm, ⟨6, _⟩ => ⟨S2x2048x2048, .f32⟩
  | .hbm, ⟨7, _⟩ => ⟨S1x3072x2048, .f32⟩
  | .hbm, ⟨8, _⟩ => ⟨S3072x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S8320x2048, .f32⟩
  | .hbm, ⟨13, _⟩ => ⟨S8320x2048, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320x2048, .f32⟩
  | .hbm, ⟨22, _⟩ => ⟨S8320x2048, .f32⟩
  | .hbm, ⟨23, _⟩ => ⟨S8320x1024, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S_, .f32⟩
  | .hbm, ⟨29, _⟩ => ⟨S8320x2048, .f32⟩
  | .hbm, ⟨30, _⟩ => ⟨S8320x2048, .f32⟩
  | .hbm, ⟨31, _⟩ => ⟨S_, .f32⟩
  | .hbm, ⟨32, _⟩ => ⟨S8320x2048, .f32⟩
  | .hbm, ⟨33, _⟩ => ⟨S8320x2048, .f32⟩
  | .hbm, ⟨34, _⟩ => ⟨S8320x1024, .f32⟩
  | .hbm, ⟨35, _⟩ => ⟨S8320x2048, .f32⟩
  | .hbm, ⟨36, _⟩ => ⟨S8320x2048, .f32⟩
  | .hbm, ⟨37, _⟩ => ⟨S8320x2048, .f32⟩
  | .hbm, ⟨38, _⟩ => ⟨S8320x2048, .f32⟩
  | .hbm, ⟨39, _⟩ => ⟨S8320x2048, .f32⟩
  | .hbm, ⟨40, _⟩ => ⟨S_, .f32⟩
  | .hbm, ⟨41, _⟩ => ⟨S8320x2048, .f32⟩
  | .hbm, ⟨42, _⟩ => ⟨S8320x2048, .f32⟩
  | .hbm, ⟨43, _⟩ => ⟨S_, .f32⟩
  | .hbm, ⟨44, _⟩ => ⟨S8320x2048, .f32⟩
  | .hbm, ⟨45, _⟩ => ⟨S8320x2048, .f32⟩
  | .hbm, ⟨46, _⟩ => ⟨S8320x1024, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S1x2048x2048, .f32⟩
  | .hbm, ⟨51, _⟩ => ⟨S2048x2048, .f32⟩
  | .hbm, ⟨52, _⟩ => ⟨S8320x2048, .f32⟩
  | .hbm, ⟨53, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Glu.lean ====
abbrev S8320x1024 : Shape := ⟨2, ![8320, 1024]⟩
abbrev S2x1024x1024 : Shape := ⟨3, ![2, 1024, 1024]⟩
abbrev S416x1024 : Shape := ⟨2, ![416, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S2x1024x1024, .f32⟩
  | .hbm, ⟨2, _⟩ => ⟨S2x1024x1024, .bf16⟩
  | .hbm, ⟨3, _⟩ => ⟨S8320x1024, .bf16⟩
  | .local _ .vmem, ⟨0, _⟩ => ⟨S416x1024, .f32⟩
  | .local _ .vmem, ⟨1, _⟩ => ⟨S416x1024, .f32⟩
  | .local _ .vmem, ⟨2, _⟩ => ⟨S1x1024x1024, .bf16⟩
  | .local _ .vmem, ⟨3, _⟩ => ⟨S416x1024, .bf16⟩
  | .local _ .vmem, ⟨4, _⟩ => ⟨S416x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S8320x1024 : Shape := ⟨2, ![8320, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2x1024x1024, .f32⟩
  | .hbm, ⟨2, _⟩ => ⟨S1x1024x1024, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== NormPrompt.lean ====
abbrev S8320x2048 : Shape := ⟨2, ![8320, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptRefIdeal.lean ====
abbrev S8320x2048 : Shape := ⟨2, ![8320, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S8320x2048 : Shape := ⟨2, ![8320, 2048]⟩
abbrev S2048 : Shape := ⟨1, ![2048]⟩
abbrev S1x2048 : Shape := ⟨2, ![1, 2048]⟩
abbrev S32x2048 : Shape := ⟨2, ![32, 2048]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSampleRefIdeal.lean ====
abbrev S8320x2048 : Shape := ⟨2, ![8320, 2048]⟩
abbrev S2048 : Shape := ⟨1, ![2048]⟩
abbrev S32x2048 : Shape := ⟨2, ![32, 2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S32x2048, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvSample.lean ====
abbrev S8320x14592 : Shape := ⟨2, ![8320, 14592]⟩
abbrev S2x32x3x3072 : Shape := ⟨4, ![2, 32, 3, 3072]⟩
abbrev S2x4x3072 : Shape := ⟨3, ![2, 4, 3072]⟩
abbrev S2x3x32x3072 : Shape := ⟨4, ![2, 3, 32, 3072]⟩
abbrev S_ : Shape := ⟨0, ![]⟩
abbrev S2x8x3072 : Shape := ⟨3, ![2, 8, 3072]⟩
abbrev S32x3072 : Shape := ⟨2, ![32, 3072]⟩
abbrev S32x1024 : Shape := ⟨2, ![32, 1024]⟩
abbrev S1x3x32x1024 : Shape := ⟨4, ![1, 3, 32, 1024]⟩
abbrev S1x8x1024 : Shape := ⟨3, ![1, 8, 1024]⟩
abbrev S8x1024 : Shape := ⟨2, ![8, 1024]⟩
abbrev S1x1024 : Shape := ⟨2, ![1, 1024]⟩
abbrev S1x1x32x1024 : Shape := ⟨4, ![1, 1, 32, 1024]⟩
abbrev S32x128 : Shape := ⟨2, ![32, 128]⟩
abbrev S32 : Shape := ⟨1, ![32]⟩
abbrev S32x1 : Shape := ⟨2, ![32, 1]⟩

abbrev nBuf : Space → Nat
  | .hbm => 8
  | .vmem => 8
  | .smem => 0
  | _ => 0

abbrev bufTy : (tb : Table) → Fin (tcTables nBuf tb) → BufTy
  | .hbm, ⟨0, _⟩ => ⟨S8320x14592, .f32⟩
  | .hbm, ⟨1, _⟩ => ⟨S2x32x3x3072, .f32⟩
  | .hbm, ⟨2, _⟩ => ⟨S2x4x3072, .f32⟩
  | .hbm, ⟨3, _⟩ => ⟨S2x3x32x3072, .f32⟩
  | .hbm, ⟨4, _⟩ => ⟨S_, .i32⟩
  | .hbm, ⟨5, _⟩ => ⟨S_, .f32⟩
  | .hbm, ⟨6, _⟩ => ⟨S2x8x3072, .f32⟩
  | .hbm, ⟨7, _⟩ => ⟨S32x3072, .f32⟩
  | .local _ .vmem, ⟨0, _⟩ => ⟨S32x1024, .f32⟩
  | .local _ .vmem, ⟨1, _⟩ => ⟨S32x1024, .f32⟩
  | .local _ .vmem, ⟨2, _⟩ => ⟨S1x3x32x1024, .f32⟩
  | .local _ .vmem, ⟨3, _⟩ => ⟨S1x3x32x1024, .f32⟩
  | .local _ .vmem, ⟨4, _⟩ => ⟨S1x8x1024, .f32⟩
  | .local _ .vmem, ⟨5, _⟩ => ⟨S1x8x1024, .f32⟩
  | .local _ .vmem, ⟨6, _⟩ => ⟨S32x1024, .f32⟩
  | .local _ .vmem, ⟨7, _⟩ => ⟨S32x1024, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c2_i32 : BitVec 32 := 2#32
  let v32 : BitVec 1 := Scalar.cmpi .slt arg0 c2_i32
  let v33 : BitVec 32 := Scalar.extui v32
  let c0_i32 : BitVec 32 := 0#32
  let v34 : BitVec 1 := Scalar.cmpi .ne v33 c0_i32
  v34

def k0_cond2 (i : grid0.Coords) : BitVec 1 :=
  let arg0 : BitVec 32 := BitVec.ofNat 32 (i 0).val
  let c2_i32_16 : BitVec 32 := 2#32
  let v35 : BitVec 1 := Scalar.cmpi .eq arg0 c2_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c256_i32 : BitVec 32 := 256#32
  let c0_i32 : BitVec 32 := 0#32
  ![c256_i32.toNat, v0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvSampleRefIdeal.lean ====
abbrev S8320x14592 : Shape := ⟨2, ![8320, 14592]⟩
abbrev S2x32x3x3072 : Shape := ⟨4, ![2, 32, 3, 3072]⟩
abbrev S2x4x3072 : Shape := ⟨3, ![2, 4, 3072]⟩
abbrev S32x3072 : Shape := ⟨2, ![32, 3072]⟩
abbrev S1x32x3x3072 : Shape := ⟨4, ![1, 32, 3, 3072]⟩
abbrev S32x3x3072 : Shape := ⟨3, ![32, 3, 3072]⟩
abbrev S1x4x3072 : Shape := ⟨3, ![1, 4, 3072]⟩
abbrev S4x3072 : Shape := ⟨2, ![4, 3072]⟩
abbrev S32x1x3072 : Shape := ⟨3, ![32, 1, 3072]⟩
abbrev S1x3072 : Shape := ⟨2, ![1, 3072]⟩
abbrev S3072 : Shape := ⟨1, ![3072]⟩
abbrev S_ : Shape := ⟨0, ![]⟩
abbrev S32x2048 : Shape := ⟨2, ![32, 2048]⟩
abbrev S32x16x128 : Shape := ⟨3, ![32, 16, 128]⟩
abbrev S32x16 : Shape := ⟨2, ![32, 16]⟩
abbrev S32x16x1 : Shape := ⟨3, ![32, 16, 1]⟩
abbrev S32x1024 : Shape := ⟨2, ![32, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8320x14592, .f32⟩
  | .hbm, ⟨1, _⟩ => ⟨S2x32x3x3072, .f32⟩
  | .hbm, ⟨2, _⟩ => ⟨S2x4x3072, .f32⟩
  | .hbm, ⟨3, _⟩ => ⟨S32x3072, .f32⟩
  | .hbm, ⟨4, _⟩ => ⟨S1x32x3x3072, .f32⟩
  | .hbm, ⟨5, _⟩ => ⟨S32x3x3072, .f32⟩
  | .hbm, ⟨6, _⟩ => ⟨S1x4x3072, .f32⟩
  | .hbm, ⟨7, _⟩ => ⟨S4x3072, .f32⟩
  | .hbm, ⟨8, _⟩ => ⟨S32x1x3072, .f32⟩
  | .hbm, ⟨9, _⟩ => ⟨S32x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S32x3072, .f32⟩
  | .hbm, ⟨14, _⟩ => ⟨S32x3072, .f32⟩
  | .hbm, ⟨15, _⟩ => ⟨S32x1x3072, .f32⟩
  | .hbm, ⟨16, _⟩ => ⟨S32x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S32x3072, .f32⟩
  | .hbm, ⟨21, _⟩ => ⟨S32x3072, .f32⟩
  | .hbm, ⟨22, _⟩ => ⟨S32x3072, .f32⟩
  | .hbm, ⟨23, _⟩ => ⟨S32x1x3072, .f32⟩
  | .hbm, ⟨24, _⟩ => ⟨S32x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S32x3072, .f32⟩
  | .hbm, ⟨29, _⟩ => ⟨S32x3072, .f32⟩
  | .hbm, ⟨30, _⟩ => ⟨S32x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S32x3072, .f32⟩
  | .hbm, ⟨35, _⟩ => ⟨S32x3072, .f32⟩
  | .hbm, ⟨36, _⟩ => ⟨S32x3072, .f32⟩
  | .hbm, ⟨37, _⟩ => ⟨S32x3072, .f32⟩
  | .hbm, ⟨38, _⟩ => ⟨S32x3072, .f32⟩
  | .hbm, ⟨39, _⟩ => ⟨S_, .f32⟩
  | .hbm, ⟨40, _⟩ => ⟨S32x3072, .f32⟩
  | .hbm, ⟨41, _⟩ => ⟨S32x3072, .f32⟩
  | .hbm, ⟨42, _⟩ => ⟨S_, .f32⟩
  | .hbm, ⟨43, _⟩ => ⟨S32x3072, .f32⟩
  | .hbm, ⟨44, _⟩ => ⟨S32x3072, .f32⟩
  | .hbm, ⟨45, _⟩ => ⟨S32x3072, .f32⟩
  | .hbm, ⟨46, _⟩ => ⟨S32x2048, .f32⟩
  | .hbm, ⟨47, _⟩ => ⟨S32x16x128, .f32⟩
  | .hbm, ⟨48, _⟩ => ⟨S32x16x128, .f32⟩
  | .hbm, ⟨49, _⟩ => ⟨S_, .f32⟩
  | .hbm, ⟨50, _⟩ => ⟨S32x16, .f32⟩
  | .hbm, ⟨51, _⟩ => ⟨S32x16x1, .f32⟩
  | .hbm, ⟨52, _⟩ => ⟨S_, .f32⟩
  | .hbm, ⟨53, _⟩ => ⟨S32x16x1, .f32⟩
  | .hbm, ⟨54, _⟩ => ⟨S32x16x1, .f32⟩
  | .hbm, ⟨55, _⟩ => ⟨S32x16x1, .f32⟩
  | .hbm, ⟨56, _⟩ => ⟨S32x16x128, .f32⟩
  | .hbm, ⟨57, _⟩ => ⟨S32x16x128, .f32⟩
  | .hbm, ⟨58, _⟩ => ⟨S32x2048, .f32⟩
  | .hbm, ⟨59, _⟩ => ⟨S32x1024, .f32⟩
  | .hbm, ⟨60, _⟩ => ⟨S32x3072, .f32⟩
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== ConvPrompt.lean ====
abbrev S8320x14592 : Shape := ⟨2, ![8320, 14592]⟩
abbrev S2x4x3072 : Shape := ⟨3, ![2, 4, 3072]⟩
abbrev S_ : Shape := ⟨0, ![]⟩
abbrev S2x8x3072 : Shape := ⟨3, ![2, 8, 3072]⟩
abbrev S8192x3072 : Shape := ⟨2, ![8192, 3072]⟩
abbrev S512x1024 : Shape := ⟨2, ![512, 1024]⟩
abbrev S8x1024 : Shape := ⟨2, ![8, 1024]⟩
abbrev S1x8x1024 : Shape := ⟨3, ![1, 8, 1024]⟩
abbrev S520x1024 : Shape := ⟨2, ![520, 1024]⟩
abbrev S1x1024 : Shape := ⟨2, ![1, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8320x14592, .f32⟩
  | .hbm, ⟨1, _⟩ => ⟨S2x4x3072, .f32⟩
  | .hbm, ⟨2, _⟩ => ⟨S_, .i32⟩
  | .hbm, ⟨3, _⟩ => ⟨S_, .f32⟩
  | .hbm, ⟨4, _⟩ => ⟨S2x8x3072, .f32⟩
  | .hbm, ⟨5, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x8x1024, .f32⟩
  | .local _ .vmem, ⟨5, _⟩ => ⟨S1x8x1024, .f32⟩
  | .local _ .vmem, ⟨6, _⟩ => ⟨S512x1024, .f32⟩
  | .local _ .vmem, ⟨7, _⟩ => ⟨S512x1024, .f32⟩
  | .local _ .vmem, ⟨8, _⟩ => ⟨S520x1024, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 3], ![false, false, false]⟩

def k0_cond1 (i : grid0.Coords) : BitVec 1 :=
  let arg2 : BitVec 32 := BitVec.ofNat 32 (i 2).val
  let c2_i32 : BitVec 32 := 2#32
  let v39 : BitVec 1 := Scalar.cmpi .slt arg2 c2_i32
  let v40 : BitVec 32 := Scalar.extui v39
  let c0_i32_15 : BitVec 32 := 0#32
  let v41 : BitVec 1 := Scalar.cmpi .ne v40 c0_i32_15
  v41

def k0_cond2 (i : grid0.Coords) : BitVec 1 :=
  let arg2 : BitVec 32 := BitVec.ofNat 32 (i 2).val
  let c2_i32_16 : BitVec 32 := 2#32
  let v42 : BitVec 1 := Scalar.cmpi .eq arg2 c2_i32_16
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.addi c4_i32_0 arg2
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c64_i32 : BitVec 32 := 64#32
  let v1 : BitVec 32 := Scalar.muli arg1 c64_i32
  let v2 : BitVec 32 := Scalar.addi v0 v1
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.addi c4_i32 arg2
  let c0_i32_0 : BitVec 32 := 0#32
  ![v4.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvPromptRefIdeal.lean ====
abbrev S8320x14592 : Shape := ⟨2, ![8320, 14592]⟩
abbrev S2x4x3072 : Shape := ⟨3, ![2, 4, 3072]⟩
abbrev S8192x3072 : Shape := ⟨2, ![8192, 3072]⟩
abbrev S4x2048x3072 : Shape := ⟨3, ![4, 2048, 3072]⟩
abbrev S1x4x3072 : Shape := ⟨3, ![1, 4, 3072]⟩
abbrev S4x3072 : Shape := ⟨2, ![4, 3072]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S4x2048x2048 : Shape := ⟨3, ![4, 2048, 2048]⟩
abbrev S4x2048x16x128 : Shape := ⟨4, ![4, 2048, 16, 128]⟩
abbrev S4x2048x16 : Shape := ⟨3, ![4, 2048, 16]⟩
abbrev S4x2048x16x1 : Shape := ⟨4, ![4, 2048, 16, 1]⟩
abbrev S8192x2048 : Shape := ⟨2, ![8192, 2048]⟩
abbrev S4x2048x1024 : Shape := ⟨3, ![4, 2048, 1024]⟩
abbrev S8192x1024 : Shape := ⟨2, ![8192, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8320x14592, .f32⟩
  | .hbm, ⟨1, _⟩ => ⟨S2x4x3072, .f32⟩
  | .hbm, ⟨2, _⟩ => ⟨S8192x3072, .f32⟩
  | .hbm, ⟨3, _⟩ => ⟨S4x2048x3072, .f32⟩
  | .hbm, ⟨4, _⟩ => ⟨S1x4x3072, .f32⟩
  | .hbm, ⟨5, _⟩ => ⟨S4x3072, .f32⟩
  | .hbm, ⟨6, _⟩ => ⟨S_, .f32⟩
  | .hbm, ⟨7, _⟩ => ⟨S4x3x3072, .f32⟩
  | .hbm, ⟨8, _⟩ => ⟨S4x2051x3072, .f32⟩
  | .hbm, ⟨9, _⟩ => ⟨S4x2048x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S4x2048x3072, .f32⟩
  | .hbm, ⟨14, _⟩ => ⟨S4x2048x3072, .f32⟩
  | .hbm, ⟨15, _⟩ => ⟨S4x2048x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S4x2048x3072, .f32⟩
  | .hbm, ⟨20, _⟩ => ⟨S4x2048x3072, .f32⟩
  | .hbm, ⟨21, _⟩ => ⟨S4x2048x3072, .f32⟩
  | .hbm, ⟨22, _⟩ => ⟨S4x2048x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S4x2048x3072, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S4x2048x3072, .f32⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S4x2048x3072, .f32⟩
  | .hbm, ⟨38, _⟩ => ⟨S_, .f32⟩
  | .hbm, ⟨39, _⟩ => ⟨S4x2048x3072, .f32⟩
  | .hbm, ⟨40, _⟩ => ⟨S4x2048x3072, .f32⟩
  | .hbm, ⟨41, _⟩ => ⟨S_, .f32⟩
  | .hbm, ⟨42, _⟩ => ⟨S4x2048x3072, .f32⟩
  | .hbm, ⟨43, _⟩ => ⟨S4x2048x3072, .f32⟩
  | .hbm, ⟨44, _⟩ => ⟨S4x2048x3072, .f32⟩
  | .hbm, ⟨45, _⟩ => ⟨S4x2048x2048, .f32⟩
  | .hbm, ⟨46, _⟩ => ⟨S4x2048x16x128, .f32⟩
  | .hbm, ⟨47, _⟩ => ⟨S4x2048x16x128, .f32⟩
  | .hbm, ⟨48, _⟩ => ⟨S_, .f32⟩
  | .hbm, ⟨49, _⟩ => ⟨S4x2048x16, .f32⟩
  | .hbm, ⟨50, _⟩ => ⟨S4x2048x16x1, .f32⟩
  | .hbm, ⟨51, _⟩ => ⟨S_, .f32⟩
  | .hbm, ⟨52, _⟩ => ⟨S4x2048x16x1, .f32⟩
  | .hbm, ⟨53, _⟩ => ⟨S4x2048x16x1, .f32⟩
  | .hbm, ⟨54, _⟩ => ⟨S4x2048x16x1, .f32⟩
  | .hbm, ⟨55, _⟩ => ⟨S4x2048x16x128, .f32⟩
  | .hbm, ⟨56, _⟩ => ⟨S4x2048x16x128, .f32⟩
  | .hbm, ⟨57, _⟩ => ⟨S8192x2048, .f32⟩
  | .hbm, ⟨58, _⟩ => ⟨S4x2048x1024, .f32⟩
  | .hbm, ⟨59, _⟩ => ⟨S8192x1024, .f32⟩
  | .hbm, ⟨60, _⟩ => ⟨S8192x3072, .f32⟩
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== GatesSample.lean ====
abbrev S8320x14592 : Shape := ⟨2, ![8320, 14592]⟩
abbrev S2x8 : Shape := ⟨2, ![2, 8]⟩
abbrev S_ : Shape := ⟨0, ![]⟩
abbrev S2x112 : Shape := ⟨2, ![2, 112]⟩
abbrev S2x128 : Shape := ⟨2, ![2, 128]⟩
abbrev S2x1x128 : Shape := ⟨3, ![2, 1, 128]⟩
abbrev S2x8x128 : Shape := ⟨3, ![2, 8, 128]⟩
abbrev S32x128 : Shape := ⟨2, ![32, 128]⟩
abbrev S1x8x128 : Shape := ⟨3, ![1, 8, 128]⟩
abbrev S8x128 : Shape := ⟨2, ![8, 128]⟩
abbrev S1x128 : Shape := ⟨2, ![1, 128]⟩

abbrev nBuf : Space → Nat
  | .hbm => 23
  | .vmem => 3
  | .smem => 0
  | _ => 0

abbrev bufTy : (tb : Table) → Fin (tcTables nBuf tb) → BufTy
  | .hbm, ⟨0, _⟩ => ⟨S8320x14592, .f32⟩
  | .hbm, ⟨1, _⟩ => ⟨S2x8, .f32⟩
  | .hbm, ⟨2, _⟩ => ⟨S2x8, .f32⟩
  | .hbm, ⟨3, _⟩ => ⟨S_, .f32⟩
  | .hbm, ⟨4, _⟩ => ⟨S2x112, .f32⟩
  | .hbm, ⟨5, _⟩ => ⟨S_, .f32⟩
  | .hbm, ⟨6, _⟩ => ⟨S2x8, .f32⟩
  | .hbm, ⟨7, _⟩ => ⟨S2x128, .f32⟩
  | .hbm, ⟨8, _⟩ => ⟨S_, .f32⟩
  | .hbm, ⟨9, _⟩ => ⟨S2x8, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x1x128, .f32⟩
  | .hbm, ⟨14, _⟩ => ⟨S2x1x128, .f32⟩
  | .hbm, ⟨15, _⟩ => ⟨S2x1x128, .f32⟩
  | .hbm, ⟨16, _⟩ => ⟨S2x1x128, .f32⟩
  | .hbm, ⟨17, _⟩ => ⟨S2x1x128, .f32⟩
  | .hbm, ⟨18, _⟩ => ⟨S2x1x128, .f32⟩
  | .hbm, ⟨19, _⟩ => ⟨S2x1x128, .f32⟩
  | .hbm, ⟨20, _⟩ => ⟨S2x1x128, .f32⟩
  | .hbm, ⟨21, _⟩ => ⟨S2x8x128, .f32⟩
  | .hbm, ⟨22, _⟩ => ⟨S32x128, .f32⟩
  | .local _ .vmem, ⟨0, _⟩ => ⟨S32x128, .f32⟩
  | .local _ .vmem, ⟨1, _⟩ => ⟨S1x8x128, .f32⟩
  | .local _ .vmem, ⟨2, _⟩ => ⟨S32x128, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c112_i32 : BitVec 32 := 112#32
  let c0_i32 : BitVec 32 := 0#32
  ![v0.toNat, c112_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== GatesSampleRefIdeal.lean ====
abbrev S8320x14592 : Shape := ⟨2, ![8320, 14592]⟩
abbrev S2x8 : Shape := ⟨2, ![2, 8]⟩
abbrev S32x128 : Shape := ⟨2, ![32, 128]⟩
abbrev S1x8 : Shape := ⟨2, ![1, 8]⟩
abbrev S8 : Shape := ⟨1, ![8]⟩
abbrev S_ : Shape := ⟨0, ![]⟩
abbrev S112 : Shape := ⟨1, ![112]⟩
abbrev S120 : Shape := ⟨1, ![120]⟩
abbrev S32x8 : Shape := ⟨2, ![32, 8]⟩
abbrev S32x120 : Shape := ⟨2, ![32, 120]⟩
abbrev S1x120 : Shape := ⟨2, ![1, 120]⟩

abbrev nBuf : Space → Nat
  | .hbm => 47
  | .vmem => 0
  | .smem => 0
  | _ => 0

abbrev bufTy : (tb : Table) → Fin (tcTables nBuf tb) → BufTy
  | .hbm, ⟨0, _⟩ => ⟨S8320x14592, .f32⟩
  | .hbm, ⟨1, _⟩ => ⟨S2x8, .f32⟩
  | .hbm, ⟨2, _⟩ => ⟨S2x8, .f32⟩
  | .hbm, ⟨3, _⟩ => ⟨S32x128, .f32⟩
  | .hbm, ⟨4, _⟩ => ⟨S1x8, .f32⟩
  | .hbm, ⟨5, _⟩ => ⟨S8, .f32⟩
  | .hbm, ⟨6, _⟩ => ⟨S_, .f32⟩
  | .hbm, ⟨7, _⟩ => ⟨S112, .f32⟩
  | .hbm, ⟨8, _⟩ => ⟨S120, .f32⟩
  | .hbm, ⟨9, _⟩ => ⟨S1x8, .f32⟩
  | .hbm, ⟨10, _⟩ => ⟨S8, .f32⟩
  | .hbm, ⟨11, _⟩ => ⟨S_, .f32⟩
  | .hbm, ⟨12, _⟩ => ⟨S112, .f32⟩
  | .hbm, ⟨13, _⟩ => ⟨S120, .f32⟩
  | .hbm, ⟨14, _⟩ => ⟨S32x8, .f32⟩
  | .hbm, ⟨15, _⟩ => ⟨S32x8, .f32⟩
  | .hbm, ⟨16, _⟩ => ⟨S32x8, .f32⟩
  | .hbm, ⟨17, _⟩ => ⟨S_, .f32⟩
  | .hbm, ⟨18, _⟩ => ⟨S32x8, .f32⟩
  | .hbm, ⟨19, _⟩ => ⟨S32x8, .f32⟩
  | .hbm, ⟨20, _⟩ => ⟨S_, .f32⟩
  | .hbm, ⟨21, _⟩ => ⟨S32x8, .f32⟩
  | .hbm, ⟨22, _⟩ => ⟨S32x8, .f32⟩
  | .hbm, ⟨23, _⟩ => ⟨S120, .f32⟩
  | .hbm, ⟨24, _⟩ => ⟨S120, .f32⟩
  | .hbm, ⟨25, _⟩ => ⟨S32x120, .f32⟩
  | .hbm, ⟨26, _⟩ => ⟨S1x120, .f32⟩
  | .hbm, ⟨27, _⟩ => ⟨S32x120, .f32⟩
  | .hbm, ⟨28, _⟩ => ⟨S32x120, .f32⟩
  | .hbm, ⟨29, _⟩ => ⟨S_, .f32⟩
  | .hbm, ⟨30, _⟩ => ⟨S32x120, .f32⟩
  | .hbm, ⟨31, _⟩ => ⟨S32x120, .f32⟩
  | .hbm, ⟨32, _⟩ => ⟨S32x120, .f32⟩
  | .hbm, ⟨33, _⟩ => ⟨S32x120, .f32⟩
  | .hbm, ⟨34, _⟩ => ⟨S32x120, .i1⟩
  | .hbm, ⟨35, _⟩ => ⟨S32x120, .f32⟩
  | .hbm, ⟨36, _⟩ => ⟨S32x120, .f32⟩
  | .hbm, ⟨37, _⟩ => ⟨S32x120, .f32⟩
  | .hbm, ⟨38, _⟩ => ⟨S32x120, .f32⟩
  | .hbm, ⟨39, _⟩ => ⟨S32x120, .f32⟩
  | .hbm, ⟨40, _⟩ => ⟨S32x120, .f32⟩
  | .hbm, ⟨41, _⟩ => ⟨S32x120, .f32⟩
  | .hbm, ⟨42, _⟩ => ⟨S32x120, .f32⟩
  | .hbm, ⟨43, _⟩ => ⟨S1x120, .f32⟩
  | .hbm, ⟨44, _⟩ => ⟨S32x120, .f32⟩
  | .hbm, ⟨45, _⟩ => ⟨S32x120, .f32⟩
  | .hbm, ⟨46, _⟩ => ⟨S32x128, .f32⟩
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== GatesPrompt.lean ====
abbrev S8320x14592 : Shape := ⟨2, ![8320, 14592]⟩
abbrev S2x8 : Shape := ⟨2, ![2, 8]⟩
abbrev S_ : Shape := ⟨0, ![]⟩
abbrev S2x112 : Shape := ⟨2, ![2, 112]⟩
abbrev S2x128 : Shape := ⟨2, ![2, 128]⟩
abbrev S2x1x128 : Shape := ⟨3, ![2, 1, 128]⟩
abbrev S2x8x128 : Shape := ⟨3, ![2, 8, 128]⟩
abbrev S8192x128 : Shape := ⟨2, ![8192, 128]⟩
abbrev S1024x128 : Shape := ⟨2, ![1024, 128]⟩
abbrev S512x128 : Shape := ⟨2, ![512, 128]⟩
abbrev S1x8x128 : Shape := ⟨3, ![1, 8, 128]⟩
abbrev S64x128 : Shape := ⟨2, ![64, 128]⟩
abbrev S8x128 : Shape := ⟨2, ![8, 128]⟩
abbrev S1x128 : Shape := ⟨2, ![1, 128]⟩
abbrev S512x512 : Shape := ⟨2, ![512, 512]⟩
abbrev S128x512 : Shape := ⟨2, ![128, 512]⟩
abbrev S16x128 : Shape := ⟨2, ![16, 128]⟩

abbrev nBuf : Space → Nat
  | .hbm => 24
  | .vmem => 7
  | .smem => 0
  | _ => 0

abbrev bufTy : (tb : Table) → Fin (tcTables nBuf tb) → BufTy
  | .hbm, ⟨0, _⟩ => ⟨S8320x14592, .f32⟩
  | .hbm, ⟨1, _⟩ => ⟨S2x8, .f32⟩
  | .hbm, ⟨2, _⟩ => ⟨S2x8, .f32⟩
  | .hbm, ⟨3, _⟩ => ⟨S_, .f32⟩
  | .hbm, ⟨4, _⟩ => ⟨S2x112, .f32⟩
  | .hbm, ⟨5, _⟩ => ⟨S_, .f32⟩
  | .hbm, ⟨6, _⟩ => ⟨S2x8, .f32⟩
  | .hbm, ⟨7, _⟩ => ⟨S2x128, .f32⟩
  | .hbm, ⟨8, _⟩ => ⟨S_, .f32⟩
  | .hbm, ⟨9, _⟩ => ⟨S2x8, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x1x128, .f32⟩
  | .hbm, ⟨14, _⟩ => ⟨S2x1x128, .f32⟩
  | .hbm, ⟨15, _⟩ => ⟨S2x1x128, .f32⟩
  | .hbm, ⟨16, _⟩ => ⟨S2x1x128, .f32⟩
  | .hbm, ⟨17, _⟩ => ⟨S2x1x128, .f32⟩
  | .hbm, ⟨18, _⟩ => ⟨S2x1x128, .f32⟩
  | .hbm, ⟨19, _⟩ => ⟨S2x1x128, .f32⟩
  | .hbm, ⟨20, _⟩ => ⟨S2x1x128, .f32⟩
  | .hbm, ⟨21, _⟩ => ⟨S2x8x128, .f32⟩
  | .hbm, ⟨22, _⟩ => ⟨S8192x128, .f32⟩
  | .hbm, ⟨23, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S1x8x128, .f32⟩
  | .local _ .vmem, ⟨3, _⟩ => ⟨S512x128, .f32⟩
  | .local _ .vmem, ⟨4, _⟩ => ⟨S512x128, .f32⟩
  | .local _ .vmem, ⟨5, _⟩ => ⟨S64x128, .f32⟩
  | .local _ .vmem, ⟨6, _⟩ => ⟨S64x128, .f32⟩
  | _, _ => ⟨S8320x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c112_i32 : BitVec 32 := 112#32
  let c0_i32_0 : BitVec 32 := 0#32
  ![v0.toNat, c112_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesPromptRefIdeal.lean ====
abbrev S8320x14592 : Shape := ⟨2, ![8320, 14592]⟩
abbrev S2x8 : Shape := ⟨2, ![2, 8]⟩
abbrev S8192x128 : Shape := ⟨2, ![8192, 128]⟩
abbrev S_ : Shape := ⟨0, ![]⟩
abbrev S8 : Shape := ⟨1, ![8]⟩
abbrev S1x8 : Shape := ⟨2, ![1, 8]⟩
abbrev S112 : Shape := ⟨1, ![112]⟩
abbrev S128 : Shape := ⟨1, ![128]⟩
abbrev S1x128 : Shape := ⟨2, ![1, 128]⟩
abbrev S64x128x128 : Shape := ⟨3, ![64, 128, 128]⟩
abbrev S8192x8 : Shape := ⟨2, ![8192, 8]⟩
abbrev S8192x120 : Shape := ⟨2, ![8192, 120]⟩
abbrev S64x128x16 : Shape := ⟨3, ![64, 128, 16]⟩
abbrev S64x16x128 : Shape := ⟨3, ![64, 16, 128]⟩
abbrev S1024x128 : Shape := ⟨2, ![1024, 128]⟩

abbrev nBuf : Space → Nat
  | .hbm => 59
  | .vmem => 0
  | .smem => 0
  | _ => 0

abbrev bufTy : (tb : Table) → Fin (tcTables nBuf tb) → BufTy
  | .hbm, ⟨0, _⟩ => ⟨S8320x14592, .f32⟩
  | .hbm, ⟨1, _⟩ => ⟨S2x8, .f32⟩
  | .hbm, ⟨2, _⟩ => ⟨S2x8, .f32⟩
  | .hbm, ⟨3, _⟩ => ⟨S8192x128, .f32⟩
  | .hbm, ⟨4, _⟩ => ⟨S_, .f32⟩
  | .hbm, ⟨5, _⟩ => ⟨S8, .f32⟩
  | .hbm, ⟨6, _⟩ => ⟨S1x8, .f32⟩
  | .hbm, ⟨7, _⟩ => ⟨S8, .f32⟩
  | .hbm, ⟨8, _⟩ => ⟨S_, .f32⟩
  | .hbm, ⟨9, _⟩ => ⟨S112, .f32⟩
  | .hbm, ⟨10, _⟩ => ⟨S128, .f32⟩
  | .hbm, ⟨11, _⟩ => ⟨S_, .f32⟩
  | .hbm, ⟨12, _⟩ => ⟨S8, .f32⟩
  | .hbm, ⟨13, _⟩ => ⟨S1x8, .f32⟩
  | .hbm, ⟨14, _⟩ => ⟨S8, .f32⟩
  | .hbm, ⟨15, _⟩ => ⟨S_, .f32⟩
  | .hbm, ⟨16, _⟩ => ⟨S112, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .i1⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S64x128x128, .f32⟩
  | .hbm, ⟨41, _⟩ => ⟨S_, .f32⟩
  | .hbm, ⟨42, _⟩ => ⟨S_, .f32⟩
  | .hbm, ⟨43, _⟩ => ⟨S64x128x128, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S_, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x128, .f32⟩
  | .hbm, ⟨54, _⟩ => ⟨S8192x120, .f32⟩
  | .hbm, ⟨55, _⟩ => ⟨S8192x128, .f32⟩
  | .hbm, ⟨56, _⟩ => ⟨S64x128x16, .f32⟩
  | .hbm, ⟨57, _⟩ => ⟨S64x16x128, .f32⟩
  | .hbm, ⟨58, _⟩ => ⟨S1024x128, .f32⟩
  | _, _ => ⟨S8320x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_call0_cst : Ref sig .tc := ⟨.hbm, 41, rfl⟩
abbrev main_call1_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Pack.lean ====
abbrev S2x2048x14352 : Shape := ⟨3, ![2, 2048, 14352]⟩
abbrev S2x14352x2048 : Shape := ⟨3, ![2, 14352, 2048]⟩
abbrev S2x2048x14592 : Shape := ⟨3, ![2, 2048, 14592]⟩
abbrev S1x512x2048 : Shape := ⟨3, ![1, 512, 2048]⟩
abbrev S1x16x2048 : Shape := ⟨3, ![1, 16, 2048]⟩
abbrev S1x2048x512 : Shape := ⟨3, ![1, 2048, 512]⟩
abbrev S512x2048 : Shape := ⟨2, ![512, 2048]⟩
abbrev S496x2048 : Shape := ⟨2, ![496, 2048]⟩
abbrev S16x2048 : Shape := ⟨2, ![16, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x14352, .f32⟩
  | .hbm, ⟨1, _⟩ => ⟨S2x14352x2048, .f32⟩
  | .hbm, ⟨2, _⟩ => ⟨S2x2048x14592, .bf16⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x2048x512, .bf16⟩
  | .local _ .vmem, ⟨5, _⟩ => ⟨S1x2048x512, .bf16⟩
  | _, _ => ⟨S2x2048x14352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 29], ![false, false]⟩

def cc0_transform_0 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 1 := Scalar.cmpi .eq arg1 c28_i32
  let c16_i32 : BitVec 32 := 16#32
  let v1 : BitVec 32 := Scalar.select v0 c16_i32 arg1
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c28_i32 : BitVec 32 := 28#32
  let v1 : BitVec 1 := Scalar.cmpi .slt arg1 c28_i32
  let v2 : BitVec 1 := Scalar.andi v0 v1
  let c1_i32 : BitVec 32 := 1#32
  let v3 : BitVec 32 := Scalar.addi arg1 c1_i32
  let c32_i32 : BitVec 32 := 32#32
  let v4 : BitVec 32 := Scalar.muli v3 c32_i32
  let c0_i32 : BitVec 32 := 0#32
  let v5 : BitVec 32 := Scalar.select v2 v4 c0_i32
  let c0_i32_0 : BitVec 32 := 0#32
  let c0_i32_1 : BitVec 32 := 0#32
  ![arg0.toNat, v5.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PackRefIdeal.lean ====
abbrev S2x2048x14352 : Shape := ⟨3, ![2, 2048, 14352]⟩
abbrev S2x2048x8192 : Shape := ⟨3, ![2, 2048, 8192]⟩
abbrev S2x2048x6144 : Shape := ⟨3, ![2, 2048, 6144]⟩
abbrev S2x2048x16 : Shape := ⟨3, ![2, 2048, 16]⟩
abbrev S_ : Shape := ⟨0, ![]⟩
abbrev S2x2048x240 : Shape := ⟨3, ![2, 2048, 240]⟩
abbrev S2x2048x14592 : Shape := ⟨3, ![2, 2048, 14592]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x14352, .f32⟩
  | .hbm, ⟨1, _⟩ => ⟨S2x2048x8192, .f32⟩
  | .hbm, ⟨2, _⟩ => ⟨S2x2048x6144, .f32⟩
  | .hbm, ⟨3, _⟩ => ⟨S2x2048x16, .f32⟩
  | .hbm, ⟨4, _⟩ => ⟨S_, .f32⟩
  | .hbm, ⟨5, _⟩ => ⟨S2x2048x240, .f32⟩
  | .hbm, ⟨6, _⟩ => ⟨S2x2048x14592, .f32⟩
  | .hbm, ⟨7, _⟩ => ⟨S2x2048x14592, .bf16⟩
  | _, _ => ⟨S2x2048x14352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GdnStep.lean ====
abbrev S32x3072 : Shape := ⟨2, ![32, 3072]⟩
abbrev S32x128 : Shape := ⟨2, ![32, 128]⟩
abbrev S8320x14592 : Shape := ⟨2, ![8320, 14592]⟩
abbrev S2x32x8x128x128 : Shape := ⟨5, ![2, 32, 8, 128, 128]⟩
abbrev S2x128 : Shape := ⟨2, ![2, 128]⟩
abbrev S32x1024 : Shape := ⟨2, ![32, 1024]⟩
abbrev S32x4224 : Shape := ⟨2, ![32, 4224]⟩
abbrev S32x1x4224 : Shape := ⟨3, ![32, 1, 4224]⟩
abbrev S_ : Shape := ⟨0, ![]⟩
abbrev S32x8x4224 : Shape := ⟨3, ![32, 8, 4224]⟩
abbrev S2x1x128 : Shape := ⟨3, ![2, 1, 128]⟩
abbrev S32x8x1024 : Shape := ⟨3, ![32, 8, 1024]⟩
abbrev S32x8x128x128 : Shape := ⟨4, ![32, 8, 128, 128]⟩
abbrev S1x8x4224 : Shape := ⟨3, ![1, 8, 4224]⟩
abbrev S1x1x8x128x128 : Shape := ⟨5, ![1, 1, 8, 128, 128]⟩
abbrev S1x1x128 : Shape := ⟨3, ![1, 1, 128]⟩
abbrev S1x8x1024 : Shape := ⟨3, ![1, 8, 1024]⟩
abbrev S1x8x128x128 : Shape := ⟨4, ![1, 8, 128, 128]⟩
abbrev S1x128 : Shape := ⟨2, ![1, 128]⟩
abbrev S1x8x128 : Shape := ⟨3, ![1, 8, 128]⟩
abbrev S8x128 : Shape := ⟨2, ![8, 128]⟩
abbrev S1x1x1x128x128 : Shape := ⟨5, ![1, 1, 1, 128, 128]⟩
abbrev S128x128 : Shape := ⟨2, ![128, 128]⟩
abbrev S8x1 : Shape := ⟨2, ![8, 1]⟩
abbrev S1x1x128x128 : Shape := ⟨4, ![1, 1, 128, 128]⟩
abbrev S8 : Shape := ⟨1, ![8]⟩

abbrev nBuf : Space → Nat
  | .hbm => 14
  | .vmem => 9
  | .smem => 0
  | _ => 0

abbrev bufTy : (tb : Table) → Fin (tcTables nBuf tb) → BufTy
  | .hbm, ⟨0, _⟩ => ⟨S32x3072, .f32⟩
  | .hbm, ⟨1, _⟩ => ⟨S32x128, .f32⟩
  | .hbm, ⟨2, _⟩ => ⟨S8320x14592, .f32⟩
  | .hbm, ⟨3, _⟩ => ⟨S2x32x8x128x128, .f32⟩
  | .hbm, ⟨4, _⟩ => ⟨S2x128, .f32⟩
  | .hbm, ⟨5, _⟩ => ⟨S32x1024, .f32⟩
  | .hbm, ⟨6, _⟩ => ⟨S32x4224, .f32⟩
  | .hbm, ⟨7, _⟩ => ⟨S32x1x4224, .f32⟩
  | .hbm, ⟨8, _⟩ => ⟨S_, .i32⟩
  | .hbm, ⟨9, _⟩ => ⟨S_, .f32⟩
  | .hbm, ⟨10, _⟩ => ⟨S32x8x4224, .f32⟩
  | .hbm, ⟨11, _⟩ => ⟨S2x1x128, .f32⟩
  | .hbm, ⟨12, _⟩ => ⟨S32x8x1024, .bf16⟩
  | .hbm, ⟨13, _⟩ => ⟨S32x8x128x128, .f32⟩
  | .local _ .vmem, ⟨0, _⟩ => ⟨S1x8x4224, .f32⟩
  | .local _ .vmem, ⟨1, _⟩ => ⟨S1x8x4224, .f32⟩
  | .local _ .vmem, ⟨2, _⟩ => ⟨S1x1x8x128x128, .f32⟩
  | .local _ .vmem, ⟨3, _⟩ => ⟨S1x1x8x128x128, .f32⟩
  | .local _ .vmem, ⟨4, _⟩ => ⟨S1x1x128, .f32⟩
  | .local _ .vmem, ⟨5, _⟩ => ⟨S1x8x1024, .bf16⟩
  | .local _ .vmem, ⟨6, _⟩ => ⟨S1x8x1024, .bf16⟩
  | .local _ .vmem, ⟨7, _⟩ => ⟨S1x8x128x128, .f32⟩
  | .local _ .vmem, ⟨8, _⟩ => ⟨S1x8x128x128, .f32⟩
  | _, _ => ⟨S32x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnStepRefIdeal.lean ====
abbrev S32x3072 : Shape := ⟨2, ![32, 3072]⟩
abbrev S32x128 : Shape := ⟨2, ![32, 128]⟩
abbrev S8320x14592 : Shape := ⟨2, ![8320, 14592]⟩
abbrev S2x32x8x128x128 : Shape := ⟨5, ![2, 32, 8, 128, 128]⟩
abbrev S2x128 : Shape := ⟨2, ![2, 128]⟩
abbrev S32x1024 : Shape := ⟨2, ![32, 1024]⟩
abbrev S32x8x128 : Shape := ⟨3, ![32, 8, 128]⟩
abbrev S_ : Shape := ⟨0, ![]⟩
abbrev S32x8 : Shape := ⟨2, ![32, 8]⟩
abbrev S1x32x8x128x128 : Shape := ⟨5, ![1, 32, 8, 128, 128]⟩
abbrev S32x8x128x128 : Shape := ⟨4, ![32, 8, 128, 128]⟩
abbrev S32x8x1 : Shape := ⟨3, ![32, 8, 1]⟩
abbrev S32x8x1x1 : Shape := ⟨4, ![32, 8, 1, 1]⟩
abbrev S32x8x128x1 : Shape := ⟨4, ![32, 8, 128, 1]⟩
abbrev S32x8x1x128 : Shape := ⟨4, ![32, 8, 1, 128]⟩
abbrev S1x128 : Shape := ⟨2, ![1, 128]⟩
abbrev S128 : Shape := ⟨1, ![128]⟩
abbrev S1x1x128 : Shape := ⟨3, ![1, 1, 128]⟩
abbrev S32x1x1024 : Shape := ⟨3, ![32, 1, 1024]⟩
abbrev S32x7x1024 : Shape := ⟨3, ![32, 7, 1024]⟩
abbrev S32x8x1024 : Shape := ⟨3, ![32, 8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32x3072, .f32⟩
  | .hbm, ⟨1, _⟩ => ⟨S32x128, .f32⟩
  | .hbm, ⟨2, _⟩ => ⟨S8320x14592, .f32⟩
  | .hbm, ⟨3, _⟩ => ⟨S2x32x8x128x128, .f32⟩
  | .hbm, ⟨4, _⟩ => ⟨S2x128, .f32⟩
  | .hbm, ⟨5, _⟩ => ⟨S32x1024, .f32⟩
  | .hbm, ⟨6, _⟩ => ⟨S32x8x128, .f32⟩
  | .hbm, ⟨7, _⟩ => ⟨S_, .f32⟩
  | .hbm, ⟨8, _⟩ => ⟨S32x8x128, .f32⟩
  | .hbm, ⟨9, _⟩ => ⟨S32x8x128, .f32⟩
  | .hbm, ⟨10, _⟩ => ⟨S32x1024, .f32⟩
  | .hbm, ⟨11, _⟩ => ⟨S32x8x128, .f32⟩
  | .hbm, ⟨12, _⟩ => ⟨S32x1024, .f32⟩
  | .hbm, ⟨13, _⟩ => ⟨S32x8x128, .f32⟩
  | .hbm, ⟨14, _⟩ => ⟨S32x8, .f32⟩
  | .hbm, ⟨15, _⟩ => ⟨S32x8, .f32⟩
  | .hbm, ⟨16, _⟩ => ⟨S32x1024, .f32⟩
  | .hbm, ⟨17, _⟩ => ⟨S32x8x128, .f32⟩
  | .hbm, ⟨18, _⟩ => ⟨S1x32x8x128x128, .f32⟩
  | .hbm, ⟨19, _⟩ => ⟨S32x8x128x128, .f32⟩
  | .hbm, ⟨20, _⟩ => ⟨S32x8, .f32⟩
  | .hbm, ⟨21, _⟩ => ⟨S32x8x1, .f32⟩
  | .hbm, ⟨22, _⟩ => ⟨S32x8x128, .f32⟩
  | .hbm, ⟨23, _⟩ => ⟨S32x8x128, .f32⟩
  | .hbm, ⟨24, _⟩ => ⟨S32x8x1, .f32⟩
  | .hbm, ⟨25, _⟩ => ⟨S32x8x128, .f32⟩
  | .hbm, ⟨26, _⟩ => ⟨S32x8x128, .f32⟩
  | .hbm, ⟨27, _⟩ => ⟨S32x8x1, .f32⟩
  | .hbm, ⟨28, _⟩ => ⟨S32x8x128, .f32⟩
  | .hbm, ⟨29, _⟩ => ⟨S32x8x128, .f32⟩
  | .hbm, ⟨30, _⟩ => ⟨S32x8x128, .f32⟩
  | .hbm, ⟨31, _⟩ => ⟨S32x8x128, .f32⟩
  | .hbm, ⟨32, _⟩ => ⟨S32x8x1, .f32⟩
  | .hbm, ⟨33, _⟩ => ⟨S32x8x128, .f32⟩
  | .hbm, ⟨34, _⟩ => ⟨S32x8x128, .f32⟩
  | .hbm, ⟨35, _⟩ => ⟨S32x8x128, .f32⟩
  | .hbm, ⟨36, _⟩ => ⟨S32x8x128, .f32⟩
  | .hbm, ⟨37, _⟩ => ⟨S_, .f32⟩
  | .hbm, ⟨38, _⟩ => ⟨S32x8, .f32⟩
  | .hbm, ⟨39, _⟩ => ⟨S32x8x1, .f32⟩
  | .hbm, ⟨40, _⟩ => ⟨S32x8x128, .f32⟩
  | .hbm, ⟨41, _⟩ => ⟨S32x8x128, .f32⟩
  | .hbm, ⟨42, _⟩ => ⟨S32x8x128, .f32⟩
  | .hbm, ⟨43, _⟩ => ⟨S32x8x1x1, .f32⟩
  | .hbm, ⟨44, _⟩ => ⟨S32x8x128x128, .f32⟩
  | .hbm, ⟨45, _⟩ => ⟨S32x8x128x128, .f32⟩
  | .hbm, ⟨46, _⟩ => ⟨S32x8x128x1, .f32⟩
  | .hbm, ⟨47, _⟩ => ⟨S32x8x1x128, .f32⟩
  | .hbm, ⟨48, _⟩ => ⟨S32x8x128x128, .f32⟩
  | .hbm, ⟨49, _⟩ => ⟨S32x8x128x128, .f32⟩
  | .hbm, ⟨50, _⟩ => ⟨S32x8x128x128, .f32⟩
  | .hbm, ⟨51, _⟩ => ⟨S32x8x128x128, .f32⟩
  | .hbm, ⟨52, _⟩ => ⟨S32x8x128, .f32⟩
  | .hbm, ⟨53, _⟩ => ⟨S_, .f32⟩
  | .hbm, ⟨54, _⟩ => ⟨S32x8, .f32⟩
  | .hbm, ⟨55, _⟩ => ⟨S32x8x1, .f32⟩
  | .hbm, ⟨56, _⟩ => ⟨S_, .f32⟩
  | .hbm, ⟨57, _⟩ => ⟨S32x8x1, .f32⟩
  | .hbm, ⟨58, _⟩ => ⟨S32x8x1, .f32⟩
  | .hbm, ⟨59, _⟩ => ⟨S_, .f32⟩
  | .hbm, ⟨60, _⟩ => ⟨S32x8x1, .f32⟩
  | .hbm, ⟨61, _⟩ => ⟨S32x8x1, .f32⟩
  | .hbm, ⟨62, _⟩ => ⟨S32x8x1, .f32⟩
  | .hbm, ⟨63, _⟩ => ⟨S32x8x128, .f32⟩
  | .hbm, ⟨64, _⟩ => ⟨S32x8x128, .f32⟩
  | .hbm, ⟨65, _⟩ => ⟨S1x128, .f32⟩
  | .hbm, ⟨66, _⟩ => ⟨S128, .f32⟩
  | .hbm, ⟨67, _⟩ => ⟨S1x1x128, .f32⟩
  | .hbm, ⟨68, _⟩ => ⟨S32x8x128, .f32⟩
  | .hbm, ⟨69, _⟩ => ⟨S32x8x128, .f32⟩
  | .hbm, ⟨70, _⟩ => ⟨S32x8x128, .f32⟩
  | .hbm, ⟨71, _⟩ => ⟨S32x8x128, .f32⟩
  | .hbm, ⟨72, _⟩ => ⟨S_, .f32⟩
  | .hbm, ⟨73, _⟩ => ⟨S32x8x128, .f32⟩
  | .hbm, ⟨74, _⟩ => ⟨S32x8x128, .f32⟩
  | .hbm, ⟨75, _⟩ => ⟨S_, .f32⟩
  | .hbm, ⟨76, _⟩ => ⟨S32x8x128, .f32⟩
  | .hbm, ⟨77, _⟩ => ⟨S32x8x128, .f32⟩
  | .hbm, ⟨78, _⟩ => ⟨S32x8x128, .f32⟩
  | .hbm, ⟨79, _⟩ => ⟨S32x8x128, .f32⟩
  | .hbm, ⟨80, _⟩ => ⟨S32x1024, .f32⟩
  | .hbm, ⟨81, _⟩ => ⟨S32x1x1024, .f32⟩
  | .hbm, ⟨82, _⟩ => ⟨S_, .f32⟩
  | .hbm, ⟨83, _⟩ => ⟨S32x7x1024, .f32⟩
  | .hbm, ⟨84, _⟩ => ⟨S32x8x1024, .f32⟩
  | .hbm, ⟨85, _⟩ => ⟨S32x8x1024, .bf16⟩
  | _, _ => ⟨S32x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_4 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Proof.Arith.lean ====
module

public import proofs.«01_k».proof.Defs
public import Idealize.ShloMosaic.Lib.Pointwise
public import Idealize.ShloMosaic.Lib.IdealHost

@[expose] public section

noncomputable section

namespace Cert.Arith
open Idealize.ShloMosaic

/-- The printed constant one half. -/
theorem half : Ideal.ofBits .f32 0x3F000000#32 = ((1 / 2 : ℝ) : EReal) := by
  simp [Ideal.ofBits, Ideal.ieee, -EReal.coe_mul]; norm_num

/-- A nonnegative finite factor goes into a sum of extended reals. -/
theorem mul_sum {ι : Type*} {x : EReal} (h : 0 ≤ x) (ht : x ≠ ⊤) (s : Finset ι) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h ht, ih]

theorem sum_mul {ι : Type*} {x : EReal} (h : 0 ≤ x) (ht : x ≠ ⊤) (s : Finset ι) (f : ι → EReal) :
    (∑ i ∈ s, f i) * x = ∑ i ∈ s, f i * x := by
  rw [mul_comm, mul_sum h ht]; simp only [mul_comm]

/-- One half of a sum is the sum of the halves. -/
theorem half_sum {ι : Type*} (s : Finset ι) (f : ι → EReal) :
    Ideal.ofBits .f32 0x3F000000#32 * ∑ i ∈ s, f i = ∑ i ∈ s, Ideal.ofBits .f32 0x3F000000#32 * f i := by
  rw [half]
  exact mul_sum (by exact_mod_cast (by norm_num : (0 : ℝ) ≤ 1 / 2)) (EReal.coe_ne_top _) s f

theorem mul_mid (a h w : EReal) : a * h * w = h * (a * w) := by rw [mul_comm a h, mul_assoc]

/-- Points in runs of `J`: a value that starts a run at `x q` plus its first term and then gains a term a point
    holds, at the last point of run `q`, `x q` plus the run's terms. -/
theorem run_sum {M : Type*} [AddCommMonoid M] {N J : ℕ} (f : (n : ℕ) → n < N → M) (x : ℕ → M) (term : Fin N → M)
    (h0 : ∀ t : Fin N, t.val % J = 0 → f t.val t.isLt = x (t.val / J) + term t)
    (hs : ∀ t : Fin N, ¬t.val % J = 0 →
      f t.val t.isLt = f (t.val - 1) (Nat.lt_of_le_of_lt (Nat.sub_le _ _) t.isLt) + term t) (q : ℕ) :
    ∀ (k : ℕ), k < J → ∀ (h : J * q + k < N),
      f (J * q + k) h = x q + ∑ s : Fin (k + 1), term ⟨J * q + s.val, by have := s.isLt; omega⟩ := by
  intro k
  induction k with
  | zero =>
    intro hk h
    refine (h0 ⟨J * q + 0, h⟩ (by simp)).trans ?_
    have : (J * q + 0) / J = q := by rw [Nat.add_zero]; exact Nat.mul_div_cancel_left q hk
    refine congrArg₂ (· + ·) (congrArg x this) ?_
    exact (Fin.sum_univ_one fun s : Fin 1 => term ⟨J * q + s.val, by have := s.isLt; omega⟩).symm
  | succ k ih =>
    intro hk h
    have hm : (J * q + (k + 1)) % J = k + 1 := by rw [Nat.mul_add_mod]; exact Nat.mod_eq_of_lt hk
    refine (hs ⟨J * q + (k + 1), h⟩ (by show ¬(J * q + (k + 1)) % J = 0; omega)).trans ?_
    refine (congrArg (· + term ⟨J * q + (k + 1), h⟩) (ih (by omega) (by omega))).trans ?_
    rw [add_assoc]
    refine congrArg (x q + ·) ?_
    exact (Fin.sum_univ_castSucc fun s : Fin (k + 2) => term ⟨J * q + s.val, by have := s.isLt; omega⟩).symm

end Cert.Arith

end
-- ==== Proof.S5Step.lean ====
module

public import proofs.«01_k».proof.Proof.Gen.S5StepIdeal.Frame
public import proofs.«01_k».proof.Proof.Gen.S5StepRefIdeal.Run
public import proofs.«01_k».proof.Defs
public import proofs.«01_k».proof.Proof.Arith
public import Idealize.ShloMosaic.Lib.Pipeline.ValueKit
public import Idealize.ShloMosaic.Lib.Pointwise
public import Idealize.ShloMosaic.Lib.Claim
import Idealize.ShloMosaic.Lib.StableHlo.RunRead

@[expose] public section

set_option maxRecDepth 16384

noncomputable section

namespace Cert.S5
open Idealize.ShloMosaic

/-- The discretised pole of a state lane, of the continuous pole `r + i i` and the log step `l`. -/
def abr (r i l : EReal) : EReal := Ideal.exp (Ideal.exp l * r) * Ideal.cos (Ideal.exp l * i)
def abi (r i l : EReal) : EReal := Ideal.exp (Ideal.exp l * r) * Ideal.sin (Ideal.exp l * i)

/-- The factor of the input of a state lane: the pole less one, over the continuous pole. -/
def cfr (r i l : EReal) : EReal := Ideal.div ((abr r i l - 1) * r + abi r i l * i) (r * r + i * i)
def cfi (r i l : EReal) : EReal := Ideal.div (abi r i l * r - (abr r i l - 1) * i) (r * r + i * i)

/-- The gate at the end of the branch. -/
def gel (y : EReal) : EReal :=
  y * (Ideal.ofBits .f32 0x3F000000#32 * (1 + Ideal.tanh (Ideal.ofBits .f32 0x3F4C422A#32 * (y + Ideal.ofBits .f32 0x3D372713#32 * (y * y * y)))))

/-- The operands of a step: inputs by sequence, group and channel; states by sequence, group and lane; the parameters. -/
structure Par where
  u : Fin 32 → Fin 64 → Fin 16 → EReal
  hr : Fin 32 → Fin 64 → Fin 64 → EReal
  hi : Fin 32 → Fin 64 → Fin 64 → EReal
  ar : Fin 64 → Fin 64 → EReal
  ai : Fin 64 → Fin 64 → EReal
  l : Fin 64 → EReal
  br : Fin 64 → Fin 64 → Fin 16 → EReal
  bi : Fin 64 → Fin 64 → Fin 16 → EReal
  cr : Fin 64 → Fin 16 → Fin 64 → EReal
  ci : Fin 64 → Fin 16 → Fin 64 → EReal
  d : Fin 64 → Fin 16 → EReal

namespace Par
variable (P : Par)

/-- The new state, real part. -/
def xr (b : Fin 32) (g p : Fin 64) : EReal :=
  (∑ c : Fin 16, (cfr (P.ar g p) (P.ai g p) (P.l g) * P.br g p c - cfi (P.ar g p) (P.ai g p) (P.l g) * P.bi g p c) * P.u b g c)
    + (abr (P.ar g p) (P.ai g p) (P.l g) * P.hr b g p - abi (P.ar g p) (P.ai g p) (P.l g) * P.hi b g p)

/-- The new state, imaginary part. -/
def xi (b : Fin 32) (g p : Fin 64) : EReal :=
  (∑ c : Fin 16, (cfr (P.ar g p) (P.ai g p) (P.l g) * P.bi g p c + cfi (P.ar g p) (P.ai g p) (P.l g) * P.br g p c) * P.u b g c)
    + (abr (P.ar g p) (P.ai g p) (P.l g) * P.hi b g p + abi (P.ar g p) (P.ai g p) (P.l g) * P.hr b g p)

/-- The output before the gate. -/
def y (b : Fin 32) (g : Fin 64) (c : Fin 16) : EReal :=
  (∑ p : Fin 64, P.cr g c p * P.xr b g p) - (∑ p : Fin 64, P.ci g c p * P.xi b g p) + P.d g c * P.u b g c

end Par

/-- A sum over `n * k` indices by quotient and remainder. -/
theorem sum_split {M : Type*} [AddCommMonoid M] {n k N : ℕ} (h : n * k = N) (f : Fin N → M) :
    ∑ j : Fin N, f j = ∑ a : Fin n, ∑ c : Fin k, f ⟨k * a.val + c.val, by
      have := a.isLt; have := c.isLt; subst h; calc k * a.val + c.val < k * (a.val + 1) := by rw [Nat.mul_add]; omega
        _ ≤ n * k := by rw [Nat.mul_comm n k]; exact Nat.mul_le_mul_left k a.isLt⟩ := by
  subst h
  rw [← Finset.sum_product', Finset.univ_product_univ]
  refine (Fintype.sum_equiv finProdFinEquiv _ _ fun x => ?_).symm
  exact congrArg f (Fin.ext (by simp [finProdFinEquiv, Nat.add_comm]))

end Cert.S5

namespace Cert.S5StepRefIdeal.Hand
open Idealize.ShloMosaic Idealize.ShloMosaic.TcCoe Cert.S5StepRefIdeal Cert.S5StepRefIdeal.Gen Cert.S5StepRefIdeal.Value Cert.S5

/-- The operands of the step as they lie in the arguments. -/
def par (a0 : FVec Ideal S8320x14592 .f32) (a1 : FVec Ideal S2x32x64x64x2 .f32) (a2 a3 : FVec Ideal S2x64x64 .f32) (a4 : FVec Ideal S2x64 .f32)
    (a5 a6 : FVec Ideal S2x64x64x16 .f32) (a7 a8 : FVec Ideal S2x64x16x64 .f32) (a9 : FVec Ideal S2x1024 .f32) : Par where
  u b g c := a0 (ix2 ⟨8192 + b.val, by omega⟩ ⟨3072 + (16 * g.val + c.val), by omega⟩)
  hr b g p := a1 (ix5 0 b g p 0)
  hi b g p := a1 (ix5 0 b g p 1)
  ar g p := a2 (ix3 0 g p)
  ai g p := a3 (ix3 0 g p)
  l g := a4 (ix2 0 g)
  br g p c := a5 (ix4 0 g p c)
  bi g p c := a6 (ix4 0 g p c)
  cr g c p := a7 (ix4 0 g c p)
  ci g c p := a8 (ix4 0 g c p)
  d g c := a9 (ix2 0 ⟨g.val * 16 + c.val, by omega⟩)

/-- The operands as they lie in the reference's arguments. -/
abbrev parV (V0 : Valuation τ sig (Elt Ideal)) : Par :=
  par (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9))

variable (V0 : Valuation τ sig (Elt Ideal))

theorem abr_at (g p : Fin 64) : res_main_v20 V0 (ix2 g p) = abr ((parV V0).ar g p) ((parV V0).ai g p) ((parV V0).l g) := by
  pointwise [res_main_v20, res_main_v16, res_main_v13, res_main_v7, res_main_v9, abr, par]

theorem abi_at (g p : Fin 64) : res_main_v24 V0 (ix2 g p) = abi ((parV V0).ar g p) ((parV V0).ai g p) ((parV V0).l g) := by
  pointwise [res_main_v24, res_main_v16, res_main_v13, res_main_v7, res_main_v9, abi, par]

theorem cfr_at (g p : Fin 64) : res_main_v33 V0 (ix2 g p) = cfr ((parV V0).ar g p) ((parV V0).ai g p) ((parV V0).l g) := by
  pointwise [res_main_v33, res_main_v27, res_main_v7, res_main_v9, cfr, par]
  rw [abr_at, abi_at]
  rfl

theorem cfi_at (g p : Fin 64) : res_main_v39 V0 (ix2 g p) = cfi ((parV V0).ar g p) ((parV V0).ai g p) ((parV V0).l g) := by
  pointwise [res_main_v39, res_main_v27, res_main_v7, res_main_v9, cfi, par]
  rw [abr_at, abi_at]
  rfl

theorem u_at (b : Fin 32) (g : Fin 64) (c : Fin 16) : res_main_v5 V0 (ix4 b 0 g c) = (parV V0).u b g c := by
  pointwise [res_main_v5, par]
  blk_point []

theorem re_at (b : Fin 32) (g p : Fin 64) : res_main_v74 V0 (ix4 b 0 g p) = (parV V0).xr b g p := by
  pointwise [res_main_v74, res_main_v41, res_main_v43, res_main_v63, res_main_v65, res_main_v2, Par.xr]
  simp only [abr_at, abi_at, cfr_at, cfi_at, u_at]
  rfl

theorem im_at (b : Fin 32) (g p : Fin 64) : res_main_v83 V0 (ix4 b 0 g p) = (parV V0).xi b g p := by
  pointwise [res_main_v83, res_main_v41, res_main_v43, res_main_v63, res_main_v65, res_main_v2, Par.xi]
  simp only [abr_at, abi_at, cfr_at, cfi_at, u_at]
  rfl

theorem y_at (b : Fin 32) (g : Fin 64) (c : Fin 16) : res_main_v101 V0 (ix2 b ⟨16 * g.val + c.val, by omega⟩) = (parV V0).y b g c := by
  pointwise [res_main_v101, Par.y]
  simp only [re_at, im_at, u_at]
  rfl

/-- The reference's three results over its buffers. -/
abbrev OUT : FVec Ideal S32x1024 .f32 :=
  mulf (res_main_v101 V0) (mulf (broadcastInDim S32x1024 ![] bcast_S_S32x1024 (constant S_ .f32 0x3F000000#32)) (addf (broadcastInDim S32x1024 ![] bcast_S_S32x1024 (constant S_ .f32 0x3F800000#32)) (Host.tanh (mulf (broadcastInDim S32x1024 ![] bcast_S_S32x1024 (constant S_ .f32 0x3F4C422A#32)) (addf (res_main_v101 V0) (mulf (broadcastInDim S32x1024 ![] bcast_S_S32x1024 (constant S_ .f32 0x3D372713#32)) (mulf (mulf (res_main_v101 V0) (res_main_v101 V0)) (res_main_v101 V0))))))))
abbrev RE : FVec Ideal S32x4096 .f32 :=
  shapeCast _ (shapeCast _ (res_main_v74 V0) shapeCasts_S32x1x64x64_S32x64x64) shapeCasts_S32x64x64_S32x4096
abbrev IM : FVec Ideal S32x4096 .f32 :=
  shapeCast _ (shapeCast _ (res_main_v83 V0) shapeCasts_S32x1x64x64_S32x64x64) shapeCasts_S32x64x64_S32x4096

theorem OUT_at (b : Fin 32) (g : Fin 64) (c : Fin 16) : OUT V0 (ix2 b ⟨16 * g.val + c.val, by omega⟩) = gel ((parV V0).y b g c) := by
  pointwise [OUT, gel]
  simp only [y_at]

theorem RE_at (b : Fin 32) (g p : Fin 64) : RE V0 (ix2 b ⟨64 * g.val + p.val, by omega⟩) = (parV V0).xr b g p := by
  rw [← re_at]
  pointwise [RE]

theorem IM_at (b : Fin 32) (g p : Fin 64) : IM V0 (ix2 b ⟨64 * g.val + p.val, by omega⟩) = (parV V0).xi b g p := by
  rw [← im_at]
  pointwise [IM]

end Cert.S5StepRefIdeal.Hand

namespace Cert.S5StepIdeal.Hand
open Idealize.ShloMosaic Idealize.ShloMosaic.TcCoe Idealize.SL.Sem
open Idealize.ShloMosaic.Pipeline (Dat)
open Cert.S5StepIdeal Cert.S5StepIdeal.Gen Cert.S5

/-- A block's new state, real part, before the lanes are told apart. -/
def kr (x0 : FVec Ideal S32x128 .f32) (x1 : FVec Ideal S1x1x8x512 .f32) (x2 : FVec Ideal S1x1x128x512 .f32) (x3 : FVec Ideal S1x1x128x512 .f32) (x7 x8 : FVec Ideal S32x512 .f32) (b : Fin 32) (q : Fin 512) : EReal :=
  (∑ j : Fin 128, x0 (ix2 b j) * (cfr (x1 (ix4 0 0 0 q)) (x1 (ix4 0 0 1 q)) (x1 (ix4 0 0 2 q)) * x2 (ix4 0 0 j q)
      - cfi (x1 (ix4 0 0 0 q)) (x1 (ix4 0 0 1 q)) (x1 (ix4 0 0 2 q)) * x3 (ix4 0 0 j q)))
    + abr (x1 (ix4 0 0 0 q)) (x1 (ix4 0 0 1 q)) (x1 (ix4 0 0 2 q)) * x7 (ix2 b q)
    - abi (x1 (ix4 0 0 0 q)) (x1 (ix4 0 0 1 q)) (x1 (ix4 0 0 2 q)) * x8 (ix2 b q)

/-- A block's new state, imaginary part, before the lanes are told apart. -/
def ki (x0 : FVec Ideal S32x128 .f32) (x1 : FVec Ideal S1x1x8x512 .f32) (x2 : FVec Ideal S1x1x128x512 .f32) (x3 : FVec Ideal S1x1x128x512 .f32) (x7 x8 : FVec Ideal S32x512 .f32) (b : Fin 32) (q : Fin 512) : EReal :=
  (∑ j : Fin 128, x0 (ix2 b j) * (cfr (x1 (ix4 0 0 0 q)) (x1 (ix4 0 0 1 q)) (x1 (ix4 0 0 2 q)) * x3 (ix4 0 0 j q)
      + cfi (x1 (ix4 0 0 0 q)) (x1 (ix4 0 0 1 q)) (x1 (ix4 0 0 2 q)) * x2 (ix4 0 0 j q)))
    + abr (x1 (ix4 0 0 0 q)) (x1 (ix4 0 0 1 q)) (x1 (ix4 0 0 2 q)) * x8 (ix2 b q)
    + abi (x1 (ix4 0 0 0 q)) (x1 (ix4 0 0 1 q)) (x1 (ix4 0 0 2 q)) * x7 (ix2 b q)

theorem kre_at (x0 : Vec Ideal S32x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S32x512 .f32) (x8 : Vec Ideal S32x512 .f32) (y : S32x512.Idx) :
    out0_10 x0 x1 x2 x3 x4 x5 x6 x7 x8 y = kr x0 x1 x2 x3 x7 x8 (y 0) (y 1) := by
  unfold out0_10
  canon_tiles x e
  all_goals (open_payloads; pointwise [kr, abr, abi, cfr, cfi]; blk_point [])

theorem kim_at (x0 : Vec Ideal S32x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S32x512 .f32) (x8 : Vec Ideal S32x512 .f32) (y : S32x512.Idx) :
    out0_11 x0 x1 x2 x3 x4 x5 x6 x7 x8 y = ki x0 x1 x2 x3 x7 x8 (y 0) (y 1) := by
  unfold out0_11
  canon_tiles x e
  all_goals (open_payloads; pointwise [ki, abr, abi, cfr, cfi]; blk_point [])

/-- A block's output before the gate. -/
def ky (x0 : Vec Ideal S32x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S32x512 .f32) (x8 : Vec Ideal S32x512 .f32) (b : Fin 32) (j : Fin 128) : EReal :=
  (∑ q : Fin 512, kr x0 x1 x2 x3 x7 x8 b q * x4 (ix4 0 0 q j)) - (∑ q : Fin 512, ki x0 x1 x2 x3 x7 x8 b q * x5 (ix4 0 0 q j))
    + x6 (ix4 0 0 0 j) * x0 (ix2 b j)

theorem kout_at (x0 : Vec Ideal S32x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S32x512 .f32) (x8 : Vec Ideal S32x512 .f32) (y : S32x128.Idx) :
    out0_9 x0 x1 x2 x3 x4 x5 x6 x7 x8 y = gel (ky x0 x1 x2 x3 x4 x5 x6 x7 x8 (y 0) (y 1)) := by
  unfold out0_9
  canon_tiles x e
  all_goals
    open_payloads
    pointwise [ky, kr, ki, gel, abr, abi, cfr, cfi]
    rw [mul_comm (Ideal.ofBits .f32 0x3F000000#32), mul_assoc]
    blk_point []

/-- One if two groups of a block are the same one, zero otherwise. -/
def eyeV (a b : Fin 8) : EReal := if a = b then 1 else 0

/-- A block's operands are those of the eight groups from `8 n` on, the matrices block diagonal. -/
structure Blk (P : Par) (n : Fin 8) (x0 : Vec Ideal S32x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S32x512 .f32) (x8 : Vec Ideal S32x512 .f32) : Prop where
  u : ∀ b (g : Fin 8) (c : Fin 16), x0 (ix2 b ⟨16 * g.val + c.val, by omega⟩) = P.u b ⟨8 * n.val + g.val, by omega⟩ c
  ar : ∀ (g : Fin 8) (p : Fin 64), x1 (ix4 0 0 0 ⟨64 * g.val + p.val, by omega⟩) = P.ar ⟨8 * n.val + g.val, by omega⟩ p
  ai : ∀ (g : Fin 8) (p : Fin 64), x1 (ix4 0 0 1 ⟨64 * g.val + p.val, by omega⟩) = P.ai ⟨8 * n.val + g.val, by omega⟩ p
  l : ∀ (g : Fin 8) (p : Fin 64), x1 (ix4 0 0 2 ⟨64 * g.val + p.val, by omega⟩) = P.l ⟨8 * n.val + g.val, by omega⟩
  br : ∀ (g' : Fin 8) (c : Fin 16) (g : Fin 8) (p : Fin 64), x2 (ix4 0 0 ⟨16 * g'.val + c.val, by omega⟩ ⟨64 * g.val + p.val, by omega⟩)
    = P.br ⟨8 * n.val + g'.val, by omega⟩ p c * eyeV g' g
  bi : ∀ (g' : Fin 8) (c : Fin 16) (g : Fin 8) (p : Fin 64), x3 (ix4 0 0 ⟨16 * g'.val + c.val, by omega⟩ ⟨64 * g.val + p.val, by omega⟩)
    = P.bi ⟨8 * n.val + g'.val, by omega⟩ p c * eyeV g' g
  cr : ∀ (g' : Fin 8) (p : Fin 64) (g : Fin 8) (c : Fin 16), x4 (ix4 0 0 ⟨64 * g'.val + p.val, by omega⟩ ⟨16 * g.val + c.val, by omega⟩)
    = P.cr ⟨8 * n.val + g'.val, by omega⟩ c p * eyeV g' g
  ci : ∀ (g' : Fin 8) (p : Fin 64) (g : Fin 8) (c : Fin 16), x5 (ix4 0 0 ⟨64 * g'.val + p.val, by omega⟩ ⟨16 * g.val + c.val, by omega⟩)
    = P.ci ⟨8 * n.val + g'.val, by omega⟩ c p * eyeV g' g
  d : ∀ (g : Fin 8) (c : Fin 16), x6 (ix4 0 0 0 ⟨16 * g.val + c.val, by omega⟩) = P.d ⟨8 * n.val + g.val, by omega⟩ c
  hr : ∀ b (g : Fin 8) (p : Fin 64), x7 (ix2 b ⟨64 * g.val + p.val, by omega⟩) = P.hr b ⟨8 * n.val + g.val, by omega⟩ p
  hi : ∀ b (g : Fin 8) (p : Fin 64), x8 (ix2 b ⟨64 * g.val + p.val, by omega⟩) = P.hi b ⟨8 * n.val + g.val, by omega⟩ p

namespace Blk
variable {P : Par} {n : Fin 8} {x0 : Vec Ideal S32x128 .f32} {x1 : Vec Ideal S1x1x8x512 .f32} {x2 : Vec Ideal S1x1x128x512 .f32} {x3 : Vec Ideal S1x1x128x512 .f32} {x4 : Vec Ideal S1x1x512x128 .f32} {x5 : Vec Ideal S1x1x512x128 .f32} {x6 : Vec Ideal S1x1x1x128 .f32} {x7 : Vec Ideal S32x512 .f32} {x8 : Vec Ideal S32x512 .f32}
  (h : Blk P n x0 x1 x2 x3 x4 x5 x6 x7 x8)
include h

theorem kr_eq (b : Fin 32) (g : Fin 8) (p : Fin 64) :
    kr x0 x1 x2 x3 x7 x8 b ⟨64 * g.val + p.val, by omega⟩ = P.xr b ⟨8 * n.val + g.val, by omega⟩ p := by
  unfold kr
  rw [sum_split (n := 8) (k := 16) (by norm_num), Finset.sum_eq_single g]
  · simp only [h.u, h.ar, h.ai, h.l, h.br, h.bi, h.hr, h.hi, eyeV, if_true, mul_one]
    simp only [Par.xr, sub_eq_add_neg, add_assoc]
    refine congrArg (· + _) (Finset.sum_congr rfl fun c _ => mul_comm _ _)
  · intro g' _ hg
    refine Finset.sum_eq_zero fun c _ => ?_
    simp only [h.br, h.bi, eyeV, if_neg hg, mul_zero, sub_zero]
  · simp

theorem ki_eq (b : Fin 32) (g : Fin 8) (p : Fin 64) :
    ki x0 x1 x2 x3 x7 x8 b ⟨64 * g.val + p.val, by omega⟩ = P.xi b ⟨8 * n.val + g.val, by omega⟩ p := by
  unfold ki
  rw [sum_split (n := 8) (k := 16) (by norm_num), Finset.sum_eq_single g]
  · simp only [h.u, h.ar, h.ai, h.l, h.br, h.bi, h.hr, h.hi, eyeV, if_true, mul_one]
    simp only [Par.xi, add_assoc]
    refine congrArg (· + _) (Finset.sum_congr rfl fun c _ => mul_comm _ _)
  · intro g' _ hg
    refine Finset.sum_eq_zero fun c _ => ?_
    simp only [h.br, h.bi, eyeV, if_neg hg, mul_zero, add_zero]
  · simp

theorem ky_eq (b : Fin 32) (g : Fin 8) (c : Fin 16) :
    ky x0 x1 x2 x3 x4 x5 x6 x7 x8 b ⟨16 * g.val + c.val, by omega⟩ = P.y b ⟨8 * n.val + g.val, by omega⟩ c := by
  unfold ky
  simp only [sum_split (n := 8) (k := 64) (N := 512) (by norm_num), h.kr_eq, h.ki_eq, h.cr, h.ci, h.d, h.u]
  rw [Finset.sum_eq_single g, Finset.sum_eq_single g]
  · simp only [eyeV, if_true, mul_one, Par.y]
    congr 2 <;> exact Finset.sum_congr rfl fun p _ => mul_comm _ _
  · intro g' _ hg
    exact Finset.sum_eq_zero fun p _ => by simp only [eyeV, if_neg hg, mul_zero]
  · simp
  · intro g' _ hg
    exact Finset.sum_eq_zero fun p _ => by simp only [eyeV, if_neg hg, mul_zero]
  · simp

end Blk

/-- The identity of the groups of a block as the kernel makes it. -/
abbrev EYE : FVec Ideal S8x8 .f32 :=
  uitofp .f32 (cmpi .eq (addi (iotaInDim S8x8 32 0) (broadcastInDim S8x8 ![] bcast_S_S8x8 (constantI S_ 32 0#32))) (iotaInDim S8x8 32 1))

theorem eye_at (a b : Fin 8) : EYE (ix2 a b) = eyeV a b := by
  have e : ∀ a b : Fin 8, IntOp.cmpi .eq (IntOp.addi (BitVec.ofNat 32 a.val) 0#32) (BitVec.ofNat 32 b.val) = if a = b then 1#1 else 0#1 := by decide
  have z0 : (FloatOps.uitofp FTy.f32 0#1 : Ideal .f32) = 0 := by show (((0#1 : BitVec 1).toNat : ℝ) : EReal) = 0; simp
  have z1 : (FloatOps.uitofp FTy.f32 1#1 : Ideal .f32) = 1 := by show (((1#1 : BitVec 1).toNat : ℝ) : EReal) = 1; simp
  pointwise [EYE, eyeV]
  rw [e]
  split_ifs
  · exact z1
  · exact z0

/-- The input matrices laid out block diagonally. -/
abbrev BD (a : FVec Ideal S2x64x64x16 .f32) : FVec Ideal S2x8x128x512 .f32 :=
  shapeCast S2x8x128x512 (mulf
    (broadcastInDim S2x8x8x16x8x64 ![0, 1, 2, 3, 4, 5] bcast_S2x8x8x16x1x64_S2x8x8x16x8x64_0_1_2_3_4_5
      (broadcastInDim S2x8x8x16x1x64 ![0, 1, 2, 3, 5] bcast_S2x8x8x16x64_S2x8x8x16x1x64_0_1_2_3_5
        (transpose S2x8x8x16x64 [0, 1, 2, 4, 3] (shapeCast S2x8x8x64x16 a shapeCasts_S2x64x64x16_S2x8x8x64x16) transposes_S2x8x8x64x16_S2x8x8x16x64_0_1_2_4_3)))
    (broadcastInDim S2x8x8x16x8x64 ![0, 1, 2, 3, 4, 5] bcast_S1x1x8x1x8x1_S2x8x8x16x8x64_0_1_2_3_4_5
      (broadcastInDim S1x1x8x1x8x1 ![2, 4] bcast_S8x8_S1x1x8x1x8x1_2_4 EYE))) shapeCasts_S2x8x8x16x8x64_S2x8x128x512

/-- The output matrices laid out block diagonally. -/
abbrev CD (a : FVec Ideal S2x64x16x64 .f32) : FVec Ideal S2x8x512x128 .f32 :=
  shapeCast S2x8x512x128 (mulf
    (broadcastInDim S2x8x8x64x8x16 ![0, 1, 2, 3, 4, 5] bcast_S2x8x8x64x1x16_S2x8x8x64x8x16_0_1_2_3_4_5
      (broadcastInDim S2x8x8x64x1x16 ![0, 1, 2, 3, 5] bcast_S2x8x8x64x16_S2x8x8x64x1x16_0_1_2_3_5
        (transpose S2x8x8x64x16 [0, 1, 2, 4, 3] (shapeCast S2x8x8x16x64 a shapeCasts_S2x64x16x64_S2x8x8x16x64) transposes_S2x8x8x16x64_S2x8x8x64x16_0_1_2_4_3)))
    (broadcastInDim S2x8x8x64x8x16 ![0, 1, 2, 3, 4, 5] bcast_S1x1x8x1x8x1_S2x8x8x64x8x16_0_1_2_3_4_5
      (broadcastInDim S1x1x8x1x8x1 ![2, 4] bcast_S8x8_S1x1x8x1x8x1_2_4 EYE))) shapeCasts_S2x8x8x64x8x16_S2x8x512x128

/-- The rows of the poles and of the log step, of each lane of a block. -/
abbrev PARS (a2 a3 : FVec Ideal S2x64x64 .f32) (a4 : FVec Ideal S2x64 .f32) : FVec Ideal S2x8x8x512 .f32 :=
  concatenate S2x8x8x512 2 [⟨S2x8x1x512, shapeCast S2x8x1x512 a2 shapeCasts_S2x64x64_S2x8x1x512⟩, ⟨S2x8x1x512, shapeCast S2x8x1x512 a3 shapeCasts_S2x64x64_S2x8x1x512⟩,
    ⟨S2x8x1x512, shapeCast S2x8x1x512 (shapeCast S2x4096 (broadcastInDim S2x64x64 ![0, 1] bcast_S2x64_S2x64x64_0_1 a4) shapeCasts_S2x64x64_S2x4096) shapeCasts_S2x4096_S2x8x1x512⟩,
    ⟨S2x8x5x512, broadcastInDim S2x8x5x512 ![] bcast_S_S2x8x5x512 (constant S_ .f32 0x00000000#32)⟩] concatenates_S2x8x1x512_S2x8x1x512_S2x8x1x512_S2x8x5x512_S2x8x8x512_d2

theorem bd_at (a : FVec Ideal S2x64x64x16 .f32) (n g' : Fin 8) (c : Fin 16) (g : Fin 8) (p : Fin 64) :
    BD a (ix4 0 n ⟨16 * g'.val + c.val, by omega⟩ ⟨64 * g.val + p.val, by omega⟩) = a (ix4 0 ⟨8 * n.val + g'.val, by omega⟩ p c) * EYE (ix2 g' g) := by
  pointwise [BD]
  blk_point []

theorem cd_at (a : FVec Ideal S2x64x16x64 .f32) (n g' : Fin 8) (p : Fin 64) (g : Fin 8) (c : Fin 16) :
    CD a (ix4 0 n ⟨64 * g'.val + p.val, by omega⟩ ⟨16 * g.val + c.val, by omega⟩) = a (ix4 0 ⟨8 * n.val + g'.val, by omega⟩ c p) * EYE (ix2 g' g) := by
  pointwise [CD]
  blk_point []

section
variable (a2 a3 : FVec Ideal S2x64x64 .f32) (a4 : FVec Ideal S2x64 .f32) (n g : Fin 8) (p : Fin 64)

theorem pars_0 : PARS a2 a3 a4 (ix4 0 n 0 ⟨64 * g.val + p.val, by omega⟩) = a2 (ix3 0 ⟨8 * n.val + g.val, by omega⟩ p) := by
  pointwise [PARS]
  blk_point []

theorem pars_1 : PARS a2 a3 a4 (ix4 0 n 1 ⟨64 * g.val + p.val, by omega⟩) = a3 (ix3 0 ⟨8 * n.val + g.val, by omega⟩ p) := by
  pointwise [PARS]
  blk_point []

theorem pars_2 : PARS a2 a3 a4 (ix4 0 n 2 ⟨64 * g.val + p.val, by omega⟩) = a4 (ix2 0 ⟨8 * n.val + g.val, by omega⟩) := by
  pointwise [PARS]
  blk_point []

end

variable (m : (ℓ : Loc nD τ sig) → Buf (Elt Ideal) ℓ) (c : Dev nD)

theorem V_12 : V m c main_v12 = PARS (m ((c : Thread nD τ).loc main_arg2)) (m ((c : Thread nD τ).loc main_arg3)) (m ((c : Thread nD τ).loc main_arg4)) := by
  show StableHlo.after hostOps0 (fun b => m (c, b)) (Proc.devRef .tc main_v12) = _
  after_reads_simp
  rfl

theorem V_20 : V m c main_v20 = BD (m ((c : Thread nD τ).loc main_arg5)) := by
  entry_read; rfl

theorem V_28 : V m c main_v28 = BD (m ((c : Thread nD τ).loc main_arg6)) := by
  entry_read; rfl

theorem V_36 : V m c main_v36 = CD (m ((c : Thread nD τ).loc main_arg7)) := by
  entry_read; rfl

theorem V_44 : V m c main_v44 = CD (m ((c : Thread nD τ).loc main_arg8)) := by
  entry_read; rfl

theorem V_45 : V m c main_v45 = shapeCast S2x8x1x128 (m ((c : Thread nD τ).loc main_arg9) : FVec Ideal S2x1024 .f32) shapeCasts_S2x1024_S2x8x1x128 := by
  entry_read; rfl

/-- A part of the state of layer 0, by sequence and lane. -/
abbrev ST (a : FVec Ideal S2x32x64x64x1 .f32) : FVec Ideal S32x4096 .f32 :=
  shapeCast S32x4096 (extractStridedSlice S1x32x4096 ![0, 0, 0] (shapeCast S2x32x4096 (shapeCast S2x32x64x64 a shapeCasts_S2x32x64x64x1_S2x32x64x64)
    shapeCasts_S2x32x64x64_S2x32x4096) slices_S2x32x4096_S1x32x4096_0_0_0) shapeCasts_S1x32x4096_S32x4096

theorem V_53 : V m c main_v53 = ST (extractStridedSlice S2x32x64x64x1 ![0, 0, 0, 0, 0] (m ((c : Thread nD τ).loc main_arg1) : FVec Ideal S2x32x64x64x2 .f32) slices_S2x32x64x64x2_S2x32x64x64x1_0_0_0_0_0) := by
  entry_read; rfl

theorem V_55 : V m c main_v55 = ST (extractStridedSlice S2x32x64x64x1 ![0, 0, 0, 0, 1] (m ((c : Thread nD τ).loc main_arg1) : FVec Ideal S2x32x64x64x2 .f32) slices_S2x32x64x64x2_S2x32x64x64x1_0_0_0_0_1) := by
  entry_read; rfl

theorem st_at (a : FVec Ideal S2x32x64x64x1 .f32) (b : Fin 32) (j : Fin 4096) :
    ST a (ix2 b j) = a (ix5 0 b ⟨j.val / 64, by omega⟩ ⟨j.val % 64, by omega⟩ 0) := by
  pointwise [ST]

theorem idx : ∀ t : Fin cfg0.N, win0_0.index t = ![256, 24 + t.val] ∧ win0_1.index t = ![0, t.val, 0, 0] ∧ win0_2.index t = ![0, t.val, 0, 0]
    ∧ win0_3.index t = ![0, t.val, 0, 0] ∧ win0_4.index t = ![0, t.val, 0, 0] ∧ win0_5.index t = ![0, t.val, 0, 0] ∧ win0_6.index t = ![0, t.val, 0, 0]
    ∧ win0_7.index t = ![0, t.val] ∧ win0_8.index t = ![0, t.val] ∧ win0_9.index t = ![0, t.val] ∧ win0_10.index t = ![0, t.val]
    ∧ win0_11.index t = ![0, t.val] :=
  (by decide +kernel : ∀ t : Fin grid0.N, _)

/-- The operands of the step as they lie in the kernel's arguments. -/
abbrev parM : Par :=
  Cert.S5StepRefIdeal.Hand.par (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

section
variable (t : Fin cfg0.N)

theorem read_1 (r : Fin 8) (q : Fin 512) : (iblk m c 1 t : FVec Ideal S1x1x8x512 .f32) (ix4 0 0 r q) = (V m c main_v12 : FVec Ideal S2x8x8x512 .f32) (ix4 0 ⟨t.val, t.isLt⟩ r q) := by
  blk_ext [iblk, idx t]

theorem read_2 (j : Fin 128) (q : Fin 512) : (iblk m c 2 t : FVec Ideal S1x1x128x512 .f32) (ix4 0 0 j q) = (V m c main_v20 : FVec Ideal S2x8x128x512 .f32) (ix4 0 ⟨t.val, t.isLt⟩ j q) := by
  blk_ext [iblk, idx t]

theorem read_3 (j : Fin 128) (q : Fin 512) : (iblk m c 3 t : FVec Ideal S1x1x128x512 .f32) (ix4 0 0 j q) = (V m c main_v28 : FVec Ideal S2x8x128x512 .f32) (ix4 0 ⟨t.val, t.isLt⟩ j q) := by
  blk_ext [iblk, idx t]

theorem read_4 (q : Fin 512) (j : Fin 128) : (iblk m c 4 t : FVec Ideal S1x1x512x128 .f32) (ix4 0 0 q j) = (V m c main_v36 : FVec Ideal S2x8x512x128 .f32) (ix4 0 ⟨t.val, t.isLt⟩ q j) := by
  blk_ext [iblk, idx t]

theorem read_5 (q : Fin 512) (j : Fin 128) : (iblk m c 5 t : FVec Ideal S1x1x512x128 .f32) (ix4 0 0 q j) = (V m c main_v44 : FVec Ideal S2x8x512x128 .f32) (ix4 0 ⟨t.val, t.isLt⟩ q j) := by
  blk_ext [iblk, idx t]

theorem read_6 (j : Fin 128) : (iblk m c 6 t : FVec Ideal S1x1x1x128 .f32) (ix4 0 0 0 j) = (V m c main_v45 : FVec Ideal S2x8x1x128 .f32) (ix4 0 ⟨t.val, t.isLt⟩ 0 j) := by
  blk_ext [iblk, idx t]

theorem read_7 (b : Fin 32) (q : Fin 512) : (iblk m c 7 t : FVec Ideal S32x512 .f32) (ix2 b q) = (V m c main_v53 : FVec Ideal S32x4096 .f32) (ix2 b ⟨512 * t.val + q.val, by have : t.val < 8 := t.isLt; omega⟩) := by
  blk_ext [iblk, idx t]

theorem read_8 (b : Fin 32) (q : Fin 512) : (iblk m c 8 t : FVec Ideal S32x512 .f32) (ix2 b q) = (V m c main_v55 : FVec Ideal S32x4096 .f32) (ix2 b ⟨512 * t.val + q.val, by have : t.val < 8 := t.isLt; omega⟩) := by
  blk_ext [iblk, idx t]

/-- The blocks of a point of the grid hold the operands of its eight groups. -/
theorem blk : Blk (parM m c) ⟨t.val, t.isLt⟩ (iblk m c 0 t) (iblk m c 1 t) (iblk m c 2 t) (iblk m c 3 t) (iblk m c 4 t) (iblk m c 5 t) (iblk m c 6 t) (iblk m c 7 t) (iblk m c 8 t) where
  u b g k := by
    show _ = (m ((c : Thread nD τ).loc main_arg0) : FVec Ideal S8320x14592 .f32) (ix2 ⟨8192 + b.val, _⟩ ⟨3072 + (16 * (8 * t.val + g.val) + k.val), _⟩)
    blk_ext [iblk, V, idx t]
  ar g p := by rw [read_1, V_12]; exact pars_0 _ _ _ _ g p
  ai g p := by rw [read_1, V_12]; exact pars_1 _ _ _ _ g p
  l g p := by rw [read_1, V_12]; exact pars_2 _ _ _ _ g p
  br g' k g p := by rw [read_2, V_20, bd_at, eye_at]; rfl
  bi g' k g p := by rw [read_3, V_28, bd_at, eye_at]; rfl
  cr g' p g k := by rw [read_4, V_36, cd_at, eye_at]; rfl
  ci g' p g k := by rw [read_5, V_44, cd_at, eye_at]; rfl
  d g k := by
    rw [read_6, V_45]
    show _ = (m ((c : Thread nD τ).loc main_arg9) : FVec Ideal S2x1024 .f32) (ix2 0 ⟨(8 * t.val + g.val) * 16 + k.val, _⟩)
    pointwise
    blk_ext []
  hr b g p := by
    rw [read_7, V_53, st_at]
    show _ = (m ((c : Thread nD τ).loc main_arg1) : FVec Ideal S2x32x64x64x2 .f32) (ix5 0 b ⟨8 * t.val + g.val, _⟩ p 0)
    pointwise
    blk_ext []
  hi b g p := by
    rw [read_8, V_55, st_at]
    show _ = (m ((c : Thread nD τ).loc main_arg1) : FVec Ideal S2x32x64x64x2 .f32) (ix5 0 b ⟨8 * t.val + g.val, _⟩ p 1)
    pointwise
    blk_ext []

end

section
open Cert.S5StepRefIdeal.Hand (parV OUT RE IM OUT_at RE_at IM_at)
variable {m c} {V0 : Valuation Cert.S5StepRefIdeal.τ Cert.S5StepRefIdeal.sig (Elt Ideal)} (h : parV V0 = parM m c) (t : Fin cfg0.N)
include h

theorem point_9 (y : S32x128.Idx) :
    out0_9 (iblk m c 0 t) (iblk m c 1 t) (iblk m c 2 t) (iblk m c 3 t) (iblk m c 4 t) (iblk m c 5 t) (iblk m c 6 t) (iblk m c 7 t) (iblk m c 8 t) y
      = OUT V0 (((cfg0.win 9).blk t).view.emb y) := by
  have ht : t.val < 8 := t.isLt
  have hy : (y 1).val < 128 := (y 1).isLt
  have e : y 1 = (⟨16 * ((y 1).val / 16) + (y 1).val % 16, by omega⟩ : Fin 128) := Fin.ext (Nat.div_add_mod _ _).symm
  rw [kout_at, e]
  refine (congrArg gel ((blk m c t).ky_eq (y 0) ⟨(y 1).val / 16, by omega⟩ ⟨(y 1).val % 16, by omega⟩)).trans ?_
  rw [← h]
  refine (OUT_at V0 _ _ _).symm.trans ?_
  blk_ext [idx t]

theorem point_10 (y : S32x512.Idx) :
    out0_10 (iblk m c 0 t) (iblk m c 1 t) (iblk m c 2 t) (iblk m c 3 t) (iblk m c 4 t) (iblk m c 5 t) (iblk m c 6 t) (iblk m c 7 t) (iblk m c 8 t) y
      = RE V0 (((cfg0.win 10).blk t).view.emb y) := by
  have ht : t.val < 8 := t.isLt
  have hy : (y 1).val < 512 := (y 1).isLt
  have e : y 1 = (⟨64 * ((y 1).val / 64) + (y 1).val % 64, by omega⟩ : Fin 512) := Fin.ext (Nat.div_add_mod _ _).symm
  rw [kre_at, e]
  refine ((blk m c t).kr_eq (y 0) ⟨(y 1).val / 64, by omega⟩ ⟨(y 1).val % 64, by omega⟩).trans ?_
  rw [← h]
  refine (RE_at V0 _ _ _).symm.trans ?_
  blk_ext [idx t]

theorem point_11 (y : S32x512.Idx) :
    out0_11 (iblk m c 0 t) (iblk m c 1 t) (iblk m c 2 t) (iblk m c 3 t) (iblk m c 4 t) (iblk m c 5 t) (iblk m c 6 t) (iblk m c 7 t) (iblk m c 8 t) y
      = IM V0 (((cfg0.win 11).blk t).view.emb y) := by
  have ht : t.val < 8 := t.isLt
  have hy : (y 1).val < 512 := (y 1).isLt
  have e : y 1 = (⟨64 * ((y 1).val / 64) + (y 1).val % 64, by omega⟩ : Fin 512) := Fin.ext (Nat.div_add_mod _ _).symm
  rw [kim_at, e]
  refine ((blk m c t).ki_eq (y 0) ⟨(y 1).val / 64, by omega⟩ ⟨(y 1).val % 64, by omega⟩).trans ?_
  rw [← h]
  refine (IM_at V0 _ _ _).symm.trans ?_
  blk_ext [idx t]

omit t

theorem final_9 : (dats m 0 c).arrAt 9 (cfgs 0).N = OUT V0 := by
  refine (dats m 0 c).arrAt_eq_of_covers 9 _ (by decide +kernel) fun t _ y => ?_
  blk_simp
  rw [after0_9]
  exact point_9 h t y

theorem final_10 : (dats m 0 c).arrAt 10 (cfgs 0).N = RE V0 := by
  refine (dats m 0 c).arrAt_eq_of_covers 10 _ (by decide +kernel) fun t _ y => ?_
  blk_simp
  rw [after0_10]
  exact point_10 h t y

theorem final_11 : (dats m 0 c).arrAt 11 (cfgs 0).N = IM V0 := by
  refine (dats m 0 c).arrAt_eq_of_covers 11 _ (by decide +kernel) fun t _ y => ?_
  blk_simp
  rw [after0_11]
  exact point_11 h t y

end

set_option maxHeartbeats 2000000 in
theorem algebraic : Cert.algebraic_S5StepIdeal_S5StepRefIdeal := by
  pair_intro
  · run_from Cert.S5StepIdeal.Gen.run_main m g
  · run_from Cert.S5StepRefIdeal.Value.run m' g'
    all_goals
      have hp : Cert.S5StepRefIdeal.Hand.parV (StableHlo.launchContents m' c) = parM m c := by
        obtain ⟨h0, h1, h2, h3, h4, h5, h6, h7, h8, h9⟩ := hagree c
        exact congr (congr (congr (congr (congr (congr (congr (congr (congr (congrArg Cert.S5StepRefIdeal.Hand.par h0) h1) h2) h3) h4) h5) h6) h7) h8) h9
    · exact (final_9 hp).symm
    · exact (final_10 hp).symm
    · exact (final_11 hp).symm

end Cert.S5StepIdeal.Hand

end
-- ==== Proof.S5ScanMath.lean ====
module

public import proofs.«01_k».proof.Proof.S5Step
public import Mathlib.Data.Complex.Basic
public import Mathlib.Algebra.BigOperators.Intervals

@[expose] public section

noncomputable section

namespace Cert.S5
open Idealize.ShloMosaic

/-- The scan of one state lane: the state, its real and imaginary parts, after `n` inputs. -/
def run (ar ai : EReal) (ur ui : ℕ → EReal) : ℕ → EReal × EReal
  | 0 => (0, 0)
  | n + 1 => (ar * (run ar ai ur ui n).1 - ai * (run ar ai ur ui n).2 + ur n,
      ar * (run ar ai ur ui n).2 + ai * (run ar ai ur ui n).1 + ui n)

/-- What a state that enters a segment adds to the states of it: `n` turns by the pole. -/
def turn (ar ai : EReal) (d : EReal × EReal) : ℕ → EReal × EReal
  | 0 => d
  | n + 1 => ((turn ar ai d n).1 * ar - (turn ar ai d n).2 * ai, (turn ar ai d n).1 * ai + (turn ar ai d n).2 * ar)

/-- The pole squared. -/
def psq (p : EReal × EReal) : EReal × EReal := (p.1 * p.1 - p.2 * p.2, 2 * p.1 * p.2)

/-- The states that enter the segments, of the pole over a whole segment and what the segments end at from rest. -/
def cin (p : EReal × EReal) (f : ℕ → EReal × EReal) : ℕ → EReal × EReal
  | 0 => (0, 0)
  | j + 1 => ((f j).1 + p.1 * (cin p f j).1 - p.2 * (cin p f j).2, (f j).2 + p.1 * (cin p f j).2 + p.2 * (cin p f j).1)

theorem run_congr {ar ai : EReal} {ur ui vr vi : ℕ → EReal} (n : ℕ) (hr : ∀ t < n, ur t = vr t) (hi : ∀ t < n, ui t = vi t) :
    run ar ai ur ui n = run ar ai vr vi n := by
  induction n with
  | zero => rfl
  | succ n ih =>
    have e := ih (fun t h => hr t (by omega)) (fun t h => hi t (by omega))
    simp only [run, e, hr n (by omega), hi n (by omega)]

theorem cin_congr {p : EReal × EReal} {f g : ℕ → EReal × EReal} (n : ℕ) (h : ∀ j < n, f j = g j) : cin p f n = cin p g n := by
  induction n with
  | zero => rfl
  | succ n ih => simp only [cin, ih (fun j hj => h j (by omega)), h n (by omega)]

/-- A complex number as a pair. -/
def toE (z : ℂ) : EReal × EReal := ((z.re : EReal), (z.im : EReal))

theorem toE_fst (z : ℂ) : (toE z).1 = (z.re : EReal) := rfl
theorem toE_snd (z : ℂ) : (toE z).2 = (z.im : EReal) := rfl

/-- The scan over complex numbers. -/
def crun (a : ℂ) (u : ℕ → ℂ) : ℕ → ℂ
  | 0 => 0
  | n + 1 => a * crun a u n + u n

theorem crun_add (a : ℂ) (u : ℕ → ℂ) (m n : ℕ) : crun a u (m + n) = a ^ n * crun a u m + crun a (fun t => u (m + t)) n := by
  induction n with
  | zero => simp [crun]
  | succ n ih =>
    show a * crun a u (m + n) + u (m + n) = _
    rw [ih]
    simp only [crun]
    ring

theorem run_toE (a : ℂ) (u : ℕ → ℂ) (n : ℕ) :
    run (a.re : EReal) (a.im : EReal) (fun t => ((u t).re : EReal)) (fun t => ((u t).im : EReal)) n = toE (crun a u n) := by
  induction n with
  | zero => simp [run, crun, toE]
  | succ n ih =>
    simp only [run, ih, toE, crun, Complex.add_re, Complex.mul_re, Complex.add_im, Complex.mul_im]
    push_cast
    rfl

theorem turn_toE (a d : ℂ) (n : ℕ) : turn (a.re : EReal) (a.im : EReal) (toE d) n = toE (a ^ n * d) := by
  induction n with
  | zero => simp [turn]
  | succ n ih =>
    rw [show a ^ (n + 1) * d = (a ^ n * d) * a by ring]
    simp only [turn, ih]
    simp only [toE, Complex.mul_re, Complex.mul_im]
    push_cast
    rfl

theorem psq_toE (a : ℂ) : psq (toE a) = toE (a ^ 2) := by
  have h2 : (2 : EReal) = ((2 : ℝ) : EReal) := rfl
  have e : (a ^ 2).im = 2 * a.re * a.im := by rw [pow_two, Complex.mul_im]; ring
  refine Prod.ext ?_ ?_
  · simp only [psq, toE, pow_two, Complex.mul_re]
    push_cast
    rfl
  · simp only [psq, toE, e, h2]
    push_cast
    rfl

theorem psq_iter_toE (a : ℂ) (n : ℕ) : psq^[n] (toE a) = toE (a ^ 2 ^ n) := by
  induction n with
  | zero => simp
  | succ n ih => rw [Function.iterate_succ_apply', ih, psq_toE, ← pow_mul, pow_succ]

theorem cin_toE (a : ℂ) (u : ℕ → ℂ) (j : ℕ) :
    cin (toE (a ^ 256)) (fun j => toE (crun a (fun t => u (256 * j + t)) 256)) j = toE (crun a u (256 * j)) := by
  induction j with
  | zero => simp [cin, crun, toE]
  | succ j ih =>
    rw [show 256 * (j + 1) = 256 * j + 256 by ring, crun_add]
    simp only [cin, ih]
    simp only [toE, Complex.add_re, Complex.mul_re, Complex.add_im, Complex.mul_im]
    refine Prod.ext ?_ ?_ <;> norm_cast <;> ring_nf

theorem run_one (ur ui : ℕ → EReal) (n : ℕ) : run 1 0 ur ui n = (∑ t ∈ Finset.range n, ur t, ∑ t ∈ Finset.range n, ui t) := by
  induction n with
  | zero => simp [run]
  | succ n ih => simp only [run, ih, one_mul, zero_mul, sub_zero, add_zero, Finset.sum_range_succ]

theorem turn_one (d : EReal × EReal) (n : ℕ) : turn 1 0 d n = d := by
  induction n with
  | zero => rfl
  | succ n ih => simp only [turn, ih, mul_one, mul_zero, sub_zero, zero_add]

theorem psq_iter_one (n : ℕ) : psq^[n] (1, 0) = (1, 0) := by
  induction n with
  | zero => rfl
  | succ n ih => rw [Function.iterate_succ_apply', ih]; simp [psq]

theorem cin_one (ur ui : ℕ → EReal) (j : ℕ) :
    cin (1, 0) (fun j => (∑ t ∈ Finset.range 256, ur (256 * j + t), ∑ t ∈ Finset.range 256, ui (256 * j + t))) j
      = (∑ t ∈ Finset.range (256 * j), ur t, ∑ t ∈ Finset.range (256 * j), ui t) := by
  induction j with
  | zero => simp [cin]
  | succ j ih =>
    rw [show 256 * (j + 1) = 256 * j + 256 by ring]
    simp only [cin, ih, one_mul, zero_mul, sub_zero, add_zero, Finset.sum_range_add]
    rw [add_comm (∑ t ∈ Finset.range 256, ur _), add_comm (∑ t ∈ Finset.range 256, ui _)]

/-- The two cases in which the scan may be cut into segments: everything real, or the pole one. -/
def Ok (ar ai : EReal) (ur ui : ℕ → EReal) : Prop :=
  (∃ (a : ℂ) (u : ℕ → ℂ), ar = (a.re : EReal) ∧ ai = (a.im : EReal) ∧ ur = (fun t => ((u t).re : EReal)) ∧ ui = fun t => ((u t).im : EReal))
    ∨ (ar = 1 ∧ ai = 0)

section
variable (ar ai : EReal) (ur ui : ℕ → EReal)

/-- Segment `j` from rest. -/
def loc (j n : ℕ) : EReal × EReal := run ar ai (fun t => ur (256 * j + t)) (fun t => ui (256 * j + t)) n

/-- What enters segment `j`. -/
def ent (j : ℕ) : EReal × EReal := cin (psq^[8] (ar, ai)) (fun j => loc ar ai ur ui j 256) j

/-- What enters segment `j`, turned once. -/
def fst (j : ℕ) : EReal × EReal :=
  (ar * (ent ar ai ur ui j).1 - ai * (ent ar ai ur ui j).2, ar * (ent ar ai ur ui j).2 + ai * (ent ar ai ur ui j).1)

variable {ar ai ur ui}

/-- The scan by segments is the scan. -/
theorem seg (h : Ok ar ai ur ui) :
    (∀ j t, (loc ar ai ur ui j (t + 1)).1 + (turn ar ai (fst ar ai ur ui j) t).1 = (run ar ai ur ui (256 * j + t + 1)).1)
    ∧ (∀ j t, (loc ar ai ur ui j (t + 1)).2 + (turn ar ai (fst ar ai ur ui j) t).2 = (run ar ai ur ui (256 * j + t + 1)).2)
    ∧ ent ar ai ur ui 8 = run ar ai ur ui 2048 := by
  rcases h with ⟨a, u, rfl, rfl, rfl, rfl⟩ | ⟨rfl, rfl⟩
  · have el : ∀ j n, loc (a.re : EReal) (a.im : EReal) (fun t => ((u t).re : EReal)) (fun t => ((u t).im : EReal)) j n
        = toE (crun a (fun t => u (256 * j + t)) n) := fun j n => run_toE a (fun t => u (256 * j + t)) n
    have ee : ∀ j, ent (a.re : EReal) (a.im : EReal) (fun t => ((u t).re : EReal)) (fun t => ((u t).im : EReal)) j
        = toE (crun a u (256 * j)) := fun j => by
      unfold ent
      simp only [el]
      rw [show ((a.re : EReal), (a.im : EReal)) = toE a from rfl, psq_iter_toE, show 2 ^ 8 = 256 by norm_num]
      exact cin_toE a u j
    have ef : ∀ j, fst (a.re : EReal) (a.im : EReal) (fun t => ((u t).re : EReal)) (fun t => ((u t).im : EReal)) j
        = toE (a * crun a u (256 * j)) := fun j => by
      simp only [fst, ee, toE, Complex.mul_re, Complex.mul_im]
      push_cast
      rfl
    have es : ∀ j t, crun a u (256 * j + t + 1) = crun a (fun t => u (256 * j + t)) (t + 1) + a ^ t * (a * crun a u (256 * j)) := fun j t => by
      rw [show 256 * j + t + 1 = 256 * j + (t + 1) by ring, crun_add]
      ring
    refine ⟨fun j t => ?_, fun j t => ?_, ?_⟩
    · rw [el, ef, turn_toE, run_toE, es]
      simp only [toE, Complex.add_re]
      push_cast
      rfl
    · rw [el, ef, turn_toE, run_toE, es]
      simp only [toE, Complex.add_im]
      push_cast
      rfl
    · rw [ee, run_toE]
  · have el : ∀ j n, loc 1 0 ur ui j n = (∑ t ∈ Finset.range n, ur (256 * j + t), ∑ t ∈ Finset.range n, ui (256 * j + t)) :=
      fun j n => run_one _ _ n
    have ee : ∀ j, ent 1 0 ur ui j = (∑ t ∈ Finset.range (256 * j), ur t, ∑ t ∈ Finset.range (256 * j), ui t) := fun j => by
      unfold ent
      simp only [el, psq_iter_one]
      exact cin_one ur ui j
    have ef : ∀ j, fst 1 0 ur ui j = (∑ t ∈ Finset.range (256 * j), ur t, ∑ t ∈ Finset.range (256 * j), ui t) := fun j => by
      simp only [fst, ee, one_mul, zero_mul, sub_zero, add_zero]
    refine ⟨fun j t => ?_, fun j t => ?_, ?_⟩
    · rw [el, ef, turn_one, run_one]
      show (∑ x ∈ Finset.range (t + 1), ur (256 * j + x)) + ∑ x ∈ Finset.range (256 * j), ur x = ∑ x ∈ Finset.range (256 * j + (t + 1)), ur x
      rw [Finset.sum_range_add ur, add_comm]
    · rw [el, ef, turn_one, run_one]
      show (∑ x ∈ Finset.range (t + 1), ui (256 * j + x)) + ∑ x ∈ Finset.range (256 * j), ui x = ∑ x ∈ Finset.range (256 * j + (t + 1)), ui x
      rw [Finset.sum_range_add ui, add_comm]
    · rw [ee, run_one]

end

/-! What is real stays real. -/

/-- A real value. -/
def Re (x : EReal) : Prop := ∃ r : ℝ, x = (r : EReal)

theorem Re.add {x y : EReal} (hx : Re x) (hy : Re y) : Re (x + y) := by
  obtain ⟨a, rfl⟩ := hx; obtain ⟨b, rfl⟩ := hy; exact ⟨a + b, by push_cast; rfl⟩
theorem Re.sub {x y : EReal} (hx : Re x) (hy : Re y) : Re (x - y) := by
  obtain ⟨a, rfl⟩ := hx; obtain ⟨b, rfl⟩ := hy; exact ⟨a - b, by push_cast; rfl⟩
theorem Re.mul {x y : EReal} (hx : Re x) (hy : Re y) : Re (x * y) := by
  obtain ⟨a, rfl⟩ := hx; obtain ⟨b, rfl⟩ := hy; exact ⟨a * b, by push_cast; rfl⟩
theorem Re.one : Re 1 := ⟨1, rfl⟩
theorem Re.exp {x : EReal} (hx : Re x) : Re (Ideal.exp x) := by obtain ⟨a, rfl⟩ := hx; exact ⟨_, rfl⟩
theorem Re.cos {x : EReal} (hx : Re x) : Re (Ideal.cos x) := by obtain ⟨a, rfl⟩ := hx; exact ⟨_, rfl⟩
theorem Re.sin {x : EReal} (hx : Re x) : Re (Ideal.sin x) := by obtain ⟨a, rfl⟩ := hx; exact ⟨_, rfl⟩
theorem Re.div {x y : EReal} (hx : Re x) (hy : Re y) (h : y ≠ 0) : Re (Ideal.div x y) := by
  obtain ⟨a, rfl⟩ := hx; obtain ⟨b, rfl⟩ := hy
  exact ⟨a * b⁻¹, by rw [Ideal.div, if_neg h, EReal.coe_mul, EReal.coe_inv]⟩
theorem Re.sum {ι : Type*} (s : Finset ι) {f : ι → EReal} (h : ∀ i, Re (f i)) : Re (∑ i ∈ s, f i) := by
  choose g hg using h
  exact ⟨∑ i ∈ s, g i, by
    rw [show f = fun i => ((g i : ℝ) : EReal) from funext hg]
    classical
    induction s using Finset.induction_on with
    | empty => simp
    | insert a s ha ih => rw [Finset.sum_insert ha, Finset.sum_insert ha, ih]; push_cast; rfl⟩

theorem re_of_lt {x : EReal} (h : max x (-x) < ⊤) : Re x := by
  induction x with
  | bot => simp at h
  | top => simp at h
  | coe r => exact ⟨r, rfl⟩

theorem abr_re {r i l : EReal} (hr : Re r) (hi : Re i) (hl : Re l) : Re (abr r i l) := (hl.exp.mul hr).exp.mul (hl.exp.mul hi).cos
theorem abi_re {r i l : EReal} (hr : Re r) (hi : Re i) (hl : Re l) : Re (abi r i l) := (hl.exp.mul hr).exp.mul (hl.exp.mul hi).sin

/-- The operands of a lane that are real may be cut into segments. -/
theorem ok_of_re {r i l : EReal} {n : ℕ} {u : ℕ → Fin n → EReal} {br bi : Fin n → EReal} (hr : Re r) (hi : Re i) (hl : Re l)
    (hu : ∀ t c, Re (u t c)) (hbr : ∀ c, Re (br c)) (hbi : ∀ c, Re (bi c)) :
    Ok (abr r i l) (abi r i l) (fun t => ∑ c, (cfr r i l * br c - cfi r i l * bi c) * u t c)
      (fun t => ∑ c, (cfr r i l * bi c + cfi r i l * br c) * u t c) := by
  by_cases hd : r * r + i * i = 0
  · right
    obtain ⟨x, rfl⟩ := hr
    obtain ⟨y, rfl⟩ := hi
    have hxy : x * x + y * y = 0 := by exact_mod_cast hd
    have hx : x = 0 := by nlinarith [mul_self_nonneg x, mul_self_nonneg y]
    have hy : y = 0 := by nlinarith [mul_self_nonneg x, mul_self_nonneg y]
    subst hx hy
    have e0 : Ideal.exp ((0 : ℝ) : EReal) = 1 := by show ((Real.exp 0 : ℝ) : EReal) = 1; simp
    have c0 : Ideal.cos ((0 : ℝ) : EReal) = 1 := by show ((Real.cos 0 : ℝ) : EReal) = 1; simp
    have s0 : Ideal.sin ((0 : ℝ) : EReal) = 0 := by show ((Real.sin 0 : ℝ) : EReal) = 0; simp
    have m0 : Ideal.exp l * ((0 : ℝ) : EReal) = ((0 : ℝ) : EReal) := by rw [EReal.coe_zero, mul_zero]
    exact ⟨by rw [abr, m0, e0, c0, one_mul], by rw [abi, m0, e0, s0, mul_zero]⟩
  · left
    have ha := abr_re hr hi hl
    have hb := abi_re hr hi hl
    have hcr : Re (cfr r i l) := (((ha.sub Re.one).mul hr).add (hb.mul hi)).div ((hr.mul hr).add (hi.mul hi)) hd
    have hci : Re (cfi r i l) := ((hb.mul hr).sub ((ha.sub Re.one).mul hi)).div ((hr.mul hr).add (hi.mul hi)) hd
    have hur : ∀ t, Re (∑ c, (cfr r i l * br c - cfi r i l * bi c) * u t c) :=
      fun t => Re.sum _ fun c => ((hcr.mul (hbr c)).sub (hci.mul (hbi c))).mul (hu t c)
    have hui : ∀ t, Re (∑ c, (cfr r i l * bi c + cfi r i l * br c) * u t c) :=
      fun t => Re.sum _ fun c => ((hcr.mul (hbi c)).add (hci.mul (hbr c))).mul (hu t c)
    obtain ⟨a, ha⟩ := ha
    obtain ⟨b, hb⟩ := hb
    choose f hf using hur
    choose g hg using hui
    exact ⟨⟨a, b⟩, fun t => ⟨f t, g t⟩, ha, hb, funext hf, funext hg⟩

end Cert.S5

end
-- ==== Proof.S5ScanLoop.lean ====
module

public import proofs.«01_k».proof.Proof.Gen.S5ScanIdeal.Frame
public import proofs.«01_k».proof.Proof.S5ScanMath
public import Idealize.ShloMosaic.Lib.Pipeline.ValueKit
public import Idealize.ShloMosaic.Lib.Pointwise

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! The two loops over the rows of the kernel's scratch. -/

section
variable (arg : Memref sig .tc .vmem S2048x512 .f32)

theorem rd (off : Fin 2 → ℕ) (h : ∀ a, off a + S8x512.size a ≤ S2048x512.size a) (k : ℕ) (hk : k < 256) (e : off = ![8 * k, 0])
    (G : arg.view.ty.Contents (Elt Ideal)) (j : Fin 8) (q : Fin 512) :
    arg.view.readAt (Elt Ideal) (Rect.unit (s := S2048x512) off S8x512.size h).toLoadRect G (ix2 j q)
      = arg.view.read (Elt Ideal) G (ix2 ⟨8 * k + j.val, by omega⟩ q) := by
  subst e
  rw [View.readAt_apply]
  congr 1
  funext a
  apply Fin.ext
  rw [LoadRect.idx_apply]
  match a with
  | ⟨0, _⟩ => show 8 * k + 1 * j.val = 8 * k + j.val; omega
  | ⟨1, _⟩ => show 0 + 1 * q.val = q.val; omega

theorem wr (off : Fin 2 → ℕ) (h : ∀ a, off a + S8x512.size a ≤ S2048x512.size a) (k : ℕ) (hk : k < 256) (e : off = ![8 * k, 0])
    (f : arg.view.ty.Contents (Elt Ideal)) (w : FVec Ideal S8x512 .f32) (L : List (View.Piece (Elt Ideal) S2048x512 .f32))
    (r : Fin 2048) (q : Fin 512) :
    arg.view.read (Elt Ideal) (arg.view.writes (Elt Ideal) f (⟨Rect.unit (s := S2048x512) off S8x512.size h, w⟩ :: L)) (ix2 r q)
      = if r.val / 8 = k then w (ix2 ⟨r.val % 8, Nat.mod_lt _ (by norm_num)⟩ q)
        else arg.view.read (Elt Ideal) (arg.view.writes (Elt Ideal) f L) (ix2 r q) := by
  subst e
  split
  · rename_i hr
    refine View.read_writes_cons_hit_of_coords _ _ _ _ _ _ _ fun a => ?_
    match a with
    | ⟨0, _⟩ => show r.val = 8 * k + 1 * (r.val % 8); omega
    | ⟨1, _⟩ => show q.val = 0 + 1 * q.val; omega
  · rename_i hr
    refine View.read_writes_cons_miss_of_axis _ _ _ _ _ (0 : Fin 2) (8 * k) 8 rfl rfl rfl ?_
    show r.val < 8 * k ∨ 8 * k + 8 ≤ r.val
    omega

end

theorem pay20_at (v : FVec Ideal S1x512 .f32) (j : Fin 8) (q : Fin 512) : k0_pay20 v (ix2 j q) = v (ix2 0 q) := by
  pointwise [k0_pay20]
theorem pay21_at (v : FVec Ideal S1x512 .f32) (j : Fin 8) (q : Fin 512) : k0_pay21 v (ix2 j q) = v (ix2 0 q) := by
  pointwise [k0_pay21]
theorem pay22_at (j : Fin 8) (q : Fin 512) : (k0_pay22 : FVec Ideal S8x512 .f32) (ix2 j q) = 0 := by
  pointwise [k0_pay22]
theorem pay23_at (v w : FVec Ideal S1x512 .f32) (x y z : FVec Ideal S8x512 .f32) (j : Fin 8) (q : Fin 512) :
    k0_pay23 v w x y z (ix2 j q) = v (ix2 0 q) * x (ix2 j q) - w (ix2 0 q) * y (ix2 j q) + z (ix2 j q) := by
  pointwise [k0_pay23, k0_pay20, k0_pay21]
theorem pay24_at (v w : FVec Ideal S1x512 .f32) (x y z : FVec Ideal S8x512 .f32) (j : Fin 8) (q : Fin 512) :
    k0_pay24 v w x y z (ix2 j q) = v (ix2 0 q) * y (ix2 j q) + w (ix2 0 q) * x (ix2 j q) + z (ix2 j q) := by
  pointwise [k0_pay24, k0_pay20, k0_pay21]
theorem pay25_at (v w : FVec Ideal S1x512 .f32) (x y z : FVec Ideal S8x512 .f32) (j : Fin 8) (q : Fin 512) :
    k0_pay25 v w x y z (ix2 j q) = k0_pay23 v w x y z (ix2 j q) := by
  pointwise [k0_pay25]
theorem pay26_at (v w : FVec Ideal S1x512 .f32) (x y z : FVec Ideal S8x512 .f32) (j : Fin 8) (q : Fin 512) :
    k0_pay26 v w x y z (ix2 j q) = k0_pay24 v w x y z (ix2 j q) := by
  pointwise [k0_pay26]
theorem pay69_at (x z : FVec Ideal S8x512 .f32) (j : Fin 8) (q : Fin 512) : k0_pay69 x z (ix2 j q) = z (ix2 j q) + x (ix2 j q) := by
  pointwise [k0_pay69]
theorem pay70_at (x z : FVec Ideal S8x512 .f32) (j : Fin 8) (q : Fin 512) : k0_pay70 x z (ix2 j q) = z (ix2 j q) + x (ix2 j q) := by
  pointwise [k0_pay70]
theorem pay71_at (v w x y : FVec Ideal S8x512 .f32) (j : Fin 8) (q : Fin 512) :
    k0_pay71 v w x y (ix2 j q) = x (ix2 j q) * v (ix2 j q) - y (ix2 j q) * w (ix2 j q) := by
  pointwise [k0_pay71]
theorem pay72_at (v w x y : FVec Ideal S8x512 .f32) (j : Fin 8) (q : Fin 512) :
    k0_pay72 v w x y (ix2 j q) = x (ix2 j q) * w (ix2 j q) + y (ix2 j q) * v (ix2 j q) := by
  pointwise [k0_pay72]

/-- What a loop carries, and the stores it has made. -/
abbrev LoopSt := (FVec Ideal S8x512 .f32 × FVec Ideal S8x512 .f32) × List (View.Piece (Elt Ideal) S2048x512 .f32) × List (View.Piece (Elt Ideal) S2048x512 .f32)

section
variable (arg14 arg15 : Memref sig .tc .vmem S2048x512 .f32) (G14 : arg14.view.ty.Contents (Elt Ideal)) (G15 : arg15.view.ty.Contents (Elt Ideal))

/-- What a loop reads of the scratch at trip `k`. -/
def ld (arg : Memref sig .tc .vmem S2048x512 .f32) (G : arg.view.ty.Contents (Elt Ideal)) (L : List (View.Piece (Elt Ideal) S2048x512 .f32))
    (off : Fin 2 → ℕ) (h : ∀ a, off a + S8x512.size a ≤ S2048x512.size a) : FVec Ideal S8x512 .f32 :=
  arg.view.readAt (Elt Ideal) (Rect.unit (s := S2048x512) off S8x512.size h).toLoadRect (arg.view.writes (Elt Ideal) G L)

/-- One trip of the first loop. -/
def step1 (v w : FVec Ideal S1x512 .f32) (off : Fin 2 → ℕ) (h : ∀ a, off a + S8x512.size a ≤ S2048x512.size a) (s : LoopSt) : LoopSt :=
  ((k0_pay23 v w s.1.1 s.1.2 (ld arg14 G14 s.2.1 off h), k0_pay24 v w s.1.1 s.1.2 (ld arg15 G15 s.2.2 off h)),
    ⟨Rect.unit (s := S2048x512) off S8x512.size h, k0_pay25 v w s.1.1 s.1.2 (ld arg14 G14 s.2.1 off h)⟩ :: s.2.1,
    ⟨Rect.unit (s := S2048x512) off S8x512.size h, k0_pay26 v w s.1.1 s.1.2 (ld arg15 G15 s.2.2 off h)⟩ :: s.2.2)

/-- One trip of the second loop. -/
def step2 (v w : FVec Ideal S8x512 .f32) (off : Fin 2 → ℕ) (h : ∀ a, off a + S8x512.size a ≤ S2048x512.size a) (s : LoopSt) : LoopSt :=
  ((k0_pay71 v w s.1.1 s.1.2, k0_pay72 v w s.1.1 s.1.2),
    ⟨Rect.unit (s := S2048x512) off S8x512.size h, k0_pay69 s.1.1 (ld arg14 G14 s.2.1 off h)⟩ :: s.2.1,
    ⟨Rect.unit (s := S2048x512) off S8x512.size h, k0_pay70 s.1.2 (ld arg15 G15 s.2.2 off h)⟩ :: s.2.2)

variable (B14 B15 : ℕ → Fin 512 → EReal)
  (h14 : ∀ (r : Fin 2048) q, arg14.view.read (Elt Ideal) G14 (ix2 r q) = B14 r.val q)
  (h15 : ∀ (r : Fin 2048) q, arg15.view.read (Elt Ideal) G15 (ix2 r q) = B15 r.val q)
  (off : ℕ → Fin 2 → ℕ) (ho : ∀ k < 256, off k = ![8 * k, 0]) (h : ∀ k < 256, ∀ a, off k a + S8x512.size a ≤ S2048x512.size a)
  (S : ℕ → LoopSt)

include h14 h15 ho in
/-- The first loop scans the eight segments from rest, a row of each at a trip. -/
theorem loop1 (v w : FVec Ideal S1x512 .f32) (h0 : S 0 = ((k0_pay22, k0_pay22), [], []))
    (hs : ∀ (k : ℕ) (hk : k < 256), S (k + 1) = step1 arg14 arg15 G14 G15 v w (off k) (h k hk) (S k)) (k : ℕ) (hk : k ≤ 256) :
    (∀ (j : Fin 8) (q : Fin 512), ((S k).1.1 (ix2 j q), (S k).1.2 (ix2 j q))
        = run (v (ix2 0 q)) (w (ix2 0 q)) (fun t => B14 (8 * t + j.val) q) (fun t => B15 (8 * t + j.val) q) k)
    ∧ (∀ (r : Fin 2048) (q : Fin 512), arg14.view.read (Elt Ideal) (arg14.view.writes (Elt Ideal) G14 (S k).2.1) (ix2 r q)
        = if r.val / 8 < k then (run (v (ix2 0 q)) (w (ix2 0 q)) (fun t => B14 (8 * t + r.val % 8) q) (fun t => B15 (8 * t + r.val % 8) q) (r.val / 8 + 1)).1
          else B14 r.val q)
    ∧ (∀ (r : Fin 2048) (q : Fin 512), arg15.view.read (Elt Ideal) (arg15.view.writes (Elt Ideal) G15 (S k).2.2) (ix2 r q)
        = if r.val / 8 < k then (run (v (ix2 0 q)) (w (ix2 0 q)) (fun t => B14 (8 * t + r.val % 8) q) (fun t => B15 (8 * t + r.val % 8) q) (r.val / 8 + 1)).2
          else B15 r.val q) := by
  induction k with
  | zero =>
    rw [h0]
    refine ⟨fun j q => ?_, fun r q => ?_, fun r q => ?_⟩
    · simp only [pay22_at, run]
    · rw [if_neg (Nat.not_lt_zero _)]; exact h14 r q
    · rw [if_neg (Nat.not_lt_zero _)]; exact h15 r q
  | succ k ih =>
    obtain ⟨ic, i14, i15⟩ := ih (by omega)
    have hk' : k < 256 := by omega
    have l14 : ∀ (j : Fin 8) q, ld arg14 G14 (S k).2.1 (off k) (h k hk') (ix2 j q) = B14 (8 * k + j.val) q := fun j q => by
      refine (rd arg14 (off k) (h k hk') k hk' (ho k hk') _ j q).trans ((i14 _ q).trans ?_)
      rw [if_neg (by show ¬ (8 * k + j.val) / 8 < k; omega)]
    have l15 : ∀ (j : Fin 8) q, ld arg15 G15 (S k).2.2 (off k) (h k hk') (ix2 j q) = B15 (8 * k + j.val) q := fun j q => by
      refine (rd arg15 (off k) (h k hk') k hk' (ho k hk') _ j q).trans ((i15 _ q).trans ?_)
      rw [if_neg (by show ¬ (8 * k + j.val) / 8 < k; omega)]
    have c1 : ∀ j q, (S k).1.1 (ix2 j q) = _ := fun j q => congrArg Prod.fst (ic j q)
    have c2 : ∀ j q, (S k).1.2 (ix2 j q) = _ := fun j q => congrArg Prod.snd (ic j q)
    rw [hs k hk']
    refine ⟨fun j q => ?_, fun r q => ?_, fun r q => ?_⟩
    · show (k0_pay23 v w (S k).1.1 (S k).1.2 _ (ix2 j q), k0_pay24 v w (S k).1.1 (S k).1.2 _ (ix2 j q)) = _
      rw [pay23_at, pay24_at, l14, l15, c1, c2]
      rfl
    · refine (wr arg14 (off k) (h k hk') k hk' (ho k hk') _ _ _ r q).trans ?_
      by_cases hr : r.val / 8 = k
      · rw [if_pos hr, if_pos (by omega), pay25_at, pay23_at, l14, c1, c2, hr]
        simp only [run]
      · rw [if_neg hr, i14]
        by_cases hl : r.val / 8 < k
        · rw [if_pos hl, if_pos (by omega)]
        · rw [if_neg hl, if_neg (by omega)]
    · refine (wr arg15 (off k) (h k hk') k hk' (ho k hk') _ _ _ r q).trans ?_
      by_cases hr : r.val / 8 = k
      · rw [if_pos hr, if_pos (by omega), pay26_at, pay24_at, l15, c1, c2, hr]
        simp only [run]
      · rw [if_neg hr, i15]
        by_cases hl : r.val / 8 < k
        · rw [if_pos hl, if_pos (by omega)]
        · rw [if_neg hl, if_neg (by omega)]

include h14 h15 ho in
/-- The second loop adds what enters each segment, turned once per row. -/
theorem loop2 (v w : FVec Ideal S8x512 .f32) (i1 i2 : FVec Ideal S8x512 .f32) (h0 : S 0 = ((i1, i2), [], []))
    (hs : ∀ (k : ℕ) (hk : k < 256), S (k + 1) = step2 arg14 arg15 G14 G15 v w (off k) (h k hk) (S k)) (k : ℕ) (hk : k ≤ 256) :
    (∀ (j : Fin 8) (q : Fin 512), ((S k).1.1 (ix2 j q), (S k).1.2 (ix2 j q))
        = turn (v (ix2 j q)) (w (ix2 j q)) (i1 (ix2 j q), i2 (ix2 j q)) k)
    ∧ (∀ (r : Fin 2048) (j : Fin 8) (hj : r.val % 8 = j.val) (q : Fin 512), arg14.view.read (Elt Ideal) (arg14.view.writes (Elt Ideal) G14 (S k).2.1) (ix2 r q)
        = if r.val / 8 < k then B14 r.val q + (turn (v (ix2 j q)) (w (ix2 j q)) (i1 (ix2 j q), i2 (ix2 j q)) (r.val / 8)).1
          else B14 r.val q)
    ∧ (∀ (r : Fin 2048) (j : Fin 8) (hj : r.val % 8 = j.val) (q : Fin 512), arg15.view.read (Elt Ideal) (arg15.view.writes (Elt Ideal) G15 (S k).2.2) (ix2 r q)
        = if r.val / 8 < k then B15 r.val q + (turn (v (ix2 j q)) (w (ix2 j q)) (i1 (ix2 j q), i2 (ix2 j q)) (r.val / 8)).2
          else B15 r.val q) := by
  induction k with
  | zero =>
    rw [h0]
    refine ⟨fun j q => rfl, fun r j hj q => ?_, fun r j hj q => ?_⟩
    · rw [if_neg (Nat.not_lt_zero _)]; exact h14 r q
    · rw [if_neg (Nat.not_lt_zero _)]; exact h15 r q
  | succ k ih =>
    obtain ⟨ic, i14, i15⟩ := ih (by omega)
    have hk' : k < 256 := by omega
    have l14 : ∀ (j : Fin 8) q, ld arg14 G14 (S k).2.1 (off k) (h k hk') (ix2 j q) = B14 (8 * k + j.val) q := fun j q => by
      refine (rd arg14 (off k) (h k hk') k hk' (ho k hk') _ j q).trans ((i14 _ j (by show (8 * k + j.val) % 8 = j.val; omega) q).trans ?_)
      rw [if_neg (by show ¬ (8 * k + j.val) / 8 < k; omega)]
    have l15 : ∀ (j : Fin 8) q, ld arg15 G15 (S k).2.2 (off k) (h k hk') (ix2 j q) = B15 (8 * k + j.val) q := fun j q => by
      refine (rd arg15 (off k) (h k hk') k hk' (ho k hk') _ j q).trans ((i15 _ j (by show (8 * k + j.val) % 8 = j.val; omega) q).trans ?_)
      rw [if_neg (by show ¬ (8 * k + j.val) / 8 < k; omega)]
    have c1 : ∀ j q, (S k).1.1 (ix2 j q) = _ := fun j q => congrArg Prod.fst (ic j q)
    have c2 : ∀ j q, (S k).1.2 (ix2 j q) = _ := fun j q => congrArg Prod.snd (ic j q)
    rw [hs k hk']
    refine ⟨fun j q => ?_, fun r j hj q => ?_, fun r j hj q => ?_⟩
    · show (k0_pay71 v w (S k).1.1 (S k).1.2 (ix2 j q), k0_pay72 v w (S k).1.1 (S k).1.2 (ix2 j q)) = _
      rw [pay71_at, pay72_at, c1, c2]
      rfl
    · refine (wr arg14 (off k) (h k hk') k hk' (ho k hk') _ _ _ r q).trans ?_
      have ej : (⟨r.val % 8, Nat.mod_lt _ (by norm_num)⟩ : Fin 8) = j := Fin.ext hj
      by_cases hr : r.val / 8 = k
      · rw [if_pos hr, if_pos (by omega), ej, pay69_at, l14, c1, hr, show 8 * k + j.val = r.val by omega]
      · rw [if_neg hr, i14 r j hj]
        by_cases hl : r.val / 8 < k
        · rw [if_pos hl, if_pos (by omega)]
        · rw [if_neg hl, if_neg (by omega)]
    · refine (wr arg15 (off k) (h k hk') k hk' (ho k hk') _ _ _ r q).trans ?_
      have ej : (⟨r.val % 8, Nat.mod_lt _ (by norm_num)⟩ : Fin 8) = j := Fin.ext hj
      by_cases hr : r.val / 8 = k
      · rw [if_pos hr, if_pos (by omega), ej, pay70_at, l15, c2, hr, show 8 * k + j.val = r.val by omega]
      · rw [if_neg hr, i15 r j hj]
        by_cases hl : r.val / 8 < k
        · rw [if_pos hl, if_pos (by omega)]
        · rw [if_neg hl, if_neg (by omega)]

end

end Cert.S5ScanIdeal.Hand

end
-- ==== Proof.S5ScanKern.lean ====
module

public import proofs.«01_k».proof.Proof.S5ScanLoop

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! The poles of a whole segment, and the states that enter the segments. -/

theorem two : Ideal.ofBits .f32 0x40000000#32 = 2 := by
  simp [Ideal.ofBits, Ideal.ieee, -EReal.coe_mul]
  norm_num
  rfl

theorem sq1 (v w : FVec Ideal S1x512 .f32) (q : Fin 512) :
    (k0_pay27 v w (ix2 0 q), k0_pay28 v w (ix2 0 q)) = psq (v (ix2 0 q), w (ix2 0 q)) := by
  rw [psq, ← two]
  refine Prod.ext ?_ ?_
  · show k0_pay27 v w (ix2 0 q) = _
    pointwise [k0_pay27]
  · show k0_pay28 v w (ix2 0 q) = _
    pointwise [k0_pay28]
theorem sq2 (v w : FVec Ideal S1x512 .f32) (q : Fin 512) :
    (k0_pay29 v w (ix2 0 q), k0_pay30 v w (ix2 0 q)) = psq (k0_pay27 v w (ix2 0 q), k0_pay28 v w (ix2 0 q)) := by
  rw [psq, ← two]
  refine Prod.ext ?_ ?_
  · show k0_pay29 v w (ix2 0 q) = _
    pointwise [k0_pay29]
  · show k0_pay30 v w (ix2 0 q) = _
    pointwise [k0_pay30]
theorem sq3 (v w : FVec Ideal S1x512 .f32) (q : Fin 512) :
    (k0_pay31 v w (ix2 0 q), k0_pay32 v w (ix2 0 q)) = psq (k0_pay29 v w (ix2 0 q), k0_pay30 v w (ix2 0 q)) := by
  rw [psq, ← two]
  refine Prod.ext ?_ ?_
  · show k0_pay31 v w (ix2 0 q) = _
    pointwise [k0_pay31]
  · show k0_pay32 v w (ix2 0 q) = _
    pointwise [k0_pay32]
theorem sq4 (v w : FVec Ideal S1x512 .f32) (q : Fin 512) :
    (k0_pay33 v w (ix2 0 q), k0_pay35 (k0_pay31 v w) (k0_pay32 v w) k0_pay34 (ix2 0 q)) = psq (k0_pay31 v w (ix2 0 q), k0_pay32 v w (ix2 0 q)) := by
  rw [psq, ← two]
  refine Prod.ext ?_ ?_
  · show k0_pay33 v w (ix2 0 q) = _
    pointwise [k0_pay33]
  · show k0_pay35 (k0_pay31 v w) (k0_pay32 v w) k0_pay34 (ix2 0 q) = _
    pointwise [k0_pay35, k0_pay34]
theorem sq5 (a b c d : FVec Ideal S1x512 .f32) (q : Fin 512) :
    (k0_pay36 a b c d (ix2 0 q), k0_pay37 a b c d (ix2 0 q)) = psq (c (ix2 0 q), k0_pay35 a b d (ix2 0 q)) := by
  rw [psq, ← two]
  refine Prod.ext ?_ ?_
  · show k0_pay36 a b c d (ix2 0 q) = _
    pointwise [k0_pay36]
  · show k0_pay37 a b c d (ix2 0 q) = _
    pointwise [k0_pay37]
theorem sq6 (a b c d : FVec Ideal S1x512 .f32) (q : Fin 512) :
    (k0_pay38 a b c d (ix2 0 q), k0_pay39 a b c d (ix2 0 q)) = psq (k0_pay36 a b c d (ix2 0 q), k0_pay37 a b c d (ix2 0 q)) := by
  rw [psq, ← two]
  refine Prod.ext ?_ ?_
  · show k0_pay38 a b c d (ix2 0 q) = _
    pointwise [k0_pay38]
  · show k0_pay39 a b c d (ix2 0 q) = _
    pointwise [k0_pay39]
theorem sq7 (a b c d : FVec Ideal S1x512 .f32) (q : Fin 512) :
    (k0_pay40 a b c d (ix2 0 q), k0_pay41 a b c d (ix2 0 q)) = psq (k0_pay38 a b c d (ix2 0 q), k0_pay39 a b c d (ix2 0 q)) := by
  rw [psq, ← two]
  refine Prod.ext ?_ ?_
  · show k0_pay40 a b c d (ix2 0 q) = _
    pointwise [k0_pay40]
  · show k0_pay41 a b c d (ix2 0 q) = _
    pointwise [k0_pay41]
theorem sq8 (a b c d : FVec Ideal S1x512 .f32) (q : Fin 512) :
    (k0_pay42 a b c d (ix2 0 q), k0_pay43 a b c d (ix2 0 q)) = psq (k0_pay40 a b c d (ix2 0 q), k0_pay41 a b c d (ix2 0 q)) := by
  rw [psq, ← two]
  refine Prod.ext ?_ ?_
  · show k0_pay42 a b c d (ix2 0 q) = _
    pointwise [k0_pay42]
  · show k0_pay43 a b c d (ix2 0 q) = _
    pointwise [k0_pay43]

/-- The pole over a segment. -/
def pole (v w : FVec Ideal S1x512 .f32) (q : Fin 512) : EReal × EReal :=
  (k0_pay42 (k0_pay31 v w) (k0_pay32 v w) (k0_pay33 v w) k0_pay34 (ix2 0 q), k0_pay43 (k0_pay31 v w) (k0_pay32 v w) (k0_pay33 v w) k0_pay34 (ix2 0 q))

theorem pole_eq (v w : FVec Ideal S1x512 .f32) (q : Fin 512) : pole v w q = psq^[8] (v (ix2 0 q), w (ix2 0 q)) := by
  unfold pole
  rw [sq8, sq7, sq6, sq5, sq4, sq3, sq2, sq1]
  rfl

section
variable (R S : FVec Ideal S8x512 .f32) (a b c d : FVec Ideal S1x512 .f32) (x y : Vec Ideal S1x1x1x512 .f32) (q : Fin 512)
  (hx : x (ix4 0 0 0 q) = 0) (hy : y (ix4 0 0 0 q) = 0) (f : ℕ → EReal × EReal)
  (hf : ∀ j : Fin 8, (R (ix2 j q), S (ix2 j q)) = f j.val)

include hx hy in
theorem c0 : (k0_pay44 x (ix2 0 q), k0_pay45 y (ix2 0 q)) = cin (k0_pay42 a b c d (ix2 0 q), k0_pay43 a b c d (ix2 0 q)) f 0 := by
  refine Prod.ext ?_ ?_
  · show k0_pay44 x (ix2 0 q) = 0
    refine Eq.trans ?_ hx
    pointwise [k0_pay44]
  · show k0_pay45 y (ix2 0 q) = 0
    refine Eq.trans ?_ hy
    pointwise [k0_pay45]
include hx hy hf in
theorem c1 : (k0_pay46 R a b c d x y (ix2 0 q), k0_pay47 S a b c d x y (ix2 0 q))
    = cin (k0_pay42 a b c d (ix2 0 q), k0_pay43 a b c d (ix2 0 q)) f 1 := by
  rw [cin, ← c0 a b c d x y q hx hy f, ← (show (R (ix2 0 q), S (ix2 0 q)) = f 0 from hf 0)]
  refine Prod.ext ?_ ?_
  · show k0_pay46 R a b c d x y (ix2 0 q) = _
    pointwise [k0_pay46]
  · show k0_pay47 S a b c d x y (ix2 0 q) = _
    pointwise [k0_pay47]
include hx hy hf in
theorem c2 : (k0_pay48 R S a b c d x y (ix2 0 q), k0_pay50 (k0_pay43 a b c d) (k0_pay46 R a b c d x y) (k0_pay49 S a b c d x y) (ix2 0 q))
    = cin (k0_pay42 a b c d (ix2 0 q), k0_pay43 a b c d (ix2 0 q)) f 2 := by
  rw [cin, ← c1 R S a b c d x y q hx hy f hf, ← (show (R (ix2 1 q), S (ix2 1 q)) = f 1 from hf 1)]
  refine Prod.ext ?_ ?_
  · show k0_pay48 R S a b c d x y (ix2 0 q) = _
    pointwise [k0_pay48]
  · show k0_pay50 (k0_pay43 a b c d) (k0_pay46 R a b c d x y) (k0_pay49 S a b c d x y) (ix2 0 q) = _
    pointwise [k0_pay50, k0_pay49]
include hx hy hf in
theorem c3 : (k0_pay51 R (k0_pay42 a b c d) (k0_pay43 a b c d) (k0_pay46 R a b c d x y) (k0_pay48 R S a b c d x y) (k0_pay49 S a b c d x y) (ix2 0 q), k0_pay52 S (k0_pay42 a b c d) (k0_pay43 a b c d) (k0_pay46 R a b c d x y) (k0_pay48 R S a b c d x y) (k0_pay49 S a b c d x y) (ix2 0 q))
    = cin (k0_pay42 a b c d (ix2 0 q), k0_pay43 a b c d (ix2 0 q)) f 3 := by
  rw [cin, ← c2 R S a b c d x y q hx hy f hf, ← (show (R (ix2 2 q), S (ix2 2 q)) = f 2 from hf 2)]
  refine Prod.ext ?_ ?_
  · show k0_pay51 R (k0_pay42 a b c d) (k0_pay43 a b c d) (k0_pay46 R a b c d x y) (k0_pay48 R S a b c d x y) (k0_pay49 S a b c d x y) (ix2 0 q) = _
    pointwise [k0_pay51]
  · show k0_pay52 S (k0_pay42 a b c d) (k0_pay43 a b c d) (k0_pay46 R a b c d x y) (k0_pay48 R S a b c d x y) (k0_pay49 S a b c d x y) (ix2 0 q) = _
    pointwise [k0_pay52]
include hx hy hf in
theorem c4 : (k0_pay53 R S (k0_pay42 a b c d) (k0_pay43 a b c d) (k0_pay46 R a b c d x y) (k0_pay48 R S a b c d x y) (k0_pay49 S a b c d x y) (ix2 0 q), k0_pay54 R S (k0_pay42 a b c d) (k0_pay43 a b c d) (k0_pay46 R a b c d x y) (k0_pay48 R S a b c d x y) (k0_pay49 S a b c d x y) (ix2 0 q))
    = cin (k0_pay42 a b c d (ix2 0 q), k0_pay43 a b c d (ix2 0 q)) f 4 := by
  rw [cin, ← c3 R S a b c d x y q hx hy f hf, ← (show (R (ix2 3 q), S (ix2 3 q)) = f 3 from hf 3)]
  refine Prod.ext ?_ ?_
  · show k0_pay53 R S (k0_pay42 a b c d) (k0_pay43 a b c d) (k0_pay46 R a b c d x y) (k0_pay48 R S a b c d x y) (k0_pay49 S a b c d x y) (ix2 0 q) = _
    pointwise [k0_pay53]
  · show k0_pay54 R S (k0_pay42 a b c d) (k0_pay43 a b c d) (k0_pay46 R a b c d x y) (k0_pay48 R S a b c d x y) (k0_pay49 S a b c d x y) (ix2 0 q) = _
    pointwise [k0_pay54]
include hx hy hf in
theorem c5 : (k0_pay55 R S (k0_pay42 a b c d) (k0_pay43 a b c d) (k0_pay46 R a b c d x y) (k0_pay48 R S a b c d x y) (k0_pay49 S a b c d x y) (ix2 0 q), k0_pay56 R S (k0_pay42 a b c d) (k0_pay43 a b c d) (k0_pay46 R a b c d x y) (k0_pay48 R S a b c d x y) (k0_pay49 S a b c d x y) (ix2 0 q))
    = cin (k0_pay42 a b c d (ix2 0 q), k0_pay43 a b c d (ix2 0 q)) f 5 := by
  rw [cin, ← c4 R S a b c d x y q hx hy f hf, ← (show (R (ix2 4 q), S (ix2 4 q)) = f 4 from hf 4)]
  refine Prod.ext ?_ ?_
  · show k0_pay55 R S (k0_pay42 a b c d) (k0_pay43 a b c d) (k0_pay46 R a b c d x y) (k0_pay48 R S a b c d x y) (k0_pay49 S a b c d x y) (ix2 0 q) = _
    pointwise [k0_pay55]
  · show k0_pay56 R S (k0_pay42 a b c d) (k0_pay43 a b c d) (k0_pay46 R a b c d x y) (k0_pay48 R S a b c d x y) (k0_pay49 S a b c d x y) (ix2 0 q) = _
    pointwise [k0_pay56]
include hx hy hf in
theorem c6 : (k0_pay57 R S (k0_pay42 a b c d) (k0_pay43 a b c d) (k0_pay46 R a b c d x y) (k0_pay48 R S a b c d x y) (k0_pay49 S a b c d x y) (ix2 0 q), k0_pay58 R S (k0_pay42 a b c d) (k0_pay43 a b c d) (k0_pay46 R a b c d x y) (k0_pay48 R S a b c d x y) (k0_pay49 S a b c d x y) (ix2 0 q))
    = cin (k0_pay42 a b c d (ix2 0 q), k0_pay43 a b c d (ix2 0 q)) f 6 := by
  rw [cin, ← c5 R S a b c d x y q hx hy f hf, ← (show (R (ix2 5 q), S (ix2 5 q)) = f 5 from hf 5)]
  refine Prod.ext ?_ ?_
  · show k0_pay57 R S (k0_pay42 a b c d) (k0_pay43 a b c d) (k0_pay46 R a b c d x y) (k0_pay48 R S a b c d x y) (k0_pay49 S a b c d x y) (ix2 0 q) = _
    pointwise [k0_pay57]
  · show k0_pay58 R S (k0_pay42 a b c d) (k0_pay43 a b c d) (k0_pay46 R a b c d x y) (k0_pay48 R S a b c d x y) (k0_pay49 S a b c d x y) (ix2 0 q) = _
    pointwise [k0_pay58]
include hx hy hf in
theorem c7 : (k0_pay59 R S (k0_pay42 a b c d) (k0_pay43 a b c d) (k0_pay46 R a b c d x y) (k0_pay48 R S a b c d x y) (k0_pay49 S a b c d x y) (ix2 0 q), k0_pay60 R S (k0_pay42 a b c d) (k0_pay43 a b c d) (k0_pay46 R a b c d x y) (k0_pay48 R S a b c d x y) (k0_pay49 S a b c d x y) (ix2 0 q))
    = cin (k0_pay42 a b c d (ix2 0 q), k0_pay43 a b c d (ix2 0 q)) f 7 := by
  rw [cin, ← c6 R S a b c d x y q hx hy f hf, ← (show (R (ix2 6 q), S (ix2 6 q)) = f 6 from hf 6)]
  refine Prod.ext ?_ ?_
  · show k0_pay59 R S (k0_pay42 a b c d) (k0_pay43 a b c d) (k0_pay46 R a b c d x y) (k0_pay48 R S a b c d x y) (k0_pay49 S a b c d x y) (ix2 0 q) = _
    pointwise [k0_pay59]
  · show k0_pay60 R S (k0_pay42 a b c d) (k0_pay43 a b c d) (k0_pay46 R a b c d x y) (k0_pay48 R S a b c d x y) (k0_pay49 S a b c d x y) (ix2 0 q) = _
    pointwise [k0_pay60]
include hx hy hf in
theorem c8 (o : FVec Ideal S1x1x1x512 .f32) (ho : o = k0_pay63 (k0_pay61 R S (k0_pay42 a b c d) (k0_pay43 a b c d) (k0_pay46 R a b c d x y) (k0_pay48 R S a b c d x y) (k0_pay49 S a b c d x y))) (p : FVec Ideal S1x1x1x512 .f32)
    (hp : p = k0_pay64 (k0_pay43 a b c d) (k0_pay59 R S (k0_pay42 a b c d) (k0_pay43 a b c d) (k0_pay46 R a b c d x y) (k0_pay48 R S a b c d x y) (k0_pay49 S a b c d x y)) (k0_pay62 R S (k0_pay42 a b c d) (k0_pay43 a b c d) (k0_pay46 R a b c d x y) (k0_pay48 R S a b c d x y) (k0_pay49 S a b c d x y))) :
    (o (ix4 0 0 0 q), p (ix4 0 0 0 q)) = cin (k0_pay42 a b c d (ix2 0 q), k0_pay43 a b c d (ix2 0 q)) f 8 := by
  rw [cin, ← c7 R S a b c d x y q hx hy f hf, ← (show (R (ix2 7 q), S (ix2 7 q)) = f 7 from hf 7), ho, hp]
  refine Prod.ext ?_ ?_
  · show k0_pay63 (k0_pay61 R S (k0_pay42 a b c d) (k0_pay43 a b c d) (k0_pay46 R a b c d x y) (k0_pay48 R S a b c d x y) (k0_pay49 S a b c d x y)) (ix4 0 0 0 q) = _
    pointwise [k0_pay63, k0_pay61]
  · show k0_pay64 (k0_pay43 a b c d) (k0_pay59 R S (k0_pay42 a b c d) (k0_pay43 a b c d) (k0_pay46 R a b c d x y) (k0_pay48 R S a b c d x y) (k0_pay49 S a b c d x y)) (k0_pay62 R S (k0_pay42 a b c d) (k0_pay43 a b c d) (k0_pay46 R a b c d x y) (k0_pay48 R S a b c d x y) (k0_pay49 S a b c d x y)) (ix4 0 0 0 q) = _
    pointwise [k0_pay64, k0_pay62]

include hx hy hf in
/-- What enters the segments, turned once, by segments. -/
theorem entered (v w : FVec Ideal S1x512 .f32) (j : Fin 8) :
    (k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 j q),
      k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 j q))
    = (v (ix2 0 q) * (cin (k0_pay42 a b c d (ix2 0 q), k0_pay43 a b c d (ix2 0 q)) f j.val).1 - w (ix2 0 q) * (cin (k0_pay42 a b c d (ix2 0 q), k0_pay43 a b c d (ix2 0 q)) f j.val).2, v (ix2 0 q) * (cin (k0_pay42 a b c d (ix2 0 q), k0_pay43 a b c d (ix2 0 q)) f j.val).2 + w (ix2 0 q) * (cin (k0_pay42 a b c d (ix2 0 q), k0_pay43 a b c d (ix2 0 q)) f j.val).1) := by
  have e0 := c0 a b c d x y q hx hy f
  have e1 := c1 R S a b c d x y q hx hy f hf
  have e2 := c2 R S a b c d x y q hx hy f hf
  have e3 := c3 R S a b c d x y q hx hy f hf
  have e4 := c4 R S a b c d x y q hx hy f hf
  have e5 := c5 R S a b c d x y q hx hy f hf
  have e6 := c6 R S a b c d x y q hx hy f hf
  have e7 := c7 R S a b c d x y q hx hy f hf
  fin_cases j
  · show (_, _) = (_ * (cin (k0_pay42 a b c d (ix2 0 q), k0_pay43 a b c d (ix2 0 q)) f 0).1 - _ * (cin (k0_pay42 a b c d (ix2 0 q), k0_pay43 a b c d (ix2 0 q)) f 0).2, _ * (cin (k0_pay42 a b c d (ix2 0 q), k0_pay43 a b c d (ix2 0 q)) f 0).2 + _ * (cin (k0_pay42 a b c d (ix2 0 q), k0_pay43 a b c d (ix2 0 q)) f 0).1)
    rw [← e0]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 0 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 0 q) = _
      pointwise [k0_pay68, k0_pay65, k0_pay66, k0_pay20, k0_pay21]
  · show (_, _) = (_ * (cin (k0_pay42 a b c d (ix2 0 q), k0_pay43 a b c d (ix2 0 q)) f 1).1 - _ * (cin (k0_pay42 a b c d (ix2 0 q), k0_pay43 a b c d (ix2 0 q)) f 1).2, _ * (cin (k0_pay42 a b c d (ix2 0 q), k0_pay43 a b c d (ix2 0 q)) f 1).2 + _ * (cin (k0_pay42 a b c d (ix2 0 q), k0_pay43 a b c d (ix2 0 q)) f 1).1)
    rw [← e1]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 1 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 1 q) = _
      pointwise [k0_pay68, k0_pay65, k0_pay66, k0_pay20, k0_pay21]
  · show (_, _) = (_ * (cin (k0_pay42 a b c d (ix2 0 q), k0_pay43 a b c d (ix2 0 q)) f 2).1 - _ * (cin (k0_pay42 a b c d (ix2 0 q), k0_pay43 a b c d (ix2 0 q)) f 2).2, _ * (cin (k0_pay42 a b c d (ix2 0 q), k0_pay43 a b c d (ix2 0 q)) f 2).2 + _ * (cin (k0_pay42 a b c d (ix2 0 q), k0_pay43 a b c d (ix2 0 q)) f 2).1)
    rw [← e2]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 2 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 2 q) = _
      pointwise [k0_pay68, k0_pay65, k0_pay66, k0_pay20, k0_pay21]
  · show (_, _) = (_ * (cin (k0_pay42 a b c d (ix2 0 q), k0_pay43 a b c d (ix2 0 q)) f 3).1 - _ * (cin (k0_pay42 a b c d (ix2 0 q), k0_pay43 a b c d (ix2 0 q)) f 3).2, _ * (cin (k0_pay42 a b c d (ix2 0 q), k0_pay43 a b c d (ix2 0 q)) f 3).2 + _ * (cin (k0_pay42 a b c d (ix2 0 q), k0_pay43 a b c d (ix2 0 q)) f 3).1)
    rw [← e3]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 3 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 3 q) = _
      pointwise [k0_pay68, k0_pay65, k0_pay66, k0_pay20, k0_pay21]
  · show (_, _) = (_ * (cin (k0_pay42 a b c d (ix2 0 q), k0_pay43 a b c d (ix2 0 q)) f 4).1 - _ * (cin (k0_pay42 a b c d (ix2 0 q), k0_pay43 a b c d (ix2 0 q)) f 4).2, _ * (cin (k0_pay42 a b c d (ix2 0 q), k0_pay43 a b c d (ix2 0 q)) f 4).2 + _ * (cin (k0_pay42 a b c d (ix2 0 q), k0_pay43 a b c d (ix2 0 q)) f 4).1)
    rw [← e4]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 4 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 4 q) = _
      pointwise [k0_pay68, k0_pay65, k0_pay66, k0_pay20, k0_pay21]
  · show (_, _) = (_ * (cin (k0_pay42 a b c d (ix2 0 q), k0_pay43 a b c d (ix2 0 q)) f 5).1 - _ * (cin (k0_pay42 a b c d (ix2 0 q), k0_pay43 a b c d (ix2 0 q)) f 5).2, _ * (cin (k0_pay42 a b c d (ix2 0 q), k0_pay43 a b c d (ix2 0 q)) f 5).2 + _ * (cin (k0_pay42 a b c d (ix2 0 q), k0_pay43 a b c d (ix2 0 q)) f 5).1)
    rw [← e5]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 5 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 5 q) = _
      pointwise [k0_pay68, k0_pay65, k0_pay66, k0_pay20, k0_pay21]
  · show (_, _) = (_ * (cin (k0_pay42 a b c d (ix2 0 q), k0_pay43 a b c d (ix2 0 q)) f 6).1 - _ * (cin (k0_pay42 a b c d (ix2 0 q), k0_pay43 a b c d (ix2 0 q)) f 6).2, _ * (cin (k0_pay42 a b c d (ix2 0 q), k0_pay43 a b c d (ix2 0 q)) f 6).2 + _ * (cin (k0_pay42 a b c d (ix2 0 q), k0_pay43 a b c d (ix2 0 q)) f 6).1)
    rw [← e6]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 6 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 6 q) = _
      pointwise [k0_pay68, k0_pay65, k0_pay66, k0_pay20, k0_pay21]
  · show (_, _) = (_ * (cin (k0_pay42 a b c d (ix2 0 q), k0_pay43 a b c d (ix2 0 q)) f 7).1 - _ * (cin (k0_pay42 a b c d (ix2 0 q), k0_pay43 a b c d (ix2 0 q)) f 7).2, _ * (cin (k0_pay42 a b c d (ix2 0 q), k0_pay43 a b c d (ix2 0 q)) f 7).2 + _ * (cin (k0_pay42 a b c d (ix2 0 q), k0_pay43 a b c d (ix2 0 q)) f 7).1)
    rw [← e7]
    refine Prod.ext ?_ ?_
    · show k0_pay67 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 7 q) = _
      pointwise [k0_pay67, k0_pay65, k0_pay66, k0_pay20, k0_pay21]
    · show k0_pay68 (k0_pay20 v) (k0_pay21 w) (k0_pay44 x) (k0_pay45 y) (k0_pay46 R a b c d x y) (k0_pay47 S a b c d x y) (k0_pay48 R S a b c d x y) (k0_pay50 (k0_pay43 a b c d) (k0_pay46 R a b c d x y) (k0_pay49 S a b c d x y)) (k0_pay51 R (k0_pay42 a b c d) (k0_pay43 a b c d) (k0_pay46 R a b c d x y) (k0_pay48 R S a b c d x y) (k0_pay49 S a b c d x y)) (k0_pay52 S (k0_pay42 a b c d) (k0_pay43 a b c d) (k0_pay46 R a b c d x y) (k0_pay48 R S a b c d x y) (k0_pay49 S a b c d x y)) (k0_pay53 R S (k0_pay42 a b c d) (k0_pay43 a b c d) (k0_pay46 R a b c d x y) (k0_pay48 R S a b c d x y) (k0_pay49 S a b c d x y)) (k0_pay54 R S (k0_pay42 a b c d) (k0_pay43 a b c d) (k0_pay46 R a b c d x y) (k0_pay48 R S a b c d x y) (k0_pay49 S a b c d x y)) (k0_pay55 R S (k0_pay42 a b c d) (k0_pay43 a b c d) (k0_pay46 R a b c d x y) (k0_pay48 R S a b c d x y) (k0_pay49 S a b c d x y)) (k0_pay56 R S (k0_pay42 a b c d) (k0_pay43 a b c d) (k0_pay46 R a b c d x y) (k0_pay48 R S a b c d x y) (k0_pay49 S a b c d x y)) (k0_pay57 R S (k0_pay42 a b c d) (k0_pay43 a b c d) (k0_pay46 R a b c d x y) (k0_pay48 R S a b c d x y) (k0_pay49 S a b c d x y)) (k0_pay58 R S (k0_pay42 a b c d) (k0_pay43 a b c d) (k0_pay46 R a b c d x y) (k0_pay48 R S a b c d x y) (k0_pay49 S a b c d x y)) (k0_pay59 R S (k0_pay42 a b c d) (k0_pay43 a b c d) (k0_pay46 R a b c d x y) (k0_pay48 R S a b c d x y) (k0_pay49 S a b c d x y)) (k0_pay60 R S (k0_pay42 a b c d) (k0_pay43 a b c d) (k0_pay46 R a b c d x y) (k0_pay48 R S a b c d x y) (k0_pay49 S a b c d x y)) (ix2 7 q) = _
      pointwise [k0_pay68, k0_pay65, k0_pay66, k0_pay20, k0_pay21]

end

/-! The loops of the kernel are the loops above. -/

theorem trips1 : k0_t1_loop.trips = 256 := by decide +kernel
theorem trips2 : k0_t2_loop.trips = 256 := by decide +kernel

theorem inb (k : ℕ) (hk : k < 256) : ∀ a, (![8 * k, 0] : Fin 2 → ℕ) a + S8x512.size a ≤ S2048x512.size a := fun a => by
  match a with
  | ⟨0, _⟩ => show 8 * k + 8 ≤ 2048; omega
  | ⟨1, _⟩ => show 0 + 512 ≤ 512; omega

section
variable (arg14 arg15 : Memref sig .tc .vmem S2048x512 .f32) (G14 : arg14.view.ty.Contents (Elt Ideal)) (G15 : arg15.view.ty.Contents (Elt Ideal))

theorem step1_off {off off' : Fin 2 → ℕ} (e : off = off') (v w : FVec Ideal S1x512 .f32) (h : ∀ a, off a + S8x512.size a ≤ S2048x512.size a)
    (h' : ∀ a, off' a + S8x512.size a ≤ S2048x512.size a) (s : LoopSt) :
    step1 arg14 arg15 G14 G15 v w off h s = step1 arg14 arg15 G14 G15 v w off' h' s := by
  subst e; rfl

theorem step2_off {off off' : Fin 2 → ℕ} (e : off = off') (v w : FVec Ideal S8x512 .f32) (h : ∀ a, off a + S8x512.size a ≤ S2048x512.size a)
    (h' : ∀ a, off' a + S8x512.size a ≤ S2048x512.size a) (s : LoopSt) :
    step2 arg14 arg15 G14 G15 v w off h s = step2 arg14 arg15 G14 G15 v w off' h' s := by
  subst e; rfl

end

section
variable (c : Dev nD) (i : grid0.Coords) (arg2 : Memref sig .tc .vmem S2048x128 .f32) (harg2 : arg2.IsWhole) (arg3 : Memref sig .tc .vmem S1x1x8x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x1x128 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S2048x128 .f32) (harg11 : arg11.IsWhole) (arg12 : Memref sig .tc .vmem S1x1x1x512 .f32) (harg12 : arg12.IsWhole) (arg13 : Memref sig .tc .vmem S1x1x1x512 .f32) (harg13 : arg13.IsWhole) (arg14 : Memref sig .tc .vmem S2048x512 .f32) (harg14 : arg14.IsWhole) (arg15 : Memref sig .tc .vmem S2048x512 .f32) (harg15 : arg15.IsWhole)

theorem st1_step (v10 : FVec Ideal S1x512 .f32)
    (v13 : FVec Ideal S1x512 .f32)
    (v38 : FVec Ideal S128x512 .bf16)
    (v43 : FVec Ideal S128x512 .f32)
    (G14 : arg14.view.ty.Contents (Elt Ideal)) (G15 : arg15.view.ty.Contents (Elt Ideal)) (init : FVec Ideal S8x512 .f32 × FVec Ideal S8x512 .f32)
    (k : ℕ) (hk : k < 256) :
    st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v10 v13 v38 v43 G14 G15 init (k + 1) = step1 arg14 arg15 G14 G15 v10 v13 ![8 * k, 0] (inb k hk)
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v10 v13 v38 v43 G14 G15 init k) := by
  have ht : k < k0_t1_loop.trips := by rw [trips1]; exact hk
  refine (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v10 v13 v38 v43 G14 G15 init ⟨k, ht⟩).trans ?_
  unfold tripR_k0_t1 tripL_k0_t1 trip_k0_t1
  dsimp only
  exact step1_off arg14 arg15 G14 G15 (k0_off1_eq ⟨k, ht⟩) v10 v13 (k0_off1_inb ⟨k, ht⟩) (inb k hk) _

theorem st2_step (v57 : FVec Ideal S8x512 .f32)
    (v59 : FVec Ideal S8x512 .f32)
    (v110 : FVec Ideal S1x512 .f32)
    (v112 : FVec Ideal S1x512 .f32)
    (v114 : FVec Ideal S1x512 .f32)
    (v119 : FVec Ideal S1x512 .f32)
    (v124 : FVec Ideal S1x512 .f32)
    (v129 : FVec Ideal S1x512 .f32)
    (v134 : FVec Ideal S1x512 .f32)
    (v139 : FVec Ideal S1x512 .f32)
    (v144 : FVec Ideal S1x512 .f32)
    (v149 : FVec Ideal S1x512 .f32)
    (v154 : FVec Ideal S1x512 .f32)
    (v159 : FVec Ideal S1x512 .f32)
    (v164 : FVec Ideal S1x512 .f32)
    (v169 : FVec Ideal S1x512 .f32)
    (v174 : FVec Ideal S1x512 .f32)
    (v179 : FVec Ideal S1x512 .f32)
    (v184 : FVec Ideal S1x512 .f32)
    (v189 : FVec Ideal S1x512 .f32)
    (v192 : FVec Ideal S1x512 .f32)
    (G14 : arg14.view.ty.Contents (Elt Ideal)) (G15 : arg15.view.ty.Contents (Elt Ideal)) (init : FVec Ideal S8x512 .f32 × FVec Ideal S8x512 .f32)
    (k : ℕ) (hk : k < 256) :
    st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v57 v59 v110 v112 v114 v119 v124 v129 v134 v139 v144 v149 v154 v159 v164 v169 v174 v179 v184 v189 v192 G14 G15 init (k + 1) = step2 arg14 arg15 G14 G15 v57 v59 ![8 * k, 0] (inb k hk)
      (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v57 v59 v110 v112 v114 v119 v124 v129 v134 v139 v144 v149 v154 v159 v164 v169 v174 v179 v184 v189 v192 G14 G15 init k) := by
  have ht : k < k0_t2_loop.trips := by rw [trips2]; exact hk
  refine (st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v57 v59 v110 v112 v114 v119 v124 v129 v134 v139 v144 v149 v154 v159 v164 v169 v174 v179 v184 v189 v192 G14 G15 init ⟨k, ht⟩).trans ?_
  unfold tripR_k0_t2 tripL_k0_t2 trip_k0_t2
  dsimp only
  exact step2_off arg14 arg15 G14 G15 (k0_off2_eq ⟨k, ht⟩) v57 v59 (k0_off2_inb ⟨k, ht⟩) (inb k hk) _

end

end Cert.S5ScanIdeal.Hand

end
-- ==== Proof.S5ScanRows.lean ====
module

public import proofs.«01_k».proof.Proof.S5ScanKern

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! The rows of the scratch after both loops are the states of the scan. -/

section
variable (arg : Memref sig .tc .vmem S2048x512 .f32)

theorem whole_at (f : arg.view.ty.Contents (Elt Ideal)) (z : FVec Ideal S2048x512 .f32) (L : List (View.Piece (Elt Ideal) S2048x512 .f32))
    (r : Fin 2048) (q : Fin 512) :
    arg.view.read (Elt Ideal) (arg.view.writes (Elt Ideal) f (⟨Rect.unit ![0, 0] S2048x512.size inb_S2048x512_S2048x512_0_0, z⟩ :: L)) (ix2 r q)
      = z (ix2 r q) := by
  refine View.read_writes_cons_hit_of_coords _ _ _ _ _ _ _ fun a => ?_
  match a with
  | ⟨0, _⟩ => show r.val = 0 + 1 * r.val; omega
  | ⟨1, _⟩ => show q.val = 0 + 1 * q.val; omega

theorem cov_at (L : List (View.Piece (Elt Ideal) S2048x512 .f32)) (r : Fin 2048) (q : Fin 512) :
    arg.view.readCov L (Rect.unit (s := S2048x512) ![0, 0] S2048x512.size inb_S2048x512_S2048x512_0_0).toLoadRect (ix2 r q)
      = arg.view.read (Elt Ideal) (arg.view.writes (Elt Ideal) arg.view.junk L) (ix2 r q) := by
  unfold View.readCov
  rw [View.readAt_apply]
  congr 1
  funext a
  apply Fin.ext
  rw [LoadRect.idx_apply]
  match a with
  | ⟨0, _⟩ => show 0 + 1 * r.val = r.val; omega
  | ⟨1, _⟩ => show 0 + 1 * q.val = q.val; omega

end

section
variable (arg14 arg15 : Memref sig .tc .vmem S2048x512 .f32) (z14 z15 : FVec Ideal S2048x512 .f32) (v w : FVec Ideal S1x512 .f32)
  (ur ui : Fin 512 → ℕ → EReal)
  (hr : ∀ (r : Fin 2048) q, z14 (ix2 r q) = ur q (256 * (r.val % 8) + r.val / 8))
  (hi : ∀ (r : Fin 2048) q, z15 (ix2 r q) = ui q (256 * (r.val % 8) + r.val / 8))
  (ok : ∀ q, Ok (v (ix2 0 q)) (w (ix2 0 q)) (ur q) (ui q))
  (H14 H15 : List (View.Piece (Elt Ideal) S2048x512 .f32))
  (e14 : H14 = [⟨Rect.unit ![0, 0] S2048x512.size inb_S2048x512_S2048x512_0_0, z14⟩])
  (e15 : H15 = [⟨Rect.unit ![0, 0] S2048x512.size inb_S2048x512_S2048x512_0_0, z15⟩])
  (S T : ℕ → LoopSt)
  (h0 : S 0 = ((k0_pay22, k0_pay22), [], []))
  (hs : ∀ (k : ℕ) (hk : k < 256), S (k + 1) = step1 arg14 arg15 (arg14.view.writes (Elt Ideal) arg14.view.junk H14)
    (arg15.view.writes (Elt Ideal) arg15.view.junk H15) v w ![8 * k, 0] (inb k hk) (S k))
  (i1 i2 : FVec Ideal S8x512 .f32)
  (p0 : T 0 = ((i1, i2), [], []))
  (ps : ∀ (k : ℕ) (hk : k < 256), T (k + 1) = step2 arg14 arg15 (arg14.view.writes (Elt Ideal) arg14.view.junk ((S 256).2.1 ++ H14))
    (arg15.view.writes (Elt Ideal) arg15.view.junk ((S 256).2.2 ++ H15)) (k0_pay20 v) (k0_pay21 w) ![8 * k, 0] (inb k hk) (T k))
  (hin : ∀ (q : Fin 512) (f : ℕ → EReal × EReal), (∀ j : Fin 8, ((S 256).1.1 (ix2 j q), (S 256).1.2 (ix2 j q)) = f j.val) → ∀ j : Fin 8,
    (i1 (ix2 j q), i2 (ix2 j q)) = (v (ix2 0 q) * (cin (pole v w q) f j.val).1 - w (ix2 0 q) * (cin (pole v w q) f j.val).2,
      v (ix2 0 q) * (cin (pole v w q) f j.val).2 + w (ix2 0 q) * (cin (pole v w q) f j.val).1))

include hr hi e14 e15 h0 hs in
theorem first :
    (∀ (j : Fin 8) (q : Fin 512), ((S 256).1.1 (ix2 j q), (S 256).1.2 (ix2 j q)) = loc (v (ix2 0 q)) (w (ix2 0 q)) (ur q) (ui q) j.val 256)
    ∧ (∀ (r : Fin 2048) (q : Fin 512), arg14.view.read (Elt Ideal) (arg14.view.writes (Elt Ideal) arg14.view.junk ((S 256).2.1 ++ H14)) (ix2 r q)
        = (loc (v (ix2 0 q)) (w (ix2 0 q)) (ur q) (ui q) (r.val % 8) (r.val / 8 + 1)).1)
    ∧ (∀ (r : Fin 2048) (q : Fin 512), arg15.view.read (Elt Ideal) (arg15.view.writes (Elt Ideal) arg15.view.junk ((S 256).2.2 ++ H15)) (ix2 r q)
        = (loc (v (ix2 0 q)) (w (ix2 0 q)) (ur q) (ui q) (r.val % 8) (r.val / 8 + 1)).2) := by
  have k := loop1 arg14 arg15 (arg14.view.writes (Elt Ideal) arg14.view.junk H14) (arg15.view.writes (Elt Ideal) arg15.view.junk H15)
    (fun r q => ur q (256 * (r % 8) + r / 8)) (fun r q => ui q (256 * (r % 8) + r / 8))
    (fun r q => by rw [e14, whole_at]; exact hr r q) (fun r q => by rw [e15, whole_at]; exact hi r q)
    (fun k => ![8 * k, 0]) (fun _ _ => rfl) inb S v w h0 hs 256 le_rfl
  have m8 : ∀ t j : ℕ, j < 8 → 256 * ((8 * t + j) % 8) + (8 * t + j) / 8 = 256 * j + t := fun t j hj => by omega
  obtain ⟨k1, k2, k3⟩ := k
  refine ⟨fun j q => ?_, fun r q => ?_, fun r q => ?_⟩
  · rw [k1 j q]
    simp only [m8 _ j.val j.isLt]
    rfl
  · rw [View.writes_append, k2 r q, if_pos (by omega)]
    simp only [m8 _ (r.val % 8) (by omega)]
    rfl
  · rw [View.writes_append, k3 r q, if_pos (by omega)]
    simp only [m8 _ (r.val % 8) (by omega)]
    rfl

include hr hi e14 e15 h0 hs hin in
theorem second (j : Fin 8) (q : Fin 512) : (i1 (ix2 j q), i2 (ix2 j q)) = fst (v (ix2 0 q)) (w (ix2 0 q)) (ur q) (ui q) j.val := by
  rw [hin q (fun j => loc (v (ix2 0 q)) (w (ix2 0 q)) (ur q) (ui q) j 256)
    (fun j => (first arg14 arg15 z14 z15 v w ur ui hr hi H14 H15 e14 e15 S h0 hs).1 j q) j, pole_eq]
  rfl

include hr hi ok e14 e15 h0 hs p0 ps hin in
theorem rows (r : Fin 2048) (q : Fin 512) :
    arg14.view.readCov ((T 256).2.1 ++ ((S 256).2.1 ++ H14)) (Rect.unit (s := S2048x512) ![0, 0] S2048x512.size inb_S2048x512_S2048x512_0_0).toLoadRect (ix2 r q)
      = (run (v (ix2 0 q)) (w (ix2 0 q)) (ur q) (ui q) (256 * (r.val % 8) + r.val / 8 + 1)).1
    ∧ arg15.view.readCov ((T 256).2.2 ++ ((S 256).2.2 ++ H15)) (Rect.unit (s := S2048x512) ![0, 0] S2048x512.size inb_S2048x512_S2048x512_0_0).toLoadRect (ix2 r q)
      = (run (v (ix2 0 q)) (w (ix2 0 q)) (ur q) (ui q) (256 * (r.val % 8) + r.val / 8 + 1)).2 := by
  obtain ⟨f1, f2, f3⟩ := first arg14 arg15 z14 z15 v w ur ui hr hi H14 H15 e14 e15 S h0 hs
  have k := loop2 arg14 arg15 (arg14.view.writes (Elt Ideal) arg14.view.junk ((S 256).2.1 ++ H14)) (arg15.view.writes (Elt Ideal) arg15.view.junk ((S 256).2.2 ++ H15))
    (fun r q => (loc (v (ix2 0 q)) (w (ix2 0 q)) (ur q) (ui q) (r % 8) (r / 8 + 1)).1)
    (fun r q => (loc (v (ix2 0 q)) (w (ix2 0 q)) (ur q) (ui q) (r % 8) (r / 8 + 1)).2) f2 f3
    (fun k => ![8 * k, 0]) (fun _ _ => rfl) inb T (k0_pay20 v) (k0_pay21 w) i1 i2 p0 ps 256 le_rfl
  obtain ⟨k1, k2, k3⟩ := k
  obtain ⟨g1, g2, g3⟩ := seg (ok q)
  have e := second arg14 arg15 z14 z15 v w ur ui hr hi H14 H15 e14 e15 S h0 hs i1 i2 hin ⟨r.val % 8, by omega⟩ q
  constructor
  · rw [cov_at, View.writes_append, k2 r ⟨r.val % 8, by omega⟩ rfl q, if_pos (by omega), pay20_at, pay21_at, e]
    exact g1 _ _
  · rw [cov_at, View.writes_append, k3 r ⟨r.val % 8, by omega⟩ rfl q, if_pos (by omega), pay20_at, pay21_at, e]
    exact g2 _ _

include hr hi ok e14 e15 h0 hs in
theorem last (q : Fin 512) (o p : FVec Ideal S1x1x1x512 .f32)
    (ho : ∀ f : ℕ → EReal × EReal, (∀ j : Fin 8, ((S 256).1.1 (ix2 j q), (S 256).1.2 (ix2 j q)) = f j.val) →
      (o (ix4 0 0 0 q), p (ix4 0 0 0 q)) = cin (pole v w q) f 8) :
    (o (ix4 0 0 0 q), p (ix4 0 0 0 q)) = run (v (ix2 0 q)) (w (ix2 0 q)) (ur q) (ui q) 2048 := by
  rw [ho (fun j => loc (v (ix2 0 q)) (w (ix2 0 q)) (ur q) (ui q) j 256)
    (fun j => (first arg14 arg15 z14 z15 v w ur ui hr hi H14 H15 e14 e15 S h0 hs).1 j q), pole_eq]
  exact (seg (ok q)).2.2

end

section
variable (arg14 arg15 : Memref sig .tc .vmem S2048x512 .f32) (z14 z15 : FVec Ideal S2048x512 .f32) (v w : FVec Ideal S1x512 .f32)
  (ur ui : Fin 512 → ℕ → EReal)
  (hr : ∀ (r : Fin 2048) q, z14 (ix2 r q) = ur q (256 * (r.val % 8) + r.val / 8))
  (hi : ∀ (r : Fin 2048) q, z15 (ix2 r q) = ui q (256 * (r.val % 8) + r.val / 8))
  (ok : ∀ q, Ok (v (ix2 0 q)) (w (ix2 0 q)) (ur q) (ui q))
  (H14 H15 : List (View.Piece (Elt Ideal) S2048x512 .f32))
  (e14 : H14 = [⟨Rect.unit ![0, 0] S2048x512.size inb_S2048x512_S2048x512_0_0, z14⟩])
  (e15 : H15 = [⟨Rect.unit ![0, 0] S2048x512.size inb_S2048x512_S2048x512_0_0, z15⟩])
  (S T : ℕ → LoopSt) (N M : ℕ) (hN : N = 256) (hM : M = 256)
  (h0 : S 0 = ((k0_pay22, k0_pay22), [], []))
  (hs : ∀ (k : ℕ) (hk : k < 256), S (k + 1) = step1 arg14 arg15 (arg14.view.writes (Elt Ideal) arg14.view.junk H14)
    (arg15.view.writes (Elt Ideal) arg15.view.junk H15) v w ![8 * k, 0] (inb k hk) (S k))
  (i1 i2 : FVec Ideal S8x512 .f32)
  (p0 : T 0 = ((i1, i2), [], []))
  (ps : ∀ (k : ℕ) (hk : k < 256), T (k + 1) = step2 arg14 arg15 (arg14.view.writes (Elt Ideal) arg14.view.junk ((S N).2.1 ++ H14))
    (arg15.view.writes (Elt Ideal) arg15.view.junk ((S N).2.2 ++ H15)) (k0_pay20 v) (k0_pay21 w) ![8 * k, 0] (inb k hk) (T k))
  (hin : ∀ (q : Fin 512) (f : ℕ → EReal × EReal), (∀ j : Fin 8, ((S N).1.1 (ix2 j q), (S N).1.2 (ix2 j q)) = f j.val) → ∀ j : Fin 8,
    (i1 (ix2 j q), i2 (ix2 j q)) = (v (ix2 0 q) * (cin (pole v w q) f j.val).1 - w (ix2 0 q) * (cin (pole v w q) f j.val).2,
      v (ix2 0 q) * (cin (pole v w q) f j.val).2 + w (ix2 0 q) * (cin (pole v w q) f j.val).1))

include hr hi ok e14 e15 hN hM h0 hs p0 ps hin in
theorem rowsN (r : Fin 2048) (q : Fin 512) :
    arg14.view.readCov ((T M).2.1 ++ ((S N).2.1 ++ H14)) (Rect.unit (s := S2048x512) ![0, 0] S2048x512.size inb_S2048x512_S2048x512_0_0).toLoadRect (ix2 r q)
      = (run (v (ix2 0 q)) (w (ix2 0 q)) (ur q) (ui q) (256 * (r.val % 8) + r.val / 8 + 1)).1
    ∧ arg15.view.readCov ((T M).2.2 ++ ((S N).2.2 ++ H15)) (Rect.unit (s := S2048x512) ![0, 0] S2048x512.size inb_S2048x512_S2048x512_0_0).toLoadRect (ix2 r q)
      = (run (v (ix2 0 q)) (w (ix2 0 q)) (ur q) (ui q) (256 * (r.val % 8) + r.val / 8 + 1)).2 := by
  subst hN hM
  exact rows arg14 arg15 z14 z15 v w ur ui hr hi ok H14 H15 e14 e15 S T h0 hs i1 i2 p0 ps hin r q

include hr hi ok e14 e15 hN h0 hs in
theorem lastN (q : Fin 512) (o p : FVec Ideal S1x1x1x512 .f32)
    (ho : ∀ f : ℕ → EReal × EReal, (∀ j : Fin 8, ((S N).1.1 (ix2 j q), (S N).1.2 (ix2 j q)) = f j.val) →
      (o (ix4 0 0 0 q), p (ix4 0 0 0 q)) = cin (pole v w q) f 8) :
    (o (ix4 0 0 0 q), p (ix4 0 0 0 q)) = run (v (ix2 0 q)) (w (ix2 0 q)) (ur q) (ui q) 2048 := by
  subst hN
  exact last arg14 arg15 z14 z15 v w ur ui hr hi ok H14 H15 e14 e15 S h0 hs q o p ho

end

end Cert.S5ScanIdeal.Hand
-- ==== Proof.S5ScanVal.lean ====
module

public import proofs.«01_k».proof.Proof.S5ScanRows

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! The rows of the scratch and the last states, over the values a block's run names. -/

section
variable (r r1 : FVec Ideal S1x512 .f32) (R S : FVec Ideal S8x512 .f32) (x y : Vec Ideal S1x1x1x512 .f32)
  (r5 : FVec Ideal S8x512 .f32) (r6 : FVec Ideal S8x512 .f32) (r9 : FVec Ideal S1x512 .f32) (r10 : FVec Ideal S1x512 .f32) (r11 : FVec Ideal S1x512 .f32) (r12 : FVec Ideal S1x512 .f32) (r13 : FVec Ideal S1x512 .f32) (r14 : FVec Ideal S1x512 .f32) (r15 : FVec Ideal S1x512 .f32) (r16 : FVec Ideal S1x512 .f32) (r17 : FVec Ideal S1x512 .f32) (r18 : FVec Ideal S1x512 .f32) (r19 : FVec Ideal S1x512 .f32) (r20 : FVec Ideal S1x512 .f32) (r21 : FVec Ideal S1x512 .f32) (r22 : FVec Ideal S1x512 .f32) (r23 : FVec Ideal S1x512 .f32) (r24 : FVec Ideal S1x512 .f32) (r25 : FVec Ideal S1x512 .f32) (r26 : FVec Ideal S1x512 .f32) (r27 : FVec Ideal S1x512 .f32) (r28 : FVec Ideal S1x512 .f32) (r29 : FVec Ideal S1x512 .f32) (r30 : FVec Ideal S1x512 .f32) (r31 : FVec Ideal S1x512 .f32) (r32 : FVec Ideal S1x512 .f32)
  (e5 : r5 = k0_pay20 r)
  (e6 : r6 = k0_pay21 r1)
  (e9 : r9 = k0_pay31 r r1)
  (e10 : r10 = k0_pay32 r r1)
  (e11 : r11 = k0_pay33 r r1)
  (e12 : r12 = k0_pay42 r9 r10 r11 k0_pay34)
  (e13 : r13 = k0_pay43 r9 r10 r11 k0_pay34)
  (e14 : r14 = k0_pay44 x)
  (e15 : r15 = k0_pay45 y)
  (e16 : r16 = k0_pay46 R r9 r10 r11 k0_pay34 x y)
  (e17 : r17 = k0_pay47 S r9 r10 r11 k0_pay34 x y)
  (e18 : r18 = k0_pay48 R S r9 r10 r11 k0_pay34 x y)
  (e19 : r19 = k0_pay49 S r9 r10 r11 k0_pay34 x y)
  (e20 : r20 = k0_pay50 r13 r16 r19)
  (e21 : r21 = k0_pay51 R r12 r13 r16 r18 r19)
  (e22 : r22 = k0_pay52 S r12 r13 r16 r18 r19)
  (e23 : r23 = k0_pay53 R S r12 r13 r16 r18 r19)
  (e24 : r24 = k0_pay54 R S r12 r13 r16 r18 r19)
  (e25 : r25 = k0_pay55 R S r12 r13 r16 r18 r19)
  (e26 : r26 = k0_pay56 R S r12 r13 r16 r18 r19)
  (e27 : r27 = k0_pay57 R S r12 r13 r16 r18 r19)
  (e28 : r28 = k0_pay58 R S r12 r13 r16 r18 r19)
  (e29 : r29 = k0_pay59 R S r12 r13 r16 r18 r19)
  (e30 : r30 = k0_pay60 R S r12 r13 r16 r18 r19)
  (e31 : r31 = k0_pay61 R S r12 r13 r16 r18 r19)
  (e32 : r32 = k0_pay62 R S r12 r13 r16 r18 r19)
  (hx : ∀ q, x (ix4 0 0 0 q) = 0) (hy : ∀ q, y (ix4 0 0 0 q) = 0)

include e5 e6 e9 e10 e11 e12 e13 e14 e15 e16 e17 e18 e19 e20 e21 e22 e23 e24 e25 e26 e27 e28 e29 e30 e31 e32 hx hy in
theorem inV (q : Fin 512) (f : ℕ → EReal × EReal) (hf : ∀ j : Fin 8, (R (ix2 j q), S (ix2 j q)) = f j.val) (j : Fin 8) :
    (k0_pay67 r5 r6 r14 r15 r16 r17 r18 r20 r21 r22 r23 r24 r25 r26 r27 r28 r29 r30 (ix2 j q), k0_pay68 r5 r6 r14 r15 r16 r17 r18 r20 r21 r22 r23 r24 r25 r26 r27 r28 r29 r30 (ix2 j q))
      = (r (ix2 0 q) * (cin (pole r r1 q) f j.val).1 - r1 (ix2 0 q) * (cin (pole r r1 q) f j.val).2,
        r (ix2 0 q) * (cin (pole r r1 q) f j.val).2 + r1 (ix2 0 q) * (cin (pole r r1 q) f j.val).1) := by
  subst e32 e31 e30 e29 e28 e27 e26 e25 e24 e23 e22 e21 e20 e19 e18 e17 e16 e15 e14 e13 e12 e11 e10 e9 e6 e5
  exact entered R S _ _ _ _ x y q (hx q) (hy q) f hf r r1 j

include e5 e6 e9 e10 e11 e12 e13 e14 e15 e16 e17 e18 e19 e20 e21 e22 e23 e24 e25 e26 e27 e28 e29 e30 e31 e32 hx hy in
theorem outV (q : Fin 512) (f : ℕ → EReal × EReal) (hf : ∀ j : Fin 8, (R (ix2 j q), S (ix2 j q)) = f j.val) :
    (k0_pay63 r31 (ix4 0 0 0 q), k0_pay64 r13 r29 r32 (ix4 0 0 0 q)) = cin (pole r r1 q) f 8 := by
  subst e32 e31 e30 e29 e28 e27 e26 e25 e24 e23 e22 e21 e20 e19 e18 e17 e16 e15 e14 e13 e12 e11 e10 e9 e6 e5
  exact c8 R S _ _ _ _ x y q (hx q) (hy q) f hf _ rfl _ rfl

variable (arg14 arg15 : Memref sig .tc .vmem S2048x512 .f32) (z14 z15 : FVec Ideal S2048x512 .f32) (v w : FVec Ideal S1x512 .f32)
  (er : r = v) (er1 : r1 = w)
  (ur ui : Fin 512 → ℕ → EReal)
  (hr : ∀ (r : Fin 2048) q, z14 (ix2 r q) = ur q (256 * (r.val % 8) + r.val / 8))
  (hi : ∀ (r : Fin 2048) q, z15 (ix2 r q) = ui q (256 * (r.val % 8) + r.val / 8))
  (ok : ∀ q, Ok (v (ix2 0 q)) (w (ix2 0 q)) (ur q) (ui q))
  (H14 H15 : List (View.Piece (Elt Ideal) S2048x512 .f32))
  (e14' : H14 = [⟨Rect.unit ![0, 0] S2048x512.size inb_S2048x512_S2048x512_0_0, z14⟩])
  (e15' : H15 = [⟨Rect.unit ![0, 0] S2048x512.size inb_S2048x512_S2048x512_0_0, z15⟩])
  (A T : ℕ → LoopSt) (N M : ℕ) (hN : N = 256) (hM : M = 256)
  (h0 : A 0 = ((k0_pay22, k0_pay22), [], []))
  (hs : ∀ (k : ℕ) (hk : k < 256), A (k + 1) = step1 arg14 arg15 (arg14.view.writes (Elt Ideal) arg14.view.junk H14)
    (arg15.view.writes (Elt Ideal) arg15.view.junk H15) r r1 ![8 * k, 0] (inb k hk) (A k))
  (e7 : R = (A N).1.1) (e8 : S = (A N).1.2)
  (p0 : T 0 = ((k0_pay67 r5 r6 r14 r15 r16 r17 r18 r20 r21 r22 r23 r24 r25 r26 r27 r28 r29 r30, k0_pay68 r5 r6 r14 r15 r16 r17 r18 r20 r21 r22 r23 r24 r25 r26 r27 r28 r29 r30), [], []))
  (ps : ∀ (k : ℕ) (hk : k < 256), T (k + 1) = step2 arg14 arg15 (arg14.view.writes (Elt Ideal) arg14.view.junk ((A N).2.1 ++ H14))
    (arg15.view.writes (Elt Ideal) arg15.view.junk ((A N).2.2 ++ H15)) r5 r6 ![8 * k, 0] (inb k hk) (T k))
  (C14 C15 : Vec Ideal S2048x512 .f32)
  (hC14 : C14 = arg14.view.readCov ((T M).2.1 ++ ((A N).2.1 ++ H14)) (Rect.unit (s := S2048x512) ![0, 0] S2048x512.size inb_S2048x512_S2048x512_0_0).toLoadRect)
  (hC15 : C15 = arg15.view.readCov ((T M).2.2 ++ ((A N).2.2 ++ H15)) (Rect.unit (s := S2048x512) ![0, 0] S2048x512.size inb_S2048x512_S2048x512_0_0).toLoadRect)

include e5 e6 e9 e10 e11 e12 e13 e14 e15 e16 e17 e18 e19 e20 e21 e22 e23 e24 e25 e26 e27 e28 e29 e30 e31 e32 hx hy er er1 hr hi ok e14' e15' hN hM h0 hs e7 e8 p0 ps hC14 hC15 in
theorem rowsV (t : Fin 2048) (q : Fin 512) :
    C14 (ix2 t q) = (run (v (ix2 0 q)) (w (ix2 0 q)) (ur q) (ui q) (256 * (t.val % 8) + t.val / 8 + 1)).1
    ∧ C15 (ix2 t q) = (run (v (ix2 0 q)) (w (ix2 0 q)) (ur q) (ui q) (256 * (t.val % 8) + t.val / 8 + 1)).2 := by
  have k := inV r r1 R S x y r5 r6 r9 r10 r11 r12 r13 r14 r15 r16 r17 r18 r19 r20 r21 r22 r23 r24 r25 r26 r27 r28 r29 r30 r31 r32 e5 e6 e9 e10 e11 e12 e13 e14 e15 e16 e17 e18 e19 e20 e21 e22 e23 e24 e25 e26 e27 e28 e29 e30 e31 e32 hx hy
  subst hC14 hC15 er er1 e7 e8
  rw [e5, e6] at ps
  exact rowsN arg14 arg15 z14 z15 r r1 ur ui hr hi ok H14 H15 e14' e15' A T N M hN hM h0 hs _ _ p0 ps k t q

include e5 e6 e9 e10 e11 e12 e13 e14 e15 e16 e17 e18 e19 e20 e21 e22 e23 e24 e25 e26 e27 e28 e29 e30 e31 e32 hx hy er er1 hr hi ok e14' e15' hN h0 hs e7 e8 in
theorem lastV (q : Fin 512) :
    (k0_pay63 r31 (ix4 0 0 0 q), k0_pay64 r13 r29 r32 (ix4 0 0 0 q)) = run (v (ix2 0 q)) (w (ix2 0 q)) (ur q) (ui q) 2048 := by
  have k := outV r r1 R S x y r5 r6 r9 r10 r11 r12 r13 r14 r15 r16 r17 r18 r19 r20 r21 r22 r23 r24 r25 r26 r27 r28 r29 r30 r31 r32 e5 e6 e9 e10 e11 e12 e13 e14 e15 e16 e17 e18 e19 e20 e21 e22 e23 e24 e25 e26 e27 e28 e29 e30 e31 e32 hx hy
  subst er er1 e7 e8
  exact lastN arg14 arg15 z14 z15 r r1 ur ui hr hi ok H14 H15 e14' e15' A N hN h0 hs q _ _ (k q)

end

end Cert.S5ScanIdeal.Hand
-- ==== Proof.S5ScanBlk.lean ====
module

public import proofs.«01_k».proof.Proof.S5ScanVal

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! What a block's run leaves: the rows of the scratch and the last states. -/

/-- A whole buffer's contents read whole. -/
theorem rdw {s : Shape} {e : EltTy} (arg : Memref sig .tc .vmem s e) (h : arg.IsWhole) (x : s.Idx → Elt Ideal e) (off : Fin s.rank → ℕ)
    (ho : off = fun _ => 0) (inb : ∀ a, off a + s.size a ≤ s.size a) :
    arg.view.readAt (Elt Ideal) (Rect.unit off s.size inb).toLoadRect (h.unread x) = x := by
  subst ho
  funext y
  rw [View.readAt_apply, h.read_unread]
  congr 1
  funext a
  apply Fin.ext
  rw [LoadRect.idx_apply]
  show 0 + 1 * (y a).val = (y a).val
  omega

theorem z2 : (![0, 0] : Fin 2 → ℕ) = fun _ => 0 := by decide
theorem z4 : (![0, 0, 0, 0] : Fin 4 → ℕ) = fun _ => 0 := by decide

section
variable (c : Dev nD) (i : grid0.Coords) (arg2 : Memref sig .tc .vmem S2048x128 .f32) (harg2 : arg2.IsWhole) (arg3 : Memref sig .tc .vmem S1x1x8x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x1x128 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S2048x128 .f32) (harg11 : arg11.IsWhole) (arg12 : Memref sig .tc .vmem S1x1x1x512 .f32) (harg12 : arg12.IsWhole) (arg13 : Memref sig .tc .vmem S1x1x1x512 .f32) (harg13 : arg13.IsWhole) (arg14 : Memref sig .tc .vmem S2048x512 .f32) (harg14 : arg14.IsWhole) (arg15 : Memref sig .tc .vmem S2048x512 .f32) (harg15 : arg15.IsWhole)
  (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S1x1x1x512 .f32) (x8 : Vec Ideal S1x1x1x512 .f32)

theorem r_eq : (kernelRun0_A.sl.r (F := Ideal) c arg3 harg3 x1) = k0_pay7 x1 := by
  unfold kernelRun0_A.sl.r
  rw [rdw arg3 harg3 x1 _ z4]

theorem r_1_eq : (kernelRun0_A.sl.r_1 (F := Ideal) c arg3 harg3 x1) = k0_pay8 x1 := by
  unfold kernelRun0_A.sl.r_1
  rw [rdw arg3 harg3 x1 _ z4]

theorem r_2_eq : (kernelRun0_A.sl.r_2 (F := Ideal) c arg3 harg3 arg4 harg4 arg5 harg5 x1 x2 x3) = k0_pay14 x1 x2 x3 := by
  unfold kernelRun0_A.sl.r_2
  rw [rdw arg3 harg3 x1 _ z4, rdw arg4 harg4 x2 _ z4, rdw arg5 harg5 x3 _ z4]

theorem r_3_eq : (kernelRun0_A.sl.r_3 (F := Ideal) c arg3 harg3 arg4 harg4 arg5 harg5 x1 x2 x3) = k0_pay15 x1 x2 x3 := by
  unfold kernelRun0_A.sl.r_3
  rw [rdw arg3 harg3 x1 _ z4, rdw arg4 harg4 x2 _ z4, rdw arg5 harg5 x3 _ z4]

theorem H14_eq : (kernelRun0_A.sl.HS0_1 (F := Ideal) c arg2 harg2 arg3 harg3 arg4 harg4 arg5 harg5 x0 x1 x2 x3) = [⟨Rect.unit ![0, 0] S2048x512.size inb_S2048x512_S2048x512_0_0, k0_pay18 (k0_pay14 x1 x2 x3) x0⟩] := by
  unfold kernelRun0_A.sl.HS0_1
  rw [r_2_eq, rdw arg2 harg2 x0 _ z2]

theorem H15_eq : (kernelRun0_A.sl.HS1_1 (F := Ideal) c arg2 harg2 arg3 harg3 arg4 harg4 arg5 harg5 x0 x1 x2 x3) = [⟨Rect.unit ![0, 0] S2048x512.size inb_S2048x512_S2048x512_0_0, k0_pay19 (k0_pay15 x1 x2 x3) x0⟩] := by
  unfold kernelRun0_A.sl.HS1_1
  rw [r_3_eq, rdw arg2 harg2 x0 _ z2]

theorem q_5 : (kernelRun0_A.sl.r_5 (F := Ideal) c arg3 harg3 x1) = k0_pay20 (kernelRun0_A.sl.r (F := Ideal) c arg3 harg3 x1) := rfl
theorem q_6 : (kernelRun0_A.sl.r_6 (F := Ideal) c arg3 harg3 x1) = k0_pay21 (kernelRun0_A.sl.r_1 (F := Ideal) c arg3 harg3 x1) := rfl
theorem q_9 : (kernelRun0_A.sl.r_9 (F := Ideal) c arg3 harg3 x1) = k0_pay31 (kernelRun0_A.sl.r (F := Ideal) c arg3 harg3 x1) (kernelRun0_A.sl.r_1 (F := Ideal) c arg3 harg3 x1) := rfl
theorem q_10 : (kernelRun0_A.sl.r_10 (F := Ideal) c arg3 harg3 x1) = k0_pay32 (kernelRun0_A.sl.r (F := Ideal) c arg3 harg3 x1) (kernelRun0_A.sl.r_1 (F := Ideal) c arg3 harg3 x1) := rfl
theorem q_11 : (kernelRun0_A.sl.r_11 (F := Ideal) c arg3 harg3 x1) = k0_pay33 (kernelRun0_A.sl.r (F := Ideal) c arg3 harg3 x1) (kernelRun0_A.sl.r_1 (F := Ideal) c arg3 harg3 x1) := rfl
theorem q_12 : (kernelRun0_A.sl.r_12 (F := Ideal) c arg3 harg3 x1) = k0_pay42 (kernelRun0_A.sl.r_9 (F := Ideal) c arg3 harg3 x1) (kernelRun0_A.sl.r_10 (F := Ideal) c arg3 harg3 x1) (kernelRun0_A.sl.r_11 (F := Ideal) c arg3 harg3 x1) k0_pay34 := rfl
theorem q_13 : (kernelRun0_A.sl.r_13 (F := Ideal) c arg3 harg3 x1) = k0_pay43 (kernelRun0_A.sl.r_9 (F := Ideal) c arg3 harg3 x1) (kernelRun0_A.sl.r_10 (F := Ideal) c arg3 harg3 x1) (kernelRun0_A.sl.r_11 (F := Ideal) c arg3 harg3 x1) k0_pay34 := rfl
theorem q_14 : (kernelRun0_A.sl.r_14 (F := Ideal) c arg9 harg9 x7) = k0_pay44 (View.readAt (Elt Ideal) arg9.view (Rect.unit ![0, 0, 0, 0] S1x1x1x512.size inb_S1x1x1x512_S1x1x1x512_0_0_0_0).toLoadRect (harg9.unread x7)) := rfl
theorem q_15 : (kernelRun0_A.sl.r_15 (F := Ideal) c arg10 harg10 x8) = k0_pay45 (View.readAt (Elt Ideal) arg10.view (Rect.unit ![0, 0, 0, 0] S1x1x1x512.size inb_S1x1x1x512_S1x1x1x512_0_0_0_0).toLoadRect (harg10.unread x8)) := rfl
theorem q_16 : (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay46 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_9 (F := Ideal) c arg3 harg3 x1) (kernelRun0_A.sl.r_10 (F := Ideal) c arg3 harg3 x1) (kernelRun0_A.sl.r_11 (F := Ideal) c arg3 harg3 x1) k0_pay34 (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) := rfl
theorem q_17 : (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay47 (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_9 (F := Ideal) c arg3 harg3 x1) (kernelRun0_A.sl.r_10 (F := Ideal) c arg3 harg3 x1) (kernelRun0_A.sl.r_11 (F := Ideal) c arg3 harg3 x1) k0_pay34 (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) := rfl
theorem q_18 : (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay48 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_9 (F := Ideal) c arg3 harg3 x1) (kernelRun0_A.sl.r_10 (F := Ideal) c arg3 harg3 x1) (kernelRun0_A.sl.r_11 (F := Ideal) c arg3 harg3 x1) k0_pay34 (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) := rfl
theorem q_19 : (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay49 (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_9 (F := Ideal) c arg3 harg3 x1) (kernelRun0_A.sl.r_10 (F := Ideal) c arg3 harg3 x1) (kernelRun0_A.sl.r_11 (F := Ideal) c arg3 harg3 x1) k0_pay34 (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) := rfl
theorem q_20 : (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay50 (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_21 : (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay51 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_22 : (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay52 (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_23 : (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay53 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_24 : (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay54 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_25 : (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay55 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_26 : (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay56 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_27 : (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay57 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_28 : (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay58 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_29 : (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay59 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_30 : (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay60 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_31 : (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay61 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl
theorem q_32 : (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) = k0_pay62 (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_12 (F := Ideal) c arg3 harg3 x1) (kernelRun0_A.sl.r_13 (F := Ideal) c arg3 harg3 x1) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) := rfl

theorem q_211 : kernelRun0_A.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 = arg14.view.readCov ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))) (Scf.trips k0_t2_loop.lb k0_t2_loop.ub k0_t2_loop.st)).2.1 ++ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (Rect.unit (s := S2048x512) ![0, 0] S2048x512.size inb_S2048x512_S2048x512_0_0).toLoadRect := rfl
theorem q_217 : kernelRun0_A.sl.v217 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 = arg15.view.readCov ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))) (Scf.trips k0_t2_loop.lb k0_t2_loop.ub k0_t2_loop.st)).2.2 ++ ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) (Rect.unit (s := S2048x512) ![0, 0] S2048x512.size inb_S2048x512_S2048x512_0_0).toLoadRect := rfl
theorem q_7 : (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).1.1 := rfl
theorem q_8 : (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).1.2 := rfl

theorem tN : (Scf.trips k0_t1_loop.lb k0_t1_loop.ub k0_t1_loop.st) = 256 := by decide +kernel
theorem tM : (Scf.trips k0_t2_loop.lb k0_t2_loop.ub k0_t2_loop.st) = 256 := by decide +kernel
theorem z_1 : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) 0 = ((k0_pay22, k0_pay22), [], []) := by rw [st_k0_t1]
theorem z_2 : st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))) 0 = (((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))), [], []) := by rw [st_k0_t2]
theorem s_1 (k : ℕ) (hk : k < 256) : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (k + 1) = step1 arg14 arg15 (arg14.view.writes (Elt Ideal) arg14.view.junk (kernelRun0_A.sl.HS0_1 (F := Ideal) c arg2 harg2 arg3 harg3 arg4 harg4 arg5 harg5 x0 x1 x2 x3))
    (arg15.view.writes (Elt Ideal) arg15.view.junk (kernelRun0_A.sl.HS1_1 (F := Ideal) c arg2 harg2 arg3 harg3 arg4 harg4 arg5 harg5 x0 x1 x2 x3)) (kernelRun0_A.sl.r (F := Ideal) c arg3 harg3 x1) (kernelRun0_A.sl.r_1 (F := Ideal) c arg3 harg3 x1) ![8 * k, 0] (inb k hk) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) k) :=
  st1_step c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ k hk
theorem s_2 (k : ℕ) (hk : k < 256) : st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))) (k + 1) = step2 arg14 arg15 (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) (kernelRun0_A.sl.r_5 (F := Ideal) c arg3 harg3 x1) (kernelRun0_A.sl.r_6 (F := Ideal) c arg3 harg3 x1) ![8 * k, 0] (inb k hk) (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8))) k) :=
  st2_step c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _  _ _ _ k hk

variable (ur ui : Fin 512 → ℕ → EReal)
  (hr : ∀ (r : Fin 2048) q, k0_pay18 (k0_pay14 x1 x2 x3) x0 (ix2 r q) = ur q (256 * (r.val % 8) + r.val / 8))
  (hi : ∀ (r : Fin 2048) q, k0_pay19 (k0_pay15 x1 x2 x3) x0 (ix2 r q) = ui q (256 * (r.val % 8) + r.val / 8))
  (ok : ∀ q, Ok (k0_pay7 x1 (ix2 0 q)) (k0_pay8 x1 (ix2 0 q)) (ur q) (ui q))
  (hx : ∀ q, x7 (ix4 0 0 0 q) = 0) (hy : ∀ q, x8 (ix4 0 0 0 q) = 0)

include hx in
theorem hx' (q : Fin 512) : (View.readAt (Elt Ideal) arg9.view (Rect.unit ![0, 0, 0, 0] S1x1x1x512.size inb_S1x1x1x512_S1x1x1x512_0_0_0_0).toLoadRect (harg9.unread x7)) (ix4 0 0 0 q) = 0 := by
  rw [rdw arg9 harg9 x7 _ z4]
  exact hx q

include hy in
theorem hy' (q : Fin 512) : (View.readAt (Elt Ideal) arg10.view (Rect.unit ![0, 0, 0, 0] S1x1x1x512.size inb_S1x1x1x512_S1x1x1x512_0_0_0_0).toLoadRect (harg10.unread x8)) (ix4 0 0 0 q) = 0 := by
  rw [rdw arg10 harg10 x8 _ z4]
  exact hy q

end

end Cert.S5ScanIdeal.Hand
-- ==== Proof.S5ScanBlkRows.lean ====
module

public import proofs.«01_k».proof.Proof.S5ScanBlk

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! What a block's run leaves: the rows of the scratch and the last states. -/

/-! The rows of the scratch and the last states, of a block. -/

section
variable (c : Dev nD) (i : grid0.Coords) (arg2 : Memref sig .tc .vmem S2048x128 .f32) (harg2 : arg2.IsWhole) (arg3 : Memref sig .tc .vmem S1x1x8x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x1x128 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S2048x128 .f32) (harg11 : arg11.IsWhole) (arg12 : Memref sig .tc .vmem S1x1x1x512 .f32) (harg12 : arg12.IsWhole) (arg13 : Memref sig .tc .vmem S1x1x1x512 .f32) (harg13 : arg13.IsWhole) (arg14 : Memref sig .tc .vmem S2048x512 .f32) (harg14 : arg14.IsWhole) (arg15 : Memref sig .tc .vmem S2048x512 .f32) (harg15 : arg15.IsWhole)
  (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S1x1x1x512 .f32) (x8 : Vec Ideal S1x1x1x512 .f32)

variable (ur ui : Fin 512 → ℕ → EReal)
  (hr : ∀ (r : Fin 2048) q, k0_pay18 (k0_pay14 x1 x2 x3) x0 (ix2 r q) = ur q (256 * (r.val % 8) + r.val / 8))
  (hi : ∀ (r : Fin 2048) q, k0_pay19 (k0_pay15 x1 x2 x3) x0 (ix2 r q) = ui q (256 * (r.val % 8) + r.val / 8))
  (ok : ∀ q, Ok (k0_pay7 x1 (ix2 0 q)) (k0_pay8 x1 (ix2 0 q)) (ur q) (ui q))
  (hx : ∀ q, x7 (ix4 0 0 0 q) = 0) (hy : ∀ q, x8 (ix4 0 0 0 q) = 0)

include hr hi ok hx hy in
theorem rows_at (t : Fin 2048) (q : Fin 512) :
    kernelRun0_A.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (ix2 t q)
      = (run (k0_pay7 x1 (ix2 0 q)) (k0_pay8 x1 (ix2 0 q)) (ur q) (ui q) (256 * (t.val % 8) + t.val / 8 + 1)).1
    ∧ kernelRun0_A.sl.v217 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (ix2 t q)
      = (run (k0_pay7 x1 (ix2 0 q)) (k0_pay8 x1 (ix2 0 q)) (ur q) (ui q) (256 * (t.val % 8) + t.val / 8 + 1)).2 := by
  refine rowsV (kernelRun0_A.sl.r (F := Ideal) c arg3 harg3 x1) (kernelRun0_A.sl.r_1 (F := Ideal) c arg3 harg3 x1) (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) (kernelRun0_A.sl.r_5 (F := Ideal) c arg3 harg3 x1) (kernelRun0_A.sl.r_6 (F := Ideal) c arg3 harg3 x1) (kernelRun0_A.sl.r_9 (F := Ideal) c arg3 harg3 x1) (kernelRun0_A.sl.r_10 (F := Ideal) c arg3 harg3 x1) (kernelRun0_A.sl.r_11 (F := Ideal) c arg3 harg3 x1) (kernelRun0_A.sl.r_12 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) ?_ ?_ ?_ ?_ ?_ ?_ ?_ ?_ ?_ ?_ ?_ ?_ ?_ ?_ ?_ ?_ ?_ ?_ ?_ ?_ ?_ ?_ ?_ ?_ ?_ ?_ ?_ ?_
    arg14 arg15 (k0_pay18 (k0_pay14 x1 x2 x3) x0) (k0_pay19 (k0_pay15 x1 x2 x3) x0) (k0_pay7 x1) (k0_pay8 x1)
    ?_ ?_ ur ui ?_ ?_ ?_ (kernelRun0_A.sl.HS0_1 (F := Ideal) c arg2 harg2 arg3 harg3 arg4 harg4 arg5 harg5 x0 x1 x2 x3) (kernelRun0_A.sl.HS1_1 (F := Ideal) c arg2 harg2 arg3 harg3 arg4 harg4 arg5 harg5 x0 x1 x2 x3)
    ?_ ?_
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22)) (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_5 (F := Ideal) c arg3 harg3 x1) (kernelRun0_A.sl.r_6 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (arg14.view.writes (Elt Ideal) arg14.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.1 ++ (kernelRun0_A.sl.HS0_1 (F := Ideal) c arg2 harg2 arg3 harg3 arg4 harg4 arg5 harg5 x0 x1 x2 x3))) (arg15.view.writes (Elt Ideal) arg15.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22) (Scf.trips k0_t1_loop.lb k0_t1_loop.ub k0_t1_loop.st)).2.2 ++ (kernelRun0_A.sl.HS1_1 (F := Ideal) c arg2 harg2 arg3 harg3 arg4 harg4 arg5 harg5 x0 x1 x2 x3))) ((k0_pay67 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)), (k0_pay68 (kernelRun0_A.sl.r_5 (F := Ideal) c arg3 harg3 x1) (kernelRun0_A.sl.r_6 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)))) (Scf.trips k0_t1_loop.lb k0_t1_loop.ub k0_t1_loop.st) (Scf.trips k0_t2_loop.lb k0_t2_loop.ub k0_t2_loop.st) ?_ ?_ ?_
    ?_ ?_ ?_ ?_ ?_
    (kernelRun0_A.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.v217 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) ?_ ?_ t q
  · exact (q_5 c arg3 harg3 x1)
  · exact (q_6 c arg3 harg3 x1)
  · exact (q_9 c arg3 harg3 x1)
  · exact (q_10 c arg3 harg3 x1)
  · exact (q_11 c arg3 harg3 x1)
  · exact (q_12 c arg3 harg3 x1)
  · exact (q_13 c arg3 harg3 x1)
  · exact (q_14 c arg9 harg9 x7)
  · exact (q_15 c arg10 harg10 x8)
  · exact (q_16 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_17 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_18 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_19 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_20 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_21 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_22 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_23 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_24 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_25 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_26 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_27 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_28 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_29 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_30 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_31 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_32 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact hx' arg9 harg9 x7 hx
  · exact hy' arg10 harg10 x8 hy
  · exact r_eq c arg3 harg3 x1
  · exact r_1_eq c arg3 harg3 x1
  · exact hr
  · exact hi
  · exact ok
  · exact H14_eq c arg2 harg2 arg3 harg3 arg4 harg4 arg5 harg5 x0 x1 x2 x3
  · exact H15_eq c arg2 harg2 arg3 harg3 arg4 harg4 arg5 harg5 x0 x1 x2 x3
  · exact tN
  · exact tM
  · exact z_1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact s_1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact q_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact q_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact z_2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8
  · exact s_2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8
  · exact q_211 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8
  · exact q_217 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8

include hr hi ok hx hy in
theorem last_at (q : Fin 512) :
    (k0_pay63 (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (ix4 0 0 0 q), k0_pay64 (kernelRun0_A.sl.r_13 (F := Ideal) c arg3 harg3 x1) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (ix4 0 0 0 q))
      = run (k0_pay7 x1 (ix2 0 q)) (k0_pay8 x1 (ix2 0 q)) (ur q) (ui q) 2048 := by
  refine lastV (kernelRun0_A.sl.r (F := Ideal) c arg3 harg3 x1) (kernelRun0_A.sl.r_1 (F := Ideal) c arg3 harg3 x1) (kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.r_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3) (View.readAt (Elt Ideal) arg9.view (Rect.unit ![0, 0, 0, 0] S1x1x1x512.size inb_S1x1x1x512_S1x1x1x512_0_0_0_0).toLoadRect (harg9.unread x7)) (View.readAt (Elt Ideal) arg10.view (Rect.unit ![0, 0, 0, 0] S1x1x1x512.size inb_S1x1x1x512_S1x1x1x512_0_0_0_0).toLoadRect (harg10.unread x8)) (kernelRun0_A.sl.r_5 (F := Ideal) c arg3 harg3 x1) (kernelRun0_A.sl.r_6 (F := Ideal) c arg3 harg3 x1) (kernelRun0_A.sl.r_9 (F := Ideal) c arg3 harg3 x1) (kernelRun0_A.sl.r_10 (F := Ideal) c arg3 harg3 x1) (kernelRun0_A.sl.r_11 (F := Ideal) c arg3 harg3 x1) (kernelRun0_A.sl.r_12 (F := Ideal) c arg3 harg3 x1) (kernelRun0_A.sl.r_13 (F := Ideal) c arg3 harg3 x1) (kernelRun0_A.sl.r_14 (F := Ideal) c arg9 harg9 x7) (kernelRun0_A.sl.r_15 (F := Ideal) c arg10 harg10 x8) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) ?_ ?_ ?_ ?_ ?_ ?_ ?_ ?_ ?_ ?_ ?_ ?_ ?_ ?_ ?_ ?_ ?_ ?_ ?_ ?_ ?_ ?_ ?_ ?_ ?_ ?_ ?_ ?_
    arg14 arg15 (k0_pay18 (k0_pay14 x1 x2 x3) x0) (k0_pay19 (k0_pay15 x1 x2 x3) x0) (k0_pay7 x1) (k0_pay8 x1)
    ?_ ?_ ur ui ?_ ?_ ?_ (kernelRun0_A.sl.HS0_1 (F := Ideal) c arg2 harg2 arg3 harg3 arg4 harg4 arg5 harg5 x0 x1 x2 x3) (kernelRun0_A.sl.HS1_1 (F := Ideal) c arg2 harg2 arg3 harg3 arg4 harg4 arg5 harg5 x0 x1 x2 x3)
    ?_ ?_
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r (F := Ideal) c arg3 harg3 x1) (kernelRun0_A.sl.r_1 (F := Ideal) c arg3 harg3 x1) (kernelRun0_A.sl.r_2 (F := Ideal) c arg3 harg3 arg4 harg4 arg5 harg5 x1 x2 x3) (kernelRun0_A.sl.r_3 (F := Ideal) c arg3 harg3 arg4 harg4 arg5 harg5 x1 x2 x3) (arg14.view.writes (Elt Ideal) arg14.view.junk (kernelRun0_A.sl.HS0_1 (F := Ideal) c arg2 harg2 arg3 harg3 arg4 harg4 arg5 harg5 x0 x1 x2 x3)) (arg15.view.writes (Elt Ideal) arg15.view.junk (kernelRun0_A.sl.HS1_1 (F := Ideal) c arg2 harg2 arg3 harg3 arg4 harg4 arg5 harg5 x0 x1 x2 x3)) (k0_pay22, k0_pay22)) (Scf.trips k0_t1_loop.lb k0_t1_loop.ub k0_t1_loop.st) ?_ ?_
    ?_ ?_ ?_ q
  · exact (q_5 c arg3 harg3 x1)
  · exact (q_6 c arg3 harg3 x1)
  · exact (q_9 c arg3 harg3 x1)
  · exact (q_10 c arg3 harg3 x1)
  · exact (q_11 c arg3 harg3 x1)
  · exact (q_12 c arg3 harg3 x1)
  · exact (q_13 c arg3 harg3 x1)
  · exact (q_14 c arg9 harg9 x7)
  · exact (q_15 c arg10 harg10 x8)
  · exact (q_16 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_17 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_18 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_19 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_20 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_21 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_22 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_23 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_24 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_25 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_26 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_27 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_28 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_29 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_30 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_31 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact (q_32 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8)
  · exact hx' arg9 harg9 x7 hx
  · exact hy' arg10 harg10 x8 hy
  · exact r_eq c arg3 harg3 x1
  · exact r_1_eq c arg3 harg3 x1
  · exact hr
  · exact hi
  · exact ok
  · exact H14_eq c arg2 harg2 arg3 harg3 arg4 harg4 arg5 harg5 x0 x1 x2 x3
  · exact H15_eq c arg2 harg2 arg3 harg3 arg4 harg4 arg5 harg5 x0 x1 x2 x3
  · exact tN
  · exact z_1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact s_1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact q_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3
  · exact q_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3

end

end Cert.S5ScanIdeal.Hand
-- ==== Proof.S5ScanTrip.lean ====
module

public import proofs.«01_k».proof.Proof.Gen.S5ScanRefIdeal.Run
public import proofs.«01_k».proof.Proof.Gen.S5ScanRefIdeal.Step

@[expose] public section

set_option maxRecDepth 16384

noncomputable section

namespace Cert.S5ScanRefIdeal.Hand
open Idealize.ShloMosaic Idealize.ShloMosaic.TcCoe Idealize.SL.Sem Idealize.ShloMosaic.StableHlo
open Cert.S5ScanRefIdeal Cert.S5ScanRefIdeal.Gen Cert.S5ScanRefIdeal.Value Cert.S5ScanRefIdeal.Step

variable {F : FTy → Type} [FloatOps F]

/-- The loop's buffers hold a state, and its counter the trip's number. -/
def At (V0 : Valuation τ sig (Elt F)) (s : State F) (j : ℕ) : Prop :=
  s = ⟨V0 (Proc.devRef .tc main_v63_5), V0 (Proc.devRef .tc main_v63_6), V0 (Proc.devRef .tc main_v63_7), V0 (Proc.devRef .tc main_v63_8),
      V0 (Proc.devRef .tc main_v63_0), V0 (Proc.devRef .tc main_v63_1), V0 (Proc.devRef .tc main_v63_2), V0 (Proc.devRef .tc main_v63_3)⟩
    ∧ V0 (Proc.devRef .tc main_v63_4) = constantI S_ 32 (BitVec.ofNat 32 j)

theorem state_eq {a b c d e f g h a' b' c' d' e' f' g' h'} (h1 : a = a') (h2 : b = b') (h3 : c = c') (h4 : d = d') (h5 : e = e') (h6 : f = f') (h7 : g = g') (h8 : h = h') :
    (⟨a, b, c, d, e, f, g, h⟩ : State F) = ⟨a', b', c', d', e', f', g', h'⟩ := by
  subst h1 h2 h3 h4 h5 h6 h7 h8; rfl

theorem at_step {V0 : Valuation τ sig (Elt F)} {s : State F} {j : ℕ} (h : At V0 s j) : At (STEP V0) (step j s) (j + 1) := by
  obtain ⟨rfl, hn⟩ := h
  refine ⟨?_, ?_⟩
  · unfold step
    refine state_eq ?_ ?_ ?_ ?_ ?_ ?_ ?_ ?_
    · rw [STEP_main_v63_5]
      unfold Value.step_main_v63_5 res_main_while0b_v109 b17 b16 b4 b3
      rw [hn]
      rfl
    · rw [STEP_main_v63_6]
      unfold Value.step_main_v63_6 res_main_while0b_v117 b25 b24 b9 b8
      rw [hn]
      rfl
    · rw [STEP_main_v63_7]
      unfold Value.step_main_v63_7 res_main_while0b_v109 b30 b26 b17 b16 b4 b3
      rw [hn]
      rfl
    · rw [STEP_main_v63_8]
      unfold Value.step_main_v63_8 res_main_while0b_v117 b35 b31 b25 b24 b9 b8
      rw [hn]
      rfl
    · exact (STEP_main_v63_0 V0).symm
    · exact (STEP_main_v63_1 V0).symm
    · exact (STEP_main_v63_2 V0).symm
    · exact (STEP_main_v63_3 V0).symm
  · rw [STEP_main_v63_4]
    unfold Value.step_main_v63_4
    rw [hn]
    funext i
    show BitVec.ofNat 32 j + 1#32 = BitVec.ofNat 32 (j + 1)
    simp only [BitVec.ofNat_add]

variable (m : (ℓ : Loc nD τ sig) → Buf (Elt F) ℓ) (c : Dev nD)

/-- The state the loop starts from. -/
abbrev start : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

set_option maxRecDepth 65536 in
set_option maxHeartbeats 1000000 in
theorem at_start : At (entryContents preI m c) (start m c) 0 := by
  refine ⟨state_eq ?_ ?_ ?_ ?_ ?_ ?_ ?_ ?_, ?_⟩ <;> (simp only [entryContents, afterL_cons, afterL_nil]; after_reads_simp) <;> rfl

theorem at_iter (it : ℕ → State F) (h0 : it 0 = start m c) (hs : ∀ n, it (n + 1) = step n (it n)) :
    ∀ k, At (STEP^[k] (entryContents preI m c)) (it k) k
  | 0 => h0 ▸ at_start m c
  | k + 1 => by
    rw [Function.iterate_succ_apply', hs k]
    exact at_step (at_iter it h0 hs k)

theorem out_97 {V0 : Valuation τ sig (Elt F)} {s : State F} {j : ℕ} (h : At V0 s j) :
    out_main_v97 V0 = R_main_v97 s (V0 (Proc.devRef .tc main_arg0)) (V0 (Proc.devRef .tc main_arg6)) (V0 (Proc.devRef .tc main_arg7)) (V0 (Proc.devRef .tc main_arg8)) := by
  obtain ⟨rfl, -⟩ := h
  rfl

theorem out_98 {V0 : Valuation τ sig (Elt F)} {s : State F} {j : ℕ} (h : At V0 s j) : out_main_v98 V0 = R_main_v98 s := by
  obtain ⟨rfl, -⟩ := h
  rfl

theorem out_99 {V0 : Valuation τ sig (Elt F)} {s : State F} {j : ℕ} (h : At V0 s j) : out_main_v99 V0 = R_main_v99 s := by
  obtain ⟨rfl, -⟩ := h
  rfl

end Cert.S5ScanRefIdeal.Hand

end
-- ==== Proof.S5ScanRef.lean ====
module

public import proofs.«01_k».proof.Proof.S5ScanTrip
public import proofs.«01_k».proof.Proof.S5ScanMath
public import Idealize.ShloMosaic.Lib.DynamicIndex

@[expose] public section

set_option maxRecDepth 16384

noncomputable section

namespace Cert.S5
open Idealize.ShloMosaic

/-- The operands of a scan: inputs by sequence, time, group and channel; the parameters. -/
structure Sc where
  u : Fin 4 → Fin 2048 → Fin 64 → Fin 16 → EReal
  ar : Fin 64 → Fin 64 → EReal
  ai : Fin 64 → Fin 64 → EReal
  l : Fin 64 → EReal
  br : Fin 64 → Fin 64 → Fin 16 → EReal
  bi : Fin 64 → Fin 64 → Fin 16 → EReal
  cr : Fin 64 → Fin 16 → Fin 64 → EReal
  ci : Fin 64 → Fin 16 → Fin 64 → EReal
  d : Fin 64 → Fin 16 → EReal

namespace Sc
variable (P : Sc)

/-- What enters a state lane at time `t`, real part. -/
def ur (b : Fin 4) (g p : Fin 64) (t : ℕ) : EReal :=
  ∑ c : Fin 16, (cfr (P.ar g p) (P.ai g p) (P.l g) * P.br g p c - cfi (P.ar g p) (P.ai g p) (P.l g) * P.bi g p c)
    * P.u b ⟨t % 2048, Nat.mod_lt _ (by norm_num)⟩ g c

/-- What enters a state lane at time `t`, imaginary part. -/
def ui (b : Fin 4) (g p : Fin 64) (t : ℕ) : EReal :=
  ∑ c : Fin 16, (cfr (P.ar g p) (P.ai g p) (P.l g) * P.bi g p c + cfi (P.ar g p) (P.ai g p) (P.l g) * P.br g p c)
    * P.u b ⟨t % 2048, Nat.mod_lt _ (by norm_num)⟩ g c

/-- The state of a lane after `n` inputs. -/
def st (b : Fin 4) (g p : Fin 64) (n : ℕ) : EReal × EReal :=
  run (abr (P.ar g p) (P.ai g p) (P.l g)) (abi (P.ar g p) (P.ai g p) (P.l g)) (P.ur b g p) (P.ui b g p) n

/-- The output at time `t` before the gate. -/
def y (b : Fin 4) (t : Fin 2048) (g : Fin 64) (c : Fin 16) : EReal :=
  (∑ p : Fin 64, P.cr g c p * (P.st b g p (t.val + 1)).1) - (∑ p : Fin 64, P.ci g c p * (P.st b g p (t.val + 1)).2)
    + P.d g c * P.u b t g c

end Sc
end Cert.S5

namespace Cert.S5ScanRefIdeal.Hand
open Idealize.ShloMosaic Idealize.ShloMosaic.TcCoe Cert.S5ScanRefIdeal Cert.S5ScanRefIdeal.Gen Cert.S5ScanRefIdeal.Step Cert.S5

variable (a0 : FVec Ideal S8320x14592 .f32) (a1 a2 : FVec Ideal S2x64x64 .f32) (a3 : FVec Ideal S2x64 .f32)
  (a4 a5 : FVec Ideal S2x64x64x16 .f32) (a6 a7 : FVec Ideal S2x64x16x64 .f32) (a8 : FVec Ideal S2x1024 .f32)

/-- The operands of the scan as they lie in the arguments. -/
def par : Sc where
  u b t g c := a0 (ix2 ⟨2048 * b.val + t.val, by omega⟩ ⟨3072 + (16 * g.val + c.val), by omega⟩)
  ar g p := a1 (ix3 0 g p)
  ai g p := a2 (ix3 0 g p)
  l g := a3 (ix2 0 g)
  br g p c := a4 (ix4 0 g p c)
  bi g p c := a5 (ix4 0 g p c)
  cr g c p := a6 (ix4 0 g c p)
  ci g c p := a7 (ix4 0 g c p)
  d g c := a8 (ix2 0 ⟨g.val * 16 + c.val, by omega⟩)

theorem abr_at (g p : Fin 64) : (A_main_v16 (F := Ideal) a0 a1 a2 a3 a4 a5 : FVec Ideal S64x64 .f32) (ix2 g p) = abr (a1 (ix3 0 g p)) (a2 (ix3 0 g p)) (a3 (ix2 0 g)) := by
  pointwise [A_main_v16, A_main_v15, A_main_v14, A_main_v13, A_main_v12, A_main_v11, A_main_v10, A_main_v9, A_main_v8, A_main_v7, A_main_v6,
    A_main_v5, A_main_v4, A_main_v3, A_main_v2, abr]

theorem abi_at (g p : Fin 64) : (A_main_v20 (F := Ideal) a0 a1 a2 a3 a4 a5 : FVec Ideal S64x64 .f32) (ix2 g p) = abi (a1 (ix3 0 g p)) (a2 (ix3 0 g p)) (a3 (ix2 0 g)) := by
  pointwise [A_main_v20, A_main_v19, A_main_v18, A_main_v17, A_main_v12, A_main_v11, A_main_v10, A_main_v9, A_main_v8, A_main_v7, A_main_v6,
    A_main_v5, A_main_v4, A_main_v3, A_main_v2, abi]

theorem cfr_at (g p : Fin 64) : (A_main_v29 (F := Ideal) a0 a1 a2 a3 a4 a5 : FVec Ideal S64x64 .f32) (ix2 g p) = cfr (a1 (ix3 0 g p)) (a2 (ix3 0 g p)) (a3 (ix2 0 g)) := by
  pointwise [A_main_v29, A_main_v28, A_main_v27, A_main_v26, A_main_v25, A_main_v23, A_main_v22, A_main_v21, K_main_v24, K_main_cst,
    A_main_v5, A_main_v4, A_main_v3, A_main_v2, cfr]
  rw [abr_at, abi_at]

theorem cfi_at (g p : Fin 64) : (A_main_v35 (F := Ideal) a0 a1 a2 a3 a4 a5 : FVec Ideal S64x64 .f32) (ix2 g p) = cfi (a1 (ix3 0 g p)) (a2 (ix3 0 g p)) (a3 (ix2 0 g)) := by
  pointwise [A_main_v35, A_main_v34, A_main_v33, A_main_v32, A_main_v30, A_main_v23, A_main_v22, A_main_v21, K_main_v31, K_main_cst_0,
    A_main_v5, A_main_v4, A_main_v3, A_main_v2, cfi]
  rw [abr_at, abi_at]

theorem u_at (b : Fin 4) (t : Fin 2048) (g : Fin 64) (c : Fin 16) :
    (A_main_v1 (F := Ideal) a0 a1 a2 a3 a4 a5 : FVec Ideal S4x2048x64x16 .f32) (ix4 b t g c) = a0 (ix2 ⟨2048 * b.val + t.val, by omega⟩ ⟨3072 + (16 * g.val + c.val), by omega⟩) := by
  pointwise [A_main_v1, A_main_v0]
  blk_point []

theorem ur_at (t : Fin 2048) (b : Fin 4) (g p : Fin 64) : (A_main_v59 (F := Ideal) a0 a1 a2 a3 a4 a5 : FVec Ideal S2048x4x64x64 .f32) (ix4 t b g p) = (par a0 a1 a2 a3 a4 a5 a6 a7 a8).ur b g p t.val := by
  pointwise [A_main_v59, A_main_v55, A_main_v54, A_main_v46, A_main_v45, A_main_v44, A_main_v43, A_main_v42, A_main_v41, A_main_v40, A_main_v39, A_main_v38,
    A_main_v37, A_main_v36]
  simp only [cfr_at, cfi_at, u_at]
  unfold Sc.ur
  simp only [Nat.mod_eq_of_lt t.isLt]
  rfl

theorem ui_at (t : Fin 2048) (b : Fin 4) (g p : Fin 64) : (A_main_v60 (F := Ideal) a0 a1 a2 a3 a4 a5 : FVec Ideal S2048x4x64x64 .f32) (ix4 t b g p) = (par a0 a1 a2 a3 a4 a5 a6 a7 a8).ui b g p t.val := by
  pointwise [A_main_v60, A_main_v57, A_main_v56, A_main_v53, A_main_v52, A_main_v51, A_main_v50, A_main_v49, A_main_v48, A_main_v47, A_main_v39, A_main_v38,
    A_main_v37, A_main_v36]
  simp only [cfr_at, cfi_at, u_at]
  unfold Sc.ui
  simp only [Nat.mod_eq_of_lt t.isLt]
  rfl

/-- The states of the reference's loop. -/
def it : ℕ → State Ideal
  | 0 => init a0 a1 a2 a3 a4 a5
  | n + 1 => step n (it n)

theorem it_0 (n : ℕ) : (it a0 a1 a2 a3 a4 a5 n).main_v63_0 = A_main_v59 a0 a1 a2 a3 a4 a5 := by
  induction n with
  | zero => rfl
  | succ n ih => exact ih

theorem it_1 (n : ℕ) : (it a0 a1 a2 a3 a4 a5 n).main_v63_1 = A_main_v60 a0 a1 a2 a3 a4 a5 := by
  induction n with
  | zero => rfl
  | succ n ih => exact ih

theorem it_2 (n : ℕ) : (it a0 a1 a2 a3 a4 a5 n).main_v63_2 = A_main_v16 a0 a1 a2 a3 a4 a5 := by
  induction n with
  | zero => rfl
  | succ n ih => exact ih

theorem it_3 (n : ℕ) : (it a0 a1 a2 a3 a4 a5 n).main_v63_3 = A_main_v20 a0 a1 a2 a3 a4 a5 := by
  induction n with
  | zero => rfl
  | succ n ih => exact ih

theorem fits (n : ℕ) (h : n < 2048) : S2048x4x64x64.Slices ![n, 0, 0, 0] S1x4x64x64 := by
  refine ⟨rfl, fun a => ?_⟩
  fin_cases a
  · show n + 1 ≤ 2048; omega
  · show 0 + 4 ≤ 4; omega
  · show 0 + 64 ≤ 64; omega
  · show 0 + 64 ≤ 64; omega

theorem b3_eq (n : ℕ) (h : n < 2048) (s : State Ideal) : b3 n s = extractStridedSlice S1x4x64x64 ![n, 0, 0, 0] s.main_v63_0 (fits n h) := by
  unfold b3
  refine Host.dynamicSlice_eq_extractStridedSlice _ _ _ _ _ _ fun a => ?_
  fin_cases a
  · exact toInt_ofNat_of_lt (by omega)
  all_goals rfl

theorem b8_eq (n : ℕ) (h : n < 2048) (s : State Ideal) : b8 n s = extractStridedSlice S1x4x64x64 ![n, 0, 0, 0] s.main_v63_1 (fits n h) := by
  unfold b8
  refine Host.dynamicSlice_eq_extractStridedSlice _ _ _ _ _ _ fun a => ?_
  fin_cases a
  · exact toInt_ofNat_of_lt (by omega)
  all_goals rfl

theorem b17_at (n : ℕ) (h : n < 2048) (s : State Ideal) (b : Fin 4) (g p : Fin 64) : (b17 n s : FVec Ideal S4x64x64 .f32) (ix3 b g p)
    = (s.main_v63_2 : FVec Ideal S64x64 .f32) (ix2 g p) * (s.main_v63_5 : FVec Ideal S4x64x64 .f32) (ix3 b g p)
      - (s.main_v63_3 : FVec Ideal S64x64 .f32) (ix2 g p) * (s.main_v63_6 : FVec Ideal S4x64x64 .f32) (ix3 b g p)
      + (s.main_v63_0 : FVec Ideal S2048x4x64x64 .f32) (ix4 ⟨n, h⟩ b g p) := by
  unfold b17 b4
  rw [b3_eq n h]
  pointwise [b16, b15, b14, b13, b12, b11, b10]

theorem b25_at (n : ℕ) (h : n < 2048) (s : State Ideal) (b : Fin 4) (g p : Fin 64) : (b25 n s : FVec Ideal S4x64x64 .f32) (ix3 b g p)
    = (s.main_v63_2 : FVec Ideal S64x64 .f32) (ix2 g p) * (s.main_v63_6 : FVec Ideal S4x64x64 .f32) (ix3 b g p)
      + (s.main_v63_3 : FVec Ideal S64x64 .f32) (ix2 g p) * (s.main_v63_5 : FVec Ideal S4x64x64 .f32) (ix3 b g p)
      + (s.main_v63_1 : FVec Ideal S2048x4x64x64 .f32) (ix4 ⟨n, h⟩ b g p) := by
  unfold b25 b9
  rw [b8_eq n h]
  pointwise [b24, b23, b22, b21, b20, b19, b18]

/-- The update at a trip, read at an index. -/
theorem upd_at (n : ℕ) (h : n < 2048) (x : FVec Ideal S2048x4x64x64 .f32) (u : FVec Ideal S1x4x64x64 .f32) (t : Fin 2048) (b : Fin 4) (g p : Fin 64) :
    updateSlice x u ![n, 0, 0, 0] (fits n h) (ix4 t b g p) = if t.val = n then u (ix4 0 b g p) else x (ix4 t b g p) := by
  unfold updateSlice
  by_cases e : t.val = n
  · rw [if_pos e, dif_pos]
    · refine congrArg u (funext fun a => Fin.ext ?_)
      fin_cases a
      · show t.val - n = 0; omega
      all_goals rfl
    · intro a
      fin_cases a
      · show n ≤ t.val ∧ t.val < n + 1; omega
      · exact ⟨Nat.zero_le _, by show b.val < 0 + 4; omega⟩
      · exact ⟨Nat.zero_le _, by show g.val < 0 + 64; omega⟩
      · exact ⟨Nat.zero_le _, by show p.val < 0 + 64; omega⟩
  · rw [if_neg e, dif_neg]
    intro hin
    have h0 : n ≤ t.val ∧ t.val < n + 1 := hin 0
    omega

theorem b30_at (n : ℕ) (h : n < 2048) (s : State Ideal) (t : Fin 2048) (b : Fin 4) (g p : Fin 64) : (b30 n s : FVec Ideal S2048x4x64x64 .f32) (ix4 t b g p)
    = if t.val = n then (b17 n s : FVec Ideal S4x64x64 .f32) (ix3 b g p) else (s.main_v63_7 : FVec Ideal S2048x4x64x64 .f32) (ix4 t b g p) := by
  unfold b30
  rw [Host.dynamicUpdateSlice_eq_updateSlice _ _ _ _ ![n, 0, 0, 0] ?_ (fits n h), upd_at n h]
  · refine if_congr Iff.rfl ?_ rfl
    pointwise [b26]
  · intro a
    fin_cases a
    · show (min (max (BitVec.toInt (BitVec.ofNat 32 n)) 0) ((2048 - 1 : Nat) : Int)).toNat = n
      rw [toInt_ofNat_of_lt (by omega)]
      omega
    all_goals rfl

theorem b35_at (n : ℕ) (h : n < 2048) (s : State Ideal) (t : Fin 2048) (b : Fin 4) (g p : Fin 64) : (b35 n s : FVec Ideal S2048x4x64x64 .f32) (ix4 t b g p)
    = if t.val = n then (b25 n s : FVec Ideal S4x64x64 .f32) (ix3 b g p) else (s.main_v63_8 : FVec Ideal S2048x4x64x64 .f32) (ix4 t b g p) := by
  unfold b35
  rw [Host.dynamicUpdateSlice_eq_updateSlice _ _ _ _ ![n, 0, 0, 0] ?_ (fits n h), upd_at n h]
  · refine if_congr Iff.rfl ?_ rfl
    pointwise [b31]
  · intro a
    fin_cases a
    · show (min (max (BitVec.toInt (BitVec.ofNat 32 n)) 0) ((2048 - 1 : Nat) : Int)).toNat = n
      rw [toInt_ofNat_of_lt (by omega)]
      omega
    all_goals rfl

/-- After `n` trips the loop holds the state after `n` inputs, and has written the states up to it. -/
theorem it_at (b : Fin 4) (g p : Fin 64) (n : ℕ) (hn : n ≤ 2048) :
    ((it a0 a1 a2 a3 a4 a5 n).main_v63_5 : FVec Ideal S4x64x64 .f32) (ix3 b g p) = ((par a0 a1 a2 a3 a4 a5 a6 a7 a8).st b g p n).1
    ∧ ((it a0 a1 a2 a3 a4 a5 n).main_v63_6 : FVec Ideal S4x64x64 .f32) (ix3 b g p) = ((par a0 a1 a2 a3 a4 a5 a6 a7 a8).st b g p n).2
    ∧ (∀ t : Fin 2048, t.val < n → ((it a0 a1 a2 a3 a4 a5 n).main_v63_7 : FVec Ideal S2048x4x64x64 .f32) (ix4 t b g p) = ((par a0 a1 a2 a3 a4 a5 a6 a7 a8).st b g p (t.val + 1)).1)
    ∧ (∀ t : Fin 2048, t.val < n → ((it a0 a1 a2 a3 a4 a5 n).main_v63_8 : FVec Ideal S2048x4x64x64 .f32) (ix4 t b g p) = ((par a0 a1 a2 a3 a4 a5 a6 a7 a8).st b g p (t.val + 1)).2) := by
  induction n with
  | zero =>
    refine ⟨?_, ?_, fun t h => absurd h (Nat.not_lt_zero _), fun t h => absurd h (Nat.not_lt_zero _)⟩
    · show (K_main_v58 (F := Ideal) : FVec Ideal S4x64x64 .f32) (ix3 b g p) = 0
      pointwise [K_main_v58, K_main_cst_1]
    · show (K_main_v58 (F := Ideal) : FVec Ideal S4x64x64 .f32) (ix3 b g p) = 0
      pointwise [K_main_v58, K_main_cst_1]
  | succ n ih =>
    obtain ⟨h5, h6, h7, h8⟩ := ih (by omega)
    have e5 : (b17 n (it a0 a1 a2 a3 a4 a5 n) : FVec Ideal S4x64x64 .f32) (ix3 b g p) = ((par a0 a1 a2 a3 a4 a5 a6 a7 a8).st b g p (n + 1)).1 := by
      rw [b17_at n (by omega), h5, h6, it_0, it_2, it_3, abr_at, abi_at, ur_at a0 a1 a2 a3 a4 a5 a6 a7 a8]
      rfl
    have e6 : (b25 n (it a0 a1 a2 a3 a4 a5 n) : FVec Ideal S4x64x64 .f32) (ix3 b g p) = ((par a0 a1 a2 a3 a4 a5 a6 a7 a8).st b g p (n + 1)).2 := by
      rw [b25_at n (by omega), h5, h6, it_1, it_2, it_3, abr_at, abi_at, ui_at a0 a1 a2 a3 a4 a5 a6 a7 a8]
      rfl
    refine ⟨e5, e6, fun t ht => ?_, fun t ht => ?_⟩
    · refine (b30_at n (by omega) _ t b g p).trans ?_
      split_ifs with e
      · rw [e5, e]
      · exact h7 t (by omega)
    · refine (b35_at n (by omega) _ t b g p).trans ?_
      split_ifs with e
      · rw [e6, e]
      · exact h8 t (by omega)

/-- The reference's output before the gate. -/
abbrev Y (s : State Ideal) : FVec Ideal S4x2048x64x16 .f32 :=
  addf (subf (transpose S4x2048x64x16 [3, 2, 0, 1] (Host.dotGeneral (φ₁ := .f32) (φ₂ := .f32) dot_S64x16x64_S2048x4x64x64_S64x16x2048x4_2_3_1_01_0_2 none (shapeCast S64x16x64 (extractStridedSlice S1x64x16x64 ![0, 0, 0, 0] a6 slices_S2x64x16x64_S1x64x16x64_0_0_0_0) shapeCasts_S1x64x16x64_S64x16x64) (s.main_v63_7 : FVec Ideal S2048x4x64x64 .f32)) transposes_S64x16x2048x4_S4x2048x64x16_3_2_0_1) (transpose S4x2048x64x16 [3, 2, 0, 1] (Host.dotGeneral (φ₁ := .f32) (φ₂ := .f32) dot_S64x16x64_S2048x4x64x64_S64x16x2048x4_2_3_1_01_0_2 none (shapeCast S64x16x64 (extractStridedSlice S1x64x16x64 ![0, 0, 0, 0] a7 slices_S2x64x16x64_S1x64x16x64_0_0_0_0) shapeCasts_S1x64x16x64_S64x16x64) (s.main_v63_8 : FVec Ideal S2048x4x64x64 .f32)) transposes_S64x16x2048x4_S4x2048x64x16_3_2_0_1)) (mulf (broadcastInDim S4x2048x64x16 ![0, 1, 2, 3] bcast_S1x1x64x16_S4x2048x64x16_0_1_2_3 (broadcastInDim S1x1x64x16 ![2, 3] bcast_S64x16_S1x1x64x16_2_3 (shapeCast S64x16 (shapeCast S1024 (extractStridedSlice S1x1024 ![0, 0] a8 slices_S2x1024_S1x1024_0_0) shapeCasts_S1x1024_S1024) shapeCasts_S1024_S64x16))) (shapeCast S4x2048x64x16 (extractStridedSlice S8192x1024 ![0, 3072] a0 slices_S8320x14592_S8192x1024_0_3072) shapeCasts_S8192x1024_S4x2048x64x16))

/-- The gate, elementwise. -/
abbrev G (z : FVec Ideal S4x8x256x1024 .f32) : FVec Ideal S4x8x256x1024 .f32 :=
  mulf z (mulf (broadcastInDim S4x8x256x1024 ![] bcast_S_S4x8x256x1024 (constant S_ .f32 0x3F000000#32)) (addf (broadcastInDim S4x8x256x1024 ![] bcast_S_S4x8x256x1024 (constant S_ .f32 0x3F800000#32)) (Host.tanh (mulf (broadcastInDim S4x8x256x1024 ![] bcast_S_S4x8x256x1024 (constant S_ .f32 0x3F4C422A#32)) (addf z (mulf (broadcastInDim S4x8x256x1024 ![] bcast_S_S4x8x256x1024 (constant S_ .f32 0x3D372713#32)) (mulf (mulf z z) z)))))))

theorem R97_eq (s : State Ideal) : R_main_v97 s a0 a6 a7 a8
    = shapeCast S8192x1024 (transpose S4x256x8x1024 [0, 2, 1, 3] (G (shapeCast S4x8x256x1024 (Y a0 a6 a7 a8 s) shapeCasts_S4x2048x64x16_S4x8x256x1024))
        transposes_S4x8x256x1024_S4x256x8x1024_0_2_1_3) shapeCasts_S4x256x8x1024_S8192x1024 := by
  unfold R_main_v97
  rfl

theorem Y_at (b : Fin 4) (t : Fin 2048) (g : Fin 64) (c : Fin 16) :
    Y a0 a6 a7 a8 (it a0 a1 a2 a3 a4 a5 2048) (ix4 b t g c) = (par a0 a1 a2 a3 a4 a5 a6 a7 a8).y b t g c := by
  have e7 : ∀ p : Fin 64, ((it a0 a1 a2 a3 a4 a5 2048).main_v63_7 : FVec Ideal S2048x4x64x64 .f32) (ix4 t b g p) = ((par a0 a1 a2 a3 a4 a5 a6 a7 a8).st b g p (t.val + 1)).1 :=
    fun p => (it_at a0 a1 a2 a3 a4 a5 a6 a7 a8 b g p 2048 le_rfl).2.2.1 t t.isLt
  have e8 : ∀ p : Fin 64, ((it a0 a1 a2 a3 a4 a5 2048).main_v63_8 : FVec Ideal S2048x4x64x64 .f32) (ix4 t b g p) = ((par a0 a1 a2 a3 a4 a5 a6 a7 a8).st b g p (t.val + 1)).2 :=
    fun p => (it_at a0 a1 a2 a3 a4 a5 a6 a7 a8 b g p 2048 le_rfl).2.2.2 t t.isLt
  unfold Sc.y
  simp only [← e7, ← e8]
  generalize it a0 a1 a2 a3 a4 a5 2048 = s
  show _ = (∑ p : Fin 64, a6 (ix4 0 g c p) * (s.main_v63_7 : FVec Ideal S2048x4x64x64 .f32) (ix4 t b g p))
    - (∑ p : Fin 64, a7 (ix4 0 g c p) * (s.main_v63_8 : FVec Ideal S2048x4x64x64 .f32) (ix4 t b g p))
    + a8 (ix2 0 ⟨g.val * 16 + c.val, by omega⟩) * a0 (ix2 ⟨2048 * b.val + t.val, by omega⟩ ⟨3072 + (16 * g.val + c.val), by omega⟩)
  pointwise [Y]
  blk_point []

theorem out_at (b : Fin 4) (t : Fin 256) (j : Fin 8) (g : Fin 64) (c : Fin 16) :
    (R_main_v97 (it a0 a1 a2 a3 a4 a5 2048) a0 a6 a7 a8 : FVec Ideal S8192x1024 .f32) (ix2 ⟨2048 * b.val + (8 * t.val + j.val), by omega⟩ ⟨16 * g.val + c.val, by omega⟩)
      = gel ((par a0 a1 a2 a3 a4 a5 a6 a7 a8).y b ⟨256 * j.val + t.val, by omega⟩ g c) := by
  rw [R97_eq, ← Y_at]
  generalize Y a0 a6 a7 a8 (it a0 a1 a2 a3 a4 a5 2048) = z
  pointwise [G, gel]
  blk_point []

theorem re_at (b : Fin 4) (n g : Fin 8) (p : Fin 64) :
    (R_main_v98 (it a0 a1 a2 a3 a4 a5 2048) : FVec Ideal S4x8x1x512 .f32) (ix4 b n 0 ⟨64 * g.val + p.val, by omega⟩)
      = ((par a0 a1 a2 a3 a4 a5 a6 a7 a8).st b ⟨8 * n.val + g.val, by omega⟩ p 2048).1 := by
  rw [← (it_at a0 a1 a2 a3 a4 a5 a6 a7 a8 b ⟨8 * n.val + g.val, by omega⟩ p 2048 le_rfl).1]
  pointwise [R_main_v98]
  blk_point []

theorem im_at (b : Fin 4) (n g : Fin 8) (p : Fin 64) :
    (R_main_v99 (it a0 a1 a2 a3 a4 a5 2048) : FVec Ideal S4x8x1x512 .f32) (ix4 b n 0 ⟨64 * g.val + p.val, by omega⟩)
      = ((par a0 a1 a2 a3 a4 a5 a6 a7 a8).st b ⟨8 * n.val + g.val, by omega⟩ p 2048).2 := by
  rw [← (it_at a0 a1 a2 a3 a4 a5 a6 a7 a8 b ⟨8 * n.val + g.val, by omega⟩ p 2048 le_rfl).2.1]
  pointwise [R_main_v99]
  blk_point []

end Cert.S5ScanRefIdeal.Hand

end
-- ==== Proof.S5ScanLay.lean ====
module

public import proofs.«01_k».proof.Proof.S5ScanBlkRows
public import proofs.«01_k».proof.Proof.S5ScanRef

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! A block's operands, its inputs per lane, its states and its output. -/

section
variable (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32)

theorem pole_re (q : Fin 512) : k0_pay7 x1 (ix2 0 q) = abr (x1 (ix4 0 0 0 q)) (x1 (ix4 0 0 1 q)) (x1 (ix4 0 0 2 q)) := by
  pointwise [k0_pay7, k0_pay6, k0_pay5, k0_pay4, k0_pay3, abr]
  blk_point []

theorem pole_im (q : Fin 512) : k0_pay8 x1 (ix2 0 q) = abi (x1 (ix4 0 0 0 q)) (x1 (ix4 0 0 1 q)) (x1 (ix4 0 0 2 q)) := by
  pointwise [k0_pay8, k0_pay6, k0_pay5, k0_pay4, k0_pay3, abi]
  blk_point []

theorem in_re (r : Fin 2048) (q : Fin 512) : k0_pay18 (k0_pay14 x1 x2 x3) x0 (ix2 r q)
    = ∑ j : Fin 128, x0 (ix2 r j) * (cfr (x1 (ix4 0 0 0 q)) (x1 (ix4 0 0 1 q)) (x1 (ix4 0 0 2 q)) * x2 (ix4 0 0 j q)
      - cfi (x1 (ix4 0 0 0 q)) (x1 (ix4 0 0 1 q)) (x1 (ix4 0 0 2 q)) * x3 (ix4 0 0 j q)) := by
  pointwise [k0_pay18, k0_pay17, k0_pay16, k0_pay14, k0_pay13, k0_pay12, k0_pay11, k0_pay10, k0_pay9, k0_pay8, k0_pay7, k0_pay6, k0_pay5, k0_pay4, k0_pay3, abr, abi, cfr, cfi]
  blk_point []

theorem in_im (r : Fin 2048) (q : Fin 512) : k0_pay19 (k0_pay15 x1 x2 x3) x0 (ix2 r q)
    = ∑ j : Fin 128, x0 (ix2 r j) * (cfr (x1 (ix4 0 0 0 q)) (x1 (ix4 0 0 1 q)) (x1 (ix4 0 0 2 q)) * x3 (ix4 0 0 j q)
      + cfi (x1 (ix4 0 0 0 q)) (x1 (ix4 0 0 1 q)) (x1 (ix4 0 0 2 q)) * x2 (ix4 0 0 j q)) := by
  pointwise [k0_pay19, k0_pay17, k0_pay16, k0_pay15, k0_pay13, k0_pay12, k0_pay11, k0_pay10, k0_pay9, k0_pay8, k0_pay7, k0_pay6, k0_pay5, k0_pay4, k0_pay3, abr, abi, cfr, cfi]
  blk_point []

/-- A block's output before the gate, from the rows of its states. -/
def ky (C14 C15 : Vec Ideal S2048x512 .f32) (r : Fin 2048) (j : Fin 128) : EReal :=
  (∑ q : Fin 512, C14 (ix2 r q) * x4 (ix4 0 0 q j)) - (∑ q : Fin 512, C15 (ix2 r q) * x5 (ix4 0 0 q j)) + x6 (ix4 0 0 0 j) * x0 (ix2 r j)

theorem gate (C14 C15 : Vec Ideal S2048x512 .f32) (r : Fin 2048) (j : Fin 128) :
    k0_pay1 (k0_pay16 x0) (k0_pay73 C14 x4 C15 x5) x6 (ix2 r j) = gel (ky x0 x4 x5 x6 C14 C15 r j) := by
  pointwise [k0_pay1, k0_pay16, k0_pay73, ky, gel]
  rw [mul_comm (Ideal.ofBits .f32 0x3F000000#32), mul_assoc]

end

/-- One if two groups of a block are the same one, zero otherwise. -/
def eyeV (a b : Fin 8) : EReal := if a = b then 1 else 0

/-- A block's operands are those of the eight groups from `8 n` on, the matrices block diagonal. -/
structure Lay (P : Sc) (b : Fin 4) (n : Fin 8) (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) : Prop where
  u : ∀ (t : Fin 256) (j : Fin 8) (g : Fin 8) (c : Fin 16), x0 (ix2 ⟨8 * t.val + j.val, by omega⟩ ⟨16 * g.val + c.val, by omega⟩) = P.u b ⟨256 * j.val + t.val, by omega⟩ ⟨8 * n.val + g.val, by omega⟩ c
  ar : ∀ (g : Fin 8) (p : Fin 64), x1 (ix4 0 0 0 ⟨64 * g.val + p.val, by omega⟩) = P.ar ⟨8 * n.val + g.val, by omega⟩ p
  ai : ∀ (g : Fin 8) (p : Fin 64), x1 (ix4 0 0 1 ⟨64 * g.val + p.val, by omega⟩) = P.ai ⟨8 * n.val + g.val, by omega⟩ p
  l : ∀ (g : Fin 8) (p : Fin 64), x1 (ix4 0 0 2 ⟨64 * g.val + p.val, by omega⟩) = P.l ⟨8 * n.val + g.val, by omega⟩
  br : ∀ (g' : Fin 8) (c : Fin 16) (g : Fin 8) (p : Fin 64), x2 (ix4 0 0 ⟨16 * g'.val + c.val, by omega⟩ ⟨64 * g.val + p.val, by omega⟩)
    = P.br ⟨8 * n.val + g'.val, by omega⟩ p c * eyeV g' g
  bi : ∀ (g' : Fin 8) (c : Fin 16) (g : Fin 8) (p : Fin 64), x3 (ix4 0 0 ⟨16 * g'.val + c.val, by omega⟩ ⟨64 * g.val + p.val, by omega⟩)
    = P.bi ⟨8 * n.val + g'.val, by omega⟩ p c * eyeV g' g
  cr : ∀ (g' : Fin 8) (p : Fin 64) (g : Fin 8) (c : Fin 16), x4 (ix4 0 0 ⟨64 * g'.val + p.val, by omega⟩ ⟨16 * g.val + c.val, by omega⟩)
    = P.cr ⟨8 * n.val + g'.val, by omega⟩ c p * eyeV g' g
  ci : ∀ (g' : Fin 8) (p : Fin 64) (g : Fin 8) (c : Fin 16), x5 (ix4 0 0 ⟨64 * g'.val + p.val, by omega⟩ ⟨16 * g.val + c.val, by omega⟩)
    = P.ci ⟨8 * n.val + g'.val, by omega⟩ c p * eyeV g' g
  d : ∀ (g : Fin 8) (c : Fin 16), x6 (ix4 0 0 0 ⟨16 * g.val + c.val, by omega⟩) = P.d ⟨8 * n.val + g.val, by omega⟩ c

/-- The operands that enter the states are finite. -/
structure Real' (P : Sc) : Prop where
  u : ∀ b t g c, Re (P.u b t g c)
  ar : ∀ g p, Re (P.ar g p)
  ai : ∀ g p, Re (P.ai g p)
  l : ∀ g, Re (P.l g)
  br : ∀ g p c, Re (P.br g p c)
  bi : ∀ g p c, Re (P.bi g p c)

namespace Lay
variable {P : Sc} {b : Fin 4} {n : Fin 8} {x0 : Vec Ideal S2048x128 .f32} {x1 : Vec Ideal S1x1x8x512 .f32} {x2 : Vec Ideal S1x1x128x512 .f32} {x3 : Vec Ideal S1x1x128x512 .f32} {x4 : Vec Ideal S1x1x512x128 .f32} {x5 : Vec Ideal S1x1x512x128 .f32} {x6 : Vec Ideal S1x1x1x128 .f32}
  (h : Lay P b n x0 x1 x2 x3 x4 x5 x6)
include h

theorem u' (r : Fin 2048) (g : Fin 8) (c : Fin 16) : x0 (ix2 r ⟨16 * g.val + c.val, by omega⟩)
    = P.u b ⟨(256 * (r.val % 8) + r.val / 8) % 2048, Nat.mod_lt _ (by norm_num)⟩ ⟨8 * n.val + g.val, by omega⟩ c := by
  have e : r = ⟨8 * (r.val / 8) + r.val % 8, by omega⟩ := Fin.ext (by show r.val = 8 * (r.val / 8) + r.val % 8; omega)
  have k := h.u ⟨r.val / 8, by omega⟩ ⟨r.val % 8, by omega⟩ g c
  refine Eq.trans (congrArg (fun r => x0 (ix2 r ⟨16 * g.val + c.val, by omega⟩)) e) (k.trans ?_)
  refine congrArg (fun t => P.u b t ⟨8 * n.val + g.val, by omega⟩ c) (Fin.ext ?_)
  show 256 * (r.val % 8) + r.val / 8 = (256 * (r.val % 8) + r.val / 8) % 2048
  omega

theorem in_re (r : Fin 2048) (g : Fin 8) (p : Fin 64) : k0_pay18 (k0_pay14 x1 x2 x3) x0 (ix2 r ⟨64 * g.val + p.val, by omega⟩)
    = P.ur b ⟨8 * n.val + g.val, by omega⟩ p (256 * (r.val % 8) + r.val / 8) := by
  rw [Hand.in_re, sum_split (n := 8) (k := 16) (by norm_num), Finset.sum_eq_single g]
  · simp only [h.u', h.ar, h.ai, h.l, h.br, h.bi, eyeV, if_true, mul_one]
    exact Finset.sum_congr rfl fun c _ => mul_comm _ _
  · intro g' _ hg
    refine Finset.sum_eq_zero fun c _ => ?_
    simp only [h.br, h.bi, eyeV, if_neg hg, mul_zero, sub_zero]
  · simp

theorem in_im (r : Fin 2048) (g : Fin 8) (p : Fin 64) : k0_pay19 (k0_pay15 x1 x2 x3) x0 (ix2 r ⟨64 * g.val + p.val, by omega⟩)
    = P.ui b ⟨8 * n.val + g.val, by omega⟩ p (256 * (r.val % 8) + r.val / 8) := by
  rw [Hand.in_im, sum_split (n := 8) (k := 16) (by norm_num), Finset.sum_eq_single g]
  · simp only [h.u', h.ar, h.ai, h.l, h.br, h.bi, eyeV, if_true, mul_one]
    exact Finset.sum_congr rfl fun c _ => mul_comm _ _
  · intro g' _ hg
    refine Finset.sum_eq_zero fun c _ => ?_
    simp only [h.br, h.bi, eyeV, if_neg hg, mul_zero, add_zero]
  · simp

omit h in
theorem lane (q : Fin 512) : q = ⟨64 * (q.val / 64) + q.val % 64, by omega⟩ := Fin.ext (Nat.div_add_mod _ _).symm

/-- What enters a lane at each time. -/
theorem hr (r : Fin 2048) (q : Fin 512) : k0_pay18 (k0_pay14 x1 x2 x3) x0 (ix2 r q)
    = P.ur b ⟨8 * n.val + q.val / 64, by omega⟩ ⟨q.val % 64, by omega⟩ (256 * (r.val % 8) + r.val / 8) :=
  (congrArg (fun q => k0_pay18 (k0_pay14 x1 x2 x3) x0 (ix2 r q)) (lane q)).trans (h.in_re r ⟨q.val / 64, by omega⟩ ⟨q.val % 64, by omega⟩)

theorem hi (r : Fin 2048) (q : Fin 512) : k0_pay19 (k0_pay15 x1 x2 x3) x0 (ix2 r q)
    = P.ui b ⟨8 * n.val + q.val / 64, by omega⟩ ⟨q.val % 64, by omega⟩ (256 * (r.val % 8) + r.val / 8) :=
  (congrArg (fun q => k0_pay19 (k0_pay15 x1 x2 x3) x0 (ix2 r q)) (lane q)).trans (h.in_im r ⟨q.val / 64, by omega⟩ ⟨q.val % 64, by omega⟩)

theorem hv (q : Fin 512) : k0_pay7 x1 (ix2 0 q) = abr (P.ar ⟨8 * n.val + q.val / 64, by omega⟩ ⟨q.val % 64, by omega⟩)
    (P.ai ⟨8 * n.val + q.val / 64, by omega⟩ ⟨q.val % 64, by omega⟩) (P.l ⟨8 * n.val + q.val / 64, by omega⟩) := by
  have k0 := h.ar ⟨q.val / 64, by omega⟩ ⟨q.val % 64, by omega⟩
  have k1 := h.ai ⟨q.val / 64, by omega⟩ ⟨q.val % 64, by omega⟩
  have k2 := h.l ⟨q.val / 64, by omega⟩ ⟨q.val % 64, by omega⟩
  rw [pole_re, ← k0, ← k1, ← k2]
  exact congrArg (fun q => abr (x1 (ix4 0 0 0 q)) (x1 (ix4 0 0 1 q)) (x1 (ix4 0 0 2 q))) (lane q)

theorem hw (q : Fin 512) : k0_pay8 x1 (ix2 0 q) = abi (P.ar ⟨8 * n.val + q.val / 64, by omega⟩ ⟨q.val % 64, by omega⟩)
    (P.ai ⟨8 * n.val + q.val / 64, by omega⟩ ⟨q.val % 64, by omega⟩) (P.l ⟨8 * n.val + q.val / 64, by omega⟩) := by
  have k0 := h.ar ⟨q.val / 64, by omega⟩ ⟨q.val % 64, by omega⟩
  have k1 := h.ai ⟨q.val / 64, by omega⟩ ⟨q.val % 64, by omega⟩
  have k2 := h.l ⟨q.val / 64, by omega⟩ ⟨q.val % 64, by omega⟩
  rw [pole_im, ← k0, ← k1, ← k2]
  exact congrArg (fun q => abi (x1 (ix4 0 0 0 q)) (x1 (ix4 0 0 1 q)) (x1 (ix4 0 0 2 q))) (lane q)

theorem ok (hf : Real' P) (q : Fin 512) : Ok (k0_pay7 x1 (ix2 0 q)) (k0_pay8 x1 (ix2 0 q))
    (P.ur b ⟨8 * n.val + q.val / 64, by omega⟩ ⟨q.val % 64, by omega⟩) (P.ui b ⟨8 * n.val + q.val / 64, by omega⟩ ⟨q.val % 64, by omega⟩) := by
  rw [h.hv, h.hw]
  exact ok_of_re (hf.ar _ _) (hf.ai _ _) (hf.l _) (fun t c => hf.u b ⟨t % 2048, Nat.mod_lt _ (by norm_num)⟩ _ c) (hf.br _ _) (hf.bi _ _)

theorem out (C14 C15 : Vec Ideal S2048x512 .f32)
    (h14 : ∀ r q, C14 (ix2 r q) = (run (k0_pay7 x1 (ix2 0 q)) (k0_pay8 x1 (ix2 0 q)) (P.ur b ⟨8 * n.val + q.val / 64, by omega⟩ ⟨q.val % 64, by omega⟩)
      (P.ui b ⟨8 * n.val + q.val / 64, by omega⟩ ⟨q.val % 64, by omega⟩) (256 * (r.val % 8) + r.val / 8 + 1)).1)
    (h15 : ∀ r q, C15 (ix2 r q) = (run (k0_pay7 x1 (ix2 0 q)) (k0_pay8 x1 (ix2 0 q)) (P.ur b ⟨8 * n.val + q.val / 64, by omega⟩ ⟨q.val % 64, by omega⟩)
      (P.ui b ⟨8 * n.val + q.val / 64, by omega⟩ ⟨q.val % 64, by omega⟩) (256 * (r.val % 8) + r.val / 8 + 1)).2)
    (t : Fin 256) (j : Fin 8) (g : Fin 8) (c : Fin 16) :
    ky x0 x4 x5 x6 C14 C15 ⟨8 * t.val + j.val, by omega⟩ ⟨16 * g.val + c.val, by omega⟩
      = P.y b ⟨256 * j.val + t.val, by omega⟩ ⟨8 * n.val + g.val, by omega⟩ c := by
  have e : 256 * ((8 * t.val + j.val) % 8) + (8 * t.val + j.val) / 8 = 256 * j.val + t.val := by omega
  have d1 : ∀ (g : Fin 8) (p : Fin 64), (64 * g.val + p.val) / 64 = g.val := fun g p => by omega
  have d2 : ∀ (g : Fin 8) (p : Fin 64), (64 * g.val + p.val) % 64 = p.val := fun g p => by omega
  have s14 : ∀ (g : Fin 8) (p : Fin 64), C14 (ix2 ⟨8 * t.val + j.val, by omega⟩ ⟨64 * g.val + p.val, by omega⟩)
      = (P.st b ⟨8 * n.val + g.val, by omega⟩ p (256 * j.val + t.val + 1)).1 := fun g p => by
    rw [h14, h.hv, h.hw]
    simp only [d1, d2, e]
    rfl
  have s15 : ∀ (g : Fin 8) (p : Fin 64), C15 (ix2 ⟨8 * t.val + j.val, by omega⟩ ⟨64 * g.val + p.val, by omega⟩)
      = (P.st b ⟨8 * n.val + g.val, by omega⟩ p (256 * j.val + t.val + 1)).2 := fun g p => by
    rw [h15, h.hv, h.hw]
    simp only [d1, d2, e]
    rfl
  unfold ky
  simp only [sum_split (n := 8) (k := 64) (N := 512) (by norm_num), s14, s15, h.cr, h.ci, h.d, h.u]
  rw [Finset.sum_eq_single g, Finset.sum_eq_single g]
  · simp only [eyeV, if_true, mul_one, Sc.y]
    congr 2 <;> exact Finset.sum_congr rfl fun p _ => mul_comm _ _
  · intro g' _ hg
    exact Finset.sum_eq_zero fun p _ => by simp only [eyeV, if_neg hg, mul_zero]
  · simp
  · intro g' _ hg
    exact Finset.sum_eq_zero fun p _ => by simp only [eyeV, if_neg hg, mul_zero]
  · simp

end Lay

end Cert.S5ScanIdeal.Hand
-- ==== Proof.S5ScanOut.lean ====
module

public import proofs.«01_k».proof.Proof.S5ScanBlkRows

@[expose] public section

set_option maxRecDepth 16384

noncomputable section

namespace Cert.S5ScanIdeal.Hand
open Idealize.ShloMosaic Idealize.ShloMosaic.TcCoe Idealize.SL Idealize.SL.Sem Cert.S5ScanIdeal.Gen Cert.S5

/-! The three blocks a run leaves, read at an index. -/

section
variable (c : Dev nD) (i : grid0.Coords) (arg2 : Memref sig .tc .vmem S2048x128 .f32) (harg2 : arg2.IsWhole) (arg3 : Memref sig .tc .vmem S1x1x8x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x1x128 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S2048x128 .f32) (harg11 : arg11.IsWhole) (arg12 : Memref sig .tc .vmem S1x1x1x512 .f32) (harg12 : arg12.IsWhole) (arg13 : Memref sig .tc .vmem S1x1x1x512 .f32) (harg13 : arg13.IsWhole) (arg14 : Memref sig .tc .vmem S2048x512 .f32) (harg14 : arg14.IsWhole) (arg15 : Memref sig .tc .vmem S2048x512 .f32) (harg15 : arg15.IsWhole)
  (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S1x1x1x512 .f32) (x8 : Vec Ideal S1x1x1x512 .f32)

theorem out9 (r : Fin 2048) (j : Fin 128) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r j)
    = k0_pay1 (k0_pay16 x0) (k0_pay73 (kernelRun0_A.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) x4 (kernelRun0_A.sl.v217 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) x5) x6 (ix2 r j) := by
  unfold out0_A_9 kernelRun0_A
  dsimp only
  refine (View.read_writes_cons_hit_of_coords _ _ _ _ _ (ix2 r j) _ fun a => ?_).trans ?_
  · match a with
    | ⟨0, _⟩ => show r.val = 0 + 1 * r.val; omega
    | ⟨1, _⟩ => show j.val = 0 + 1 * j.val; omega
  · unfold kernelRun0_A.sl.r_4 kernelRun0_A.sl.r_33 kernelRun0_A.sl.v224
    rw [rdw arg2 harg2 x0 _ z2, rdw arg6 harg6 x4 _ z4, rdw arg7 harg7 x5 _ z4]
    rw [show View.readAt (Elt Ideal) arg8.view (Rect.unit ![0, 0, 0, 0] ![1, 1, 1, 128] inb_S1x1x1x128_S1x1x1x128_0_0_0_0).toLoadRect (harg8.unread x6) = x6 from rdw arg8 harg8 x6 _ z4 _]

theorem out10 (q : Fin 512) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 0 0 0 q) = k0_pay63 (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (ix4 0 0 0 q) := by
  unfold out0_A_10 kernelRun0_A
  dsimp only
  unfold kernelRun0_A.sl.H10_1
  refine View.read_writes_cons_hit_of_coords _ _ _ _ _ _ (ix4 0 0 0 q) fun a => ?_
  match a with
  | ⟨0, _⟩ => rfl
  | ⟨1, _⟩ => rfl
  | ⟨2, _⟩ => rfl
  | ⟨3, _⟩ => show q.val = 0 + 1 * q.val; omega

theorem out11 (q : Fin 512) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 0 0 0 q) = k0_pay64 (kernelRun0_A.sl.r_13 (F := Ideal) c arg3 harg3 x1) (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8) (ix4 0 0 0 q) := by
  unfold out0_A_11 kernelRun0_A
  dsimp only
  unfold kernelRun0_A.sl.H11_1
  refine View.read_writes_cons_hit_of_coords _ _ _ _ _ _ (ix4 0 0 0 q) fun a => ?_
  match a with
  | ⟨0, _⟩ => rfl
  | ⟨1, _⟩ => rfl
  | ⟨2, _⟩ => rfl
  | ⟨3, _⟩ => show q.val = 0 + 1 * q.val; omega

end

end Cert.S5ScanIdeal.Hand
-- ==== Proof.S5ScanPoint.lean ====
module

public import proofs.«01_k».proof.Proof.S5ScanLay
public import proofs.«01_k».proof.Proof.S5ScanOut

@[expose] public section

set_option maxRecDepth 16384

noncomputable section

namespace Cert.S5ScanIdeal.Hand
open Idealize.ShloMosaic Idealize.ShloMosaic.TcCoe Idealize.SL Idealize.SL.Sem Cert.S5ScanIdeal Cert.S5ScanIdeal.Gen Cert.S5

/-! The three blocks a run leaves, of the operands of its sequence and its groups. -/

section
variable (c : Dev nD) (i : grid0.Coords) (arg2 : Memref sig .tc .vmem S2048x128 .f32) (harg2 : arg2.IsWhole) (arg3 : Memref sig .tc .vmem S1x1x8x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x1x128 .f32) (harg8 : arg8.IsWhole) (arg9 : Memref sig .tc .vmem S1x1x1x512 .f32) (harg9 : arg9.IsWhole) (arg10 : Memref sig .tc .vmem S1x1x1x512 .f32) (harg10 : arg10.IsWhole) (arg11 : Memref sig .tc .vmem S2048x128 .f32) (harg11 : arg11.IsWhole) (arg12 : Memref sig .tc .vmem S1x1x1x512 .f32) (harg12 : arg12.IsWhole) (arg13 : Memref sig .tc .vmem S1x1x1x512 .f32) (harg13 : arg13.IsWhole) (arg14 : Memref sig .tc .vmem S2048x512 .f32) (harg14 : arg14.IsWhole) (arg15 : Memref sig .tc .vmem S2048x512 .f32) (harg15 : arg15.IsWhole)
  (x0 : Vec Ideal S2048x128 .f32) (x1 : Vec Ideal S1x1x8x512 .f32) (x2 : Vec Ideal S1x1x128x512 .f32) (x3 : Vec Ideal S1x1x128x512 .f32) (x4 : Vec Ideal S1x1x512x128 .f32) (x5 : Vec Ideal S1x1x512x128 .f32) (x6 : Vec Ideal S1x1x1x128 .f32) (x7 : Vec Ideal S1x1x1x512 .f32) (x8 : Vec Ideal S1x1x1x512 .f32)
  (P : Sc) (b : Fin 4) (n : Fin 8) (h : Lay P b n x0 x1 x2 x3 x4 x5 x6) (hf : Real' P)
  (hx : ∀ q, x7 (ix4 0 0 0 q) = 0) (hy : ∀ q, x8 (ix4 0 0 0 q) = 0)
include h hf hx hy

theorem blk_9 (t : Fin 256) (j g : Fin 8) (k : Fin 16) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 ⟨8 * t.val + j.val, by omega⟩ ⟨16 * g.val + k.val, by omega⟩)
    = gel (P.y b ⟨256 * j.val + t.val, by omega⟩ ⟨8 * n.val + g.val, by omega⟩ k) := by
  rw [out9, gate]
  refine congrArg gel (h.out _ _ ?_ ?_ t j g k)
  · exact fun r q => (rows_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (fun q => P.ur b ⟨8 * n.val + q.val / 64, by omega⟩ ⟨q.val % 64, by omega⟩) (fun q => P.ui b ⟨8 * n.val + q.val / 64, by omega⟩ ⟨q.val % 64, by omega⟩) h.hr h.hi (h.ok hf) hx hy r q).1
  · exact fun r q => (rows_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (fun q => P.ur b ⟨8 * n.val + q.val / 64, by omega⟩ ⟨q.val % 64, by omega⟩) (fun q => P.ui b ⟨8 * n.val + q.val / 64, by omega⟩ ⟨q.val % 64, by omega⟩) h.hr h.hi (h.ok hf) hx hy r q).2

theorem blk_10 (g : Fin 8) (p : Fin 64) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 0 0 0 ⟨64 * g.val + p.val, by omega⟩)
    = (P.st b ⟨8 * n.val + g.val, by omega⟩ p 2048).1 := by
  have d1 : (64 * g.val + p.val) / 64 = g.val := by omega
  have d2 : (64 * g.val + p.val) % 64 = p.val := by omega
  have k := last_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (fun q => P.ur b ⟨8 * n.val + q.val / 64, by omega⟩ ⟨q.val % 64, by omega⟩) (fun q => P.ui b ⟨8 * n.val + q.val / 64, by omega⟩ ⟨q.val % 64, by omega⟩) h.hr h.hi (h.ok hf) hx hy ⟨64 * g.val + p.val, by omega⟩
  rw [h.hv, h.hw] at k
  simp only [d1, d2] at k
  rw [out10]
  exact congrArg Prod.fst k

theorem blk_11 (g : Fin 8) (p : Fin 64) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 0 0 0 ⟨64 * g.val + p.val, by omega⟩)
    = (P.st b ⟨8 * n.val + g.val, by omega⟩ p 2048).2 := by
  have d1 : (64 * g.val + p.val) / 64 = g.val := by omega
  have d2 : (64 * g.val + p.val) % 64 = p.val := by omega
  have k := last_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x7 x8 (fun q => P.ur b ⟨8 * n.val + q.val / 64, by omega⟩ ⟨q.val % 64, by omega⟩) (fun q => P.ui b ⟨8 * n.val + q.val / 64, by omega⟩ ⟨q.val % 64, by omega⟩) h.hr h.hi (h.ok hf) hx hy ⟨64 * g.val + p.val, by omega⟩
  rw [h.hv, h.hw] at k
  simp only [d1, d2] at k
  rw [out11]
  exact congrArg Prod.snd k

end

end Cert.S5ScanIdeal.Hand

end
-- ==== Proof.S5ScanHost.lean ====
module

public import proofs.«01_k».proof.Proof.S5ScanLay
public import proofs.«01_k».proof.Proof.Gen.S5ScanIdeal.Frame
public import Idealize.ShloMosaic.Lib.Pipeline.ValueKit
public import Idealize.ShloMosaic.Lib.Pointwise
import Idealize.ShloMosaic.Lib.StableHlo.RunRead

@[expose] public section

set_option maxRecDepth 16384

noncomputable section

namespace Cert.S5ScanIdeal.Hand
open Idealize.ShloMosaic Idealize.ShloMosaic.TcCoe Idealize.SL.Sem Cert.S5ScanIdeal Cert.S5ScanIdeal.Gen Cert.S5

/-! The operands of the scan as the kernel's blocks find them. -/

/-- The identity of the groups of a block as the kernel makes it. -/
abbrev EYE : FVec Ideal S8x8 .f32 :=
  uitofp .f32 (cmpi .eq (addi (iotaInDim S8x8 32 0) (broadcastInDim S8x8 ![] bcast_S_S8x8 (constantI S_ 32 0#32))) (iotaInDim S8x8 32 1))

theorem eye_at (a b : Fin 8) : EYE (ix2 a b) = eyeV a b := by
  have e : ∀ a b : Fin 8, IntOp.cmpi .eq (IntOp.addi (BitVec.ofNat 32 a.val) 0#32) (BitVec.ofNat 32 b.val) = if a = b then 1#1 else 0#1 := by decide
  have z0 : (FloatOps.uitofp FTy.f32 0#1 : Ideal .f32) = 0 := by show (((0#1 : BitVec 1).toNat : ℝ) : EReal) = 0; simp
  have z1 : (FloatOps.uitofp FTy.f32 1#1 : Ideal .f32) = 1 := by show (((1#1 : BitVec 1).toNat : ℝ) : EReal) = 1; simp
  pointwise [EYE, eyeV]
  rw [e]
  split_ifs
  · exact z1
  · exact z0

/-- The input matrices laid out block diagonally. -/
abbrev BD (a : FVec Ideal S2x64x64x16 .f32) : FVec Ideal S2x8x128x512 .f32 :=
  shapeCast S2x8x128x512 (mulf
    (broadcastInDim S2x8x8x16x8x64 ![0, 1, 2, 3, 4, 5] bcast_S2x8x8x16x1x64_S2x8x8x16x8x64_0_1_2_3_4_5
      (broadcastInDim S2x8x8x16x1x64 ![0, 1, 2, 3, 5] bcast_S2x8x8x16x64_S2x8x8x16x1x64_0_1_2_3_5
        (transpose S2x8x8x16x64 [0, 1, 2, 4, 3] (shapeCast S2x8x8x64x16 a shapeCasts_S2x64x64x16_S2x8x8x64x16) transposes_S2x8x8x64x16_S2x8x8x16x64_0_1_2_4_3)))
    (broadcastInDim S2x8x8x16x8x64 ![0, 1, 2, 3, 4, 5] bcast_S1x1x8x1x8x1_S2x8x8x16x8x64_0_1_2_3_4_5
      (broadcastInDim S1x1x8x1x8x1 ![2, 4] bcast_S8x8_S1x1x8x1x8x1_2_4 EYE))) shapeCasts_S2x8x8x16x8x64_S2x8x128x512

/-- The output matrices laid out block diagonally. -/
abbrev CD (a : FVec Ideal S2x64x16x64 .f32) : FVec Ideal S2x8x512x128 .f32 :=
  shapeCast S2x8x512x128 (mulf
    (broadcastInDim S2x8x8x64x8x16 ![0, 1, 2, 3, 4, 5] bcast_S2x8x8x64x1x16_S2x8x8x64x8x16_0_1_2_3_4_5
      (broadcastInDim S2x8x8x64x1x16 ![0, 1, 2, 3, 5] bcast_S2x8x8x64x16_S2x8x8x64x1x16_0_1_2_3_5
        (transpose S2x8x8x64x16 [0, 1, 2, 4, 3] (shapeCast S2x8x8x16x64 a shapeCasts_S2x64x16x64_S2x8x8x16x64) transposes_S2x8x8x16x64_S2x8x8x64x16_0_1_2_4_3)))
    (broadcastInDim S2x8x8x64x8x16 ![0, 1, 2, 3, 4, 5] bcast_S1x1x8x1x8x1_S2x8x8x64x8x16_0_1_2_3_4_5
      (broadcastInDim S1x1x8x1x8x1 ![2, 4] bcast_S8x8_S1x1x8x1x8x1_2_4 EYE))) shapeCasts_S2x8x8x64x8x16_S2x8x512x128

/-- The rows of the poles and of the log step, of each lane of a block. -/
abbrev PARS (a2 a3 : FVec Ideal S2x64x64 .f32) (a4 : FVec Ideal S2x64 .f32) : FVec Ideal S2x8x8x512 .f32 :=
  concatenate S2x8x8x512 2 [⟨S2x8x1x512, shapeCast S2x8x1x512 a2 shapeCasts_S2x64x64_S2x8x1x512⟩, ⟨S2x8x1x512, shapeCast S2x8x1x512 a3 shapeCasts_S2x64x64_S2x8x1x512⟩,
    ⟨S2x8x1x512, shapeCast S2x8x1x512 (shapeCast S2x4096 (broadcastInDim S2x64x64 ![0, 1] bcast_S2x64_S2x64x64_0_1 a4) shapeCasts_S2x64x64_S2x4096) shapeCasts_S2x4096_S2x8x1x512⟩,
    ⟨S2x8x5x512, broadcastInDim S2x8x5x512 ![] bcast_S_S2x8x5x512 (constant S_ .f32 0x00000000#32)⟩] concatenates_S2x8x1x512_S2x8x1x512_S2x8x1x512_S2x8x5x512_S2x8x8x512_d2

theorem bd_at (a : FVec Ideal S2x64x64x16 .f32) (n g' : Fin 8) (c : Fin 16) (g : Fin 8) (p : Fin 64) :
    BD a (ix4 0 n ⟨16 * g'.val + c.val, by omega⟩ ⟨64 * g.val + p.val, by omega⟩) = a (ix4 0 ⟨8 * n.val + g'.val, by omega⟩ p c) * EYE (ix2 g' g) := by
  pointwise [BD]
  blk_point []

theorem cd_at (a : FVec Ideal S2x64x16x64 .f32) (n g' : Fin 8) (p : Fin 64) (g : Fin 8) (c : Fin 16) :
    CD a (ix4 0 n ⟨64 * g'.val + p.val, by omega⟩ ⟨16 * g.val + c.val, by omega⟩) = a (ix4 0 ⟨8 * n.val + g'.val, by omega⟩ c p) * EYE (ix2 g' g) := by
  pointwise [CD]
  blk_point []

section
variable (a2 a3 : FVec Ideal S2x64x64 .f32) (a4 : FVec Ideal S2x64 .f32) (n g : Fin 8) (p : Fin 64)

theorem pars_0 : PARS a2 a3 a4 (ix4 0 n 0 ⟨64 * g.val + p.val, by omega⟩) = a2 (ix3 0 ⟨8 * n.val + g.val, by omega⟩ p) := by
  pointwise [PARS]
  blk_point []

theorem pars_1 : PARS a2 a3 a4 (ix4 0 n 1 ⟨64 * g.val + p.val, by omega⟩) = a3 (ix3 0 ⟨8 * n.val + g.val, by omega⟩ p) := by
  pointwise [PARS]
  blk_point []

theorem pars_2 : PARS a2 a3 a4 (ix4 0 n 2 ⟨64 * g.val + p.val, by omega⟩) = a4 (ix2 0 ⟨8 * n.val + g.val, by omega⟩) := by
  pointwise [PARS]
  blk_point []

end

variable (m : (ℓ : Loc nD τ sig) → Buf (Elt Ideal) ℓ) (c : Dev nD)

theorem V_12 : V m c main_v12 = PARS (m ((c : Thread nD τ).loc main_arg1)) (m ((c : Thread nD τ).loc main_arg2)) (m ((c : Thread nD τ).loc main_arg3)) := by
  show StableHlo.after hostOps0 (fun b => m (c, b)) (Proc.devRef .tc main_v12) = _
  after_reads_simp
  rfl

theorem V_20 : V m c main_v20 = BD (m ((c : Thread nD τ).loc main_arg4)) := by
  entry_read; rfl

theorem V_28 : V m c main_v28 = BD (m ((c : Thread nD τ).loc main_arg5)) := by
  entry_read; rfl

theorem V_36 : V m c main_v36 = CD (m ((c : Thread nD τ).loc main_arg6)) := by
  entry_read; rfl

theorem V_44 : V m c main_v44 = CD (m ((c : Thread nD τ).loc main_arg7)) := by
  entry_read; rfl

theorem V_45 : V m c main_v45 = shapeCast S2x8x1x128 (m ((c : Thread nD τ).loc main_arg8) : FVec Ideal S2x1024 .f32) shapeCasts_S2x1024_S2x8x1x128 := by
  entry_read; rfl

/-- The inputs of the branch with the eight segments of a sequence interleaved. -/
abbrev IL (a : FVec Ideal S8320x14592 .f32) : FVec Ideal S8192x1024 .f32 :=
  shapeCast S8192x1024 (transpose S4x256x8x1024 [0, 2, 1, 3] (shapeCast S4x8x256x1024 (extractStridedSlice S8192x1024 ![0, 3072] a slices_S8320x14592_S8192x1024_0_3072)
    shapeCasts_S8192x1024_S4x8x256x1024) transposes_S4x8x256x1024_S4x256x8x1024_0_2_1_3) shapeCasts_S4x256x8x1024_S8192x1024

theorem V_49 : V m c main_v49 = IL (m ((c : Thread nD τ).loc main_arg0)) := by
  entry_read; rfl

theorem V_50 : V m c main_v50 = broadcastInDim S4x8x1x512 ![] bcast_S_S4x8x1x512 (constant S_ .f32 0x00000000#32 : FVec Ideal S_ .f32) := by
  entry_read; rfl

theorem il_at (a : FVec Ideal S8320x14592 .f32) (b : Fin 4) (t : Fin 256) (j : Fin 8) (q : Fin 1024) :
    IL a (ix2 ⟨2048 * b.val + (8 * t.val + j.val), by omega⟩ q) = a (ix2 ⟨2048 * b.val + (256 * j.val + t.val), by omega⟩ ⟨3072 + q.val, by omega⟩) := by
  pointwise [IL]
  blk_point []

theorem idx : ∀ t : Fin cfg0.N, win0_0.index t = ![t.val / 8, t.val % 8] ∧ win0_1.index t = ![0, t.val % 8, 0, 0] ∧ win0_2.index t = ![0, t.val % 8, 0, 0]
    ∧ win0_3.index t = ![0, t.val % 8, 0, 0] ∧ win0_4.index t = ![0, t.val % 8, 0, 0] ∧ win0_5.index t = ![0, t.val % 8, 0, 0] ∧ win0_6.index t = ![0, t.val % 8, 0, 0]
    ∧ win0_7.index t = ![t.val / 8, t.val % 8, 0, 0] ∧ win0_8.index t = ![t.val / 8, t.val % 8, 0, 0] ∧ win0_9.index t = ![t.val / 8, t.val % 8]
    ∧ win0_10.index t = ![t.val / 8, t.val % 8, 0, 0] ∧ win0_11.index t = ![t.val / 8, t.val % 8, 0, 0] :=
  (by decide +kernel : ∀ t : Fin grid0.N, _)

/-- The operands of the scan as they lie in the kernel's arguments. -/
abbrev parM : Sc :=
  Cert.S5ScanRefIdeal.Hand.par (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

section
variable (t : Fin cfg0.N)

/-- The sequence of a point of the grid, and its block of groups. -/
abbrev bt : Fin 4 := ⟨t.val / 8, by have : t.val < 32 := t.isLt; omega⟩
abbrev gt : Fin 8 := ⟨t.val % 8, by omega⟩

theorem read_0 (r : Fin 2048) (q : Fin 128) : (iblk m c 0 t : FVec Ideal S2048x128 .f32) (ix2 r q)
    = (V m c main_v49 : FVec Ideal S8192x1024 .f32) (ix2 ⟨2048 * (t.val / 8) + r.val, by have : t.val < 32 := t.isLt; omega⟩ ⟨128 * (t.val % 8) + q.val, by omega⟩) := by
  blk_ext [iblk, idx t]

theorem read_1 (r : Fin 8) (q : Fin 512) : (iblk m c 1 t : FVec Ideal S1x1x8x512 .f32) (ix4 0 0 r q) = (V m c main_v12 : FVec Ideal S2x8x8x512 .f32) (ix4 0 (gt t) r q) := by
  blk_ext [iblk, idx t]

theorem read_2 (j : Fin 128) (q : Fin 512) : (iblk m c 2 t : FVec Ideal S1x1x128x512 .f32) (ix4 0 0 j q) = (V m c main_v20 : FVec Ideal S2x8x128x512 .f32) (ix4 0 (gt t) j q) := by
  blk_ext [iblk, idx t]

theorem read_3 (j : Fin 128) (q : Fin 512) : (iblk m c 3 t : FVec Ideal S1x1x128x512 .f32) (ix4 0 0 j q) = (V m c main_v28 : FVec Ideal S2x8x128x512 .f32) (ix4 0 (gt t) j q) := by
  blk_ext [iblk, idx t]

theorem read_4 (q : Fin 512) (j : Fin 128) : (iblk m c 4 t : FVec Ideal S1x1x512x128 .f32) (ix4 0 0 q j) = (V m c main_v36 : FVec Ideal S2x8x512x128 .f32) (ix4 0 (gt t) q j) := by
  blk_ext [iblk, idx t]

theorem read_5 (q : Fin 512) (j : Fin 128) : (iblk m c 5 t : FVec Ideal S1x1x512x128 .f32) (ix4 0 0 q j) = (V m c main_v44 : FVec Ideal S2x8x512x128 .f32) (ix4 0 (gt t) q j) := by
  blk_ext [iblk, idx t]

theorem read_6 (j : Fin 128) : (iblk m c 6 t : FVec Ideal S1x1x1x128 .f32) (ix4 0 0 0 j) = (V m c main_v45 : FVec Ideal S2x8x1x128 .f32) (ix4 0 (gt t) 0 j) := by
  blk_ext [iblk, idx t]

theorem read_7 (q : Fin 512) : (iblk m c 7 t : FVec Ideal S1x1x1x512 .f32) (ix4 0 0 0 q) = (0 : EReal) := by
  refine Eq.trans (b := (V m c main_v50 : FVec Ideal S4x8x1x512 .f32) (ix4 (bt t) (gt t) 0 q)) (by blk_ext [iblk, idx t]) ?_
  rw [V_50]
  pointwise

theorem read_8 (q : Fin 512) : (iblk m c 8 t : FVec Ideal S1x1x1x512 .f32) (ix4 0 0 0 q) = (0 : EReal) := by
  refine Eq.trans (b := (V m c main_v50 : FVec Ideal S4x8x1x512 .f32) (ix4 (bt t) (gt t) 0 q)) (by blk_ext [iblk, idx t]) ?_
  rw [V_50]
  pointwise

/-- The blocks of a point of the grid hold the operands of its sequence and its eight groups. -/
theorem lay : Lay (parM m c) (bt t) (gt t) (iblk m c 0 t) (iblk m c 1 t) (iblk m c 2 t) (iblk m c 3 t) (iblk m c 4 t) (iblk m c 5 t) (iblk m c 6 t) where
  u r j g k := by
    rw [read_0, V_49]
    refine (il_at (m ((c : Thread nD τ).loc main_arg0)) (bt t) r j ⟨128 * (t.val % 8) + (16 * g.val + k.val), by omega⟩).trans ?_
    show _ = (m ((c : Thread nD τ).loc main_arg0) : FVec Ideal S8320x14592 .f32) (ix2 ⟨2048 * (t.val / 8) + (256 * j.val + r.val), _⟩ ⟨3072 + (16 * (8 * (t.val % 8) + g.val) + k.val), _⟩)
    blk_ext []
  ar g p := by rw [read_1, V_12]; exact pars_0 _ _ _ _ g p
  ai g p := by rw [read_1, V_12]; exact pars_1 _ _ _ _ g p
  l g p := by rw [read_1, V_12]; exact pars_2 _ _ _ _ g p
  br g' k g p := by rw [read_2, V_20, bd_at, eye_at]; rfl
  bi g' k g p := by rw [read_3, V_28, bd_at, eye_at]; rfl
  cr g' p g k := by rw [read_4, V_36, cd_at, eye_at]; rfl
  ci g' p g k := by rw [read_5, V_44, cd_at, eye_at]; rfl
  d g k := by
    rw [read_6, V_45]
    show _ = (m ((c : Thread nD τ).loc main_arg8) : FVec Ideal S2x1024 .f32) (ix2 0 ⟨(8 * (t.val % 8) + g.val) * 16 + k.val, _⟩)
    pointwise
    blk_ext []

end

end Cert.S5ScanIdeal.Hand

end
-- ==== Proof.S5ScanPre.lean ====
module

public import proofs.«01_k».proof.Proof.S5ScanHost
public import proofs.«01_k».proof.Proof.Gen.Pre_scan_operands_finite
public import proofs.«01_k».proof.Defs
public import Idealize.ShloMosaic.Lib.Pointwise

@[expose] public section

set_option maxRecDepth 16384

noncomputable section

namespace Cert.S5ScanIdeal.Hand
open Idealize.ShloMosaic Idealize.ShloMosaic.TcCoe Idealize.SL Idealize.SL.Sem Cert.S5ScanIdeal Cert.S5ScanIdeal.Gen Cert.S5

/-! What the precondition says of the operands. -/

theorem of_bit {P : Prop} [Decidable P] (h : BitVec.ofBool (decide P) = 1#1) : P := by
  by_contra hP
  simp [hP] at h

theorem top : (Ideal.ofBits .f32 0x7F800000#32 : EReal) = ⊤ := by
  simp [Ideal.ofBits, Ideal.ieee]

section
variable (m : (ℓ : Loc nD τ sig) → Buf (Elt Ideal) ℓ) (h : Pre_S5ScanIdeal_scan_operands_finite m) (c : Dev nD)
include h

theorem pre_u (b : Fin 4) (t : Fin 2048) (g : Fin 64) (k : Fin 16) : Re ((parM m c).u b t g k) := by
  obtain ⟨h1, h2, h3, h4, h5, h6⟩ := h c
  have e := congrFun h1 (ix2 ⟨2048 * b.val + t.val, by omega⟩ ⟨16 * g.val + k.val, by omega⟩)
  revert e
  unfold Cert.Pre_scan_operands_finite.fn Cert.Pre_scan_operands_finite.fn_part1
  pointwise
  exact fun e => re_of_lt (lt_of_lt_of_eq (of_bit e) top)

theorem pre_ar (g p : Fin 64) : Re ((parM m c).ar g p) := by
  obtain ⟨h1, h2, h3, h4, h5, h6⟩ := h c
  have e := congrFun h2 (ix2 g p)
  revert e
  unfold Cert.Pre_scan_operands_finite.fn Cert.Pre_scan_operands_finite.fn_part1
  pointwise
  exact fun e => re_of_lt (lt_of_lt_of_eq (of_bit e) top)

theorem pre_ai (g p : Fin 64) : Re ((parM m c).ai g p) := by
  obtain ⟨h1, h2, h3, h4, h5, h6⟩ := h c
  have e := congrFun h3 (ix2 g p)
  revert e
  unfold Cert.Pre_scan_operands_finite.fn Cert.Pre_scan_operands_finite.fn_part1
  pointwise
  exact fun e => re_of_lt (lt_of_lt_of_eq (of_bit e) top)

theorem pre_l (g : Fin 64) : Re ((parM m c).l g) := by
  obtain ⟨h1, h2, h3, h4, h5, h6⟩ := h c
  have e := congrFun h4 (ix1 g)
  revert e
  unfold Cert.Pre_scan_operands_finite.fn Cert.Pre_scan_operands_finite.fn_part1
  pointwise
  exact fun e => re_of_lt (lt_of_lt_of_eq (of_bit e) top)

theorem pre_br (g p : Fin 64) (k : Fin 16) : Re ((parM m c).br g p k) := by
  obtain ⟨h1, h2, h3, h4, h5, h6⟩ := h c
  have e := congrFun h5 (ix3 g p k)
  revert e
  unfold Cert.Pre_scan_operands_finite.fn Cert.Pre_scan_operands_finite.fn_part1
  pointwise
  exact fun e => re_of_lt (lt_of_lt_of_eq (of_bit e) top)

theorem pre_bi (g p : Fin 64) (k : Fin 16) : Re ((parM m c).bi g p k) := by
  obtain ⟨h1, h2, h3, h4, h5, h6⟩ := h c
  have e := congrFun h6 (ix3 g p k)
  revert e
  unfold Cert.Pre_scan_operands_finite.fn Cert.Pre_scan_operands_finite.fn_part1
  pointwise
  exact fun e => re_of_lt (lt_of_lt_of_eq (of_bit e) top)

theorem real : Real' (parM m c) where
  u := pre_u m h c
  ar := pre_ar m h c
  ai := pre_ai m h c
  l := pre_l m h c
  br := pre_br m h c
  bi := pre_bi m h c

end

end Cert.S5ScanIdeal.Hand

end
-- ==== Proof.S5Scan.lean ====
module

public import proofs.«01_k».proof.Proof.S5ScanPoint
public import proofs.«01_k».proof.Proof.S5ScanPre
public import proofs.«01_k».proof.Proof.S5ScanTrip
public import proofs.«01_k».proof.Proof.Gen.S5ScanIdeal.Frame
public import proofs.«01_k».proof.Proof.Gen.S5ScanRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.S5ScanRefIdeal.Hand
open Idealize.ShloMosaic Idealize.ShloMosaic.TcCoe Idealize.SL.Sem Idealize.ShloMosaic.StableHlo
open Cert.S5ScanRefIdeal Cert.S5ScanRefIdeal.Gen Cert.S5ScanRefIdeal.Value Cert.S5ScanRefIdeal.Step

/-! The reference's results over its arguments, after all the trips of its loop. -/

variable (m' : (ℓ : Loc Cert.S5ScanRefIdeal.nD Cert.S5ScanRefIdeal.τ Cert.S5ScanRefIdeal.sig) → Buf (Elt Ideal) ℓ) (c : Dev Cert.S5ScanRefIdeal.nD)

/-- The loop ends in the state its trips lead to. -/
theorem at_end : At (STEP^[2048] (entryContents preI m' c)) (it (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg1)) (m' ((c.tc : Thread Cert.S5ScanRefIdeal.nD Cert.S5ScanRefIdeal.τ).loc Cert.S5ScanRefIdeal.main_arg2)) (m' ((c.tc : Thread Cert.S5ScanRefIdeal.nD Cert.S5ScanRefIdeal.τ).loc Cert.S5ScanRefIdeal.main_arg3)) (m' ((c.tc : Thread Cert.S5ScanRefIdeal.nD Cert.S5ScanRefIdeal.τ).loc Cert.S5ScanRefIdeal.main_arg4)) (m' ((c.tc : Thread Cert.S5ScanRefIdeal.nD Cert.S5ScanRefIdeal.τ).loc Cert.S5ScanRefIdeal.main_arg5)) 2048) 2048 :=
  at_iter m' c (it (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg1)) (m' ((c.tc : Thread Cert.S5ScanRefIdeal.nD Cert.S5ScanRefIdeal.τ).loc Cert.S5ScanRefIdeal.main_arg2)) (m' ((c.tc : Thread Cert.S5ScanRefIdeal.nD Cert.S5ScanRefIdeal.τ).loc Cert.S5ScanRefIdeal.main_arg3)) (m' ((c.tc : Thread Cert.S5ScanRefIdeal.nD Cert.S5ScanRefIdeal.τ).loc Cert.S5ScanRefIdeal.main_arg4)) (m' ((c.tc : Thread Cert.S5ScanRefIdeal.nD Cert.S5ScanRefIdeal.τ).loc Cert.S5ScanRefIdeal.main_arg5))) rfl (fun _ => rfl) 2048

theorem ref_97 : out_main_v97 (STEP^[2048] (entryContents preI m' c)) = R_main_v97 (it (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg1)) (m' ((c.tc : Thread Cert.S5ScanRefIdeal.nD Cert.S5ScanRefIdeal.τ).loc Cert.S5ScanRefIdeal.main_arg2)) (m' ((c.tc : Thread Cert.S5ScanRefIdeal.nD Cert.S5ScanRefIdeal.τ).loc Cert.S5ScanRefIdeal.main_arg3)) (m' ((c.tc : Thread Cert.S5ScanRefIdeal.nD Cert.S5ScanRefIdeal.τ).loc Cert.S5ScanRefIdeal.main_arg4)) (m' ((c.tc : Thread Cert.S5ScanRefIdeal.nD Cert.S5ScanRefIdeal.τ).loc Cert.S5ScanRefIdeal.main_arg5)) 2048) (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg6)) (m' ((c.tc : Thread Cert.S5ScanRefIdeal.nD Cert.S5ScanRefIdeal.τ).loc Cert.S5ScanRefIdeal.main_arg7)) (m' ((c.tc : Thread Cert.S5ScanRefIdeal.nD Cert.S5ScanRefIdeal.τ).loc Cert.S5ScanRefIdeal.main_arg8)) := by
  refine (out_97 (at_end m' c)).trans ?_
  rw [iter_main_arg0, iter_main_arg6, iter_main_arg7, iter_main_arg8]

theorem ref_98 : out_main_v98 (STEP^[2048] (entryContents preI m' c)) = R_main_v98 (it (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg1)) (m' ((c.tc : Thread Cert.S5ScanRefIdeal.nD Cert.S5ScanRefIdeal.τ).loc Cert.S5ScanRefIdeal.main_arg2)) (m' ((c.tc : Thread Cert.S5ScanRefIdeal.nD Cert.S5ScanRefIdeal.τ).loc Cert.S5ScanRefIdeal.main_arg3)) (m' ((c.tc : Thread Cert.S5ScanRefIdeal.nD Cert.S5ScanRefIdeal.τ).loc Cert.S5ScanRefIdeal.main_arg4)) (m' ((c.tc : Thread Cert.S5ScanRefIdeal.nD Cert.S5ScanRefIdeal.τ).loc Cert.S5ScanRefIdeal.main_arg5)) 2048) :=
  out_98 (at_end m' c)

theorem ref_99 : out_main_v99 (STEP^[2048] (entryContents preI m' c)) = R_main_v99 (it (m' ((c.tc : Thread Cert.S5ScanRefIdeal.nD Cert.S5ScanRefIdeal.τ).loc Cert.S5ScanRefIdeal.main_arg0)) (m' ((c.tc : Thread Cert.S5ScanRefIdeal.nD Cert.S5ScanRefIdeal.τ).loc Cert.S5ScanRefIdeal.main_arg1)) (m' ((c.tc : Thread Cert.S5ScanRefIdeal.nD Cert.S5ScanRefIdeal.τ).loc Cert.S5ScanRefIdeal.main_arg2)) (m' ((c.tc : Thread Cert.S5ScanRefIdeal.nD Cert.S5ScanRefIdeal.τ).loc Cert.S5ScanRefIdeal.main_arg3)) (m' ((c.tc : Thread Cert.S5ScanRefIdeal.nD Cert.S5ScanRefIdeal.τ).loc Cert.S5ScanRefIdeal.main_arg4)) (m' ((c.tc : Thread Cert.S5ScanRefIdeal.nD Cert.S5ScanRefIdeal.τ).loc Cert.S5ScanRefIdeal.main_arg5)) 2048) :=
  out_99 (at_end m' c)

end Cert.S5ScanRefIdeal.Hand

namespace Cert.S5ScanIdeal.Hand
open Idealize.ShloMosaic Idealize.ShloMosaic.TcCoe Idealize.SL.Sem
open Idealize.ShloMosaic.Pipeline (Dat)
open Cert.S5ScanIdeal Cert.S5ScanIdeal.Gen Cert.S5

/-- An index of a block of outputs by its time, segment, group and channel. -/
theorem split_9 (y : S2048x128.Idx) : ∃ (r : Fin 256) (j g : Fin 8) (k : Fin 16), y = ix2 ⟨8 * r.val + j.val, by omega⟩ ⟨16 * g.val + k.val, by omega⟩ := by
  have h0 : (y 0).val < 2048 := (y 0).isLt
  have h1 : (y 1).val < 128 := (y 1).isLt
  refine ⟨⟨(y 0).val / 8, by omega⟩, ⟨(y 0).val % 8, by omega⟩, ⟨(y 1).val / 16, by omega⟩, ⟨(y 1).val % 16, by omega⟩, funext fun a => ?_⟩
  match a with
  | ⟨0, _⟩ => exact Fin.ext (Nat.div_add_mod _ _).symm
  | ⟨1, _⟩ => exact Fin.ext (Nat.div_add_mod _ _).symm

/-- An index of a block of states by its group and lane. -/
theorem split_10 (y : S1x1x1x512.Idx) : ∃ (g : Fin 8) (p : Fin 64), y = ix4 0 0 0 ⟨64 * g.val + p.val, by omega⟩ := by
  have h0 : (y 0).val < 1 := (y 0).isLt
  have h1 : (y 1).val < 1 := (y 1).isLt
  have h2 : (y 2).val < 1 := (y 2).isLt
  have h3 : (y 3).val < 512 := (y 3).isLt
  refine ⟨⟨(y 3).val / 64, by omega⟩, ⟨(y 3).val % 64, by omega⟩, funext fun a => ?_⟩
  match a with
  | ⟨0, _⟩ => exact Fin.ext (by show (y 0).val = 0; omega)
  | ⟨1, _⟩ => exact Fin.ext (by show (y 1).val = 0; omega)
  | ⟨2, _⟩ => exact Fin.ext (by show (y 2).val = 0; omega)
  | ⟨3, _⟩ => exact Fin.ext (Nat.div_add_mod _ _).symm

section
variable (m : (ℓ : Loc nD τ sig) → Buf (Elt Ideal) ℓ) (c : Dev nD)

/-- The reference's loop state after all its trips, over the kernel's arguments. -/
abbrev END : Cert.S5ScanRefIdeal.Step.State Ideal :=
  Cert.S5ScanRefIdeal.Hand.it (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2048

/-- The reference's three results over the kernel's arguments. -/
abbrev OUT : FVec Ideal S8192x1024 .f32 :=
  Cert.S5ScanRefIdeal.Step.R_main_v97 (END m c) (m ((c : Thread nD τ).loc main_arg0)) (m ((c : Thread nD τ).loc main_arg6)) (m ((c : Thread nD τ).loc main_arg7)) (m ((c : Thread nD τ).loc main_arg8))
abbrev RE : FVec Ideal S4x8x1x512 .f32 := Cert.S5ScanRefIdeal.Step.R_main_v98 (END m c)
abbrev IM : FVec Ideal S4x8x1x512 .f32 := Cert.S5ScanRefIdeal.Step.R_main_v99 (END m c)

variable (hp : Pre_S5ScanIdeal_scan_operands_finite m) (t : Fin cfg0.N)
include hp

omit hp in
theorem outs_9 : (outsAt0 m c t).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) := by
  delta outsAt0
  dsimp only

theorem point_9 (y : S2048x128.Idx) : (outsAt0 m c t).1 y = OUT m c (((cfg0.win 9).blk t).view.emb y) := by
  have ht : t.val < 32 := t.isLt
  obtain ⟨r, j, g, k, rfl⟩ := split_9 y
  rw [outs_9]
  refine (blk_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)
    (parM m c) (bt t) (gt t) (lay m c t) (real m hp c) (read_7 m c t) (read_8 m c t) r j g k).trans ?_
  refine (Cert.S5ScanRefIdeal.Hand.out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) r j ⟨8 * (t.val % 8) + g.val, by omega⟩ k).symm.trans ?_
  blk_ext [idx t]

omit hp in
theorem outs_10 : (outsAt0 m c t).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) := by
  delta outsAt0
  dsimp only

theorem point_10 (y : S1x1x1x512.Idx) : (outsAt0 m c t).2.1 y = RE m c (((cfg0.win 10).blk t).view.emb y) := by
  have ht : t.val < 32 := t.isLt
  obtain ⟨g, p, rfl⟩ := split_10 y
  rw [outs_10]
  refine (blk_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)
    (parM m c) (bt t) (gt t) (lay m c t) (real m hp c) (read_7 m c t) (read_8 m c t) g p).trans ?_
  refine (Cert.S5ScanRefIdeal.Hand.re_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) (gt t) g p).symm.trans ?_
  blk_ext [idx t]

omit hp in
theorem outs_11 : (outsAt0 m c t).2.2 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) := by
  delta outsAt0
  dsimp only

theorem point_11 (y : S1x1x1x512.Idx) : (outsAt0 m c t).2.2 y = IM m c (((cfg0.win 11).blk t).view.emb y) := by
  have ht : t.val < 32 := t.isLt
  obtain ⟨g, p, rfl⟩ := split_10 y
  rw [outs_11]
  refine (blk_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)
    (parM m c) (bt t) (gt t) (lay m c t) (real m hp c) (read_7 m c t) (read_8 m c t) g p).trans ?_
  refine (Cert.S5ScanRefIdeal.Hand.im_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) (gt t) g p).symm.trans ?_
  blk_ext [idx t]

omit t

theorem final_9 : (dats m 0 c).arrAt 9 (cfgs 0).N = OUT m c := by
  refine (dats m 0 c).arrAt_eq_of_covers 9 _ (by decide +kernel) fun t _ y => ?_
  blk_simp
  rw [after0_9]
  exact point_9 m c hp t y

theorem final_10 : (dats m 0 c).arrAt 10 (cfgs 0).N = RE m c := by
  refine (dats m 0 c).arrAt_eq_of_covers 10 _ (by decide +kernel) fun t _ y => ?_
  blk_simp
  rw [after0_10]
  exact point_10 m c hp t y

theorem final_11 : (dats m 0 c).arrAt 11 (cfgs 0).N = IM m c := by
  refine (dats m 0 c).arrAt_eq_of_covers 11 _ (by decide +kernel) fun t _ y => ?_
  blk_simp
  rw [after0_11]
  exact point_11 m c hp t y

end

set_option maxHeartbeats 2000000 in
theorem algebraic : Cert.algebraic_S5ScanIdeal_S5ScanRefIdeal_pre_scan_operands_finite := by
  pair_intro
  · run_from Cert.S5ScanIdeal.Gen.run_main m g
  · refine (θ_run (Cert.S5ScanRefIdeal.defs (F := Ideal)) _ _).mono (fun r hr c => ?_) (Cert.S5ScanRefIdeal.Value.run m' g')
    obtain ⟨h0, h1, h2, h3, h4, h5, h6, h7, h8⟩ := hagree c
    obtain ⟨k97, k98, k99, ks⟩ := hr c
    refine ⟨?_, ?_, ?_, ks⟩
    · refine k97.trans ((Cert.S5ScanRefIdeal.Hand.ref_97 m' c).trans ?_)
      rw [h0, h1, h2, h3, h4, h5, h6, h7, h8]
      exact (final_9 m c hpre).symm
    · refine k98.trans ((Cert.S5ScanRefIdeal.Hand.ref_98 m' c).trans ?_)
      rw [h0, h1, h2, h3, h4, h5]
      exact (final_10 m c hpre).symm
    · refine k99.trans ((Cert.S5ScanRefIdeal.Hand.ref_99 m' c).trans ?_)
      rw [h0, h1, h2, h3, h4, h5]
      exact (final_11 m c hpre).symm

end Cert.S5ScanIdeal.Hand

end
-- ==== Proof.Ffn.lean ====
module

public import proofs.«01_k».proof.Proof.Gen.FfnIdeal.Frame
public import proofs.«01_k».proof.Proof.Gen.FfnRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.Arith
@[expose] public section

set_option maxRecDepth 16384

noncomputable section

namespace Cert.FfnRefIdeal.Hand
open Idealize.ShloMosaic Cert.FfnRefIdeal Cert.FfnRefIdeal.Gen

/-- What the reference returns, of its arguments. -/
abbrev REF (a0 : FVec Ideal S8320x2048 .f32) (a1 : FVec Ideal S2x2048 .f32) (a2 a3 : FVec Ideal S2x2048x5632 .f32) (a4 : FVec Ideal S2x5632x2048 .f32) : FVec Ideal S8320x2048 .f32 :=
  addf a0 (mulf (broadcastInDim S8320x2048 ![] bcast_S_S8320x2048 (constant S_ .f32 0x3F000000#32)) (Host.dotGeneral dot_S8320x5632_S5632x2048_S8320x2048_1_0_0_1_n_n none (mulf (mulf (Host.dotGeneral dot_S8320x2048_S2048x5632_S8320x5632_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ (extractStridedSlice S1x2048x5632 ![0, 0, 0] a2 slices_S2x2048x5632_S1x2048x5632_0_0_0) shapeCasts_S1x2048x5632_S2048x5632)) (Host.divf (broadcastInDim S8320x5632 ![] bcast_S_S8320x5632 (constant S_ .f32 0x3F800000#32)) (addf (broadcastInDim S8320x5632 ![] bcast_S_S8320x5632 (constant S_ .f32 0x3F800000#32)) (Host.exp (Host.negf (Host.dotGeneral dot_S8320x2048_S2048x5632_S8320x5632_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ (extractStridedSlice S1x2048x5632 ![0, 0, 0] a2 slices_S2x2048x5632_S1x2048x5632_0_0_0) shapeCasts_S1x2048x5632_S2048x5632))))))) (Host.dotGeneral dot_S8320x2048_S2048x5632_S8320x5632_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ (extractStridedSlice S1x2048x5632 ![0, 0, 0] a3 slices_S2x2048x5632_S1x2048x5632_0_0_0) shapeCasts_S1x2048x5632_S2048x5632))) (shapeCast _ (extractStridedSlice S1x5632x2048 ![0, 0, 0] a4 slices_S2x5632x2048_S1x5632x2048_0_0_0) shapeCasts_S1x5632x2048_S5632x2048)))

end Cert.FfnRefIdeal.Hand

namespace Cert.FfnIdeal.Hand
open Idealize.ShloMosaic Idealize.ShloMosaic.TcCoe Idealize.SL.Sem
open Idealize.ShloMosaic.Pipeline (Dat)
open Cert.FfnIdeal Cert.FfnIdeal.Gen
open Cert.FfnRefIdeal.Hand (REF)

variable (m : (ℓ : Loc nD τ sig) → Buf (Elt Ideal) ℓ)

theorem idx : ∀ t : Fin cfg0.N, win0_0.index t = ![t.val / 11, 0] ∧ win0_1.index t = ![0, 0, 0]
    ∧ win0_2.index t = ![0, 0, t.val % 11] ∧ win0_3.index t = ![0, 0, t.val % 11] ∧ win0_4.index t = ![0, t.val % 11, 0]
    ∧ win0_5.index t = ![t.val / 11, 0] :=
  (by decide +kernel : ∀ t : Fin grid0.N, _)

/-- Within a row block the activation's block stays where it is. -/
theorem x_keep (c) (t s : Fin cfg0.N) (h : t.val / 11 = s.val / 11) : iblk m c 0 t = iblk m c 0 s := by
  funext y
  blk_point [iblk, V, idx t, idx s, h]

theorem g_keep (c) (t s : Fin cfg0.N) : iblk m c 1 t = iblk m c 1 s := by
  funext y
  blk_point [iblk, V, idx t, idx s]

/-- The carried buffer holds the normalised rows of the row block at every point. -/
theorem rows (c) : ∀ (n : ℕ) (hn : n < cfg0.N), (outsAt0 m c n hn).2 = k0_pay1 (iblk m c 0 ⟨n, hn⟩) (iblk m c 1 ⟨n, hn⟩) := by
  intro n
  induction n with
  | zero =>
    intro hn
    rw [outsAt0_A m c ⟨0, hn⟩ (by norm_num)]; frame_out
  | succ n ih =>
    intro hn
    by_cases h : (n + 1) % 11 = 0
    · rw [outsAt0_A m c ⟨n + 1, hn⟩ h]; frame_out
    · rw [outsAt0_B m c ⟨n + 1, hn⟩ h]; frame_out
      refine (ih (by omega)).trans ?_
      rw [x_keep m c ⟨n, _⟩ ⟨n + 1, hn⟩ (by show n / 11 = (n + 1) / 11; omega), g_keep m c ⟨n, _⟩ ⟨n + 1, hn⟩]

/-- The gated hidden unit `k` of a row, before the half. -/
def act (h : FVec Ideal S832x2048 .bf16) (wg wu : FVec Ideal S1x2048x512 .bf16) (r : Fin 832) (k : Fin 512) : EReal :=
  let u := ∑ j : Fin 2048, h (ix2 r j) * wg (ix3 0 j k)
  u * Ideal.div 1 (1 + Ideal.exp (-u)) * ∑ j : Fin 2048, h (ix2 r j) * wu (ix3 0 j k)

/-- One step adds the half of its 512 hidden units' product with the rows of the last matrix. -/
theorem step (h : FVec Ideal S832x2048 .bf16) (wg wu : FVec Ideal S1x2048x512 .bf16) (acc : FVec Ideal S832x2048 .f32)
    (wd : FVec Ideal S1x512x2048 .bf16) (y : S832x2048.Idx) : k0_pay2 h wg wu acc wd y
      = acc y + ∑ k : Fin 512, Ideal.ofBits .f32 0x3F000000#32 * (act h wg wu (y 0) k * wd (ix3 0 k (y 1))) := by
  pointwise [k0_pay2]
  simp only [zero_sub]
  exact congrArg (acc y + ·) (Fin.sum_fin_congr fun k => Cert.Arith.mul_mid _ _ _)

/-- What a point adds to an element of its row block. -/
def gain (c : Dev nD) (y : S832x2048.Idx) (t : Fin cfg0.N) : EReal :=
  ∑ k : Fin 512, Ideal.ofBits .f32 0x3F000000#32 * (act (k0_pay1 (iblk m c 0 t) (iblk m c 1 t)) (iblk m c 2 t) (iblk m c 3 t)
    (y 0) k * (iblk m c 4 t : FVec Ideal S1x512x2048 .bf16) (ix3 0 k (y 1)))

/-- The activation's element of a point's row block. -/
def xval (c : Dev nD) (y : S832x2048.Idx) (t : Fin cfg0.N) : EReal := (iblk m c 0 t : FVec Ideal S832x2048 .f32) y

/-- What a run of points starts from: the activation itself. -/
def start (c : Dev nD) (y : S832x2048.Idx) (q : ℕ) : EReal :=
  if h : 11 * q < cfg0.N then xval m c y ⟨11 * q, h⟩ else 0

theorem start_eq (c) (y : S832x2048.Idx) (t : Fin cfg0.N) :
    start m c y (t.val / 11) = xval m c y t := by
  have h : 11 * (t.val / 11) < cfg0.N := lt_of_le_of_lt (Nat.mul_div_le _ _) t.isLt
  rw [start, dif_pos h, xval, xval, x_keep m c ⟨11 * (t.val / 11), h⟩ t (by show 11 * (t.val / 11) / 11 = _; omega)]

/-- The result's block at the last point of a run. -/
theorem run (c) (y : S832x2048.Idx) (t : Fin cfg0.N) (h : t.val % 11 = 10) (hl : ∀ s : Fin 11, 11 * (t.val / 11) + s.val < cfg0.N) :
    (outsAt0 m c t.val t.isLt).1 y = xval m c y t
      + ∑ s : Fin 11, gain m c y ⟨11 * (t.val / 11) + s.val, hl s⟩ := by
  have e := Cert.Arith.run_sum (J := 11) (fun n hn => (outsAt0 m c n hn).1 y) (start m c y) (gain m c y)
    (fun t h => by
      rw [start_eq]
      show (outsAt0 m c t.val t.isLt).1 y = _
      rw [outsAt0_A m c t h]; frame_out
      rw [step]; rfl)
    (fun t h => by
      show (outsAt0 m c t.val t.isLt).1 y = (outsAt0 m c (t.val - 1) _).1 y + _
      rw [outsAt0_B m c t h]; frame_out
      rw [step, rows m c (t.val - 1) _, x_keep m c ⟨t.val - 1, _⟩ t (by show (t.val - 1) / 11 = t.val / 11; omega),
        g_keep m c ⟨t.val - 1, _⟩ t]
      simp only [read_unread_whole]
      rfl) (t.val / 11) 10 (by norm_num) (hl 10)
  rw [start_eq] at e
  have e2 : ∀ (n : ℕ) (hn : n < cfg0.N), t.val = n → (outsAt0 m c t.val t.isLt).1 y = (outsAt0 m c n hn).1 y :=
    fun n hn h => by subst h; rfl
  rw [e2 (11 * (t.val / 11) + 10) (hl 10) (by omega)]
  exact e

/-- A row block's start and gains are the reference's rows. -/
theorem point (c) (t : Fin cfg0.N) (hl : ∀ s : Fin 11, 11 * (t.val / 11) + s.val < cfg0.N) (y : S832x2048.Idx) :
    xval m c y t + ∑ s : Fin 11, gain m c y ⟨11 * (t.val / 11) + s.val, hl s⟩
      = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [REF]
  rw [Cert.Arith.half_sum]
  refine congrArg₂ (· + ·) ?_ ?_
  · unfold xval
    blk_point [iblk, V, idx t]
  unfold gain
  refine Fin.sum_mul_add_congr fun s k hk => ?_
  have hq : (11 * (t.val / 11) + s.val) / 11 = t.val / 11 := by have := s.isLt; omega
  have hm : (11 * (t.val / 11) + s.val) % 11 = s.val := by have := s.isLt; omega
  refine congrArg (_ * ·) ?_
  unfold act
  pointwise [k0_pay1]
  blk_point [iblk, V, idx t, idx ⟨_, hl s⟩, hq, hm]

theorem final (c) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hr : t.val % 11 = 10 := (flush0_5 t).mp hf
  have hl : ∀ s : Fin 11, 11 * (t.val / 11) + s.val < cfg0.N := fun s => by
    have h : t.val < cfg0.N := t.isLt
    have := s.isLt; have e : cfg0.N = 110 := rfl; omega
  blk_simp
  rw [after0_5, run m c y t hr hl]
  exact point m c t hl y

theorem algebraic : Cert.algebraic_FfnIdeal_FfnRefIdeal := by
  pair_intro
  · run_from Cert.FfnIdeal.Gen.run_main m g
  · run_from Cert.FfnRefIdeal.Value.run m' g'
    exact (final m c).symm

end Cert.FfnIdeal.Hand

end
-- ==== Proof.InProj.lean ====
module

public import proofs.«01_k».proof.Proof.Gen.InProjIdeal.Frame
public import proofs.«01_k».proof.Proof.Gen.InProjRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.InProjRefIdeal.Hand
open Idealize.ShloMosaic Cert.InProjRefIdeal Cert.InProjRefIdeal.Gen

/-- What the reference returns, of its arguments. -/
abbrev REF (a0 : FVec Ideal S8320x2048 .f32) (a1 : FVec Ideal S2x2048 .f32) (a2 : FVec Ideal S2x2048x14592 .bf16) : FVec Ideal S8320x14592 .f32 :=
  Host.dotGeneral dot_S8320x2048_S2048x14592_S8320x14592_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (extf .f32 (shapeCast _ (extractStridedSlice S1x2048x14592 ![0, 0, 0] a2 slices_S2x2048x14592_S1x2048x14592_0_0_0) shapeCasts_S1x2048x14592_S2048x14592) bitsLt_bf16_f32)

end Cert.InProjRefIdeal.Hand

namespace Cert.InProjIdeal.Hand
open Idealize.ShloMosaic Idealize.ShloMosaic.TcCoe Idealize.SL.Sem
open Idealize.ShloMosaic.Pipeline (Dat)
open Cert.InProjIdeal Cert.InProjIdeal.Gen
open Cert.InProjRefIdeal.Hand (REF)

variable (m : (ℓ : Loc nD τ sig) → Buf (Elt Ideal) ℓ)

theorem idx : ∀ t : Fin cfg0.N, win0_0.index t = ![0, 0, t.val % 19] ∧ win0_1.index t = ![t.val / 19, 0]
    ∧ win0_2.index t = ![0, 0, 0] ∧ win0_3.index t = ![t.val / 19, t.val % 19] :=
  (by decide +kernel : ∀ t : Fin grid0.N, _)

/-- Within a row block the activation's block stays where it is. -/
theorem x_keep (c) (t s : Fin cfg0.N) (h : t.val / 19 = s.val / 19) : iblk m c 1 t = iblk m c 1 s := by
  funext y
  blk_point [iblk, V, idx t, idx s, h]

theorem g_keep (c) (t s : Fin cfg0.N) : iblk m c 2 t = iblk m c 2 s := by
  funext y
  blk_point [iblk, V, idx t, idx s]

/-- The carried buffer holds the normalised rows of the row block at every point. -/
theorem rows (c) : ∀ (n : ℕ) (hn : n < cfg0.N), (outsAt0 m c n hn).2 = k0_pay1 (iblk m c 1 ⟨n, hn⟩) (iblk m c 2 ⟨n, hn⟩) := by
  intro n
  induction n with
  | zero =>
    intro hn
    rw [outsAt0_A m c ⟨0, hn⟩ (by norm_num)]; frame_out
  | succ n ih =>
    intro hn
    by_cases h : (n + 1) % 19 = 0
    · rw [outsAt0_A m c ⟨n + 1, hn⟩ h]; frame_out
    · rw [outsAt0_B m c ⟨n + 1, hn⟩ h]; frame_out
      refine (ih (by omega)).trans ?_
      rw [x_keep m c ⟨n, _⟩ ⟨n + 1, hn⟩ (by show n / 19 = (n + 1) / 19; omega), g_keep m c ⟨n, _⟩ ⟨n + 1, hn⟩]

/-- A block the kernel computes is the reference's block. -/
theorem point (c) (t : Fin cfg0.N) (y : S1664x768.Idx) : k0_pay2 (k0_pay1 (iblk m c 1 t) (iblk m c 2 t)) (iblk m c 0 t) y
    = REF (m ((c : Thread nD τ).loc main_arg0)) (m ((c : Thread nD τ).loc main_arg1)) (m ((c : Thread nD τ).loc main_arg2)) (((cfg0.win 3).blk t).view.emb y) := by
  pointwise [k0_pay1, k0_pay2, REF]
  blk_point [iblk, V, idx t]

theorem final (c) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine Eq.trans ?_ (point m c t y)
  by_cases h : t.val % 19 = 0
  · rw [outsAt0_A m c t h]; frame_out
  · rw [outsAt0_B m c t h]; frame_out
    rw [rows m c (t.val - 1) _, x_keep m c ⟨t.val - 1, _⟩ t (by show (t.val - 1) / 19 = t.val / 19; omega), g_keep m c ⟨t.val - 1, _⟩ t]
    rw [read_unread_whole]

theorem algebraic : Cert.algebraic_InProjIdeal_InProjRefIdeal := by
  pair_intro
  · run_from Cert.InProjIdeal.Gen.run_main m g
  · run_from Cert.InProjRefIdeal.Value.run m' g'
    exact (final m c).symm

end Cert.InProjIdeal.Hand

end
-- ==== Proof.Merge.lean ====
module

public import proofs.«01_k».proof.Proof.Gen.MergeIdeal.Frame
public import proofs.«01_k».proof.Proof.Gen.MergeRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MergeRefIdeal.Hand
open Idealize.ShloMosaic Cert.MergeRefIdeal Cert.MergeRefIdeal.Gen

/-- What the reference returns, of its arguments. -/
abbrev REF (a0 : FVec Ideal S8320x2048 .f32) (a1 a2 a3 : FVec Ideal S8320x1024 .bf16) (a4 : FVec Ideal S8320x14592 .f32) (a5 : FVec Ideal S2x3072x2048 .f32) (a6 : FVec Ideal S2x2048x2048 .f32) : FVec Ideal S8320x2048 .f32 :=
  addf a0 (Host.dotGeneral dot_S8320x2048_S2048x2048_S8320x2048_1_0_0_1_n_n none (addf (addf (mulf (Host.divf (broadcastInDim S8320x2048 ![] bcast_S_S8320x2048 (constant S_ .f32 0x3F800000#32)) (addf (broadcastInDim S8320x2048 ![] bcast_S_S8320x2048 (constant S_ .f32 0x3F800000#32)) (Host.exp (Host.negf (extractStridedSlice S8320x2048 ![0, 8192] a4 slices_S8320x14592_S8320x2048_0_8192))))) (Host.dotGeneral dot_S8320x1024_S1024x2048_S8320x2048_1_0_0_1_n_n none (extf .f32 a1 bitsLt_bf16_f32) (extractStridedSlice S1024x2048 ![0, 0] (shapeCast _ (extractStridedSlice S1x3072x2048 ![0, 0, 0] a5 slices_S2x3072x2048_S1x3072x2048_0_0_0) shapeCasts_S1x3072x2048_S3072x2048) slices_S3072x2048_S1024x2048_0_0))) (mulf (Host.divf (broadcastInDim S8320x2048 ![] bcast_S_S8320x2048 (constant S_ .f32 0x3F800000#32)) (addf (broadcastInDim S8320x2048 ![] bcast_S_S8320x2048 (constant S_ .f32 0x3F800000#32)) (Host.exp (Host.negf (extractStridedSlice S8320x2048 ![0, 10240] a4 slices_S8320x14592_S8320x2048_0_10240))))) (Host.dotGeneral dot_S8320x1024_S1024x2048_S8320x2048_1_0_0_1_n_n none (extf .f32 a2 bitsLt_bf16_f32) (extractStridedSlice S1024x2048 ![1024, 0] (shapeCast _ (extractStridedSlice S1x3072x2048 ![0, 0, 0] a5 slices_S2x3072x2048_S1x3072x2048_0_0_0) shapeCasts_S1x3072x2048_S3072x2048) slices_S3072x2048_S1024x2048_1024_0)))) (mulf (Host.divf (broadcastInDim S8320x2048 ![] bcast_S_S8320x2048 (constant S_ .f32 0x3F800000#32)) (addf (broadcastInDim S8320x2048 ![] bcast_S_S8320x2048 (constant S_ .f32 0x3F800000#32)) (Host.exp (Host.negf (extractStridedSlice S8320x2048 ![0, 12288] a4 slices_S8320x14592_S8320x2048_0_12288))))) (Host.dotGeneral dot_S8320x1024_S1024x2048_S8320x2048_1_0_0_1_n_n none (extf .f32 a3 bitsLt_bf16_f32) (extractStridedSlice S1024x2048 ![2048, 0] (shapeCast _ (extractStridedSlice S1x3072x2048 ![0, 0, 0] a5 slices_S2x3072x2048_S1x3072x2048_0_0_0) shapeCasts_S1x3072x2048_S3072x2048) slices_S3072x2048_S1024x2048_2048_0)))) (shapeCast _ (extractStridedSlice S1x2048x2048 ![0, 0, 0] a6 slices_S2x2048x2048_S1x2048x2048_0_0_0) shapeCasts_S1x2048x2048_S2048x2048))

end Cert.MergeRefIdeal.Hand

namespace Cert.MergeIdeal.Hand
open Idealize.ShloMosaic Idealize.ShloMosaic.TcCoe Idealize.SL.Sem
open Idealize.ShloMosaic.Pipeline (Dat)
open Cert.MergeIdeal Cert.MergeIdeal.Gen
open Cert.MergeRefIdeal.Hand (REF)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 4] ∧ win0_5.index t = ![t.val, 5] ∧ win0_6.index t = ![t.val, 6]
    ∧ win0_7.index t = ![0, 0, 0, 0] ∧ win0_8.index t = ![0, 1, 0, 0] ∧ win0_9.index t = ![0, 2, 0, 0] ∧ win0_10.index t = ![0, 0, 0]
    ∧ win0_11.index t = ![t.val, 0] :=
  (by decide +kernel : ∀ t : Fin grid0.N, _)

/-- The block of gate 1 is never cut: it is rows and columns of the projected array. -/
theorem gate_4 (c) (t : Fin cfg0.N) (j : S320x2048.Idx) : X0_4 m c t j = m ((c : Thread nD τ).loc main_arg4)
    (ix2 ⟨320 * t.val + (j 0).val, by have h : t.val < 26 := t.isLt; have := (j 0).isLt; simp at this; omega⟩
      ⟨8192 + (j 1).val, by have := (j 1).isLt; simp at this; omega⟩) := by
  obtain ⟨_, _, _, _, h4, h5, h6, _⟩ := idx t
  unfold X0_4 Pipeline.Window.fill
  rw [dif_pos (moved0_4 t j)]
  unfold iblk
  rw [View.read_apply]
  refine congrArg (m ((c : Thread nD τ).loc main_arg4)) (funext fun a => Fin.ext ?_)
  refine ((cfg0.win 4).rect_emb_val t _ a).trans ?_
  fin_cases a
  · show win0_4.index t 0 * 320 + (j 0).val = 320 * t.val + (j 0).val
    rw [congrFun h4 0]; show t.val * 320 + _ = _; omega
  · show win0_4.index t 1 * 2048 + (j 1).val = 8192 + (j 1).val
    rw [congrFun h4 1]; rfl

/-- The block of gate 2 is never cut: it is rows and columns of the projected array. -/
theorem gate_5 (c) (t : Fin cfg0.N) (j : S320x2048.Idx) : X0_5 m c t j = m ((c : Thread nD τ).loc main_arg4)
    (ix2 ⟨320 * t.val + (j 0).val, by have h : t.val < 26 := t.isLt; have := (j 0).isLt; simp at this; omega⟩
      ⟨10240 + (j 1).val, by have := (j 1).isLt; simp at this; omega⟩) := by
  obtain ⟨_, _, _, _, h4, h5, h6, _⟩ := idx t
  unfold X0_5 Pipeline.Window.fill
  rw [dif_pos (moved0_5 t j)]
  unfold iblk
  rw [View.read_apply]
  refine congrArg (m ((c : Thread nD τ).loc main_arg4)) (funext fun a => Fin.ext ?_)
  refine ((cfg0.win 5).rect_emb_val t _ a).trans ?_
  fin_cases a
  · show win0_5.index t 0 * 320 + (j 0).val = 320 * t.val + (j 0).val
    rw [congrFun h5 0]; show t.val * 320 + _ = _; omega
  · show win0_5.index t 1 * 2048 + (j 1).val = 10240 + (j 1).val
    rw [congrFun h5 1]; rfl

/-- The block of gate 3 is never cut: it is rows and columns of the projected array. -/
theorem gate_6 (c) (t : Fin cfg0.N) (j : S320x2048.Idx) : X0_6 m c t j = m ((c : Thread nD τ).loc main_arg4)
    (ix2 ⟨320 * t.val + (j 0).val, by have h : t.val < 26 := t.isLt; have := (j 0).isLt; simp at this; omega⟩
      ⟨12288 + (j 1).val, by have := (j 1).isLt; simp at this; omega⟩) := by
  obtain ⟨_, _, _, _, h4, h5, h6, _⟩ := idx t
  unfold X0_6 Pipeline.Window.fill
  rw [dif_pos (moved0_6 t j)]
  unfold iblk
  rw [View.read_apply]
  refine congrArg (m ((c : Thread nD τ).loc main_arg4)) (funext fun a => Fin.ext ?_)
  refine ((cfg0.win 6).rect_emb_val t _ a).trans ?_
  fin_cases a
  · show win0_6.index t 0 * 320 + (j 0).val = 320 * t.val + (j 0).val
    rw [congrFun h6 0]; show t.val * 320 + _ = _; omega
  · show win0_6.index t 1 * 2048 + (j 1).val = 12288 + (j 1).val
    rw [congrFun h6 1]; rfl

/-- A block the kernel computes is the reference's rows of it. -/
theorem point (c) (t : Fin cfg0.N) (y : S320x2048.Idx) :
    outsAt0 m c t y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  unfold outsAt0; frame_out
  pointwise [k0_pay1, k0_pay2, k0_pay3, REF]
  simp only [zero_sub, gate_4, gate_5, gate_6]
  blk_point [iblk, V, idx t]

theorem final (c) : (dats m 0 c).arrAt 11 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  exact point m c t y

theorem algebraic : Cert.algebraic_MergeIdeal_MergeRefIdeal := by
  pair_intro
  · run_from Cert.MergeIdeal.Gen.run_main m g
  · run_from Cert.MergeRefIdeal.Value.run m' g'
    exact (final m c).symm

end Cert.MergeIdeal.Hand

end
-- ==== Proof.Glu.lean ====
/-
  The GELU-GLU gate of the S5 branch: `g * sigmoid (g @ w_glu)`, twenty row tiles of the kernel against one
  product of the reference.
-/
module

public import proofs.«01_k».proof.Proof.Gen.GluIdeal.Frame
public import proofs.«01_k».proof.Proof.Gen.GluRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.GluRefIdeal.Hand
open Idealize.ShloMosaic Cert.GluRefIdeal Cert.GluRefIdeal.Gen

/-- What the reference returns, of its two arguments. -/
abbrev REF (a0 : FVec Ideal S8320x1024 .f32) (a1 : FVec Ideal S2x1024x1024 .f32) : FVec Ideal S8320x1024 .bf16 :=
  truncf .bf16 (mulf a0 (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral dot_S8320x1024_S1024x1024_S8320x1024_1_0_0_1_n_n none a0 (shapeCast _ (extractStridedSlice S1x1024x1024 ![0, 0, 0] a1 slices_S2x1024x1024_S1x1024x1024_0_0_0) shapeCasts_S1x1024x1024_S1024x1024))))))) bitsLt_bf16_f32

end Cert.GluRefIdeal.Hand

namespace Cert.GluIdeal.Hand
open Idealize.ShloMosaic Idealize.ShloMosaic.TcCoe Idealize.SL.Sem
open Idealize.ShloMosaic.Pipeline (Dat)
open Cert.GluIdeal Cert.GluIdeal.Gen
open Cert.GluRefIdeal.Hand (REF)

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

theorem point (c : Dev nD) (t : Fin cfg0.N) (y : S416x1024.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  simp only [zero_sub]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem algebraic : Cert.algebraic_GluIdeal_GluRefIdeal := by
  pair_intro
  · run_from Cert.GluIdeal.Gen.run_main m g
  · run_from Cert.GluRefIdeal.Value.run m' g'
    exact (final m c).symm

end Cert.GluIdeal.Hand

end
-- ==== Proof.NormPrompt.lean ====
module

public import proofs.«01_k».proof.Proof.Gen.NormPromptIdeal.Frame
public import proofs.«01_k».proof.Proof.Gen.NormPromptRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.NormPromptRefIdeal.Hand
open Idealize.ShloMosaic Cert.NormPromptRefIdeal Cert.NormPromptRefIdeal.Gen

/-- What the reference returns, of its arguments. -/
abbrev REF (a0 : FVec Ideal S8320x2048 .f32) (a1 : FVec Ideal S2048 .f32) : FVec Ideal S8192x2048 .f32 :=
  mulf (mulf (extractStridedSlice S8192x2048 ![0, 0] a0 slices_S8320x2048_S8192x2048_0_0) (broadcastInDim S8192x2048 ![0, 1] bcast_S8192x1_S8192x2048_0_1 (Host.rsqrt (addf (Host.divf (broadcastInDim S8192x1 ![0] bcast_S8192_S8192x1_0 (Host.reduceAdd (mulf (extractStridedSlice S8192x2048 ![0, 0] a0 slices_S8320x2048_S8192x2048_0_0) (extractStridedSlice S8192x2048 ![0, 0] a0 slices_S8320x2048_S8192x2048_0_0)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))

end Cert.NormPromptRefIdeal.Hand

namespace Cert.NormPromptIdeal.Hand
open Idealize.ShloMosaic Idealize.ShloMosaic.TcCoe Idealize.SL.Sem
open Idealize.ShloMosaic.Pipeline (Dat)
open Cert.NormPromptIdeal Cert.NormPromptIdeal.Gen
open Cert.NormPromptRefIdeal.Hand (REF)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The activation's block is never cut: it is the rows of the array. -/
theorem x_block (c) (t : Fin cfg0.N) (j : S512x2048.Idx) : X0_0 m c t j = m ((c : Thread nD τ).loc main_arg0)
    (ix2 ⟨512 * t.val + (j 0).val, by have h : t.val < 16 := t.isLt; have := (j 0).isLt; simp at this; omega⟩ (j 1)) := by
  unfold X0_0 Pipeline.Window.fill
  rw [dif_pos (moved0_0 t j)]
  unfold iblk
  rw [View.read_apply]
  refine congrArg (m ((c : Thread nD τ).loc main_arg0)) (funext fun a => ?_)
  apply Fin.ext
  refine ((cfg0.win 0).rect_emb_val t _ a).trans ?_
  fin_cases a
  · have h := congrFun (idx t).1 0
    show win0_0.index t 0 * 512 + (j 0).val = 512 * t.val + (j 0).val
    rw [h]; show t.val * 512 + _ = _; omega
  · have h := congrFun (idx t).1 1
    show win0_0.index t 1 * 2048 + (j 1).val = (j 1).val
    rw [h]; show 0 * 2048 + _ = _; omega

/-- A block the kernel computes is the reference's rows of it. -/
theorem point (c) (t : Fin cfg0.N) (y : S512x2048.Idx) : k0_pay1 (X0_0 m c t) (iblk m c 1 t) y
    = REF (m ((c : Thread nD τ).loc main_arg0)) (m ((c : Thread nD τ).loc main_arg1)) (((cfg0.win 2).blk t).view.emb y) := by
  pointwise [k0_pay1, REF]
  simp only [x_block]
  blk_point [iblk, V, idx t]

theorem final (c) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

theorem algebraic : Cert.algebraic_NormPromptIdeal_NormPromptRefIdeal := by
  pair_intro
  · run_from Cert.NormPromptIdeal.Gen.run_main m g
  · run_from Cert.NormPromptRefIdeal.Value.run m' g'
    exact (final m c).symm

end Cert.NormPromptIdeal.Hand

end
-- ==== Proof.NormSample.lean ====
module

public import proofs.«01_k».proof.Proof.Gen.NormSampleIdeal.Frame
public import proofs.«01_k».proof.Proof.Gen.NormSampleRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.NormSampleRefIdeal.Hand
open Idealize.ShloMosaic Cert.NormSampleRefIdeal Cert.NormSampleRefIdeal.Gen

/-- What the reference returns, of its arguments. -/
abbrev REF (a0 : FVec Ideal S8320x2048 .f32) (a1 : FVec Ideal S2048 .f32) : FVec Ideal S32x2048 .f32 :=
  mulf (mulf (extractStridedSlice S32x2048 ![8192, 0] a0 slices_S8320x2048_S32x2048_8192_0) (broadcastInDim S32x2048 ![0, 1] bcast_S32x1_S32x2048_0_1 (Host.rsqrt (addf (Host.divf (broadcastInDim S32x1 ![0] bcast_S32_S32x1_0 (Host.reduceAdd (mulf (extractStridedSlice S32x2048 ![8192, 0] a0 slices_S8320x2048_S32x2048_8192_0) (extractStridedSlice S32x2048 ![8192, 0] a0 slices_S8320x2048_S32x2048_8192_0)) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x358637BD#32)))))) (broadcastInDim S32x2048 ![0, 1] bcast_S1x2048_S32x2048_0_1 (broadcastInDim S1x2048 ![1] bcast_S2048_S1x2048_1 a1))

end Cert.NormSampleRefIdeal.Hand

namespace Cert.NormSampleIdeal.Hand
open Idealize.ShloMosaic Idealize.ShloMosaic.TcCoe Idealize.SL.Sem
open Idealize.ShloMosaic.Pipeline (Dat)
open Cert.NormSampleIdeal Cert.NormSampleIdeal.Gen
open Cert.NormSampleRefIdeal.Hand (REF)

variable (m : (ℓ : Loc nD τ sig) → Buf (Elt Ideal) ℓ)

theorem idx : ∀ t : Fin cfg0.N, win0_0.index t = ![256, 0] ∧ win0_1.index t = ![0, 0] ∧ win0_2.index t = ![0, 0] :=
  (by decide +kernel : ∀ t : Fin grid0.N, _)

/-- The one block the kernel computes is the reference's result. -/
theorem point (c) (t : Fin cfg0.N) (y : S32x2048.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

theorem final (c) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem algebraic : Cert.algebraic_NormSampleIdeal_NormSampleRefIdeal := by
  pair_intro
  · run_from Cert.NormSampleIdeal.Gen.run_main m g
  · run_from Cert.NormSampleRefIdeal.Value.run m' g'
    exact (final m c).symm

end Cert.NormSampleIdeal.Hand

end
-- ==== Proof.ConvSample.lean ====
/-
  The short causal convolution of the sample sequences: four taps per channel over the three stored rows and the
  token's, silu, and the L2 norm of each head of q and k. The kernel works on one of the three parts at a point.
-/
module

public import proofs.«01_k».proof.Proof.Gen.ConvSampleIdeal.Frame
public import proofs.«01_k».proof.Proof.Gen.ConvSampleRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.ConvSampleRefIdeal.Hand
open Idealize.ShloMosaic Cert.ConvSampleRefIdeal Cert.ConvSampleRefIdeal.Gen

/-- The convolved rows of the reference. -/
abbrev PRE (a0 : FVec Ideal S8320x14592 .f32) (a1 : FVec Ideal S2x32x3x3072 .f32) (a2 : FVec Ideal S2x4x3072 .f32) : FVec Ideal S32x3072 .f32 :=
  addf (addf (addf (mulf (shapeCast _ (extractStridedSlice S32x1x3072 ![0, 0, 0] (shapeCast _ (extractStridedSlice S1x32x3x3072 ![0, 0, 0, 0] a1 slices_S2x32x3x3072_S1x32x3x3072_0_0_0_0) shapeCasts_S1x32x3x3072_S32x3x3072) slices_S32x3x3072_S32x1x3072_0_0_0) shapeCasts_S32x1x3072_S32x3072) (broadcastInDim S32x3072 ![0, 1] bcast_S1x3072_S32x3072_0_1 (broadcastInDim S1x3072 ![1] bcast_S3072_S1x3072_1 (shapeCast _ (extractStridedSlice S1x3072 ![0, 0] (shapeCast _ (extractStridedSlice S1x4x3072 ![0, 0, 0] a2 slices_S2x4x3072_S1x4x3072_0_0_0) shapeCasts_S1x4x3072_S4x3072) slices_S4x3072_S1x3072_0_0) shapeCasts_S1x3072_S3072)))) (mulf (shapeCast _ (extractStridedSlice S32x1x3072 ![0, 1, 0] (shapeCast _ (extractStridedSlice S1x32x3x3072 ![0, 0, 0, 0] a1 slices_S2x32x3x3072_S1x32x3x3072_0_0_0_0) shapeCasts_S1x32x3x3072_S32x3x3072) slices_S32x3x3072_S32x1x3072_0_1_0) shapeCasts_S32x1x3072_S32x3072) (broadcastInDim S32x3072 ![0, 1] bcast_S1x3072_S32x3072_0_1 (broadcastInDim S1x3072 ![1] bcast_S3072_S1x3072_1 (shapeCast _ (extractStridedSlice S1x3072 ![1, 0] (shapeCast _ (extractStridedSlice S1x4x3072 ![0, 0, 0] a2 slices_S2x4x3072_S1x4x3072_0_0_0) shapeCasts_S1x4x3072_S4x3072) slices_S4x3072_S1x3072_1_0) shapeCasts_S1x3072_S3072))))) (mulf (shapeCast _ (extractStridedSlice S32x1x3072 ![0, 2, 0] (shapeCast _ (extractStridedSlice S1x32x3x3072 ![0, 0, 0, 0] a1 slices_S2x32x3x3072_S1x32x3x3072_0_0_0_0) shapeCasts_S1x32x3x3072_S32x3x3072) slices_S32x3x3072_S32x1x3072_0_2_0) shapeCasts_S32x1x3072_S32x3072) (broadcastInDim S32x3072 ![0, 1] bcast_S1x3072_S32x3072_0_1 (broadcastInDim S1x3072 ![1] bcast_S3072_S1x3072_1 (shapeCast _ (extractStridedSlice S1x3072 ![2, 0] (shapeCast _ (extractStridedSlice S1x4x3072 ![0, 0, 0] a2 slices_S2x4x3072_S1x4x3072_0_0_0) shapeCasts_S1x4x3072_S4x3072) slices_S4x3072_S1x3072_2_0) shapeCasts_S1x3072_S3072))))) (mulf (extractStridedSlice S32x3072 ![8192, 4096] a0 slices_S8320x14592_S32x3072_8192_4096) (broadcastInDim S32x3072 ![0, 1] bcast_S1x3072_S32x3072_0_1 (broadcastInDim S1x3072 ![1] bcast_S3072_S1x3072_1 (shapeCast _ (extractStridedSlice S1x3072 ![3, 0] (shapeCast _ (extractStridedSlice S1x4x3072 ![0, 0, 0] a2 slices_S2x4x3072_S1x4x3072_0_0_0) shapeCasts_S1x4x3072_S4x3072) slices_S4x3072_S1x3072_3_0) shapeCasts_S1x3072_S3072))))

/-- Silu. -/
abbrev ACT (p : FVec Ideal S32x3072 .f32) : FVec Ideal S32x3072 .f32 :=
  mulf p (Host.divf (broadcastInDim S32x3072 ![] bcast_S_S32x3072 (constant S_ .f32 0x3F800000#32)) (addf (broadcastInDim S32x3072 ![] bcast_S_S32x3072 (constant S_ .f32 0x3F800000#32)) (Host.exp (Host.negf p))))

/-- The norm of every head of the first two parts. -/
abbrev NRM (y : FVec Ideal S32x3072 .f32) : FVec Ideal S32x3072 .f32 :=
  concatenate S32x3072 1 [⟨S32x2048, (shapeCast _ (mulf (shapeCast _ (extractStridedSlice S32x2048 ![0, 0] y slices_S32x3072_S32x2048_0_0) shapeCasts_S32x2048_S32x16x128) (broadcastInDim S32x16x128 ![0, 1, 2] bcast_S32x16x1_S32x16x128_0_1_2 (Host.rsqrt (addf (broadcastInDim S32x16x1 ![0, 1] bcast_S32x16_S32x16x1_0_1 (Host.reduceAdd (mulf (shapeCast _ (extractStridedSlice S32x2048 ![0, 0] y slices_S32x3072_S32x2048_0_0) shapeCasts_S32x2048_S32x16x128) (shapeCast _ (extractStridedSlice S32x2048 ![0, 0] y slices_S32x3072_S32x2048_0_0) shapeCasts_S32x2048_S32x16x128)) (constant S_ .f32 0x00000000#32) reducesTo_S32x16x128_S32x16_d2 h_S_)) (broadcastInDim S32x16x1 ![] bcast_S_S32x16x1 (constant S_ .f32 0x358637BD#32)))))) shapeCasts_S32x16x128_S32x2048)⟩, ⟨S32x1024, (extractStridedSlice S32x1024 ![0, 2048] y slices_S32x3072_S32x1024_0_2048)⟩] concatenates_S32x2048_S32x1024_S32x3072_d1

/-- What the reference returns, of its arguments. -/
abbrev REF (a0 : FVec Ideal S8320x14592 .f32) (a1 : FVec Ideal S2x32x3x3072 .f32) (a2 : FVec Ideal S2x4x3072 .f32) : FVec Ideal S32x3072 .f32 :=
  NRM (ACT (PRE a0 a1 a2))

def silu (z : EReal) : EReal := z * Ideal.div 1 (1 + Ideal.exp (-z))

/-- A row divided by the norm of its 128 entries. -/
def l2 (f : Fin 128 → EReal) (k : Fin 128) : EReal := f k * Ideal.rsqrt ((∑ i : Fin 128, f i * f i) + Ideal.ofBits .f32 0x358637BD#32)

theorem pre_at (a0 : FVec Ideal S8320x14592 .f32) (a1 : FVec Ideal S2x32x3x3072 .f32) (a2 : FVec Ideal S2x4x3072 .f32) (b : Fin 32) (q : Fin 3072) :
    PRE a0 a1 a2 (ix2 b q) = a1 (ix4 0 b 0 q) * a2 (ix3 0 0 q) + a1 (ix4 0 b 1 q) * a2 (ix3 0 1 q) + a1 (ix4 0 b 2 q) * a2 (ix3 0 2 q)
      + a0 (ix2 ⟨8192 + b.val, by omega⟩ ⟨4096 + q.val, by omega⟩) * a2 (ix3 0 3 q) := by
  pointwise [PRE]

theorem act_at (p : FVec Ideal S32x3072 .f32) (b : Fin 32) (q : Fin 3072) : ACT p (ix2 b q) = silu (p (ix2 b q)) := by
  pointwise [ACT, silu]

theorem nrm_qk (y : FVec Ideal S32x3072 .f32) (b : Fin 32) (h : Fin 16) (k : Fin 128) :
    NRM y (ix2 b ⟨h.val * 128 + k.val, by omega⟩) = l2 (fun i => y (ix2 b ⟨h.val * 128 + i.val, by omega⟩)) k := by
  pointwise [NRM, l2]
  exact dif_pos (by omega)

theorem nrm_v (y : FVec Ideal S32x3072 .f32) (b : Fin 32) (q : Fin 3072) (hq : 2048 ≤ q.val) : NRM y (ix2 b q) = y (ix2 b q) := by
  pointwise [NRM]
  rw [dif_neg (by omega)]
  exact congrArg (fun q => y (ix2 b q)) (Fin.ext (by dsimp only; omega))

end Cert.ConvSampleRefIdeal.Hand

namespace Cert.ConvSampleIdeal.Hand
open Idealize.ShloMosaic Idealize.ShloMosaic.TcCoe Idealize.SL.Sem
open Idealize.ShloMosaic.Pipeline (Dat)
open Cert.ConvSampleIdeal Cert.ConvSampleIdeal.Gen
open Cert.ConvSampleRefIdeal.Hand

variable (m : (ℓ : Loc nD τ sig) → Buf (Elt Ideal) ℓ)

theorem idx : ∀ t : Fin cfg0.N, win0_0.index t = ![256, 4 + t.val] ∧ win0_1.index t = ![0, 0, 0, t.val] ∧ win0_2.index t = ![0, 0, t.val]
    ∧ win0_3.index t = ![0, t.val] :=
  (by decide +kernel : ∀ t : Fin grid0.N, _)

/-- The convolved row of a block. -/
def conv (x : FVec Ideal S32x1024 .f32) (s : FVec Ideal S1x3x32x1024 .f32) (w : FVec Ideal S1x8x1024 .f32) (b : Fin 32) (j : Fin 1024) : EReal :=
  s (ix4 0 0 b j) * w (ix3 0 0 j) + s (ix4 0 1 b j) * w (ix3 0 1 j) + s (ix4 0 2 b j) * w (ix3 0 2 j) + x (ix2 b j) * w (ix3 0 3 j)

/-- The block of the pre-activation, silu applied. -/
abbrev Y (x : Vec Ideal S32x1024 .f32) (s : Vec Ideal S1x3x32x1024 .f32) (w : Vec Ideal S1x8x1024 .f32) : FVec Ideal S32x1024 .f32 :=
  k0_pay9 w x (View.ld s (Rect.unit ![0, 0, 0, 0] ![1, 1, 32, 1024] inb_S1x3x32x1024_S1x1x32x1024_0_0_0_0))
    (View.ld s (Rect.unit ![0, 1, 0, 0] ![1, 1, 32, 1024] inb_S1x3x32x1024_S1x1x32x1024_0_1_0_0))
    (View.ld s (Rect.unit ![0, 2, 0, 0] ![1, 1, 32, 1024] inb_S1x3x32x1024_S1x1x32x1024_0_2_0_0))

theorem Y_at (x : Vec Ideal S32x1024 .f32) (s : Vec Ideal S1x3x32x1024 .f32) (w : Vec Ideal S1x8x1024 .f32) (b : Fin 32) (j : Fin 1024) :
    Y x s w (ix2 b j) = silu (conv x s w b j) := by
  pointwise [k0_pay9]
  have e : x (ix2 b j) * w (ix3 0 3 j) + s (ix4 0 0 b j) * w (ix3 0 0 j) + s (ix4 0 1 b j) * w (ix3 0 1 j) + s (ix4 0 2 b j) * w (ix3 0 2 j)
      = conv x s w b j := by
    unfold conv
    rw [add_comm, add_comm (x (ix2 b j) * w (ix3 0 3 j)), add_comm, add_assoc, add_assoc]
    ac_rfl
  rw [e, silu, zero_sub]

/-- The head of a block's column divided by its norm. -/
theorem head_at (v : FVec Ideal S32x1024 .f32) (b : Fin 32) (k : Fin 128) :
    k0_pay1 v (ix2 b k) = l2 (fun i => v (ix2 b ⟨i.val, by omega⟩)) k
    ∧ k0_pay2 v (ix2 b k) = l2 (fun i => v (ix2 b ⟨128 + i.val, by omega⟩)) k
    ∧ k0_pay3 v (ix2 b k) = l2 (fun i => v (ix2 b ⟨256 + i.val, by omega⟩)) k
    ∧ k0_pay4 v (ix2 b k) = l2 (fun i => v (ix2 b ⟨384 + i.val, by omega⟩)) k
    ∧ k0_pay5 v (ix2 b k) = l2 (fun i => v (ix2 b ⟨512 + i.val, by omega⟩)) k
    ∧ k0_pay6 v (ix2 b k) = l2 (fun i => v (ix2 b ⟨640 + i.val, by omega⟩)) k
    ∧ k0_pay7 v (ix2 b k) = l2 (fun i => v (ix2 b ⟨768 + i.val, by omega⟩)) k
    ∧ k0_pay8 v (ix2 b k) = l2 (fun i => v (ix2 b ⟨896 + i.val, by omega⟩)) k := by
  refine ⟨?_, ?_, ?_, ?_, ?_, ?_, ?_, ?_⟩ <;>
    pointwise [k0_pay1, k0_pay2, k0_pay3, k0_pay4, k0_pay5, k0_pay6, k0_pay7, k0_pay8, l2]

theorem out_A (c : Dev nD) (i : grid0.Coords) (arg1 : Memref sig .tc .vmem S32x1024 .f32) (harg1 : arg1.IsWhole) (arg2 : Memref sig .tc .vmem S1x3x32x1024 .f32) (harg2 : arg2.IsWhole) (arg3 : Memref sig .tc .vmem S1x8x1024 .f32) (harg3 : arg3.IsWhole) (arg4 : Memref sig .tc .vmem S32x1024 .f32) (harg4 : arg4.IsWhole) (hc0 : cond0_0 i) (hc1 : ¬cond0_1 i)
    (x0 : Vec Ideal S32x1024 .f32) (x1 : Vec Ideal S1x3x32x1024 .f32) (x2 : Vec Ideal S1x8x1024 .f32) (b : Fin 32) (j : Fin 1024) :
    out0_A_3 (F := Ideal) c i arg1 harg1 arg2 harg2 arg3 harg3 arg4 harg4 hc0 hc1 x0 x1 x2 (ix2 b j)
      = l2 (fun k => Y x0 x1 x2 (ix2 b ⟨j.val / 128 * 128 + k.val, by omega⟩)) ⟨j.val % 128, by omega⟩ := by
  frame_out
  canon_tiles x e
  all_goals
    obtain ⟨b', k, rfl⟩ : ∃ (b : Fin 32) (j : Fin 128), x = ix2 b j := ⟨x 0, x 1, by funext a; fin_cases a <;> rfl⟩
    obtain ⟨n1, n2, n3, n4, n5, n6, n7, n8⟩ := head_at (Y x0 x1 x2) b' k
    dsimp only [Y] at n1 n2 n3 n4 n5 n6 n7 n8 ⊢
    simp only [n1, n2, n3, n4, n5, n6, n7, n8]
    obtain rfl : b = b' := Fin.ext e0
    first | change j.val = _ + k.val at e1 | change j.val = k.val at e1
    rw [show (⟨j.val % 128, by omega⟩ : Fin 128) = k from Fin.ext (by dsimp only; omega)]
    refine congrArg (fun f => l2 f k) (funext fun i => congrArg _ (congrArg (ix2 b) (Fin.ext ?_)))
    dsimp only
    omega

theorem out_B (c : Dev nD) (i : grid0.Coords) (arg1 : Memref sig .tc .vmem S32x1024 .f32) (harg1 : arg1.IsWhole) (arg2 : Memref sig .tc .vmem S1x3x32x1024 .f32) (harg2 : arg2.IsWhole) (arg3 : Memref sig .tc .vmem S1x8x1024 .f32) (harg3 : arg3.IsWhole) (arg4 : Memref sig .tc .vmem S32x1024 .f32) (harg4 : arg4.IsWhole) (hc0 : ¬cond0_0 i) (hc1 : cond0_1 i)
    (x0 : Vec Ideal S32x1024 .f32) (x1 : Vec Ideal S1x3x32x1024 .f32) (x2 : Vec Ideal S1x8x1024 .f32) (b : Fin 32) (j : Fin 1024) :
    out0_B_3 (F := Ideal) c i arg1 harg1 arg2 harg2 arg3 harg3 arg4 harg4 hc0 hc1 x0 x1 x2 (ix2 b j)
      = silu (conv x0 x1 x2 b j) := by
  frame_out
  exact Y_at x0 x1 x2 b j

theorem V_h (c : Dev nD) : V m c main_v0 = transpose S2x3x32x3072 [0, 2, 1, 3] (m ((c : Thread nD τ).loc main_arg1) : FVec Ideal S2x32x3x3072 .f32) transposes_S2x32x3x3072_S2x3x32x3072_0_2_1_3 := by
  entry_read; rfl

theorem read_x (c : Dev nD) (t : Fin cfg0.N) (b : Fin 32) (j : Fin 1024) :
    (X0_0 m c t : FVec Ideal S32x1024 .f32) (ix2 b j) = (m ((c : Thread nD τ).loc main_arg0) : FVec Ideal S8320x14592 .f32) (ix2 ⟨8192 + b.val, by omega⟩ ⟨4096 + (1024 * t.val + j.val), by have : t.val < 3 := t.isLt; omega⟩) := by
  unfold X0_0
  unfold Pipeline.Window.fill
  rw [dif_pos (moved0_0 t _)]
  blk_ext [iblk, V, idx t]

theorem read_s (c : Dev nD) (t : Fin cfg0.N) (r : Fin 3) (b : Fin 32) (j : Fin 1024) :
    (iblk m c 1 t : FVec Ideal S1x3x32x1024 .f32) (ix4 0 r b j) = (V m c main_v0 : FVec Ideal S2x3x32x3072 .f32) (ix4 0 r b ⟨1024 * t.val + j.val, by have : t.val < 3 := t.isLt; omega⟩) := by
  blk_ext [iblk, idx t]

theorem read_w (c : Dev nD) (t : Fin cfg0.N) (r : Fin 8) (j : Fin 1024) :
    (iblk m c 2 t : FVec Ideal S1x8x1024 .f32) (ix3 0 r j) = (V m c main_v1 : FVec Ideal S2x8x3072 .f32) (ix3 0 r ⟨1024 * t.val + j.val, by have : t.val < 3 := t.isLt; omega⟩) := by
  blk_ext [iblk, idx t]

theorem pad_ix (a2 : FVec Ideal S2x4x3072 .f32) (z : FVec Ideal S_ .f32) (r : Fin 4) (q : Fin 3072) :
    pad S2x8x3072 ![0, 0, 0] ![0, 4, 0] ![0, 0, 0] a2 z pads_S2x4x3072_S2x8x3072_000_040_000 h_S_ (ix3 0 ⟨r.val, by omega⟩ q) = a2 (ix3 0 r q) := by
  pointwise []

theorem pad_at (c : Dev nD) (r : Fin 4) (q : Fin 3072) : (V m c main_v1 : FVec Ideal S2x8x3072 .f32) (ix3 0 ⟨r.val, by omega⟩ q)
    = (m ((c : Thread nD τ).loc main_arg2) : FVec Ideal S2x4x3072 .f32) (ix3 0 r q) := by
  have e : V m c main_v1 = pad S2x8x3072 ![0, 0, 0] ![0, 4, 0] ![0, 0, 0] (m ((c : Thread nD τ).loc main_arg2) : FVec Ideal S2x4x3072 .f32)
      (sitofp .f32 (constantI S_ 32 0#32) : FVec Ideal S_ .f32) pads_S2x4x3072_S2x8x3072_000_040_000 h_S_ := by
    entry_read; rfl
  rw [e]
  exact pad_ix _ _ r q

/-- The convolution of a block is the reference's. -/
theorem conv_eq (c : Dev nD) (t : Fin cfg0.N) (b : Fin 32) (j : Fin 1024) :
    silu (conv (X0_0 m c t) (iblk m c 1 t) (iblk m c 2 t) b j)
      = ACT (PRE (m ((c : Thread nD τ).loc main_arg0)) (m ((c : Thread nD τ).loc main_arg1)) (m ((c : Thread nD τ).loc main_arg2)))
        (ix2 b ⟨1024 * t.val + j.val, by have : t.val < 3 := t.isLt; omega⟩) := by
  have s (r : Fin 3) : (V m c main_v0 : FVec Ideal S2x3x32x3072 .f32) (ix4 0 r b ⟨1024 * t.val + j.val, by have : t.val < 3 := t.isLt; omega⟩)
      = (m ((c : Thread nD τ).loc main_arg1) : FVec Ideal S2x32x3x3072 .f32) (ix4 0 b r ⟨1024 * t.val + j.val, by have : t.val < 3 := t.isLt; omega⟩) := by
    rw [V_h]; pointwise []
  rw [act_at, pre_at, conv, read_x, read_s, read_s, read_s, read_w, read_w, read_w, read_w, s, s, s,
    ← pad_at m c 0, ← pad_at m c 1, ← pad_at m c 2, ← pad_at m c 3]
  rfl

/-- What the reference returns at a column of a part. -/
theorem ref_A (a0 : FVec Ideal S8320x14592 .f32) (a1 : FVec Ideal S2x32x3x3072 .f32) (a2 : FVec Ideal S2x4x3072 .f32) (b : Fin 32) (t : Fin 2) (j : Fin 1024) :
    REF a0 a1 a2 (ix2 b ⟨1024 * t.val + j.val, by omega⟩)
      = l2 (fun i => ACT (PRE a0 a1 a2) (ix2 b ⟨1024 * t.val + (j.val / 128 * 128 + i.val), by omega⟩)) ⟨j.val % 128, by omega⟩ := by
  have e : (⟨1024 * t.val + j.val, by omega⟩ : Fin 3072)
      = ⟨(⟨8 * t.val + j.val / 128, by omega⟩ : Fin 16).val * 128 + (⟨j.val % 128, by omega⟩ : Fin 128).val, by dsimp only; omega⟩ :=
    Fin.ext (by dsimp only; omega)
  rw [REF, e, nrm_qk]
  refine congrArg (fun f => l2 f _) (funext fun i => congrArg _ (congrArg (ix2 b) (Fin.ext ?_)))
  dsimp only
  omega

theorem point (c : Dev nD) (t : Fin cfg0.N) (y : S32x1024.Idx) : outsAt0 m c t.val t.isLt y
    = REF (m ((c : Thread nD τ).loc main_arg0)) (m ((c : Thread nD τ).loc main_arg1)) (m ((c : Thread nD τ).loc main_arg2)) (((cfg0.win 3).blk t).view.emb y) := by
  obtain ⟨b, j, rfl⟩ : ∃ (b : Fin 32) (j : Fin 1024), y = ix2 b j := ⟨y 0, y 1, by funext a; fin_cases a <;> rfl⟩
  have ht : t.val < 3 := t.isLt
  have e : ((cfg0.win 3).blk t).view.emb (ix2 b j) = (ix2 b ⟨1024 * t.val + j.val, by omega⟩ : S32x3072.Idx) := by blk_ext [idx t]
  rw [e]
  by_cases h0 : t.val < 2
  · rw [outsAt0_A m c t h0 (by omega), out_A, ref_A _ _ _ b ⟨t.val, h0⟩ j]
    refine congrArg (fun f => l2 f _) (funext fun i => ?_)
    rw [Y_at]
    exact conv_eq m c t b _
  · rw [outsAt0_B m c t h0 (by omega), out_B, REF, nrm_v _ b _ (by dsimp only; omega)]
    exact conv_eq m c t b j

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

theorem algebraic : Cert.algebraic_ConvSampleIdeal_ConvSampleRefIdeal := by
  pair_intro
  · run_from Cert.ConvSampleIdeal.Gen.run_main m g
    all_goals
      show StableHlo.after ([hostOps0, hostOps0_1].flatten) (fun b => m (c, b)) _ = _
      after_reads_simp
  · run_from Cert.ConvSampleRefIdeal.Value.run m' g'
    obtain ⟨h0, h1, h2⟩ := hagree c
    unfold Cert.ConvSampleRefIdeal.Value.res_main_v47
    rw [h0, h1, h2]
    exact (final m c).symm

end Cert.ConvSampleIdeal.Hand

end
-- ==== Proof.ConvPrompt.lean ====
/-
  The short causal convolution of the prompts: four taps per channel, the rows before a sequence's first zero, silu, and
  the L2 norm of each head of q and k. The kernel works on 512 rows of one of the three parts at a point, the eight rows
  before them in a window of their own.
-/
module

public import proofs.«01_k».proof.Proof.Gen.ConvPromptIdeal.Frame
public import proofs.«01_k».proof.Proof.Gen.ConvPromptRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.ConvPromptRefIdeal.Hand
open Idealize.ShloMosaic Cert.ConvPromptRefIdeal Cert.ConvPromptRefIdeal.Gen

/-- The convolved rows of the reference. -/
abbrev PRE (a0 : FVec Ideal S8320x14592 .f32) (a1 : FVec Ideal S2x4x3072 .f32) : FVec Ideal S4x2048x3072 .f32 :=
  addf (addf (addf (mulf (extractStridedSlice S4x2048x3072 ![0, 0, 0] (concatenate S4x2051x3072 1 [⟨S4x3x3072, (broadcastInDim S4x3x3072 ![] bcast_S_S4x3x3072 (constant S_ .f32 0x00000000#32))⟩, ⟨S4x2048x3072, (shapeCast _ (extractStridedSlice S8192x3072 ![0, 4096] a0 slices_S8320x14592_S8192x3072_0_4096) shapeCasts_S8192x3072_S4x2048x3072)⟩] concatenates_S4x3x3072_S4x2048x3072_S4x2051x3072_d1) slices_S4x2051x3072_S4x2048x3072_0_0_0) (broadcastInDim S4x2048x3072 ![0, 1, 2] bcast_S1x1x3072_S4x2048x3072_0_1_2 (broadcastInDim S1x1x3072 ![2] bcast_S3072_S1x1x3072_2 (shapeCast _ (extractStridedSlice S1x3072 ![0, 0] (shapeCast _ (extractStridedSlice S1x4x3072 ![0, 0, 0] a1 slices_S2x4x3072_S1x4x3072_0_0_0) shapeCasts_S1x4x3072_S4x3072) slices_S4x3072_S1x3072_0_0) shapeCasts_S1x3072_S3072)))) (mulf (extractStridedSlice S4x2048x3072 ![0, 1, 0] (concatenate S4x2051x3072 1 [⟨S4x3x3072, (broadcastInDim S4x3x3072 ![] bcast_S_S4x3x3072 (constant S_ .f32 0x00000000#32))⟩, ⟨S4x2048x3072, (shapeCast _ (extractStridedSlice S8192x3072 ![0, 4096] a0 slices_S8320x14592_S8192x3072_0_4096) shapeCasts_S8192x3072_S4x2048x3072)⟩] concatenates_S4x3x3072_S4x2048x3072_S4x2051x3072_d1) slices_S4x2051x3072_S4x2048x3072_0_1_0) (broadcastInDim S4x2048x3072 ![0, 1, 2] bcast_S1x1x3072_S4x2048x3072_0_1_2 (broadcastInDim S1x1x3072 ![2] bcast_S3072_S1x1x3072_2 (shapeCast _ (extractStridedSlice S1x3072 ![1, 0] (shapeCast _ (extractStridedSlice S1x4x3072 ![0, 0, 0] a1 slices_S2x4x3072_S1x4x3072_0_0_0) shapeCasts_S1x4x3072_S4x3072) slices_S4x3072_S1x3072_1_0) shapeCasts_S1x3072_S3072))))) (mulf (extractStridedSlice S4x2048x3072 ![0, 2, 0] (concatenate S4x2051x3072 1 [⟨S4x3x3072, (broadcastInDim S4x3x3072 ![] bcast_S_S4x3x3072 (constant S_ .f32 0x00000000#32))⟩, ⟨S4x2048x3072, (shapeCast _ (extractStridedSlice S8192x3072 ![0, 4096] a0 slices_S8320x14592_S8192x3072_0_4096) shapeCasts_S8192x3072_S4x2048x3072)⟩] concatenates_S4x3x3072_S4x2048x3072_S4x2051x3072_d1) slices_S4x2051x3072_S4x2048x3072_0_2_0) (broadcastInDim S4x2048x3072 ![0, 1, 2] bcast_S1x1x3072_S4x2048x3072_0_1_2 (broadcastInDim S1x1x3072 ![2] bcast_S3072_S1x1x3072_2 (shapeCast _ (extractStridedSlice S1x3072 ![2, 0] (shapeCast _ (extractStridedSlice S1x4x3072 ![0, 0, 0] a1 slices_S2x4x3072_S1x4x3072_0_0_0) shapeCasts_S1x4x3072_S4x3072) slices_S4x3072_S1x3072_2_0) shapeCasts_S1x3072_S3072))))) (mulf (extractStridedSlice S4x2048x3072 ![0, 3, 0] (concatenate S4x2051x3072 1 [⟨S4x3x3072, (broadcastInDim S4x3x3072 ![] bcast_S_S4x3x3072 (constant S_ .f32 0x00000000#32))⟩, ⟨S4x2048x3072, (shapeCast _ (extractStridedSlice S8192x3072 ![0, 4096] a0 slices_S8320x14592_S8192x3072_0_4096) shapeCasts_S8192x3072_S4x2048x3072)⟩] concatenates_S4x3x3072_S4x2048x3072_S4x2051x3072_d1) slices_S4x2051x3072_S4x2048x3072_0_3_0) (broadcastInDim S4x2048x3072 ![0, 1, 2] bcast_S1x1x3072_S4x2048x3072_0_1_2 (broadcastInDim S1x1x3072 ![2] bcast_S3072_S1x1x3072_2 (shapeCast _ (extractStridedSlice S1x3072 ![3, 0] (shapeCast _ (extractStridedSlice S1x4x3072 ![0, 0, 0] a1 slices_S2x4x3072_S1x4x3072_0_0_0) shapeCasts_S1x4x3072_S4x3072) slices_S4x3072_S1x3072_3_0) shapeCasts_S1x3072_S3072))))

/-- Silu. -/
abbrev ACT (p : FVec Ideal S4x2048x3072 .f32) : FVec Ideal S4x2048x3072 .f32 :=
  mulf p (Host.divf (broadcastInDim S4x2048x3072 ![] bcast_S_S4x2048x3072 (constant S_ .f32 0x3F800000#32)) (addf (broadcastInDim S4x2048x3072 ![] bcast_S_S4x2048x3072 (constant S_ .f32 0x3F800000#32)) (Host.exp (Host.negf p))))

/-- The norm of every head of the first two parts. -/
abbrev NRM (y : FVec Ideal S4x2048x3072 .f32) : FVec Ideal S8192x3072 .f32 :=
  concatenate S8192x3072 1 [⟨S8192x2048, (shapeCast _ (mulf (shapeCast _ (extractStridedSlice S4x2048x2048 ![0, 0, 0] y slices_S4x2048x3072_S4x2048x2048_0_0_0) shapeCasts_S4x2048x2048_S4x2048x16x128) (broadcastInDim S4x2048x16x128 ![0, 1, 2, 3] bcast_S4x2048x16x1_S4x2048x16x128_0_1_2_3 (Host.rsqrt (addf (broadcastInDim S4x2048x16x1 ![0, 1, 2] bcast_S4x2048x16_S4x2048x16x1_0_1_2 (Host.reduceAdd (mulf (shapeCast _ (extractStridedSlice S4x2048x2048 ![0, 0, 0] y slices_S4x2048x3072_S4x2048x2048_0_0_0) shapeCasts_S4x2048x2048_S4x2048x16x128) (shapeCast _ (extractStridedSlice S4x2048x2048 ![0, 0, 0] y slices_S4x2048x3072_S4x2048x2048_0_0_0) shapeCasts_S4x2048x2048_S4x2048x16x128)) (constant S_ .f32 0x00000000#32) reducesTo_S4x2048x16x128_S4x2048x16_d3 h_S_)) (broadcastInDim S4x2048x16x1 ![] bcast_S_S4x2048x16x1 (constant S_ .f32 0x358637BD#32)))))) shapeCasts_S4x2048x16x128_S8192x2048)⟩, ⟨S8192x1024, (shapeCast _ (extractStridedSlice S4x2048x1024 ![0, 0, 2048] y slices_S4x2048x3072_S4x2048x1024_0_0_2048) shapeCasts_S4x2048x1024_S8192x1024)⟩] concatenates_S8192x2048_S8192x1024_S8192x3072_d1

/-- What the reference returns, of its arguments. -/
abbrev REF (a0 : FVec Ideal S8320x14592 .f32) (a1 : FVec Ideal S2x4x3072 .f32) : FVec Ideal S8192x3072 .f32 :=
  NRM (ACT (PRE a0 a1))

def silu (z : EReal) : EReal := z * Ideal.div 1 (1 + Ideal.exp (-z))

/-- A row divided by the norm of its 128 entries. -/
def l2 (f : Fin 128 → EReal) (k : Fin 128) : EReal := f k * Ideal.rsqrt ((∑ i : Fin 128, f i * f i) + Ideal.ofBits .f32 0x358637BD#32)

/-- The row `3 - k` before row `s` of sequence `b`, zero before the sequence. -/
def back (a0 : FVec Ideal S8320x14592 .f32) (b : Fin 4) (s : Fin 2048) (q : Fin 3072) (k : Fin 4) : EReal :=
  if h : s.val + k.val < 3 then 0 else a0 (ix2 ⟨b.val * 2048 + (s.val + k.val - 3), by omega⟩ ⟨4096 + q.val, by omega⟩)

theorem pre_at (a0 : FVec Ideal S8320x14592 .f32) (a1 : FVec Ideal S2x4x3072 .f32) (b : Fin 4) (s : Fin 2048) (q : Fin 3072) :
    PRE a0 a1 (ix3 b s q) = back a0 b s q 0 * a1 (ix3 0 0 q) + back a0 b s q 1 * a1 (ix3 0 1 q) + back a0 b s q 2 * a1 (ix3 0 2 q)
      + back a0 b s q 3 * a1 (ix3 0 3 q) := by
  pointwise [PRE, back]
  simp only [Nat.add_comm s.val, Nat.add_sub_cancel_left, dif_neg (show ¬3 + s.val < 3 by omega)]

theorem act_at (p : FVec Ideal S4x2048x3072 .f32) (b : Fin 4) (s : Fin 2048) (q : Fin 3072) : ACT p (ix3 b s q) = silu (p (ix3 b s q)) := by
  pointwise [ACT, silu]

theorem nrm_qk (y : FVec Ideal S4x2048x3072 .f32) (b : Fin 4) (s : Fin 2048) (h : Fin 16) (k : Fin 128) :
    NRM y (ix2 ⟨b.val * 2048 + s.val, by omega⟩ ⟨h.val * 128 + k.val, by omega⟩) = l2 (fun i => y (ix3 b s ⟨h.val * 128 + i.val, by omega⟩)) k := by
  pointwise [NRM, l2]
  exact dif_pos (by omega)

theorem nrm_v (y : FVec Ideal S4x2048x3072 .f32) (b : Fin 4) (s : Fin 2048) (q : Fin 3072) (hq : 2048 ≤ q.val) :
    NRM y (ix2 ⟨b.val * 2048 + s.val, by omega⟩ q) = y (ix3 b s q) := by
  pointwise [NRM]
  rw [dif_neg (by omega)]
  exact congrArg (fun q => y (ix3 b s q)) (Fin.ext (by dsimp only; omega))

end Cert.ConvPromptRefIdeal.Hand

namespace Cert.ConvPromptIdeal.Hand
open Idealize.ShloMosaic Idealize.ShloMosaic.TcCoe Idealize.SL.Sem
open Idealize.ShloMosaic.Pipeline (Dat)
open Cert.ConvPromptIdeal Cert.ConvPromptIdeal.Gen
open Cert.ConvPromptRefIdeal.Hand

variable (m : (ℓ : Loc nD τ sig) → Buf (Elt Ideal) ℓ)

theorem idx : ∀ t : Fin cfg0.N, win0_0.index t = ![t.val / 3, 4 + t.val % 3] ∧ win0_1.index t = ![t.val / 3 * 64 - 1, 4 + t.val % 3]
    ∧ win0_2.index t = ![0, 0, t.val % 3] ∧ win0_3.index t = ![t.val / 3, t.val % 3] :=
  (by decide +kernel : ∀ t : Fin grid0.N, _)

theorem coord : ∀ t : Fin cfg0.N, ((grid0.coords t) 1).val = t.val / 3 % 4 :=
  (by decide +kernel : ∀ t : Fin grid0.N, _)

/-- What the two stores of the scratch leave, read from row `o`. -/
theorem ext_at {sp : Space} (v : View sig .tc sp S520x1024 .f32) (x : FVec Ideal S512x1024 .f32) (p : FVec Ideal S8x1024 .f32) (o : ℕ) (ho : o ≤ 8)
    (inb : ∀ a, (![o, 0] : Fin 2 → ℕ) a + (![512, 1024] : Fin 2 → ℕ) a ≤ S520x1024.size a) (r : Fin 512) (j : Fin 1024) :
    v.readCov (Val := Elt Ideal) [⟨Rect.unit ![8, 0] ![512, 1024] inb_S520x1024_S512x1024_8_0, x⟩, ⟨Rect.unit ![0, 0] ![8, 1024] inb_S520x1024_S8x1024_0_0, p⟩]
      (Rect.unit (s := S520x1024) ![o, 0] ![512, 1024] inb).toLoadRect (ix2 r j)
      = if h : o + r.val < 8 then p (ix2 ⟨o + r.val, h⟩ j) else x (ix2 ⟨o + r.val - 8, by omega⟩ j) := by
  rw [View.readCov_eq_canon']
  have e : (Rect.unit (s := S520x1024) ![o, 0] ![512, 1024] inb).toLoadRect.idx (ix2 r j) = (ix2 ⟨o + r.val, by omega⟩ j : S520x1024.Idx) := by
    funext a; apply Fin.ext
    fin_cases a
    · show o + 1 * r.val = o + r.val; omega
    · show 0 + 1 * j.val = j.val; omega
  show View.canon _ ((Rect.unit (s := S520x1024) ![o, 0] ![512, 1024] inb).toLoadRect.idx (ix2 r j)) = _
  rw [e]
  canon_tiles y h using View.cover_of_tiledBy _ ![8, 1024] (by sl_kernel_rfl) _
  · obtain ⟨b, k, rfl⟩ : ∃ b k, y = ix2 b k := ⟨y 0, y 1, by funext a; fin_cases a <;> rfl⟩
    change o + r.val = 8 + b.val at h0
    obtain rfl : j = k := Fin.ext h1
    rw [dif_neg (by omega)]
    exact congrArg (fun b => x (ix2 b j)) (Fin.ext (by dsimp only; omega))
  · obtain ⟨b, k, rfl⟩ : ∃ b k, y = ix2 b k := ⟨y 0, y 1, by funext a; fin_cases a <;> rfl⟩
    change o + r.val = b.val at h0
    obtain rfl : j = k := Fin.ext h1
    rw [dif_pos (by omega)]
    exact congrArg (fun b => p (ix2 b j)) (Fin.ext h0.symm)

/-- A row of the block, or of the rows before it, `3 - k` rows back. -/
def past (i : grid0.Coords) (x : FVec Ideal S512x1024 .f32) (p : FVec Ideal S8x1024 .f32) (r : Fin 512) (j : Fin 1024) (k : Fin 3) : EReal :=
  if h : 5 + k.val + r.val < 8 then (if (i 1).val = 0 then 0 else p (ix2 ⟨5 + k.val + r.val, h⟩ j)) else x (ix2 ⟨5 + k.val + r.val - 8, by omega⟩ j)

/-- The convolved row of a block. -/
def conv (i : grid0.Coords) (x : FVec Ideal S512x1024 .f32) (p : FVec Ideal S8x1024 .f32) (w : FVec Ideal S1x8x1024 .f32) (r : Fin 512) (j : Fin 1024) : EReal :=
  past i x p r j 0 * w (ix3 0 0 j) + past i x p r j 1 * w (ix3 0 1 j) + past i x p r j 2 * w (ix3 0 2 j) + x (ix2 r j) * w (ix3 0 3 j)

/-- The scratch read from row `o`. -/
abbrev E (v : View sig .tc .vmem S520x1024 .f32) (i : grid0.Coords) (x : Vec Ideal S512x1024 .f32) (p : Vec Ideal S8x1024 .f32) (o : ℕ)
    (inb : ∀ a, (![o, 0] : Fin 2 → ℕ) a + (![512, 1024] : Fin 2 → ℕ) a ≤ S520x1024.size a) : FVec Ideal S512x1024 .f32 :=
  v.readCov (Val := Elt Ideal) [⟨Rect.unit ![8, 0] ![512, 1024] inb_S520x1024_S512x1024_8_0, k0_pay11 (F := Ideal) x⟩, ⟨Rect.unit ![0, 0] ![8, 1024] inb_S520x1024_S8x1024_0_0, k0_pay10 (F := Ideal) i p⟩]
    (Rect.unit (s := S520x1024) ![o, 0] ![512, 1024] inb).toLoadRect

theorem E_at (v : View sig .tc .vmem S520x1024 .f32) (i : grid0.Coords) (x : Vec Ideal S512x1024 .f32) (p : Vec Ideal S8x1024 .f32) (k : Fin 3)
    (inb : ∀ a, (![5 + k.val, 0] : Fin 2 → ℕ) a + (![512, 1024] : Fin 2 → ℕ) a ≤ S520x1024.size a) (r : Fin 512) (j : Fin 1024) :
    E v i x p (5 + k.val) inb (ix2 r j) = past i x p r j k := by
  have h10 (q : Fin 8) : k0_pay10 (F := Ideal) i p (ix2 q j) = if (i 1).val = 0 then 0 else p (ix2 q j) := by
    have hi : ∀ n : Fin 4, Scalar.cmpi .eq (BitVec.ofNat 32 n.val) 0#32 = BitVec.ofBool (decide (n.val = 0)) := by decide +kernel
    pointwise [k0_pay10]
    rw [hi (i 1)]
    by_cases hz : (i 1).val = 0
    · rw [if_pos hz, decide_eq_true hz]; rfl
    · rw [if_neg hz, decide_eq_false hz]; rfl
  have h11 (q : Fin 512) : k0_pay11 (F := Ideal) x (ix2 q j) = x (ix2 q j) := by pointwise [k0_pay11]
  rw [E, ext_at v _ _ _ (by omega), past]
  simp only [h10, h11]

/-- The block's convolution, silu applied. -/
abbrev Y (v : View sig .tc .vmem S520x1024 .f32) (i : grid0.Coords) (x : Vec Ideal S512x1024 .f32) (p : Vec Ideal S8x1024 .f32) (w : Vec Ideal S1x8x1024 .f32) : FVec Ideal S512x1024 .f32 :=
  k0_pay1 (k0_pay12 x w (E v i x p 5 inb_S520x1024_S512x1024_5_0) (E v i x p 6 inb_S520x1024_S512x1024_6_0) (E v i x p 7 inb_S520x1024_S512x1024_7_0))
    (k0_pay13 x w (E v i x p 5 inb_S520x1024_S512x1024_5_0) (E v i x p 6 inb_S520x1024_S512x1024_6_0) (E v i x p 7 inb_S520x1024_S512x1024_7_0))
    (FloatOps.ofBits .f32 1065353216#32)

theorem Y_at (v : View sig .tc .vmem S520x1024 .f32) (i : grid0.Coords) (x : Vec Ideal S512x1024 .f32) (p : Vec Ideal S8x1024 .f32) (w : Vec Ideal S1x8x1024 .f32) (r : Fin 512) (j : Fin 1024) :
    Y v i x p w (ix2 r j) = silu (conv i x p w r j) := by
  have e0 := E_at v i x p 0 inb_S520x1024_S512x1024_5_0 r j
  have e1 := E_at v i x p 1 inb_S520x1024_S512x1024_6_0 r j
  have e2 := E_at v i x p 2 inb_S520x1024_S512x1024_7_0 r j
  dsimp only [Y]
  generalize E v i x p 5 _ = y0 at e0 ⊢
  generalize E v i x p 6 _ = y1 at e1 ⊢
  generalize E v i x p 7 _ = y2 at e2 ⊢
  have e0' : y0 (ix2 r j) = past i x p r j 0 := e0
  have e1' : y1 (ix2 r j) = past i x p r j 1 := e1
  have e2' : y2 (ix2 r j) = past i x p r j 2 := e2
  have e : x (ix2 r j) * w (ix3 0 3 j) + y0 (ix2 r j) * w (ix3 0 0 j) + y1 (ix2 r j) * w (ix3 0 1 j) + y2 (ix2 r j) * w (ix3 0 2 j)
      = conv i x p w r j := by
    unfold conv
    rw [e0', e1', e2']
    ac_rfl
  pointwise [k0_pay1, k0_pay12, k0_pay13]
  rw [e, silu, zero_sub]

/-- The head of a block's column divided by its norm. -/
theorem head_at (v : FVec Ideal S512x1024 .f32) (b : Fin 512) (k : Fin 128) :
    k0_pay2 v (ix2 b k) = l2 (fun i => v (ix2 b ⟨i.val, by omega⟩)) k
    ∧ k0_pay3 v (ix2 b k) = l2 (fun i => v (ix2 b ⟨128 + i.val, by omega⟩)) k
    ∧ k0_pay4 v (ix2 b k) = l2 (fun i => v (ix2 b ⟨256 + i.val, by omega⟩)) k
    ∧ k0_pay5 v (ix2 b k) = l2 (fun i => v (ix2 b ⟨384 + i.val, by omega⟩)) k
    ∧ k0_pay6 v (ix2 b k) = l2 (fun i => v (ix2 b ⟨512 + i.val, by omega⟩)) k
    ∧ k0_pay7 v (ix2 b k) = l2 (fun i => v (ix2 b ⟨640 + i.val, by omega⟩)) k
    ∧ k0_pay8 v (ix2 b k) = l2 (fun i => v (ix2 b ⟨768 + i.val, by omega⟩)) k
    ∧ k0_pay9 v (ix2 b k) = l2 (fun i => v (ix2 b ⟨896 + i.val, by omega⟩)) k := by
  refine ⟨?_, ?_, ?_, ?_, ?_, ?_, ?_, ?_⟩ <;>
    pointwise [k0_pay2, k0_pay3, k0_pay4, k0_pay5, k0_pay6, k0_pay7, k0_pay8, k0_pay9, l2]

theorem out_A (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S1x8x1024 .f32) (harg5 : arg5.IsWhole) (arg6 : Memref sig .tc .vmem S512x1024 .f32) (harg6 : arg6.IsWhole) (arg7 : Memref sig .tc .vmem S520x1024 .f32) (harg7 : arg7.IsWhole) (hc0 : cond0_0 i) (hc1 : ¬cond0_1 i)
    (x0 : Vec Ideal S512x1024 .f32) (x1 : Vec Ideal S8x1024 .f32) (x2 : Vec Ideal S1x8x1024 .f32) (b : Fin 512) (j : Fin 1024) :
    out0_A_3 (F := Ideal) c i arg3 harg3 arg4 harg4 arg5 harg5 arg6 harg6 arg7 harg7 hc0 hc1 x0 x1 x2 (ix2 b j)
      = l2 (fun k => Y arg7.view i x0 x1 x2 (ix2 b ⟨j.val / 128 * 128 + k.val, by omega⟩)) ⟨j.val % 128, by omega⟩ := by
  frame_out
  canon_tiles x e
  all_goals
    obtain ⟨b', k, rfl⟩ : ∃ (b : Fin 512) (j : Fin 128), x = ix2 b j := ⟨x 0, x 1, by funext a; fin_cases a <;> rfl⟩
    obtain ⟨n1, n2, n3, n4, n5, n6, n7, n8⟩ := head_at (Y arg7.view i x0 x1 x2) b' k
    dsimp only [Y, E] at n1 n2 n3 n4 n5 n6 n7 n8 ⊢
    simp only [n1, n2, n3, n4, n5, n6, n7, n8]
    obtain rfl : b = b' := Fin.ext e0
    first | change j.val = _ + k.val at e1 | change j.val = k.val at e1
    rw [show (⟨j.val % 128, by omega⟩ : Fin 128) = k from Fin.ext (by dsimp only; omega)]
    refine congrArg (fun f => l2 f k) (funext fun i => congrArg _ (congrArg (ix2 b) (Fin.ext ?_)))
    dsimp only
    omega

theorem out_B (c : Dev nD) (i : grid0.Coords) (arg3 : Memref sig .tc .vmem S512x1024 .f32) (harg3 : arg3.IsWhole) (arg4 : Memref sig .tc .vmem S8x1024 .f32) (harg4 : arg4.IsWhole) (arg5 : Memref sig .tc .vmem S1x8x1024 .f32) (harg5 : arg5.IsWhole) (arg6 : Memref sig .tc .vmem S512x1024 .f32) (harg6 : arg6.IsWhole) (arg7 : Memref sig .tc .vmem S520x1024 .f32) (harg7 : arg7.IsWhole) (hc0 : ¬cond0_0 i) (hc1 : cond0_1 i)
    (x0 : Vec Ideal S512x1024 .f32) (x1 : Vec Ideal S8x1024 .f32) (x2 : Vec Ideal S1x8x1024 .f32) (b : Fin 512) (j : Fin 1024) :
    out0_B_3 (F := Ideal) c i arg3 harg3 arg4 harg4 arg5 harg5 arg6 harg6 arg7 harg7 hc0 hc1 x0 x1 x2 (ix2 b j)
      = silu (conv i x0 x1 x2 b j) := by
  frame_out
  exact Y_at arg7.view i x0 x1 x2 b j

theorem read_x (c : Dev nD) (t : Fin cfg0.N) (r : Fin 512) (j : Fin 1024) :
    (X0_0 m c t : FVec Ideal S512x1024 .f32) (ix2 r j) = (m ((c : Thread nD τ).loc main_arg0) : FVec Ideal S8320x14592 .f32) (ix2 ⟨t.val / 3 * 512 + r.val, by have : t.val < 48 := t.isLt; omega⟩ ⟨4096 + (t.val % 3 * 1024 + j.val), by omega⟩) := by
  unfold X0_0
  unfold Pipeline.Window.fill
  rw [dif_pos (moved0_0 t _)]
  blk_ext [iblk, V, idx t]

theorem read_p (c : Dev nD) (t : Fin cfg0.N) (r : Fin 8) (j : Fin 1024) (hz : t.val / 3 % 4 ≠ 0) :
    (X0_1 m c t : FVec Ideal S8x1024 .f32) (ix2 r j) = (m ((c : Thread nD τ).loc main_arg0) : FVec Ideal S8320x14592 .f32) (ix2 ⟨t.val / 3 * 512 - 8 + r.val, by have : t.val < 48 := t.isLt; omega⟩ ⟨4096 + (t.val % 3 * 1024 + j.val), by omega⟩) := by
  unfold X0_1
  unfold Pipeline.Window.fill
  rw [dif_pos (moved0_1 t _)]
  blk_ext [iblk, V, idx t]

theorem read_w (c : Dev nD) (t : Fin cfg0.N) (r : Fin 8) (j : Fin 1024) :
    (iblk m c 2 t : FVec Ideal S1x8x1024 .f32) (ix3 0 r j) = (V m c main_v0 : FVec Ideal S2x8x3072 .f32) (ix3 0 r ⟨t.val % 3 * 1024 + j.val, by omega⟩) := by
  blk_ext [iblk, idx t]

theorem pad_ix (a : FVec Ideal S2x4x3072 .f32) (z : FVec Ideal S_ .f32) (r : Fin 4) (q : Fin 3072) :
    pad S2x8x3072 ![0, 0, 0] ![0, 4, 0] ![0, 0, 0] a z pads_S2x4x3072_S2x8x3072_000_040_000 h_S_ (ix3 0 ⟨r.val, by omega⟩ q) = a (ix3 0 r q) := by
  pointwise []

theorem pad_at (c : Dev nD) (r : Fin 4) (q : Fin 3072) : (V m c main_v0 : FVec Ideal S2x8x3072 .f32) (ix3 0 ⟨r.val, by omega⟩ q)
    = (m ((c : Thread nD τ).loc main_arg1) : FVec Ideal S2x4x3072 .f32) (ix3 0 r q) := by
  have e : V m c main_v0 = pad S2x8x3072 ![0, 0, 0] ![0, 4, 0] ![0, 0, 0] (m ((c : Thread nD τ).loc main_arg1) : FVec Ideal S2x4x3072 .f32)
      (sitofp .f32 (constantI S_ 32 0#32) : FVec Ideal S_ .f32) pads_S2x4x3072_S2x8x3072_000_040_000 h_S_ := by
    entry_read; rfl
  rw [e]
  exact pad_ix _ _ r q

/-- The sequence of a point. -/
abbrev sq (t : Fin cfg0.N) : Fin 4 := ⟨t.val / 12, by have : t.val < 48 := t.isLt; omega⟩

/-- The row in its sequence of a row of a point's block. -/
abbrev row (t : Fin cfg0.N) (r : Fin 512) : Fin 2048 := ⟨t.val / 3 % 4 * 512 + r.val, by omega⟩

/-- The column of a column of a point's block. -/
abbrev col (t : Fin cfg0.N) (j : Fin 1024) : Fin 3072 := ⟨t.val % 3 * 1024 + j.val, by omega⟩

theorem past_eq (c : Dev nD) (t : Fin cfg0.N) (r : Fin 512) (j : Fin 1024) (k : Fin 3) :
    past (grid0.coords t) (X0_0 m c t) (X0_1 m c t) r j k
      = back (m ((c : Thread nD τ).loc main_arg0)) (sq t) (row t r) (col t j) ⟨k.val, by omega⟩ := by
  have ht : t.val < 48 := t.isLt
  unfold past back
  rw [coord]
  by_cases h : 5 + k.val + r.val < 8
  · rw [dif_pos h]
    by_cases hz : t.val / 3 % 4 = 0
    · rw [if_pos hz, dif_pos (by dsimp only; omega)]
    · rw [if_neg hz, dif_neg (by dsimp only; omega), read_p m c t _ _ hz]
      exact congrArg (fun b => m ((c : Thread nD τ).loc main_arg0) (ix2 b _)) (Fin.ext (by dsimp only; omega))
  · rw [dif_neg h, dif_neg (by dsimp only; omega), read_x]
    exact congrArg (fun b => m ((c : Thread nD τ).loc main_arg0) (ix2 b _)) (Fin.ext (by dsimp only; omega))

theorem here_eq (c : Dev nD) (t : Fin cfg0.N) (r : Fin 512) (j : Fin 1024) :
    (X0_0 m c t : FVec Ideal S512x1024 .f32) (ix2 r j) = back (m ((c : Thread nD τ).loc main_arg0)) (sq t) (row t r) (col t j) 3 := by
  have ht : t.val < 48 := t.isLt
  unfold back
  rw [dif_neg (show ¬(row t r).val + (3 : Fin 4).val < 3 from Nat.not_lt.mpr (Nat.le_add_left 3 _)), read_x]
  exact congrArg (fun b => m ((c : Thread nD τ).loc main_arg0) (ix2 b _)) (Fin.ext (show t.val / 3 * 512 + r.val = t.val / 12 * 2048 + (t.val / 3 % 4 * 512 + r.val + 3 - 3) by omega))

/-- The convolution of a block is the reference's. -/
theorem conv_eq (c : Dev nD) (t : Fin cfg0.N) (r : Fin 512) (j : Fin 1024) :
    silu (conv (grid0.coords t) (X0_0 m c t) (X0_1 m c t) (iblk m c 2 t) r j)
      = ACT (PRE (m ((c : Thread nD τ).loc main_arg0)) (m ((c : Thread nD τ).loc main_arg1))) (ix3 (sq t) (row t r) (col t j)) := by
  rw [act_at, pre_at, conv, here_eq, past_eq, past_eq, past_eq, read_w, read_w, read_w, read_w,
    ← pad_at m c 0, ← pad_at m c 1, ← pad_at m c 2, ← pad_at m c 3]
  rfl

/-- What the reference returns at a column of q or k. -/
theorem ref_A (a0 : FVec Ideal S8320x14592 .f32) (a1 : FVec Ideal S2x4x3072 .f32) (b : Fin 4) (s : Fin 2048) (t : Fin 2) (j : Fin 1024) :
    REF a0 a1 (ix2 ⟨b.val * 2048 + s.val, by omega⟩ ⟨t.val * 1024 + j.val, by omega⟩)
      = l2 (fun i => ACT (PRE a0 a1) (ix3 b s ⟨t.val * 1024 + (j.val / 128 * 128 + i.val), by omega⟩)) ⟨j.val % 128, by omega⟩ := by
  have e : (⟨t.val * 1024 + j.val, by omega⟩ : Fin 3072)
      = ⟨(⟨8 * t.val + j.val / 128, by omega⟩ : Fin 16).val * 128 + (⟨j.val % 128, by omega⟩ : Fin 128).val, by dsimp only; omega⟩ :=
    Fin.ext (by dsimp only; omega)
  rw [REF, e, nrm_qk]
  refine congrArg (fun f => l2 f _) (funext fun i => congrArg _ (congrArg (ix3 b s) (Fin.ext ?_)))
  dsimp only
  omega

theorem point (c : Dev nD) (t : Fin cfg0.N) (y : S512x1024.Idx) : outsAt0 m c t.val t.isLt y
    = REF (m ((c : Thread nD τ).loc main_arg0)) (m ((c : Thread nD τ).loc main_arg1)) (((cfg0.win 3).blk t).view.emb y) := by
  obtain ⟨r, j, rfl⟩ : ∃ (b : Fin 512) (j : Fin 1024), y = ix2 b j := ⟨y 0, y 1, by funext a; fin_cases a <;> rfl⟩
  have ht : t.val < 48 := t.isLt
  have e : ((cfg0.win 3).blk t).view.emb (ix2 r j) = (ix2 ⟨t.val / 3 * 512 + r.val, by omega⟩ (col t j) : S8192x3072.Idx) := by blk_ext [idx t]
  have e' : (⟨t.val / 3 * 512 + r.val, by omega⟩ : Fin 8192) = ⟨(sq t).val * 2048 + (row t r).val, by omega⟩ := Fin.ext (by dsimp only; omega)
  rw [e, e']
  by_cases h0 : t.val % 3 < 2
  · rw [outsAt0_A m c t (by omega) (by omega), out_A]
    refine Eq.trans ?_ (ref_A _ _ (sq t) (row t r) ⟨t.val % 3, h0⟩ j).symm
    refine congrArg (fun f => l2 f _) (funext fun i => ?_)
    rw [Y_at]
    exact conv_eq m c t r _
  · rw [outsAt0_B m c t (by omega) (by omega), out_B, REF, nrm_v _ (sq t) (row t r) _ (by dsimp only; omega)]
    exact conv_eq m c t r j

theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  exact point m c t y

theorem algebraic : Cert.algebraic_ConvPromptIdeal_ConvPromptRefIdeal := by
  pair_intro
  · run_from Cert.ConvPromptIdeal.Gen.run_main m g
    all_goals
      show StableHlo.after ([hostOps0, hostOps0_1].flatten) (fun b => m (c, b)) _ = _
      after_reads_simp
  · run_from Cert.ConvPromptRefIdeal.Value.run m' g'
    obtain ⟨h0, h1⟩ := hagree c
    unfold Cert.ConvPromptRefIdeal.Value.res_main_v47
    rw [h0, h1]
    exact (final m c).symm

end Cert.ConvPromptIdeal.Hand

end
-- ==== Proof.GatesSample.lean ====
/-
  The gates of the delta rule for the sample sequences: beta, a sigmoid, in the first eight lanes, the log decay in
  the others. The lanes after the sixteenth are padding, with parameters of zero.
-/
module

public import proofs.«01_k».proof.Proof.Gen.GatesSampleIdeal.Frame
public import proofs.«01_k».proof.Proof.Gen.GatesSampleRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.GatesSampleRefIdeal.Hand
open Idealize.ShloMosaic Cert.GatesSampleRefIdeal Cert.GatesSampleRefIdeal.Gen

/-- What the reference returns, of its arguments. -/
abbrev REF (a0 : FVec Ideal S8320x14592 .f32) (a1 a2 : FVec Ideal S2x8 .f32) : FVec Ideal S32x128 .f32 :=
  concatenate S32x128 1 [⟨S32x8, (Host.divf (broadcastInDim S32x8 ![] bcast_S_S32x8 (constant S_ .f32 0x3F800000#32)) (addf (broadcastInDim S32x8 ![] bcast_S_S32x8 (constant S_ .f32 0x3F800000#32)) (Host.exp (Host.negf (extractStridedSlice S32x8 ![0, 0] (extractStridedSlice S32x128 ![8192, 14336] a0 slices_S8320x14592_S32x128_8192_14336) slices_S32x128_S32x8_0_0)))))⟩, ⟨S32x120, (mulf (broadcastInDim S32x120 ![0, 1] bcast_S1x120_S32x120_0_1 (broadcastInDim S1x120 ![1] bcast_S120_S1x120_1 (Host.negf (Host.exp (concatenate S120 0 [⟨S8, (shapeCast _ (extractStridedSlice S1x8 ![0, 0] a1 slices_S2x8_S1x8_0_0) shapeCasts_S1x8_S8)⟩, ⟨S112, (broadcastInDim S112 ![] bcast_S_S112 (constant S_ .f32 0x00000000#32))⟩] concatenates_S8_S112_S120_d0))))) (select (cmpf .une (subf (addf (extractStridedSlice S32x120 ![0, 8] (extractStridedSlice S32x128 ![8192, 14336] a0 slices_S8320x14592_S32x128_8192_14336) slices_S32x128_S32x120_0_8) (broadcastInDim S32x120 ![0, 1] bcast_S1x120_S32x120_0_1 (broadcastInDim S1x120 ![1] bcast_S120_S1x120_1 (concatenate S120 0 [⟨S8, (shapeCast _ (extractStridedSlice S1x8 ![0, 0] a2 slices_S2x8_S1x8_0_0) shapeCasts_S1x8_S8)⟩, ⟨S112, (broadcastInDim S112 ![] bcast_S_S112 (constant S_ .f32 0x00000000#32))⟩] concatenates_S8_S112_S120_d0)))) (broadcastInDim S32x120 ![] bcast_S_S32x120 (constant S_ .f32 0x00000000#32))) (subf (addf (extractStridedSlice S32x120 ![0, 8] (extractStridedSlice S32x128 ![8192, 14336] a0 slices_S8320x14592_S32x128_8192_14336) slices_S32x128_S32x120_0_8) (broadcastInDim S32x120 ![0, 1] bcast_S1x120_S32x120_0_1 (broadcastInDim S1x120 ![1] bcast_S120_S1x120_1 (concatenate S120 0 [⟨S8, (shapeCast _ (extractStridedSlice S1x8 ![0, 0] a2 slices_S2x8_S1x8_0_0) shapeCasts_S1x8_S8)⟩, ⟨S112, (broadcastInDim S112 ![] bcast_S_S112 (constant S_ .f32 0x00000000#32))⟩] concatenates_S8_S112_S120_d0)))) (broadcastInDim S32x120 ![] bcast_S_S32x120 (constant S_ .f32 0x00000000#32)))) (addf (addf (extractStridedSlice S32x120 ![0, 8] (extractStridedSlice S32x128 ![8192, 14336] a0 slices_S8320x14592_S32x128_8192_14336) slices_S32x128_S32x120_0_8) (broadcastInDim S32x120 ![0, 1] bcast_S1x120_S32x120_0_1 (broadcastInDim S1x120 ![1] bcast_S120_S1x120_1 (concatenate S120 0 [⟨S8, (shapeCast _ (extractStridedSlice S1x8 ![0, 0] a2 slices_S2x8_S1x8_0_0) shapeCasts_S1x8_S8)⟩, ⟨S112, (broadcastInDim S112 ![] bcast_S_S112 (constant S_ .f32 0x00000000#32))⟩] concatenates_S8_S112_S120_d0)))) (broadcastInDim S32x120 ![] bcast_S_S32x120 (constant S_ .f32 0x00000000#32))) (addf (maximumf (addf (extractStridedSlice S32x120 ![0, 8] (extractStridedSlice S32x128 ![8192, 14336] a0 slices_S8320x14592_S32x128_8192_14336) slices_S32x128_S32x120_0_8) (broadcastInDim S32x120 ![0, 1] bcast_S1x120_S32x120_0_1 (broadcastInDim S1x120 ![1] bcast_S120_S1x120_1 (concatenate S120 0 [⟨S8, (shapeCast _ (extractStridedSlice S1x8 ![0, 0] a2 slices_S2x8_S1x8_0_0) shapeCasts_S1x8_S8)⟩, ⟨S112, (broadcastInDim S112 ![] bcast_S_S112 (constant S_ .f32 0x00000000#32))⟩] concatenates_S8_S112_S120_d0)))) (broadcastInDim S32x120 ![] bcast_S_S32x120 (constant S_ .f32 0x00000000#32))) (Host.log1p (Host.exp (Host.negf (Host.absf (subf (addf (extractStridedSlice S32x120 ![0, 8] (extractStridedSlice S32x128 ![8192, 14336] a0 slices_S8320x14592_S32x128_8192_14336) slices_S32x128_S32x120_0_8) (broadcastInDim S32x120 ![0, 1] bcast_S1x120_S32x120_0_1 (broadcastInDim S1x120 ![1] bcast_S120_S1x120_1 (concatenate S120 0 [⟨S8, (shapeCast _ (extractStridedSlice S1x8 ![0, 0] a2 slices_S2x8_S1x8_0_0) shapeCasts_S1x8_S8)⟩, ⟨S112, (broadcastInDim S112 ![] bcast_S_S112 (constant S_ .f32 0x00000000#32))⟩] concatenates_S8_S112_S120_d0)))) (broadcastInDim S32x120 ![] bcast_S_S32x120 (constant S_ .f32 0x00000000#32))))))))))⟩] concatenates_S32x8_S32x120_S32x128_d1

/-- A parameter of the padded lanes: the heads' own, then zeros. -/
def parOf (a : FVec Ideal S2x8 .f32) (j : ℕ) : EReal := if h : j < 8 then a (ix2 0 ⟨j, h⟩) else 0

/-- The reference's softplus. -/
def soft (z : EReal) : EReal := max z 0 + Ideal.log1p (Ideal.exp (-max z (-z)))

theorem ref_at (a0 : FVec Ideal S8320x14592 .f32) (a1 a2 : FVec Ideal S2x8 .f32) (b : Fin 32) (j : Fin 128) :
    REF a0 a1 a2 (ix2 b j) = if j.val < 8 then Ideal.div 1 (1 + Ideal.exp (-a0 (ix2 ⟨8192 + b.val, by omega⟩ ⟨14336 + j.val, by omega⟩)))
      else -Ideal.exp (parOf a1 (j.val - 8)) * soft (a0 (ix2 ⟨8192 + b.val, by omega⟩ ⟨14336 + j.val, by omega⟩) + parOf a2 (j.val - 8)) := by
  by_cases hj : j.val < 8
  · pointwise [REF, parOf, soft]
    rw [dif_pos hj, if_pos hj]
  · have e : 8 + (j.val - 8) = j.val := by omega
    pointwise [REF, parOf, soft]
    rw [dif_neg hj, if_neg hj]
    simp only [e, ne_eq, not_true_eq_false, if_false]
    rfl

end Cert.GatesSampleRefIdeal.Hand

namespace Cert.GatesSampleIdeal.Hand
open Idealize.ShloMosaic Idealize.ShloMosaic.TcCoe Idealize.SL.Sem
open Idealize.ShloMosaic.Pipeline (Dat)
open Cert.GatesSampleIdeal Cert.GatesSampleIdeal.Gen
open Cert.GatesSampleRefIdeal.Hand

variable (m : (ℓ : Loc nD τ sig) → Buf (Elt Ideal) ℓ)

theorem idx : ∀ t : Fin cfg0.N, win0_0.index t = ![256, 112] ∧ win0_1.index t = ![0, 0, 0] ∧ win0_2.index t = ![0, 0] :=
  (by decide +kernel : ∀ t : Fin grid0.N, _)

/-- A row of parameters with the lanes of beta and the padding at zero. -/
abbrev LANES (a : FVec Ideal S2x8 .f32) : FVec Ideal S2x128 .f32 :=
  concatenate S2x128 1 [⟨S2x8, broadcastInDim S2x8 ![] bcast_S_S2x8 (constant S_ .f32 0x00000000#32)⟩, ⟨S2x8, a⟩,
    ⟨S2x112, broadcastInDim S2x112 ![] bcast_S_S2x112 (constant S_ .f32 0x00000000#32)⟩] concatenates_S2x8_S2x8_S2x112_S2x128_d1

abbrev ZROW : FVec Ideal S2x1x128 .f32 :=
  broadcastInDim S2x1x128 ![0, 2] bcast_S2x128_S2x1x128_0_2 (broadcastInDim S2x128 ![] bcast_S_S2x128 (constant S_ .f32 0x00000000#32))

/-- The packed parameters. -/
abbrev PAR (a1 a2 : FVec Ideal S2x8 .f32) : FVec Ideal S2x8x128 .f32 :=
  concatenate S2x8x128 1 [⟨S2x1x128, broadcastInDim S2x1x128 ![0, 2] bcast_S2x128_S2x1x128_0_2 (LANES a1)⟩,
    ⟨S2x1x128, broadcastInDim S2x1x128 ![0, 2] bcast_S2x128_S2x1x128_0_2 (LANES a2)⟩, ⟨S2x1x128, ZROW⟩, ⟨S2x1x128, ZROW⟩,
    ⟨S2x1x128, ZROW⟩, ⟨S2x1x128, ZROW⟩, ⟨S2x1x128, ZROW⟩, ⟨S2x1x128, ZROW⟩]
    concatenates_S2x1x128_S2x1x128_S2x1x128_S2x1x128_S2x1x128_S2x1x128_S2x1x128_S2x1x128_S2x8x128_d1

theorem V_par (c : Dev nD) : V m c main_v14 = PAR (m ((c : Thread nD τ).loc main_arg1)) (m ((c : Thread nD τ).loc main_arg2)) := by
  show StableHlo.after hostOps0 (fun b => m (c, b)) (Proc.devRef .tc main_v14) = _
  after_reads_simp
  rfl

theorem par_at (a1 a2 : FVec Ideal S2x8 .f32) (j : Fin 128) :
    PAR a1 a2 (ix3 0 0 j) = (if h : j.val < 8 then 0 else parOf a1 (j.val - 8)) ∧ PAR a1 a2 (ix3 0 1 j) = (if h : j.val < 8 then 0 else parOf a2 (j.val - 8)) := by
  constructor
  · pointwise [PAR, LANES, ZROW, parOf]
  · pointwise [PAR, LANES, ZROW, parOf]

theorem read_x (c : Dev nD) (t : Fin cfg0.N) (b : Fin 32) (j : Fin 128) :
    (iblk m c 0 t : FVec Ideal S32x128 .f32) (ix2 b j) = (m ((c : Thread nD τ).loc main_arg0) : FVec Ideal S8320x14592 .f32) (ix2 ⟨8192 + b.val, by omega⟩ ⟨14336 + j.val, by omega⟩) := by
  blk_ext [iblk, V, idx t]

theorem read_p (c : Dev nD) (t : Fin cfg0.N) (r : Fin 8) (j : Fin 128) :
    (iblk m c 1 t : FVec Ideal S1x8x128 .f32) (ix3 0 r j) = (V m c main_v14 : FVec Ideal S2x8x128 .f32) (ix3 0 r j) := by
  blk_ext [iblk, idx t]

theorem pay_at (X0 : Vec Ideal S32x128 .f32) (X1 : Vec Ideal S1x8x128 .f32) (b : Fin 32) (j : Fin 128) :
    k0_pay1 X0 X1 (ix2 b j) = if j.val < 8 then Ideal.div 1 (1 + Ideal.exp (-X0 (ix2 b j)))
      else -Ideal.exp (X1 (ix3 0 0 j)) * soft (X0 (ix2 b j) + X1 (ix3 0 1 j)) := by
  pointwise [k0_pay1, soft]
  have hc : IntOp.cmpi CmpIPredicate.slt (BitVec.ofNat 32 j.val) 8#32 = BitVec.ofBool (decide (j.val < 8)) :=
    (by decide +kernel : ∀ j : Fin 128, IntOp.cmpi CmpIPredicate.slt (BitVec.ofNat 32 j.val) 8#32 = BitVec.ofBool (decide (j.val < 8))) j
  rw [hc]
  simp only [zero_sub]
  by_cases hj : j.val < 8
  · rw [if_pos hj, decide_eq_true hj]; rfl
  · rw [if_neg hj, decide_eq_false hj]; rfl

/-- The one block the kernel computes is the reference's result. -/
theorem point (c : Dev nD) (t : Fin cfg0.N) (y : S32x128.Idx) : k0_pay1 (iblk m c 0 t) (iblk m c 1 t) y
    = REF (m ((c : Thread nD τ).loc main_arg0)) (m ((c : Thread nD τ).loc main_arg1)) (m ((c : Thread nD τ).loc main_arg2)) (((cfg0.win 2).blk t).view.emb y) := by
  obtain ⟨b, j, rfl⟩ : ∃ (b : Fin 32) (j : Fin 128), y = ix2 b j := ⟨y 0, y 1, by funext a; fin_cases a <;> rfl⟩
  have e : ((cfg0.win 2).blk t).view.emb (ix2 b j) = (ix2 b j : S32x128.Idx) := by blk_ext [idx t]
  rw [e, pay_at, ref_at, read_x, read_p, read_p, V_par, (par_at _ _ _).1, (par_at _ _ _).2]
  by_cases h : j.val < 8
  · rw [if_pos h, if_pos h]
  · rw [if_neg h, if_neg h, dif_neg h, dif_neg h]

theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

theorem algebraic : Cert.algebraic_GatesSampleIdeal_GatesSampleRefIdeal := by
  pair_intro
  · run_from Cert.GatesSampleIdeal.Gen.run_main m g
  · run_from Cert.GatesSampleRefIdeal.Value.run m' g'
    obtain ⟨h0, h1, h2⟩ := hagree c
    unfold Cert.GatesSampleRefIdeal.Value.res_main_v26
    rw [h0, h1, h2]
    exact (final m c).symm

end Cert.GatesSampleIdeal.Hand

end
-- ==== Proof.GatesPrompt.lean ====
/-
  The gates of the delta rule for the prompt: beta, a sigmoid, in the first eight lanes, in the others the log decay
  summed within chunks of 128 rows; and of the first sixteen lanes the summed log decay again, chunk by chunk with the
  lanes leading. The kernel sums by a product with the mask of the earlier rows of the same chunk.
-/
module

public import proofs.«01_k».proof.Proof.Gen.GatesPromptIdeal.Frame
public import proofs.«01_k».proof.Proof.Gen.GatesPromptRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.GatesPromptRefIdeal.Hand
open Idealize.ShloMosaic Cert.GatesPromptRefIdeal Cert.GatesPromptRefIdeal.Gen

/-- A row of parameters, zero outside the lanes of the decay. -/
abbrev P128 (a : FVec Ideal S2x8 .f32) : FVec Ideal S128 .f32 := concatenate S128 0 [⟨S8, ((broadcastInDim S8 ![] bcast_S_S8 (constant S_ .f32 0x00000000#32)))⟩, ⟨S8, ((shapeCast _ (extractStridedSlice S1x8 ![0, 0] a slices_S2x8_S1x8_0_0) shapeCasts_S1x8_S8))⟩, ⟨S112, ((broadcastInDim S112 ![] bcast_S_S112 (constant S_ .f32 0x00000000#32)))⟩] concatenates_S8_S8_S112_S128_d0

abbrev YREF (a0 : FVec Ideal S8320x14592 .f32) (a2 : FVec Ideal S2x8 .f32) : FVec Ideal S8192x128 .f32 := addf (extractStridedSlice S8192x128 ![0, 14336] a0 slices_S8320x14592_S8192x128_0_14336) (broadcastInDim S8192x128 ![0, 1] bcast_S1x128_S8192x128_0_1 (broadcastInDim S1x128 ![1] bcast_S128_S1x128_1 (P128 a2)))

/-- The log decay. -/
abbrev GREF (a0 : FVec Ideal S8320x14592 .f32) (a1 a2 : FVec Ideal S2x8 .f32) : FVec Ideal S8192x128 .f32 := mulf (broadcastInDim S8192x128 ![0, 1] bcast_S1x128_S8192x128_0_1 (broadcastInDim S1x128 ![1] bcast_S128_S1x128_1 (Host.negf (Host.exp (P128 a1))))) (select (cmpf .une (subf (YREF a0 a2) (broadcastInDim S8192x128 ![] bcast_S_S8192x128 (constant S_ .f32 0x00000000#32))) (subf (YREF a0 a2) (broadcastInDim S8192x128 ![] bcast_S_S8192x128 (constant S_ .f32 0x00000000#32)))) (addf (YREF a0 a2) (broadcastInDim S8192x128 ![] bcast_S_S8192x128 (constant S_ .f32 0x00000000#32))) (addf (maximumf (YREF a0 a2) (broadcastInDim S8192x128 ![] bcast_S_S8192x128 (constant S_ .f32 0x00000000#32))) (Host.log1p (Host.exp (Host.negf (Host.absf (subf (YREF a0 a2) (broadcastInDim S8192x128 ![] bcast_S_S8192x128 (constant S_ .f32 0x00000000#32)))))))))

abbrev CREF (a0 : FVec Ideal S8320x14592 .f32) (a1 a2 : FVec Ideal S2x8 .f32) : FVec Ideal S64x128x128 .f32 := Host.reduceWindowAdd ![1, 128, 1] ![1, 1, 1] ![0, 127, 0] ![0, 0, 0] (shapeCast _ (GREF a0 a1 a2) shapeCasts_S8192x128_S64x128x128) (broadcastInDim S_ ![] bcast_S_S_ (constant S_ .f32 0x00000000#32)) reduceWindows_S64x128x128_S64x128x128_w1s1p0_0_w128s1p127_0_w1s1p0_0 h_S_

/-- What the reference returns, of its arguments and of the summed decay. -/
abbrev REF0 (a0 : FVec Ideal S8320x14592 .f32) (C : FVec Ideal S64x128x128 .f32) : FVec Ideal S8192x128 .f32 := concatenate S8192x128 1 [⟨S8192x8, (Host.divf (broadcastInDim S8192x8 ![] bcast_S_S8192x8 (constant S_ .f32 0x3F800000#32)) (addf (broadcastInDim S8192x8 ![] bcast_S_S8192x8 (constant S_ .f32 0x3F800000#32)) (Host.exp (Host.negf (extractStridedSlice S8192x8 ![0, 0] (extractStridedSlice S8192x128 ![0, 14336] a0 slices_S8320x14592_S8192x128_0_14336) slices_S8192x128_S8192x8_0_0)))))⟩, ⟨S8192x120, (extractStridedSlice S8192x120 ![0, 8] (shapeCast _ (C) shapeCasts_S64x128x128_S8192x128) slices_S8192x128_S8192x120_0_8)⟩] concatenates_S8192x8_S8192x120_S8192x128_d1

abbrev REF1 (C : FVec Ideal S64x128x128 .f32) : FVec Ideal S1024x128 .f32 := shapeCast _ (transpose S64x16x128 [0, 2, 1] (extractStridedSlice S64x128x16 ![0, 0, 0] (C) slices_S64x128x128_S64x128x16_0_0_0) transposes_S64x128x16_S64x16x128_0_2_1) shapeCasts_S64x16x128_S1024x128

/-- A parameter of a lane. -/
def parOf (a : FVec Ideal S2x8 .f32) (j : ℕ) : EReal := if h : j < 8 then 0 else if h : j - 8 < 8 then a (ix2 0 ⟨j - 8, h⟩) else 0

/-- The reference's softplus. -/
def soft (z : EReal) : EReal := max z 0 + Ideal.log1p (Ideal.exp (-max z (-z)))

/-- The log decay of a row and lane, -/
def dec (a0 : FVec Ideal S8320x14592 .f32) (a1 a2 : FVec Ideal S2x8 .f32) (r : Fin 8192) (j : Fin 128) : EReal :=
  -Ideal.exp (parOf a1 j.val) * soft (a0 (ix2 ⟨r.val, by omega⟩ ⟨14336 + j.val, by omega⟩) + parOf a2 j.val)

/-- and its sum over a chunk's rows up to one of them. -/
def decSum (a0 : FVec Ideal S8320x14592 .f32) (a1 a2 : FVec Ideal S2x8 .f32) (n : Fin 64) (r j : Fin 128) : EReal :=
  ∑ k : Fin 128, if k.val ≤ r.val then dec a0 a1 a2 ⟨n.val * 128 + k.val, by omega⟩ j else 0

theorem g_at (a0 : FVec Ideal S8320x14592 .f32) (a1 a2 : FVec Ideal S2x8 .f32) (r : Fin 8192) (j : Fin 128) :
    GREF a0 a1 a2 (ix2 r j) = dec a0 a1 a2 r j := by
  have hj := j.isLt
  pointwise [GREF, YREF, P128, dec, parOf, soft]
  simp only [ne_eq, not_true_eq_false, if_false]
  rfl

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

abbrev W3 : Shape := ⟨3, ![1, 128, 1]⟩

/-- The place of a window's row. -/
theorem w3_ext (i : W3.Idx) : i = (ix3 0 (i 1) 0 : (⟨3, ![1, 128, 1]⟩ : Shape).Idx) := by
  funext a
  fin_cases a
  · exact Fin.ext (by have : (i 0).val < 1 := (i 0).isLt; show (i 0).val = 0; omega)
  · rfl
  · exact Fin.ext (by have : (i 2).val < 1 := (i 2).isLt; show (i 2).val = 0; omega)

def w3_equiv : W3.Idx ≃ Fin 128 where
  toFun i := i 1
  invFun k := (ix3 0 k 0 : (⟨3, ![1, 128, 1]⟩ : Shape).Idx)
  left_inv i := (w3_ext i).symm
  right_inv _ := rfl

/-- The sum over a window that ends at row `r`. -/
theorem window_sum (g : Fin 128 → EReal) (r : Fin 128) :
    (∑ w : Fin 128, if h : 127 ≤ r.val + w.val then g ⟨r.val + w.val - 127, by omega⟩ else 0) = ∑ k : Fin 128, if k.val ≤ r.val then g k else 0 := by
  rw [← Finset.sum_filter]
  symm
  refine Finset.sum_of_injOn (fun k : Fin 128 => ⟨(127 + k.val - r.val) % 128, Nat.mod_lt _ (by decide)⟩) ?_ ?_ ?_ ?_
  · intro a ha b hb h
    have ha : a.val ≤ r.val := (Finset.mem_filter.1 ha).2
    have hb : b.val ≤ r.val := (Finset.mem_filter.1 hb).2
    have := congrArg Fin.val h
    dsimp only at this
    exact Fin.ext (by omega)
  · intro _ _; exact Finset.mem_coe.2 (Finset.mem_univ _)
  · intro w _ hw
    refine dif_neg fun h => hw ⟨⟨r.val + w.val - 127, by omega⟩, Finset.mem_coe.2 (Finset.mem_filter.2 ⟨Finset.mem_univ _, ?_⟩), Fin.ext ?_⟩
    · dsimp only; omega
    · dsimp only; omega
  · intro k hk
    have hk : k.val ≤ r.val := (Finset.mem_filter.1 hk).2
    dsimp only
    rw [dif_pos (by omega)]
    exact congrArg g (Fin.ext (by dsimp only; omega))

/-- The running sum along the middle axis. -/
theorem cum_at (x : FVec Ideal S64x128x128 .f32) (v : FVec Ideal S_ .f32) (hv : ∀ i, v i = 0) (n : Fin 64) (r j : Fin 128) :
    Host.reduceWindowAdd ![1, 128, 1] ![1, 1, 1] ![0, 127, 0] ![0, 0, 0] x v
      reduceWindows_S64x128x128_S64x128x128_w1s1p0_0_w128s1p127_0_w1s1p0_0 h_S_ (ix3 n r j)
      = ∑ k : Fin 128, if k.val ≤ r.val then x (ix3 n k j) else 0 := by
  unfold Host.reduceWindowAdd
  rw [Ideal.hostReduceWindowAdd_def]
  unfold Ideal.hostReduceWindowAdd Host.reduceWindow
  dsimp only
  rw [foldl_add, hv, zero_add, ← Fin.sum_univ_def]
  rw [← window_sum (fun k => x (ix3 n k j)) r]
  refine Fintype.sum_equiv (W3.rowMajor.symm.trans w3_equiv) _ _ fun i => ?_
  show _ = if h : 127 ≤ r.val + (W3.rowMajor.symm i 1).val then x (ix3 n ⟨r.val + (W3.rowMajor.symm i 1).val - 127, _⟩ j) else 0
  have w0 : (W3.rowMajor.symm i 0).val < 1 := (W3.rowMajor.symm i 0).isLt
  have w1 : (W3.rowMajor.symm i 1).val < 128 := (W3.rowMajor.symm i 1).isLt
  have w2 : (W3.rowMajor.symm i 2).val < 1 := (W3.rowMajor.symm i 2).isLt
  have hn := n.isLt
  have hr := r.isLt
  have hj := j.isLt
  by_cases h : 127 ≤ r.val + (W3.rowMajor.symm i 1).val
  · rw [dif_pos h]
    have hin : ∀ a : Fin 3, (![0, 127, 0] : Fin 3 → ℕ) a ≤ ((ix3 n r j : S64x128x128.Idx) a).val * (![1, 1, 1] : Fin 3 → ℕ) a + (W3.rowMajor.symm i a).val
        ∧ ((ix3 n r j : S64x128x128.Idx) a).val * (![1, 1, 1] : Fin 3 → ℕ) a + (W3.rowMajor.symm i a).val - (![0, 127, 0] : Fin 3 → ℕ) a < S64x128x128.size a := by
      intro a
      fin_cases a
      · show 0 ≤ n.val * 1 + (W3.rowMajor.symm i 0).val ∧ n.val * 1 + (W3.rowMajor.symm i 0).val - 0 < 64
        omega
      · show 127 ≤ r.val * 1 + (W3.rowMajor.symm i 1).val ∧ r.val * 1 + (W3.rowMajor.symm i 1).val - 127 < 128
        omega
      · show 0 ≤ j.val * 1 + (W3.rowMajor.symm i 2).val ∧ j.val * 1 + (W3.rowMajor.symm i 2).val - 0 < 128
        omega
    refine (dif_pos hin).trans (congrArg x (funext fun a => Fin.ext ?_))
    fin_cases a
    · show n.val * 1 + (W3.rowMajor.symm i 0).val - 0 = n.val
      omega
    · show r.val * 1 + (W3.rowMajor.symm i 1).val - 127 = r.val + (W3.rowMajor.symm i 1).val - 127
      omega
    · show j.val * 1 + (W3.rowMajor.symm i 2).val - 0 = j.val
      omega
  · rw [dif_neg h]
    refine dif_neg fun hin => h ?_
    have h1 : 127 ≤ r.val * 1 + (W3.rowMajor.symm i 1).val := (hin (1 : Fin 3)).1
    omega

theorem ref0_at (a0 : FVec Ideal S8320x14592 .f32) (C : FVec Ideal S64x128x128 .f32) (r : Fin 8192) (j : Fin 128) :
    REF0 a0 C (ix2 r j) = if j.val < 8 then Ideal.div 1 (1 + Ideal.exp (-a0 (ix2 ⟨r.val, by omega⟩ ⟨14336 + j.val, by omega⟩)))
      else C (ix3 ⟨r.val / 128, by omega⟩ ⟨r.val % 128, by omega⟩ j) := by
  pointwise [REF0]
  by_cases h : j.val < 8
  · rw [dif_pos h, if_pos h]
  · rw [dif_neg h, if_neg h]
    exact congrArg (fun k => C (ix3 _ _ k)) (Fin.ext (show 8 + (j.val - 8) = j.val by omega))

theorem ref1_at (C : FVec Ideal S64x128x128 .f32) (p : Fin 1024) (r : Fin 128) :
    REF1 C (ix2 p r) = C (ix3 ⟨p.val / 16, by omega⟩ r ⟨p.val % 16, by omega⟩) := by
  pointwise [REF1]

theorem cref_at (a0 : FVec Ideal S8320x14592 .f32) (a1 a2 : FVec Ideal S2x8 .f32) (n : Fin 64) (r j : Fin 128) :
    CREF a0 a1 a2 (ix3 n r j) = decSum a0 a1 a2 n r j := by
  rw [CREF, cum_at _ _ (fun i => by pointwise [])]
  unfold decSum
  refine Finset.sum_congr rfl fun k _ => ?_
  rw [← g_at]
  generalize GREF a0 a1 a2 = G
  pointwise []

end Cert.GatesPromptRefIdeal.Hand

namespace Cert.GatesPromptIdeal.Hand
open Idealize.ShloMosaic Idealize.ShloMosaic.TcCoe Idealize.SL.Sem
open Idealize.ShloMosaic.Pipeline (Dat)
open Cert.GatesPromptIdeal Cert.GatesPromptIdeal.Gen
open Cert.GatesPromptRefIdeal.Hand

variable (m : (ℓ : Loc nD τ sig) → Buf (Elt Ideal) ℓ)

theorem idx : ∀ t : Fin cfg0.N, win0_0.index t = ![t.val, 112] ∧ win0_1.index t = ![0, 0, 0] ∧ win0_2.index t = ![t.val, 0] ∧ win0_3.index t = ![t.val, 0] :=
  (by decide +kernel : ∀ t : Fin grid0.N, _)

/-- A row of parameters with the lanes of beta and the padding at zero. -/
abbrev LANES (a : FVec Ideal S2x8 .f32) : FVec Ideal S2x128 .f32 :=
  concatenate S2x128 1 [⟨S2x8, broadcastInDim S2x8 ![] bcast_S_S2x8 (constant S_ .f32 0x00000000#32)⟩, ⟨S2x8, a⟩,
    ⟨S2x112, broadcastInDim S2x112 ![] bcast_S_S2x112 (constant S_ .f32 0x00000000#32)⟩] concatenates_S2x8_S2x8_S2x112_S2x128_d1

abbrev ZROW : FVec Ideal S2x1x128 .f32 :=
  broadcastInDim S2x1x128 ![0, 2] bcast_S2x128_S2x1x128_0_2 (broadcastInDim S2x128 ![] bcast_S_S2x128 (constant S_ .f32 0x00000000#32))

/-- The packed parameters. -/
abbrev PAR (a1 a2 : FVec Ideal S2x8 .f32) : FVec Ideal S2x8x128 .f32 :=
  concatenate S2x8x128 1 [⟨S2x1x128, broadcastInDim S2x1x128 ![0, 2] bcast_S2x128_S2x1x128_0_2 (LANES a1)⟩,
    ⟨S2x1x128, broadcastInDim S2x1x128 ![0, 2] bcast_S2x128_S2x1x128_0_2 (LANES a2)⟩, ⟨S2x1x128, ZROW⟩, ⟨S2x1x128, ZROW⟩,
    ⟨S2x1x128, ZROW⟩, ⟨S2x1x128, ZROW⟩, ⟨S2x1x128, ZROW⟩, ⟨S2x1x128, ZROW⟩]
    concatenates_S2x1x128_S2x1x128_S2x1x128_S2x1x128_S2x1x128_S2x1x128_S2x1x128_S2x1x128_S2x8x128_d1

theorem V_par (c : Dev nD) : V m c main_v14 = PAR (m ((c : Thread nD τ).loc main_arg1)) (m ((c : Thread nD τ).loc main_arg2)) := by
  show StableHlo.after hostOps0 (fun b => m (c, b)) (Proc.devRef .tc main_v14) = _
  after_reads_simp
  rfl

theorem par_at (a1 a2 : FVec Ideal S2x8 .f32) (j : Fin 128) :
    PAR a1 a2 (ix3 0 0 j) = parOf a1 j.val ∧ PAR a1 a2 (ix3 0 1 j) = parOf a2 j.val := by
  constructor
  · pointwise [PAR, LANES, ZROW, parOf]
  · pointwise [PAR, LANES, ZROW, parOf]

theorem read_x (c : Dev nD) (t : Fin cfg0.N) (b : Fin 512) (j : Fin 128) :
    (X0_0 m c t : FVec Ideal S512x128 .f32) (ix2 b j) = (m ((c : Thread nD τ).loc main_arg0) : FVec Ideal S8320x14592 .f32)
      (ix2 ⟨t.val * 512 + b.val, by have : t.val < 16 := t.isLt; omega⟩ ⟨14336 + j.val, by omega⟩) := by
  unfold X0_0
  unfold Pipeline.Window.fill
  rw [dif_pos (moved0_0 t _)]
  blk_ext [iblk, V, idx t]

theorem read_p (c : Dev nD) (t : Fin cfg0.N) (r : Fin 8) (j : Fin 128) :
    (iblk m c 1 t : FVec Ideal S1x8x128 .f32) (ix3 0 r j) = (V m c main_v14 : FVec Ideal S2x8x128 .f32) (ix3 0 r j) := by
  blk_ext [iblk, idx t]

theorem toInt_lane : ∀ a : Fin 512, (BitVec.ofNat 32 a.val).toInt = (a.val : ℤ) := by decide +kernel

theorem chunk_lane : ∀ a : Fin 512, (BitVec.ofNat 32 a.val &&& 4294967168#32).toNat = a.val / 128 * 128 := by decide +kernel

theorem andi_bool (a b : Bool) : IntOp.andi (BitVec.ofBool a) (BitVec.ofBool b) = BitVec.ofBool (a && b) := by
  cases a <;> cases b <;> rfl

/-- The mask: the rows of the chunk up to this one. -/
theorem mask_at (a b : Fin 512) : IntOp.andi (IntOp.cmpi .sge (BitVec.ofNat 32 a.val) (BitVec.ofNat 32 b.val))
    (IntOp.cmpi .eq (IntOp.andi (BitVec.ofNat 32 a.val) 4294967168#32) (IntOp.andi (BitVec.ofNat 32 b.val) 4294967168#32))
    = BitVec.ofBool (decide (b.val ≤ a.val ∧ a.val / 128 = b.val / 128)) := by
  have h1 : IntOp.cmpi .sge (BitVec.ofNat 32 a.val) (BitVec.ofNat 32 b.val) = BitVec.ofBool (decide (b.val ≤ a.val)) := by
    show BitVec.ofBool (BitVec.sle (BitVec.ofNat 32 b.val) (BitVec.ofNat 32 a.val)) = _
    rw [BitVec.sle, toInt_lane, toInt_lane]
    simp only [Nat.cast_le]
  have h2 : IntOp.cmpi .eq (IntOp.andi (BitVec.ofNat 32 a.val) 4294967168#32) (IntOp.andi (BitVec.ofNat 32 b.val) 4294967168#32)
      = BitVec.ofBool (decide (a.val / 128 = b.val / 128)) := by
    show BitVec.ofBool (BitVec.ofNat 32 a.val &&& 4294967168#32 == BitVec.ofNat 32 b.val &&& 4294967168#32) = _
    refine congrArg BitVec.ofBool (Bool.eq_iff_iff.2 ?_)
    rw [beq_iff_eq, decide_eq_true_iff, ← BitVec.toNat_inj, chunk_lane, chunk_lane]
    omega
  rw [h1, h2, andi_bool, Bool.decide_and]

/-- The sum over the masked rows. -/
theorem chunk_sum (g : Fin 512 → EReal) (r : Fin 512) :
    (∑ x : Fin 512, if x.val ≤ r.val ∧ r.val / 128 = x.val / 128 then g x else 0)
      = ∑ k : Fin 128, if k.val ≤ r.val % 128 then g ⟨r.val / 128 * 128 + k.val, by omega⟩ else 0 := by
  symm
  refine Finset.sum_of_injOn (fun k : Fin 128 => (⟨r.val / 128 * 128 + k.val, by omega⟩ : Fin 512)) ?_ ?_ ?_ ?_
  · intro a _ b _ h
    have := congrArg Fin.val h
    dsimp only at this
    exact Fin.ext (by omega)
  · intro _ _; exact Finset.mem_coe.2 (Finset.mem_univ _)
  · intro w _ hw
    refine if_neg fun h => hw ⟨⟨w.val % 128, Nat.mod_lt _ (by decide)⟩, Finset.mem_coe.2 (Finset.mem_univ _), Fin.ext ?_⟩
    dsimp only
    omega
  · intro k _
    dsimp only
    by_cases h : k.val ≤ r.val % 128
    · rw [if_pos h, if_pos (by omega)]
    · rw [if_neg h, if_neg (by omega)]

/-- The kernel's log decay of a row and lane of its block. -/
def kdec (X0 : Vec Ideal S512x128 .f32) (X1 : Vec Ideal S1x8x128 .f32) (r : Fin 512) (j : Fin 128) : EReal :=
  -Ideal.exp (X1 (ix3 0 0 j)) * soft (X0 (ix2 r j) + X1 (ix3 0 1 j))

theorem sum_at (X0 : Vec Ideal S512x128 .f32) (X1 : Vec Ideal S1x8x128 .f32) (r : Fin 512) (j : Fin 128) :
    k0_pay4 X0 X1 (ix2 r j) = ∑ k : Fin 128, if k.val ≤ r.val % 128 then kdec X0 X1 ⟨r.val / 128 * 128 + k.val, by omega⟩ j else 0 := by
  rw [← chunk_sum (fun k => kdec X0 X1 k j)]
  pointwise [k0_pay4, kdec, soft]
  refine Finset.sum_congr rfl fun k _ => ?_
  rw [mask_at]
  simp only [zero_sub]
  by_cases h : k.val ≤ r.val ∧ r.val / 128 = k.val / 128
  · rw [if_pos h, decide_eq_true h]; rfl
  · rw [if_neg h, decide_eq_false h]; rfl

theorem beta_at (X0 : Vec Ideal S512x128 .f32) (Y : FVec Ideal S512x128 .f32) (b : Fin 512) (j : Fin 128) :
    k0_pay3 X0 Y (ix2 b j) = if j.val < 8 then Ideal.div 1 (1 + Ideal.exp (-X0 (ix2 b j))) else Y (ix2 b j) := by
  pointwise [k0_pay3]
  have hc : IntOp.cmpi CmpIPredicate.slt (BitVec.ofNat 32 j.val) 8#32 = BitVec.ofBool (decide (j.val < 8)) :=
    (by decide +kernel : ∀ j : Fin 128, IntOp.cmpi CmpIPredicate.slt (BitVec.ofNat 32 j.val) 8#32 = BitVec.ofBool (decide (j.val < 8))) j
  rw [hc]
  simp only [zero_sub]
  by_cases hj : j.val < 8
  · rw [if_pos hj, decide_eq_true hj]; rfl
  · rw [if_neg hj, decide_eq_false hj]; rfl

theorem kdec_at (c : Dev nD) (t : Fin cfg0.N) (r : Fin 512) (j : Fin 128) : kdec (X0_0 m c t) (iblk m c 1 t) r j
    = dec (m ((c : Thread nD τ).loc main_arg0)) (m ((c : Thread nD τ).loc main_arg1)) (m ((c : Thread nD τ).loc main_arg2))
      ⟨t.val * 512 + r.val, by have : t.val < 16 := t.isLt; omega⟩ j := by
  unfold kdec dec
  rw [read_x, read_p, read_p, V_par, (par_at _ _ _).1, (par_at _ _ _).2]

/-- The summed decay of a row of the block is the reference's of the row of the array. -/
theorem sum_point (c : Dev nD) (t : Fin cfg0.N) (r : Fin 512) (j : Fin 128) (n : Fin 64) (r' : Fin 128) (h : t.val * 512 + r.val = n.val * 128 + r'.val) :
    k0_pay4 (X0_0 m c t) (iblk m c 1 t) (ix2 r j)
      = CREF (m ((c : Thread nD τ).loc main_arg0)) (m ((c : Thread nD τ).loc main_arg1)) (m ((c : Thread nD τ).loc main_arg2)) (ix3 n r' j) := by
  rw [sum_at, cref_at]
  unfold decSum
  refine Finset.sum_congr rfl fun k _ => ?_
  rw [kdec_at]
  have e : r.val % 128 = r'.val := by omega
  rw [e]
  refine if_congr Iff.rfl (congrArg (fun r => dec _ _ _ r j) (Fin.ext ?_)) rfl
  dsimp only
  omega

theorem point2 (c : Dev nD) (t : Fin cfg0.N) (y : S512x128.Idx) : k0_pay3 (X0_0 m c t) (k0_pay4 (X0_0 m c t) (iblk m c 1 t)) y
    = REF0 (m ((c : Thread nD τ).loc main_arg0)) (CREF (m ((c : Thread nD τ).loc main_arg0)) (m ((c : Thread nD τ).loc main_arg1)) (m ((c : Thread nD τ).loc main_arg2)))
      (((cfg0.win 2).blk t).view.emb y) := by
  have ht : t.val < 16 := t.isLt
  obtain ⟨b, j, rfl⟩ : ∃ (b : Fin 512) (j : Fin 128), y = ix2 b j := ⟨y 0, y 1, by funext a; fin_cases a <;> rfl⟩
  have e : ((cfg0.win 2).blk t).view.emb (ix2 b j) = (ix2 ⟨t.val * 512 + b.val, by omega⟩ j : S8192x128.Idx) := by blk_ext [idx t]
  rw [e, beta_at, ref0_at, read_x, ← sum_point m c t b j _ _ (by dsimp only; omega)]

theorem final2 (c : Dev nD) : (dats m 0 c).arrAt 2 (cfgs 0).N
    = REF0 (m ((c : Thread nD τ).loc main_arg0)) (CREF (m ((c : Thread nD τ).loc main_arg0)) (m ((c : Thread nD τ).loc main_arg1)) (m ((c : Thread nD τ).loc main_arg2))) := by
  refine (dats m 0 c).arrAt_eq_of_covers 2 _ (by decide +kernel) fun t _ y => ?_
  blk_simp
  rw [after0_2]
  unfold outsAt0
  frame_out
  exact point2 m c t y

/-- The chunks' transposed lanes. -/
theorem tile_at (x0 : Vec Ideal S512x128 .f32) (x1 : Vec Ideal S1x8x128 .f32) (l : Fin 16) (k : Fin 128) :
    k0_pay6 x0 x1 (ix2 l k) = k0_pay4 x0 x1 (ix2 ⟨k.val, by omega⟩ ⟨l.val, by omega⟩)
    ∧ k0_pay7 x0 x1 (ix2 l k) = k0_pay4 x0 x1 (ix2 ⟨128 + k.val, by omega⟩ ⟨l.val, by omega⟩)
    ∧ k0_pay1 (k0_pay5 x0 x1) (ix2 l k) = k0_pay4 x0 x1 (ix2 ⟨256 + k.val, by omega⟩ ⟨l.val, by omega⟩)
    ∧ k0_pay2 (k0_pay5 x0 x1) (ix2 l k) = k0_pay4 x0 x1 (ix2 ⟨384 + k.val, by omega⟩ ⟨l.val, by omega⟩) := by
  refine ⟨?_, ?_, ?_, ?_⟩ <;> pointwise [k0_pay6, k0_pay7, k0_pay1, k0_pay2, k0_pay5]

theorem out3_at (c : Dev nD) (i : grid0.Coords) (arg1 : Memref sig .tc .vmem S512x128 .f32) (harg1 : arg1.IsWhole) (arg2 : Memref sig .tc .vmem S1x8x128 .f32) (harg2 : arg2.IsWhole) (arg3 : Memref sig .tc .vmem S512x128 .f32) (harg3 : arg3.IsWhole) (arg4 : Memref sig .tc .vmem S64x128 .f32) (harg4 : arg4.IsWhole)
    (x0 : Vec Ideal S512x128 .f32) (x1 : Vec Ideal S1x8x128 .f32) (p : Fin 64) (r : Fin 128) :
    out0_A_3 (F := Ideal) c i arg1 harg1 arg2 harg2 arg3 harg3 arg4 harg4 x0 x1 (ix2 p r)
      = k0_pay4 x0 x1 (ix2 ⟨p.val / 16 * 128 + r.val, by omega⟩ ⟨p.val % 16, by omega⟩) := by
  frame_out
  canon_tiles x e
  all_goals
    obtain ⟨l, k, rfl⟩ : ∃ (l : Fin 16) (k : Fin 128), x = ix2 l k := ⟨x 0, x 1, by funext a; fin_cases a <;> rfl⟩
    obtain ⟨n1, n2, n3, n4⟩ := tile_at x0 x1 l k
    obtain rfl : r = k := Fin.ext e1
    simp only [n1, n2, n3, n4]
    refine congrArg₂ (fun a b => k0_pay4 x0 x1 (ix2 a b)) (Fin.ext ?_) (Fin.ext ?_)
    all_goals
      dsimp only
      first | (change p.val = _ + l.val at e0; omega) | (change p.val = l.val at e0; omega)

theorem final3 (c : Dev nD) : (dats m 0 c).arrAt 3 (cfgs 0).N
    = REF1 (CREF (m ((c : Thread nD τ).loc main_arg0)) (m ((c : Thread nD τ).loc main_arg1)) (m ((c : Thread nD τ).loc main_arg2))) := by
  refine (dats m 0 c).arrAt_eq_of_covers 3 _ (by decide +kernel) fun t _ y => ?_
  blk_simp
  rw [after0_3]
  unfold outsAt0
  dsimp only
  have ht : t.val < 16 := t.isLt
  obtain ⟨p, r, rfl⟩ : ∃ (p : Fin 64) (r : Fin 128), y = ix2 p r := ⟨y 0, y 1, by funext a; fin_cases a <;> rfl⟩
  have e : ((cfg0.win 3).blk t).view.emb (ix2 p r) = (ix2 ⟨t.val * 64 + p.val, by omega⟩ r : S1024x128.Idx) := by blk_ext [idx t]
  refine (out3_at c _ _ _ _ _ _ _ _ _ _ _ p r).trans ?_
  refine Eq.trans ?_ (congrArg (REF1 _) e).symm
  rw [ref1_at, sum_point m c t _ _ ⟨(t.val * 64 + p.val) / 16, by omega⟩ r (by dsimp only; omega)]
  exact congrArg (fun j => CREF _ _ _ (ix3 _ r j)) (Fin.ext (by dsimp only; omega))

theorem algebraic : Cert.algebraic_GatesPromptIdeal_GatesPromptRefIdeal := by
  pair_intro
  · run_from Cert.GatesPromptIdeal.Gen.run_main m g
  · run_from Cert.GatesPromptRefIdeal.Value.run m' g'
    all_goals obtain ⟨h0, h1, h2⟩ := hagree c
    · unfold Cert.GatesPromptRefIdeal.Value.res_main_v31
      rw [h0, h1, h2]
      exact (final2 m c).symm
    · unfold Cert.GatesPromptRefIdeal.Value.res_main_v34
      rw [h0, h1, h2]
      exact (final3 m c).symm

end Cert.GatesPromptIdeal.Hand

end
-- ==== Proof.Pack.lean ====
/-
  The packing of the input projection's weights: the rows of the transposed weights are taken tile by tile, the sixteen
  columns of the decay and beta logits moved behind the gates, zeros after them, and the tiles transposed back.
-/
module

public import proofs.«01_k».proof.Proof.Gen.PackIdeal.Frame
public import proofs.«01_k».proof.Proof.Gen.PackRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.PackRefIdeal.Hand
open Idealize.ShloMosaic Cert.PackRefIdeal Cert.PackRefIdeal.Gen

/-- What the reference returns, of its argument. -/
abbrev REF (a : FVec Ideal S2x2048x14352 .f32) : FVec Ideal S2x2048x14592 .bf16 :=
  truncf .bf16 (concatenate S2x2048x14592 2 [⟨S2x2048x8192, extractStridedSlice S2x2048x8192 ![0, 0, 0] a slices_S2x2048x14352_S2x2048x8192_0_0_0⟩,
    ⟨S2x2048x6144, extractStridedSlice S2x2048x6144 ![0, 0, 8208] a slices_S2x2048x14352_S2x2048x6144_0_0_8208⟩,
    ⟨S2x2048x16, extractStridedSlice S2x2048x16 ![0, 0, 8192] a slices_S2x2048x14352_S2x2048x16_0_0_8192⟩,
    ⟨S2x2048x240, broadcastInDim S2x2048x240 ![] bcast_S_S2x2048x240 (constant S_ .f32 0x00000000#32)⟩]
    concatenates_S2x2048x8192_S2x2048x6144_S2x2048x16_S2x2048x240_S2x2048x14592_d2) bitsLt_bf16_f32

/-- Where a packed column comes from. -/
def packed (a : FVec Ideal S2x2048x14352 .f32) (d : Fin 2) (k : Fin 2048) (q : ℕ) : EReal :=
  if h : q < 8192 then a (ix3 d k ⟨q, by omega⟩) else if h : q < 14336 then a (ix3 d k ⟨q + 16, by omega⟩)
  else if h : q < 14352 then a (ix3 d k ⟨q - 6144, by omega⟩) else 0

theorem ref_at (a : FVec Ideal S2x2048x14352 .f32) (d : Fin 2) (k : Fin 2048) (q : Fin 14592) : REF a (ix3 d k q) = packed a d k q.val := by
  pointwise [REF, packed]
  by_cases h1 : q.val < 8192
  · rw [dif_pos h1, dif_pos h1]
  rw [dif_neg h1, dif_neg h1]
  by_cases h2 : q.val < 14336
  · rw [dif_pos (by omega), dif_pos h2]
    exact congrArg (fun r => a (ix3 d k r)) (Fin.ext (show 8208 + (q.val - 8192) = q.val + 16 by omega))
  rw [dif_neg (by omega), dif_neg h2]
  by_cases h3 : q.val < 14352
  · rw [dif_pos (by omega), dif_pos h3]
    exact congrArg (fun r => a (ix3 d k r)) (Fin.ext (show 8192 + (q.val - 8192 - 6144) = q.val - 6144 by omega))
  rw [dif_neg (by omega), dif_neg h3]

end Cert.PackRefIdeal.Hand

namespace Cert.PackIdeal.Hand
open Idealize.ShloMosaic Idealize.ShloMosaic.TcCoe Idealize.SL.Sem
open Idealize.ShloMosaic.Pipeline (Dat)
open Cert.PackIdeal Cert.PackIdeal.Gen
open Cert.PackRefIdeal.Hand

variable (m : (ℓ : Loc nD τ sig) → Buf (Elt Ideal) ℓ)

theorem idx : ∀ t : Fin cfg0.N, win0_0.index t = ![t.val / 29, if t.val % 29 = 28 then 16 else t.val % 29, 0]
    ∧ win0_1.index t = ![t.val / 29, if 16 ≤ t.val % 29 ∧ t.val % 29 < 28 then (t.val % 29 + 1) * 32 else 0, 0]
    ∧ win0_2.index t = ![t.val / 29, 0, t.val % 29] :=
  (by decide +kernel : ∀ t : Fin grid0.N, _)

theorem coord : ∀ t : Fin cfg0.N, ((grid0.coords t) 1).val = t.val % 29 :=
  (by decide +kernel : ∀ t : Fin grid0.N, _)

/-- A row of the transposed tile. -/
def tile (n : ℕ) (x : FVec Ideal S1x512x2048 .f32) (y : FVec Ideal S1x16x2048 .f32) (k : Fin 2048) (j : Fin 512) : EReal :=
  if n < 16 then x (ix3 0 j k) else if n = 28 then (if j.val < 16 then x (ix3 0 j k) else 0)
  else if h : j.val < 496 then x (ix3 0 ⟨j.val + 16, by omega⟩ k) else y (ix3 0 ⟨j.val - 496, by omega⟩ k)

theorem pay_at (i : grid0.Coords) (x : Vec Ideal S1x512x2048 .f32) (y : Vec Ideal S1x16x2048 .f32) (k : Fin 2048) (j : Fin 512) :
    k0_pay1 i x y (ix3 0 k j) = tile (i 1).val x y k j := by
  have h1 : ∀ n : Fin 29, Scalar.cmpi .slt (BitVec.ofNat 32 n.val) 16#32 = BitVec.ofBool (decide (n.val < 16)) := by decide +kernel
  have h2 : ∀ n : Fin 29, Scalar.cmpi .eq (BitVec.ofNat 32 n.val) 28#32 = BitVec.ofBool (decide (n.val = 28)) := by decide +kernel
  have h3 : ∀ n : Fin 512, IntOp.cmpi .slt (BitVec.ofNat 32 n.val) 16#32 = BitVec.ofBool (decide (n.val < 16)) := by decide +kernel
  pointwise [k0_pay1, tile]
  rw [h1 (i 1), h2 (i 1), h3 j]
  by_cases a1 : (i 1).val < 16
  · rw [if_pos a1, decide_eq_true a1]; rfl
  rw [if_neg a1, decide_eq_false a1]
  by_cases a2 : (i 1).val = 28
  · rw [if_pos a2, decide_eq_true a2]
    by_cases a3 : j.val < 16
    · rw [if_pos a3, decide_eq_true a3]; rfl
    · rw [if_neg a3, decide_eq_false a3]; rfl
  rw [if_neg a2, decide_eq_false a2]
  simp only [Nat.add_comm j.val 16]
  rfl

theorem V_t (c : Dev nD) (d : Fin 2) (r : Fin 14352) (k : Fin 2048) : (V m c main_v0 : FVec Ideal S2x14352x2048 .f32) (ix3 d r k)
    = (m ((c : Thread nD τ).loc main_arg0) : FVec Ideal S2x2048x14352 .f32) (ix3 d k r) := by
  have e : V m c main_v0 = transpose S2x14352x2048 [0, 2, 1] (m ((c : Thread nD τ).loc main_arg0) : FVec Ideal S2x2048x14352 .f32) transposes_S2x2048x14352_S2x14352x2048_0_2_1 := by
    entry_read; rfl
  rw [e]
  pointwise []

theorem read_x (c : Dev nD) (t : Fin cfg0.N) (j : Fin 512) (k : Fin 2048) :
    (X0_0 m c t : FVec Ideal S1x512x2048 .f32) (ix3 0 j k) = (V m c main_v0 : FVec Ideal S2x14352x2048 .f32)
      (ix3 ⟨t.val / 29, by have : t.val < 58 := t.isLt; omega⟩ ⟨(if t.val % 29 = 28 then 16 else t.val % 29) * 512 + j.val, by split <;> omega⟩ k) := by
  unfold X0_0
  unfold Pipeline.Window.fill
  rw [dif_pos (moved0_0 t _)]
  blk_ext [iblk, idx t]

theorem read_y (c : Dev nD) (t : Fin cfg0.N) (j : Fin 16) (k : Fin 2048) (h : 16 ≤ t.val % 29 ∧ t.val % 29 < 28) :
    (iblk m c 1 t : FVec Ideal S1x16x2048 .f32) (ix3 0 j k) = (V m c main_v0 : FVec Ideal S2x14352x2048 .f32)
      (ix3 ⟨t.val / 29, by have : t.val < 58 := t.isLt; omega⟩ ⟨(t.val % 29 + 1) * 512 + j.val, by omega⟩ k) := by
  blk_ext [iblk, idx t]
  all_goals (rw [if_pos h]; omega)

theorem packed_move (a : FVec Ideal S2x2048x14352 .f32) (d : Fin 2) (k : Fin 2048) (q r : ℕ) (hr : r < 14352)
    (h : q < 8192 ∧ r = q ∨ 8192 ≤ q ∧ q < 14336 ∧ r = q + 16 ∨ 14336 ≤ q ∧ q < 14352 ∧ r = q - 6144) : a (ix3 d k ⟨r, hr⟩) = packed a d k q := by
  unfold packed
  rcases h with ⟨h, e⟩ | ⟨h, h', e⟩ | ⟨h, h', e⟩
  · rw [dif_pos h]
    exact congrArg (fun r => a (ix3 d k r)) (Fin.ext e)
  · rw [dif_neg (Nat.not_lt.2 h), dif_pos h']
    exact congrArg (fun r => a (ix3 d k r)) (Fin.ext e)
  · rw [dif_neg (Nat.not_lt.2 (Nat.le_trans (by decide) h)), dif_neg (Nat.not_lt.2 h), dif_pos h']
    exact congrArg (fun r => a (ix3 d k r)) (Fin.ext e)

/-- A tile at its place in the array. -/
theorem point (c : Dev nD) (t : Fin cfg0.N) (k : Fin 2048) (j : Fin 512) (h : t.val % 29 * 512 + j.val < 14592) :
    k0_pay1 (grid0.coords t) (X0_0 m c t) (iblk m c 1 t) (ix3 0 k j)
      = packed (m ((c : Thread nD τ).loc main_arg0)) ⟨t.val / 29, by have : t.val < 58 := t.isLt; omega⟩ k (t.val % 29 * 512 + j.val) := by
  have a4 : t.val % 29 < 29 := Nat.mod_lt _ (by decide)
  have hj := j.isLt
  rw [pay_at, coord]
  unfold tile
  generalize hn : t.val % 29 = n at *
  by_cases a1 : n < 16
  · rw [if_pos a1, read_x, V_t]
    refine packed_move _ _ _ _ _ _ ?_
    rw [hn, if_neg (by omega)]
    omega
  rw [if_neg a1]
  by_cases a2 : n = 28
  · rw [if_pos a2]
    by_cases a3 : j.val < 16
    · rw [if_pos a3, read_x, V_t]
      refine packed_move _ _ _ _ _ _ ?_
      rw [hn, if_pos a2]
      omega
    · rw [if_neg a3]
      unfold packed
      rw [dif_neg (by omega), dif_neg (by omega), dif_neg (by omega)]
  rw [if_neg a2]
  by_cases a3 : j.val < 496
  · rw [dif_pos a3, read_x, V_t]
    refine packed_move _ _ _ _ _ _ ?_
    rw [hn, if_neg a2]
    show _ ∨ _ ≤ _ ∧ _ < _ ∧ n * 512 + (j.val + 16) = _ ∨ _
    omega
  · rw [dif_neg a3, read_y m c t _ k (by omega), V_t]
    refine packed_move _ _ _ _ _ _ ?_
    rw [hn]
    show _ ∨ _ ≤ _ ∧ _ < _ ∧ (n + 1) * 512 + (j.val - 496) = _ ∨ _
    omega

theorem final (c : Dev nD) : (dats m 0 c).arrAt 2 (cfgs 0).N = REF (m ((c : Thread nD τ).loc main_arg0)) := by
  refine (dats m 0 c).arrAt_eq_of_covers 2 _ (by decide +kernel) fun t _ y => ?_
  blk_simp
  rw [after0_2]
  unfold outsAt0
  frame_out
  have ht : t.val < 58 := t.isLt
  have hy : (y 0).val < 1 ∧ (y 1).val < 2048 ∧ (y 2).val < 512 :=
    ⟨((cfg0.win 2).xinj (cfg0.grid.coords t) y 0).isLt, ((cfg0.win 2).xinj (cfg0.grid.coords t) y 1).isLt, ((cfg0.win 2).xinj (cfg0.grid.coords t) y 2).isLt⟩
  have e0 : ∀ a, (((cfg0.win 2).blk t).view.emb y a : ℕ) = win0_2.index t a * S1x2048x512.size a + y a :=
    fun a => Pipeline.Window.rect_emb_val_off (cfg0.win 2) t y a
  have i0 := e0 0
  have i1 := e0 1
  have i2 := e0 2
  rw [(idx t).2.2] at i0 i1 i2
  have hq : t.val % 29 * 512 + (y 2).val < 14592 := by
    rw [← show (((cfg0.win 2).blk t).view.emb y 2 : ℕ) = t.val % 29 * 512 + (y 2).val from i2]
    exact Fin.isLt _
  have e : ((cfg0.win 2).blk t).view.emb y = (ix3 ⟨t.val / 29, by omega⟩ ⟨(y 1).val, hy.2.1⟩ ⟨t.val % 29 * 512 + (y 2).val, hq⟩ : S2x2048x14592.Idx) := by
    funext a; apply Fin.ext
    fin_cases a
    · refine i0.trans ?_
      show t.val / 29 * 1 + (y 0).val = t.val / 29
      omega
    · refine i1.trans ?_
      show 0 * 2048 + (y 1).val = (y 1).val
      omega
    · exact i2
  have e' : (cfg0.win 2).xinj (cfg0.grid.coords t) y = (ix3 0 ⟨(y 1).val, hy.2.1⟩ ⟨(y 2).val, hy.2.2⟩ : S1x2048x512.Idx) := by
    funext a; apply Fin.ext
    fin_cases a
    · show (y 0).val = 0
      omega
    · rfl
    · rfl
  refine (congrArg (k0_pay1 (grid0.coords t) (X0_0 m c t) (iblk m c 1 t)) e').trans ?_
  refine Eq.trans ?_ (congrArg (REF (m ((c : Thread nD τ).loc main_arg0))) e).symm
  rw [ref_at]
  exact point m c t _ _ hq

theorem algebraic : Cert.algebraic_PackIdeal_PackRefIdeal := by
  pair_intro
  · run_from Cert.PackIdeal.Gen.run_main m g
  · run_from Cert.PackRefIdeal.Value.run m' g'
    rw [hagree c]
    exact (final m c).symm

end Cert.PackIdeal.Hand

end
-- ==== Proof.GdnStep.lean ====
module

public import proofs.«01_k».proof.Proof.Gen.GdnStepIdeal.Frame
public import proofs.«01_k».proof.Proof.Gen.GdnStepRefIdeal.Run
public import proofs.«01_k».proof.Proof.Gen.Pre_decay_and_beta_in_range
public import proofs.«01_k».proof.Defs
public import proofs.«01_k».proof.Proof.Arith
public import Idealize.ShloMosaic.Lib.Pipeline.ValueKit
public import Idealize.ShloMosaic.Lib.Pointwise
public import Idealize.ShloMosaic.Lib.Claim

@[expose] public section

set_option maxRecDepth 16384

noncomputable section

namespace Cert.GdnStepRefIdeal.Hand
open Idealize.ShloMosaic Cert.GdnStepRefIdeal Cert.GdnStepRefIdeal.Gen

/-- The state the reference returns, of its arguments. -/
abbrev REFS (a0 : FVec Ideal S32x3072 .f32) (a1 : FVec Ideal S32x128 .f32) (a3 : FVec Ideal S2x32x8x128x128 .f32) : FVec Ideal S32x8x128x128 .f32 :=
  addf (mulf (shapeCast _ (extractStridedSlice S1x32x8x128x128 ![0, 0, 0, 0, 0] a3 slices_S2x32x8x128x128_S1x32x8x128x128_0_0_0_0_0) shapeCasts_S1x32x8x128x128_S32x8x128x128) (broadcastInDim S32x8x128x128 ![0, 1, 2, 3] bcast_S32x8x1x1_S32x8x128x128_0_1_2_3 (broadcastInDim S32x8x1x1 ![0, 1] bcast_S32x8_S32x8x1x1_0_1 (Host.exp (extractStridedSlice S32x8 ![0, 8] a1 slices_S32x128_S32x8_0_8))))) (mulf (broadcastInDim S32x8x128x128 ![0, 1, 2, 3] bcast_S32x8x128x1_S32x8x128x128_0_1_2_3 (broadcastInDim S32x8x128x1 ![0, 1, 2] bcast_S32x8x128_S32x8x128x1_0_1_2 (shapeCast _ (extractStridedSlice S32x1024 ![0, 1024] a0 slices_S32x3072_S32x1024_0_1024) shapeCasts_S32x1024_S32x8x128))) (broadcastInDim S32x8x128x128 ![0, 1, 2, 3] bcast_S32x8x1x128_S32x8x128x128_0_1_2_3 (broadcastInDim S32x8x1x128 ![0, 1, 3] bcast_S32x8x128_S32x8x1x128_0_1_3 (subf (mulf (shapeCast _ (extractStridedSlice S32x1024 ![0, 2048] a0 slices_S32x3072_S32x1024_0_2048) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (Host.dotGeneral dot_S32x8x128_S32x8x128x128_S32x8x128_2_2_n_3_01_01 none (mulf (mulf (shapeCast _ (extractStridedSlice S32x1024 ![0, 1024] a0 slices_S32x3072_S32x1024_0_1024) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128))))))

/-- The output the reference returns, of its arguments. -/
abbrev REFO (a0 : FVec Ideal S32x3072 .f32) (a1 : FVec Ideal S32x128 .f32) (a2 : FVec Ideal S8320x14592 .f32) (a3 : FVec Ideal S2x32x8x128x128 .f32) (a4 : FVec Ideal S2x128 .f32) : FVec Ideal S32x8x1024 .bf16 :=
  truncf .bf16 (concatenate S32x8x1024 1 [⟨S32x1x1024, (broadcastInDim S32x1x1024 ![0, 2] bcast_S32x1024_S32x1x1024_0_2 (shapeCast _ (mulf (mulf (mulf (addf (Host.dotGeneral dot_S32x8x128_S32x8x128x128_S32x8x128_2_2_n_3_01_01 none (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128)) (mulf (broadcastInDim S32x8x128 ![0, 1, 2] bcast_S32x8x1_S32x8x128_0_1_2 (broadcastInDim S32x8x1 ![0, 1] bcast_S32x8_S32x8x1_0_1 (Host.reduceAdd (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (shapeCast _ (extractStridedSlice S32x1024 ![0, 1024] a0 slices_S32x3072_S32x1024_0_1024) shapeCasts_S32x1024_S32x8x128)) (constant S_ .f32 0x00000000#32) reducesTo_S32x8x128_S32x8_d2 h_S_))) (subf (mulf (shapeCast _ (extractStridedSlice S32x1024 ![0, 2048] a0 slices_S32x3072_S32x1024_0_2048) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (Host.dotGeneral dot_S32x8x128_S32x8x128x128_S32x8x128_2_2_n_3_01_01 none (mulf (mulf (shapeCast _ (extractStridedSlice S32x1024 ![0, 1024] a0 slices_S32x3072_S32x1024_0_1024) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128))))) (broadcastInDim S32x8x128 ![0, 1, 2] bcast_S32x8x1_S32x8x128_0_1_2 (Host.rsqrt (addf (Host.divf (broadcastInDim S32x8x1 ![0, 1] bcast_S32x8_S32x8x1_0_1 (Host.reduceAdd (mulf (addf (Host.dotGeneral dot_S32x8x128_S32x8x128x128_S32x8x128_2_2_n_3_01_01 none (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128)) (mulf (broadcastInDim S32x8x128 ![0, 1, 2] bcast_S32x8x1_S32x8x128_0_1_2 (broadcastInDim S32x8x1 ![0, 1] bcast_S32x8_S32x8x1_0_1 (Host.reduceAdd (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (shapeCast _ (extractStridedSlice S32x1024 ![0, 1024] a0 slices_S32x3072_S32x1024_0_1024) shapeCasts_S32x1024_S32x8x128)) (constant S_ .f32 0x00000000#32) reducesTo_S32x8x128_S32x8_d2 h_S_))) (subf (mulf (shapeCast _ (extractStridedSlice S32x1024 ![0, 2048] a0 slices_S32x3072_S32x1024_0_2048) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (Host.dotGeneral dot_S32x8x128_S32x8x128x128_S32x8x128_2_2_n_3_01_01 none (mulf (mulf (shapeCast _ (extractStridedSlice S32x1024 ![0, 1024] a0 slices_S32x3072_S32x1024_0_1024) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128))))) (addf (Host.dotGeneral dot_S32x8x128_S32x8x128x128_S32x8x128_2_2_n_3_01_01 none (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128)) (mulf (broadcastInDim S32x8x128 ![0, 1, 2] bcast_S32x8x1_S32x8x128_0_1_2 (broadcastInDim S32x8x1 ![0, 1] bcast_S32x8_S32x8x1_0_1 (Host.reduceAdd (mulf (mulf (shapeCast _ (extractStridedSlice S32x1024 ![0, 0] a0 slices_S32x3072_S32x1024_0_0) shapeCasts_S32x1024_S32x8x128) (broadcastInDim S32x8x128 ![] bcast_S_S32x8x128 (constant S_ .f32 0x3DB504F3#32))) (shapeCast _ (extractStridedSlice S32x1024 ![0, 1024] a0 slices_S32x3072_S32x1024_0_1024) shapeCasts_S32x1024_S32x8x128)) (constant S_ .f32 0x00000000#32) reducesTo_S32x8x128_S32x8_d2 h_S_))) (subf (mulf (shapeCast _ (extractStridedSlice S32x1024 ![0, 2048] a0 slices_S32x3072_S32x1024_0_2048) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (Host.dotGeneral dot_S32x8x128_S32x8x128x128_S32x8x128_2_2_n_3_01_01 none (mulf (mulf (shapeCast _ (extractStridedSlice S32x1024 ![0, 1024] a0 slices_S32x3072_S32x1024_0_1024) shapeCasts_S32x1024_S32x8x128) (broadcastInDim S32x8x128 ![0, 1, 2] bcast_S32x8x1_S32x8x128_0_1_2 (broadcastInDim S32x8x1 ![0, 1] bcast_S32x8_S32x8x1_0_1 (extractStridedSlice S32x8 ![0, 0] a1 slices_S32x128_S32x8_0_0)))) (broadcastInDim S32x8x128 ![0, 1, 2] bcast_S32x8x1_S32x8x128_0_1_2 (broadcastInDim S32x8x1 ![0, 1] bcast_S32x8_S32x8x1_0_1 (Host.exp (extractStridedSlice S32x8 ![0, 8] a1 slices_S32x128_S32x8_0_8))))) (shapeCast _ (extractStridedSlice S1x32x8x128x128 ![0, 0, 0, 0, 0] a3 slices_S2x32x8x128x128_S1x32x8x128x128_0_0_0_0_0) shapeCasts_S1x32x8x128x128_S32x8x128x128)))))) (constant S_ .f32 0x00000000#32) reducesTo_S32x8x128_S32x8_d2 h_S_)) (broadcastInDim S32x8x1 ![] bcast_S_S32x8x1 (constant S_ .f32 0x43000000#32))) (broadcastInDim S32x8x1 ![] bcast_S_S32x8x1 (constant S_ .f32 0x358637BD#32)))))) (broadcastInDim S32x8x128 ![0, 1, 2] bcast_S1x1x128_S32x8x128_0_1_2 (broadcastInDim S1x1x128 ![2] bcast_S128_S1x1x128_2 (shapeCast _ (extractStridedSlice S1x128 ![0, 0] a4 slices_S2x128_S1x128_0_0) shapeCasts_S1x128_S128)))) (mulf (shapeCast _ (extractStridedSlice S32x1024 ![8192, 7168] a2 slices_S8320x14592_S32x1024_8192_7168) shapeCasts_S32x1024_S32x8x128) (Host.divf (broadcastInDim S32x8x128 ![] bcast_S_S32x8x128 (constant S_ .f32 0x3F800000#32)) (addf (broadcastInDim S32x8x128 ![] bcast_S_S32x8x128 (constant S_ .f32 0x3F800000#32)) (Host.exp (Host.negf (shapeCast _ (extractStridedSlice S32x1024 ![8192, 7168] a2 slices_S8320x14592_S32x1024_8192_7168) shapeCasts_S32x1024_S32x8x128))))))) shapeCasts_S32x8x128_S32x1024))⟩, ⟨S32x7x1024, (broadcastInDim S32x7x1024 ![] bcast_S_S32x7x1024 (constant S_ .f32 0x00000000#32))⟩] concatenates_S32x1x1024_S32x7x1024_S32x8x1024_d1) bitsLt_bf16_f32

/-- The reference's corrected value. -/
def rv (a0 : FVec Ideal S32x3072 .f32) (a1 : FVec Ideal S32x128 .f32) (a3 : FVec Ideal S2x32x8x128x128 .f32) (b : Fin 32) (h : Fin 8) (v : Fin 128) : EReal :=
  a0 (ix2 b ⟨2048 + 128 * h.val + v.val, by omega⟩) * a1 (ix2 b ⟨h.val, by omega⟩)
    - ∑ k : Fin 128, a0 (ix2 b ⟨1024 + 128 * h.val + k.val, by omega⟩) * a1 (ix2 b ⟨h.val, by omega⟩) * Ideal.exp (a1 (ix2 b ⟨8 + h.val, by omega⟩)) * a3 (ix5 0 b h k v)

theorem refs_at (a0 : FVec Ideal S32x3072 .f32) (a1 : FVec Ideal S32x128 .f32) (a3 : FVec Ideal S2x32x8x128x128 .f32) (b : Fin 32) (h : Fin 8) (k v : Fin 128) :
    REFS a0 a1 a3 (ix4 b h k v) = a3 (ix5 0 b h k v) * Ideal.exp (a1 (ix2 b ⟨8 + h.val, by omega⟩))
      + a0 (ix2 b ⟨1024 + 128 * h.val + k.val, by omega⟩) * rv a0 a1 a3 b h v := by
  pointwise [REFS, rv]
  blk_point []

/-- What the reference reads out before the norm. -/
def ro (a0 : FVec Ideal S32x3072 .f32) (a1 : FVec Ideal S32x128 .f32) (a3 : FVec Ideal S2x32x8x128x128 .f32) (b : Fin 32) (h : Fin 8) (v : Fin 128) : EReal :=
  (∑ k : Fin 128, a0 (ix2 b ⟨128 * h.val + k.val, by omega⟩) * Ideal.ofBits .f32 0x3DB504F3#32 * Ideal.exp (a1 (ix2 b ⟨8 + h.val, by omega⟩)) * a3 (ix5 0 b h k v))
    + (∑ k : Fin 128, a0 (ix2 b ⟨128 * h.val + k.val, by omega⟩) * Ideal.ofBits .f32 0x3DB504F3#32 * a0 (ix2 b ⟨1024 + 128 * h.val + k.val, by omega⟩)) * rv a0 a1 a3 b h v

theorem refo_at (a0 : FVec Ideal S32x3072 .f32) (a1 : FVec Ideal S32x128 .f32) (a2 : FVec Ideal S8320x14592 .f32) (a3 : FVec Ideal S2x32x8x128x128 .f32) (a4 : FVec Ideal S2x128 .f32) (b : Fin 32) (r : Fin 8) (j : Fin 1024) :
    REFO a0 a1 a2 a3 a4 (ix3 b r j) = if r.val < 1 then
      ro a0 a1 a3 b ⟨j.val / 128, by omega⟩ ⟨j.val % 128, by omega⟩
          * Ideal.rsqrt (Ideal.div (∑ w : Fin 128, ro a0 a1 a3 b ⟨j.val / 128, by omega⟩ w * ro a0 a1 a3 b ⟨j.val / 128, by omega⟩ w) (Ideal.ofBits .f32 0x43000000#32)
              + Ideal.ofBits .f32 0x358637BD#32)
          * a4 (ix2 0 ⟨j.val % 128, by omega⟩)
        * (a2 (ix2 ⟨8192 + b.val, by omega⟩ ⟨7168 + j.val, by omega⟩) * Ideal.div 1 (1 + Ideal.exp (-a2 (ix2 ⟨8192 + b.val, by omega⟩ ⟨7168 + j.val, by omega⟩))))
    else 0 := by
  by_cases hr : r.val < 1
  · rw [if_pos hr]
    pointwise [REFO, ro, rv]
    simp only [dif_pos hr]
    blk_point []
  · rw [if_neg hr]
    pointwise [REFO]
    rw [dif_neg hr]

end Cert.GdnStepRefIdeal.Hand

namespace Cert.GdnStepIdeal.Hand
open Idealize.ShloMosaic Idealize.ShloMosaic.TcCoe Idealize.SL.Sem
open Idealize.ShloMosaic.Pipeline (Dat)
open Cert.GdnStepIdeal Cert.GdnStepIdeal.Gen

/-- The corrected value of head `h`, row `r`, column `v`, from a block of rows and a block of states. -/
def vnew (X0 : FVec Ideal S1x8x4224 .f32) (X1 : FVec Ideal S1x1x8x128x128 .f32) (h r : Fin 8) (v : Fin 128) : EReal :=
  X0 (ix3 0 r ⟨3072 + h.val, by omega⟩) * (X0 (ix3 0 r ⟨2048 + 128 * h.val + v.val, by omega⟩)
    - Ideal.exp (X0 (ix3 0 r ⟨3080 + h.val, by omega⟩)) * ∑ k : Fin 128, X0 (ix3 0 r ⟨1024 + 128 * h.val + k.val, by omega⟩) * X1 (ix5 0 0 h k v))

/-- The new state of head `h` at row `k`, column `v`. -/
def snew (X0 : FVec Ideal S1x8x4224 .f32) (X1 : FVec Ideal S1x1x8x128x128 .f32) (h : Fin 8) (k v : Fin 128) : EReal :=
  X1 (ix5 0 0 h k v) * Ideal.exp (X0 (ix3 0 0 ⟨3080 + h.val, by omega⟩))
    + ∑ r : Fin 8, X0 (ix3 0 r ⟨1024 + 128 * h.val + k.val, by omega⟩) * vnew X0 X1 h r v

theorem state_at (X0 : Vec Ideal S1x8x4224 .f32) (X1 : Vec Ideal S1x1x8x128x128 .f32) (X2 : Vec Ideal S1x1x128 .f32)
    (y : S1x8x128x128.Idx) : out0_4 X0 X1 X2 y = snew X0 X1 (y 1) (y 2) (y 3) := by
  unfold out0_4
  canon_tiles x e
  all_goals (open_payloads; pointwise [snew, vnew]; blk_point [])

/-- What head `h` reads out in row `r`, column `v`. -/
def oraw (X0 : FVec Ideal S1x8x4224 .f32) (X1 : FVec Ideal S1x1x8x128x128 .f32) (h r : Fin 8) (v : Fin 128) : EReal :=
  Ideal.exp (X0 (ix3 0 r ⟨3080 + h.val, by omega⟩))
      * ∑ k : Fin 128, X0 (ix3 0 r ⟨128 * h.val + k.val, by omega⟩) * Ideal.ofBits .f32 0x3DB504F3#32 * X1 (ix5 0 0 h k v)
    + (∑ k : Fin 128, X0 (ix3 0 r ⟨128 * h.val + k.val, by omega⟩) * Ideal.ofBits .f32 0x3DB504F3#32 * X0 (ix3 0 r ⟨1024 + 128 * h.val + k.val, by omega⟩)) * vnew X0 X1 h r v

/-- The gated and normalised output of head `h` in row `r`, column `v`. -/
def onew (X0 : FVec Ideal S1x8x4224 .f32) (X1 : FVec Ideal S1x1x8x128x128 .f32) (X2 : FVec Ideal S1x1x128 .f32) (h r : Fin 8) (v : Fin 128) : EReal :=
  oraw X0 X1 h r v
      * Ideal.rsqrt (Ideal.div (∑ w : Fin 128, oraw X0 X1 h r w * oraw X0 X1 h r w) (Ideal.ofBits .f32 0x43000000#32)
          + Ideal.ofBits .f32 0x358637BD#32)
      * X2 (ix3 0 0 v)
    * (X0 (ix3 0 r ⟨3200 + 128 * h.val + v.val, by omega⟩) * Ideal.div 1 (1 + Ideal.exp (0 - X0 (ix3 0 r ⟨3200 + 128 * h.val + v.val, by omega⟩))))

theorem out_at (X0 : Vec Ideal S1x8x4224 .f32) (X1 : Vec Ideal S1x1x8x128x128 .f32) (X2 : Vec Ideal S1x1x128 .f32)
    (y : S1x8x1024.Idx) : out0_3 X0 X1 X2 y = onew X0 X1 X2 ⟨(y 2).val / 128, by have := (y 2).isLt; simp at this; omega⟩ (y 1) ⟨(y 2).val % 128, by omega⟩ := by
  unfold out0_3
  canon_tiles x e
  all_goals (open_payloads; pointwise [onew, oraw, vnew]; blk_point [])

variable (m : (ℓ : Loc nD τ sig) → Buf (Elt Ideal) ℓ)

theorem idx : ∀ t : Fin cfg0.N, win0_0.index t = ![t.val, 0, 0] ∧ win0_1.index t = ![0, t.val, 0, 0, 0] ∧ win0_2.index t = ![0, 0, 0]
    ∧ win0_3.index t = ![t.val, 0, 0] ∧ win0_4.index t = ![t.val, 0, 0, 0] :=
  (by decide +kernel : ∀ t : Fin grid0.N, _)

/-- The row `r` of the padded input of sequence `t`: the token's row, then zeros. -/
def xrow (c : Dev nD) (t : Fin 32) (r : Fin 8) (j : Fin 4224) : EReal :=
  if r.val < 1 then
    if h : j.val < 3072 then m ((c : Thread nD τ).loc main_arg0) (ix2 t ⟨j.val, h⟩)
    else if h' : j.val < 3200 then m ((c : Thread nD τ).loc main_arg1) (ix2 t ⟨j.val - 3072, by omega⟩)
    else m ((c : Thread nD τ).loc main_arg2) (ix2 ⟨8192 + t.val, by omega⟩ ⟨7168 + (j.val - 3200), by omega⟩)
  else 0

/-- The padded input rows, of the arguments. -/
abbrev XPAD (a0 : FVec Ideal S32x3072 .f32) (a1 : FVec Ideal S32x128 .f32) (a2 : FVec Ideal S8320x14592 .f32) : FVec Ideal S32x8x4224 .f32 :=
  pad S32x8x4224 ![0, 0, 0] ![0, 7, 0] ![0, 0, 0] (broadcastInDim S32x1x4224 ![0, 2] bcast_S32x4224_S32x1x4224_0_2
      (concatenate S32x4224 1 [⟨S32x3072, a0⟩, ⟨S32x128, a1⟩, ⟨S32x1024, extractStridedSlice S32x1024 ![8192, 7168] a2 slices_S8320x14592_S32x1024_8192_7168⟩] concatenates_S32x3072_S32x128_S32x1024_S32x4224_d1))
    (sitofp .f32 (constantI S_ 32 0#32)) pads_S32x1x4224_S32x8x4224_000_070_000 h_S_

theorem V_x (c : Dev nD) : V m c main_v3 = XPAD (m ((c : Thread nD τ).loc main_arg0)) (m ((c : Thread nD τ).loc main_arg1)) (m ((c : Thread nD τ).loc main_arg2)) := by
  entry_read
  rfl

theorem xpad_at (a0 : FVec Ideal S32x3072 .f32) (a1 : FVec Ideal S32x128 .f32) (a2 : FVec Ideal S8320x14592 .f32)
    (t : Fin 32) (r : Fin 8) (j : Fin 4224) : XPAD a0 a1 a2 (ix3 t r j) = if r.val < 1 then
    if h : j.val < 3072 then a0 (ix2 t ⟨j.val, h⟩)
    else if h' : j.val - 3072 < 128 then a1 (ix2 t ⟨j.val - 3072, h'⟩)
    else a2 (ix2 ⟨8192 + t.val, by omega⟩ ⟨7168 + (j.val - 3072 - 128), by omega⟩)
  else 0 := by
  have z : (FloatOps.sitofp FTy.f32 0#32 : Ideal .f32) = 0 := by show (((0#32 : BitVec 32).toInt : ℝ) : EReal) = 0; simp
  pointwise [XPAD]
  rw [z]
  by_cases hr : r.val < 1
  · rw [dif_pos hr, if_pos hr]
  · rw [dif_neg hr, if_neg hr]

theorem read_x (c : Dev nD) (t : Fin cfg0.N) (r : Fin 8) (j : Fin 4224) :
    (iblk m c 0 t : FVec Ideal S1x8x4224 .f32) (ix3 0 r j) = (V m c main_v3 : FVec Ideal S32x8x4224 .f32) (ix3 ⟨t.val, t.isLt⟩ r j) := by
  blk_ext [iblk, idx t]

theorem read_s (c : Dev nD) (t : Fin cfg0.N) (h : Fin 8) (k v : Fin 128) :
    (iblk m c 1 t : FVec Ideal S1x1x8x128x128 .f32) (ix5 0 0 h k v) = (m ((c : Thread nD τ).loc main_arg3) : FVec Ideal S2x32x8x128x128 .f32) (ix5 0 ⟨t.val, t.isLt⟩ h k v) := by
  blk_ext [iblk, V, idx t]

theorem V_g (c : Dev nD) : V m c main_v4 = shapeCast S2x1x128 (m ((c : Thread nD τ).loc main_arg4) : FVec Ideal S2x128 .f32) shapeCasts_S2x128_S2x1x128 := by
  entry_read
  rfl

theorem read_g (c : Dev nD) (t : Fin cfg0.N) (v : Fin 128) :
    (iblk m c 2 t : FVec Ideal S1x1x128 .f32) (ix3 0 0 v) = (m ((c : Thread nD τ).loc main_arg4) : FVec Ideal S2x128 .f32) (ix2 0 v) := by
  have e : (iblk m c 2 t : FVec Ideal S1x1x128 .f32) (ix3 0 0 v) = (V m c main_v4 : FVec Ideal S2x1x128 .f32) (ix3 0 0 v) := by
    blk_ext [iblk, idx t]
  rw [e, V_g]
  pointwise

theorem exp_range {x : EReal} (h : x ≤ 0) : 0 ≤ Ideal.exp x ∧ Ideal.exp x ≠ ⊤ := by
  induction x with
  | bot => simp
  | top => simp at h
  | coe r =>
    rw [Ideal.exp_coe]
    exact ⟨by exact_mod_cast (Real.exp_pos r).le, EReal.coe_ne_top _⟩

abbrev arg1 (c : Dev nD) : Shape.Idx S32x128 → EReal := m ((c : Thread nD τ).loc main_arg1)

theorem of_bit {P : Prop} [Decidable P] (h : BitVec.ofBool (decide P) = 1#1) : P := by
  by_contra hP
  simp [hP] at h

/-- The precondition at an index: no log decay is positive, and beta lies between 0 and 1. -/
theorem pre_at (h : Pre_GdnStepIdeal_decay_and_beta_in_range m) (c : Dev nD) (b : Fin 32) (k : Fin 8) :
    arg1 m c (ix2 b ⟨8 + k.val, by omega⟩) ≤ (0 : EReal)
    ∧ (0 : EReal) ≤ arg1 m c (ix2 b ⟨k.val, by omega⟩)
    ∧ arg1 m c (ix2 b ⟨k.val, by omega⟩) ≤ (1 : EReal) := by
  obtain ⟨h1, h2, h3⟩ := h c
  have e1 := congrFun h1 (ix2 b k)
  have e2 := congrFun h2 (ix2 b k)
  have e3 := congrFun h3 (ix2 b k)
  revert e1 e2 e3
  unfold Cert.Pre_decay_and_beta_in_range.fn
  pointwise
  exact fun e1 e2 e3 => ⟨of_bit e1, of_bit e2, of_bit e3⟩

open Cert.GdnStepRefIdeal.Hand (REFS REFO rv ro refs_at refo_at)

/-- The blocks of sequence `b`: its token in row 0, zeros in the other rows, its states and the gain, with a decay and
    a beta in range. -/
structure Tok (X0 : FVec Ideal S1x8x4224 .f32) (X1 : FVec Ideal S1x1x8x128x128 .f32) (X2 : FVec Ideal S1x1x128 .f32)
    (a0 : FVec Ideal S32x3072 .f32) (a1 : FVec Ideal S32x128 .f32) (a2 : FVec Ideal S8320x14592 .f32)
    (a3 : FVec Ideal S2x32x8x128x128 .f32) (a4 : FVec Ideal S2x128 .f32) (b : Fin 32) : Prop where
  zero : ∀ (r : Fin 8) j, ¬ r.val < 1 → X0 (ix3 0 r j) = (0 : EReal)
  q : ∀ (h : Fin 8) (k : Fin 128), X0 (ix3 0 0 ⟨128 * h.val + k.val, by omega⟩) = a0 (ix2 b ⟨128 * h.val + k.val, by omega⟩)
  k : ∀ (h : Fin 8) (k : Fin 128), X0 (ix3 0 0 ⟨1024 + 128 * h.val + k.val, by omega⟩) = a0 (ix2 b ⟨1024 + 128 * h.val + k.val, by omega⟩)
  v : ∀ (h : Fin 8) (k : Fin 128), X0 (ix3 0 0 ⟨2048 + 128 * h.val + k.val, by omega⟩) = a0 (ix2 b ⟨2048 + 128 * h.val + k.val, by omega⟩)
  be : ∀ h : Fin 8, X0 (ix3 0 0 ⟨3072 + h.val, by omega⟩) = a1 (ix2 b ⟨h.val, by omega⟩)
  de : ∀ h : Fin 8, X0 (ix3 0 0 ⟨3080 + h.val, by omega⟩) = a1 (ix2 b ⟨8 + h.val, by omega⟩)
  z : ∀ (h : Fin 8) (k : Fin 128), X0 (ix3 0 0 ⟨3200 + 128 * h.val + k.val, by omega⟩)
    = a2 (ix2 ⟨8192 + b.val, by omega⟩ ⟨7168 + (128 * h.val + k.val), by omega⟩)
  s : ∀ (h : Fin 8) (k v : Fin 128), X1 (ix5 0 0 h k v) = a3 (ix5 0 b h k v)
  g : ∀ v : Fin 128, X2 (ix3 0 0 v) = a4 (ix2 0 v)
  de0 : ∀ h : Fin 8, a1 (ix2 b ⟨8 + h.val, by omega⟩) ≤ (0 : EReal)
  be0 : ∀ h : Fin 8, (0 : EReal) ≤ a1 (ix2 b ⟨h.val, by omega⟩)
  be1 : ∀ h : Fin 8, a1 (ix2 b ⟨h.val, by omega⟩) ≤ (1 : EReal)

section
variable {X0 : FVec Ideal S1x8x4224 .f32} {X1 : FVec Ideal S1x1x8x128x128 .f32} {X2 : FVec Ideal S1x1x128 .f32}
  {a0 : FVec Ideal S32x3072 .f32} {a1 : FVec Ideal S32x128 .f32} {a2 : FVec Ideal S8320x14592 .f32}
  {a3 : FVec Ideal S2x32x8x128x128 .f32} {a4 : FVec Ideal S2x128 .f32} {b : Fin 32} (T : Tok X0 X1 X2 a0 a1 a2 a3 a4 b)
include T

/-- The kernel multiplies beta into the difference, the reference into its terms. -/
theorem vnew_tok (h : Fin 8) (v : Fin 128) : vnew X0 X1 h 0 v = rv a0 a1 a3 b h v := by
  obtain ⟨he, he'⟩ := exp_range (T.de0 h)
  have hb' : a1 (ix2 b ⟨h.val, by omega⟩) ≠ (⊤ : EReal) := ne_top_of_le_ne_top (EReal.coe_ne_top 1) (T.be1 h)
  unfold vnew rv
  simp only [T.be, T.v, T.k, T.de, T.s]
  rw [sub_eq_add_neg, EReal.left_distrib_of_nonneg_of_ne_top (T.be0 h) hb', mul_neg, Cert.Arith.mul_sum he he',
    Cert.Arith.mul_sum (T.be0 h) hb', sub_eq_add_neg]
  refine congrArg₂ (fun x y : EReal => x + -y) (mul_comm _ _) (Finset.sum_congr rfl fun k _ => ?_)
  ac_rfl

theorem snew_tok (h : Fin 8) (k v : Fin 128) : snew X0 X1 h k v = REFS a0 a1 a3 (ix4 b h k v) := by
  rw [refs_at]
  unfold snew
  rw [Fin.sum_univ_succ, Finset.sum_eq_zero fun r _ => by rw [T.zero _ _ (by simp), zero_mul], add_zero, vnew_tok T, T.k, T.de, T.s]

theorem oraw_tok (h : Fin 8) (v : Fin 128) : oraw X0 X1 h 0 v = ro a0 a1 a3 b h v := by
  obtain ⟨he, he'⟩ := exp_range (T.de0 h)
  unfold oraw ro
  simp only [T.q, T.k, T.de, T.s]
  rw [Cert.Arith.mul_sum he he', vnew_tok T]
  refine congrArg (· + _) (Finset.sum_congr rfl fun k _ => ?_)
  ac_rfl

theorem onew_tok (h r : Fin 8) (v : Fin 128) :
    onew X0 X1 X2 h r v = REFO a0 a1 a2 a3 a4 (ix3 b r ⟨128 * h.val + v.val, by omega⟩) := by
  rw [refo_at]
  by_cases hr : r.val < 1
  · obtain rfl : r = 0 := Fin.ext (by omega)
    rw [if_pos hr]
    have e1 : (⟨(128 * h.val + v.val) / 128, by omega⟩ : Fin 8) = h := Fin.ext (by show (128 * h.val + v.val) / 128 = h.val; omega)
    have e2 : (⟨(128 * h.val + v.val) % 128, by omega⟩ : Fin 128) = v := Fin.ext (by show (128 * h.val + v.val) % 128 = v.val; omega)
    simp only [e1, e2]
    unfold onew
    simp only [oraw_tok T, T.g, T.z, zero_sub]
  · rw [if_neg hr]
    unfold onew
    rw [T.zero _ _ hr, zero_mul, mul_zero]

end

theorem tok (hp : Pre_GdnStepIdeal_decay_and_beta_in_range m) (c : Dev nD) (t : Fin cfg0.N) :
    Tok (iblk m c 0 t) (iblk m c 1 t) (iblk m c 2 t) (m ((c : Thread nD τ).loc main_arg0)) (m ((c : Thread nD τ).loc main_arg1))
      (m ((c : Thread nD τ).loc main_arg2)) (m ((c : Thread nD τ).loc main_arg3)) (m ((c : Thread nD τ).loc main_arg4)) ⟨t.val, t.isLt⟩ where
  zero r j hr := by rw [read_x, V_x, xpad_at, if_neg hr]
  q h k := by rw [read_x, V_x, xpad_at, if_pos (by decide), dif_pos (by show 128 * h.val + k.val < 3072; omega)]
  k h k := by rw [read_x, V_x, xpad_at, if_pos (by decide), dif_pos (by show 1024 + 128 * h.val + k.val < 3072; omega)]
  v h k := by rw [read_x, V_x, xpad_at, if_pos (by decide), dif_pos (by show 2048 + 128 * h.val + k.val < 3072; omega)]
  be h := by
    rw [read_x, V_x, xpad_at, if_pos (by decide), dif_neg (by show ¬ 3072 + h.val < 3072; omega), dif_pos (by show 3072 + h.val - 3072 < 128; omega)]
    blk_ext []
  de h := by
    rw [read_x, V_x, xpad_at, if_pos (by decide), dif_neg (by show ¬ 3080 + h.val < 3072; omega), dif_pos (by show 3080 + h.val - 3072 < 128; omega)]
    blk_ext []
  z h k := by
    rw [read_x, V_x, xpad_at, if_pos (by decide), dif_neg (by show ¬ 3200 + 128 * h.val + k.val < 3072; omega), dif_neg (by show ¬ 3200 + 128 * h.val + k.val - 3072 < 128; omega)]
    blk_ext []
  s h k v := read_s m c t h k v
  g v := read_g m c t v
  de0 h := (pre_at m hp c _ h).1
  be0 h := (pre_at m hp c _ h).2.1
  be1 h := (pre_at m hp c _ h).2.2

theorem point_s (hp : Pre_GdnStepIdeal_decay_and_beta_in_range m) (c : Dev nD) (t : Fin cfg0.N) (y : S1x8x128x128.Idx) :
    out0_4 (iblk m c 0 t) (iblk m c 1 t) (iblk m c 2 t) y
      = REFS (m ((c : Thread nD τ).loc main_arg0)) (m ((c : Thread nD τ).loc main_arg1)) (m ((c : Thread nD τ).loc main_arg3)) (((cfg0.win 4).blk t).view.emb y) := by
  rw [state_at]
  refine (snew_tok (tok m hp c t) _ _ _).trans ?_
  blk_ext [idx t]

theorem point_o (hp : Pre_GdnStepIdeal_decay_and_beta_in_range m) (c : Dev nD) (t : Fin cfg0.N) (y : S1x8x1024.Idx) :
    out0_3 (iblk m c 0 t) (iblk m c 1 t) (iblk m c 2 t) y
      = REFO (m ((c : Thread nD τ).loc main_arg0)) (m ((c : Thread nD τ).loc main_arg1)) (m ((c : Thread nD τ).loc main_arg2)) (m ((c : Thread nD τ).loc main_arg3)) (m ((c : Thread nD τ).loc main_arg4)) (((cfg0.win 3).blk t).view.emb y) := by
  rw [out_at]
  refine (onew_tok (tok m hp c t) _ _ _).trans ?_
  blk_ext [idx t]

theorem final_s (hp : Pre_GdnStepIdeal_decay_and_beta_in_range m) (c : Dev nD) : (dats m 0 c).arrAt 4 (cfgs 0).N
    = REFS (m ((c : Thread nD τ).loc main_arg0)) (m ((c : Thread nD τ).loc main_arg1)) (m ((c : Thread nD τ).loc main_arg3)) := by
  refine (dats m 0 c).arrAt_eq_of_covers 4 _ (by decide +kernel) fun t _ y => ?_
  blk_simp
  rw [after0_4]
  exact point_s m hp c t y

theorem final_o (hp : Pre_GdnStepIdeal_decay_and_beta_in_range m) (c : Dev nD) : (dats m 0 c).arrAt 3 (cfgs 0).N
    = REFO (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  exact point_o m hp c t y

theorem algebraic : Cert.algebraic_GdnStepIdeal_GdnStepRefIdeal_pre_decay_and_beta_in_range := by
  pair_intro
  · run_from Cert.GdnStepIdeal.Gen.run_main m g
    exacts [V_main_arg0 m c, V_main_arg1 m c, V_main_arg2 m c, V_main_arg4 m c]
  · run_from Cert.GdnStepRefIdeal.Value.run m' g'
    · obtain ⟨h0, h1, h2, h3, h4⟩ := hagree c
      unfold Cert.GdnStepRefIdeal.Value.res_main_v66
      rw [h0, h1, h2, h3, h4]
      exact (final_o m hpre c).symm
    · exact (final_s m hpre c).symm

end Cert.GdnStepIdeal.Hand

end
-- ==== Proof.lean ====
module

public import proofs.«01_k».proof.Defs
public import proofs.«01_k».proof.Proof.Gen.S5Step.Frame
public import proofs.«01_k».proof.Proof.S5Step
public import proofs.«01_k».proof.Proof.Gen.S5Scan.Frame
public import proofs.«01_k».proof.Proof.S5Scan
public import proofs.«01_k».proof.Proof.Gen.Pre_scan_operands_finite
public import proofs.«01_k».proof.Proof.Gen.Ffn.Frame
public import proofs.«01_k».proof.Proof.Ffn
public import proofs.«01_k».proof.Proof.Gen.InProj.Frame
public import proofs.«01_k».proof.Proof.InProj
public import proofs.«01_k».proof.Proof.Gen.Merge.Frame
public import proofs.«01_k».proof.Proof.Merge
public import proofs.«01_k».proof.Proof.Gen.Glu.Frame
public import proofs.«01_k».proof.Proof.Glu
public import proofs.«01_k».proof.Proof.Gen.NormPrompt.Frame
public import proofs.«01_k».proof.Proof.NormPrompt
public import proofs.«01_k».proof.Proof.Gen.NormSample.Frame
public import proofs.«01_k».proof.Proof.NormSample
public import proofs.«01_k».proof.Proof.Gen.ConvSample.Frame
public import proofs.«01_k».proof.Proof.ConvSample
public import proofs.«01_k».proof.Proof.Gen.ConvPrompt.Frame
public import proofs.«01_k».proof.Proof.ConvPrompt
public import proofs.«01_k».proof.Proof.Gen.GatesSample.Frame
public import proofs.«01_k».proof.Proof.GatesSample
public import proofs.«01_k».proof.Proof.Gen.GatesPrompt.Frame
public import proofs.«01_k».proof.Proof.GatesPrompt
public import proofs.«01_k».proof.Proof.Gen.Pack.Frame
public import proofs.«01_k».proof.Proof.Pack
public import proofs.«01_k».proof.Proof.Gen.GdnStep.Frame
public import proofs.«01_k».proof.Proof.GdnStep
public import proofs.«01_k».proof.Proof.Gen.Pre_decay_and_beta_in_range
public import Idealize.ShloMosaic.Lib.Claim

@[expose] public section

noncomputable section

namespace Cert.Proof

open Idealize.ShloMosaic Idealize.SL.Sem

/-! The references are operations of the host alone: their frames are read off their runs. -/

theorem frame_S5StepRefIdeal : Cert.quiescent_S5StepRefIdeal := by
  intro m g _
  run_from Cert.S5StepRefIdeal.Value.run m g
  · exact fun c => by simp
  · exact sem_eq_zero_of_no_sems rfl _

theorem frame_S5ScanRefIdeal : Cert.quiescent_S5ScanRefIdeal := by
  intro m g _
  run_from Cert.S5ScanRefIdeal.Value.run m g
  · exact fun c => by simp
  · exact sem_eq_zero_of_no_sems rfl _

theorem frame_FfnRefIdeal : Cert.quiescent_FfnRefIdeal := by
  intro m g _
  run_from Cert.FfnRefIdeal.Value.run m g
  · exact fun c => by simp
  · exact sem_eq_zero_of_no_sems rfl _

theorem frame_InProjRefIdeal : Cert.quiescent_InProjRefIdeal := by
  intro m g _
  run_from Cert.InProjRefIdeal.Value.run m g
  · exact fun c => by simp
  · exact sem_eq_zero_of_no_sems rfl _

theorem frame_MergeRefIdeal : Cert.quiescent_MergeRefIdeal := by
  intro m g _
  run_from Cert.MergeRefIdeal.Value.run m g
  · exact fun c => by simp
  · exact sem_eq_zero_of_no_sems rfl _

theorem frame_GluRefIdeal : Cert.quiescent_GluRefIdeal := by
  intro m g _
  run_from Cert.GluRefIdeal.Value.run m g
  · exact fun c => by simp
  · exact sem_eq_zero_of_no_sems rfl _

theorem frame_NormPromptRefIdeal : Cert.quiescent_NormPromptRefIdeal := by
  intro m g _
  run_from Cert.NormPromptRefIdeal.Value.run m g
  · exact fun c => by simp
  · exact sem_eq_zero_of_no_sems rfl _

theorem frame_NormSampleRefIdeal : Cert.quiescent_NormSampleRefIdeal := by
  intro m g _
  run_from Cert.NormSampleRefIdeal.Value.run m g
  · exact fun c => by simp
  · exact sem_eq_zero_of_no_sems rfl _

theorem frame_ConvSampleRefIdeal : Cert.quiescent_ConvSampleRefIdeal := by
  intro m g _
  run_from Cert.ConvSampleRefIdeal.Value.run m g
  · exact fun c => by simp
  · exact sem_eq_zero_of_no_sems rfl _

theorem frame_ConvPromptRefIdeal : Cert.quiescent_ConvPromptRefIdeal := by
  intro m g _
  run_from Cert.ConvPromptRefIdeal.Value.run m g
  · exact fun c => by simp
  · exact sem_eq_zero_of_no_sems rfl _

theorem frame_GatesSampleRefIdeal : Cert.quiescent_GatesSampleRefIdeal := by
  intro m g _
  run_from Cert.GatesSampleRefIdeal.Value.run m g
  · exact fun c => by simp
  · exact sem_eq_zero_of_no_sems rfl _

theorem frame_GatesPromptRefIdeal : Cert.quiescent_GatesPromptRefIdeal := by
  intro m g _
  run_from Cert.GatesPromptRefIdeal.Value.run m g
  · exact fun c => by simp
  · exact sem_eq_zero_of_no_sems rfl _

theorem frame_PackRefIdeal : Cert.quiescent_PackRefIdeal := by
  intro m g _
  run_from Cert.PackRefIdeal.Value.run m g
  · exact fun c => by simp
  · exact sem_eq_zero_of_no_sems rfl _

theorem frame_GdnStepRefIdeal : Cert.quiescent_GdnStepRefIdeal := by
  intro m g _
  run_from Cert.GdnStepRefIdeal.Value.run m g
  · exact fun c => by simp
  · exact sem_eq_zero_of_no_sems rfl _

theorem claim : Cert.Claim :=
  ⟨Cert.S5Step.Gen.facts, Cert.S5StepIdeal.Gen.facts, Cert.S5StepRefIdeal.Gen.facts, Cert.S5Scan.Gen.facts, Cert.S5ScanIdeal.Gen.facts, Cert.S5ScanRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.Glu.Gen.facts, Cert.GluIdeal.Gen.facts, Cert.GluRefIdeal.Gen.facts, Cert.NormPrompt.Gen.facts, Cert.NormPromptIdeal.Gen.facts, Cert.NormPromptRefIdeal.Gen.facts, Cert.NormSample.Gen.facts, Cert.NormSampleIdeal.Gen.facts, Cert.NormSampleRefIdeal.Gen.facts, Cert.ConvSample.Gen.facts, Cert.ConvSampleIdeal.Gen.facts, Cert.ConvSampleRefIdeal.Gen.facts, Cert.ConvPrompt.Gen.facts, Cert.ConvPromptIdeal.Gen.facts, Cert.ConvPromptRefIdeal.Gen.facts, Cert.GatesSample.Gen.facts, Cert.GatesSampleIdeal.Gen.facts, Cert.GatesSampleRefIdeal.Gen.facts, Cert.GatesPrompt.Gen.facts, Cert.GatesPromptIdeal.Gen.facts, Cert.GatesPromptRefIdeal.Gen.facts, Cert.Pack.Gen.facts, Cert.PackIdeal.Gen.facts, Cert.PackRefIdeal.Gen.facts, Cert.GdnStep.Gen.facts, Cert.GdnStepIdeal.Gen.facts, Cert.GdnStepRefIdeal.Gen.facts, Cert.Pre_scan_operands_finite.Gen.facts, Cert.Pre_decay_and_beta_in_range.Gen.facts,
    fun m ρ _ => Cert.S5Step.Gen.frame m ρ,
    fun m ρ _ => Cert.S5StepIdeal.Gen.frame m ρ,
    frame_S5StepRefIdeal,
    fun m ρ _ => Cert.S5Scan.Gen.frame m ρ,
    fun m ρ _ => Cert.S5ScanIdeal.Gen.frame m ρ,
    fun m ρ _ => Cert.S5ScanIdeal.Gen.frame m ρ,
    frame_S5ScanRefIdeal,
    fun m g _ => frame_S5ScanRefIdeal m g trivial,
    fun m ρ _ => Cert.Ffn.Gen.frame m ρ,
    fun m ρ _ => Cert.FfnIdeal.Gen.frame m ρ,
    frame_FfnRefIdeal,
    fun m ρ _ => Cert.InProj.Gen.frame m ρ,
    fun m ρ _ => Cert.InProjIdeal.Gen.frame m ρ,
    frame_InProjRefIdeal,
    fun m ρ _ => Cert.Merge.Gen.frame m ρ,
    fun m ρ _ => Cert.MergeIdeal.Gen.frame m ρ,
    frame_MergeRefIdeal,
    fun m ρ _ => Cert.Glu.Gen.frame m ρ,
    fun m ρ _ => Cert.GluIdeal.Gen.frame m ρ,
    frame_GluRefIdeal,
    fun m ρ _ => Cert.NormPrompt.Gen.frame m ρ,
    fun m ρ _ => Cert.NormPromptIdeal.Gen.frame m ρ,
    frame_NormPromptRefIdeal,
    fun m ρ _ => Cert.NormSample.Gen.frame m ρ,
    fun m ρ _ => Cert.NormSampleIdeal.Gen.frame m ρ,
    frame_NormSampleRefIdeal,
    fun m ρ _ => Cert.ConvSample.Gen.frame m ρ,
    fun m ρ _ => Cert.ConvSampleIdeal.Gen.frame m ρ,
    frame_ConvSampleRefIdeal,
    fun m ρ _ => Cert.ConvPrompt.Gen.frame m ρ,
    fun m ρ _ => Cert.ConvPromptIdeal.Gen.frame m ρ,
    frame_ConvPromptRefIdeal,
    fun m ρ _ => Cert.GatesSample.Gen.frame m ρ,
    fun m ρ _ => Cert.GatesSampleIdeal.Gen.frame m ρ,
    frame_GatesSampleRefIdeal,
    fun m ρ _ => Cert.GatesPrompt.Gen.frame m ρ,
    fun m ρ _ => Cert.GatesPromptIdeal.Gen.frame m ρ,
    frame_GatesPromptRefIdeal,
    fun m ρ _ => Cert.Pack.Gen.frame m ρ,
    fun m ρ _ => Cert.PackIdeal.Gen.frame m ρ,
    frame_PackRefIdeal,
    fun m ρ _ => Cert.GdnStep.Gen.frame m ρ,
    fun m ρ _ => Cert.GdnStepIdeal.Gen.frame m ρ,
    fun m ρ _ => Cert.GdnStepIdeal.Gen.frame m ρ,
    frame_GdnStepRefIdeal,
    fun m g _ => frame_GdnStepRefIdeal m g trivial,
    trivial,
    Cert.S5StepIdeal.Hand.algebraic,
    trivial,
    Cert.S5ScanIdeal.Hand.algebraic,
    trivial,
    Cert.FfnIdeal.Hand.algebraic,
    trivial,
    Cert.InProjIdeal.Hand.algebraic,
    trivial,
    Cert.MergeIdeal.Hand.algebraic,
    trivial,
    Cert.GluIdeal.Hand.algebraic,
    trivial,
    Cert.NormPromptIdeal.Hand.algebraic,
    trivial,
    Cert.NormSampleIdeal.Hand.algebraic,
    trivial,
    Cert.ConvSampleIdeal.Hand.algebraic,
    trivial,
    Cert.ConvPromptIdeal.Hand.algebraic,
    trivial,
    Cert.GatesSampleIdeal.Hand.algebraic,
    trivial,
    Cert.GatesPromptIdeal.Hand.algebraic,
    trivial,
    Cert.PackIdeal.Hand.algebraic,
    trivial,
    Cert.GdnStepIdeal.Hand.algebraic⟩

end Cert.Proof

end
